-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_ln [hPre_finite_ln : Cert.Pre_finite_ln.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_ln.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_ln [hPre_finite_ln : Cert.Pre_finite_ln.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_ln.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_conv [hPre_finite_conv : Cert.Pre_finite_conv.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_conv.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_conv [hPre_finite_conv : Cert.Pre_finite_conv.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_conv.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite_ln [hKernel16Ideal : Cert.Kernel16Ideal.Facts] [hPre_finite_ln : Cert.Pre_finite_ln.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_ln m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite_ln [hReference16Ideal : Cert.Reference16Ideal.Facts] [hPre_finite_ln : Cert.Pre_finite_ln.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_ln m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite_conv [hKernel18Ideal : Cert.Kernel18Ideal.Facts] [hPre_finite_conv : Cert.Pre_finite_conv.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_conv m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite_conv [hReference18Ideal : Cert.Reference18Ideal.Facts] [hPre_finite_conv : Cert.Pre_finite_conv.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_conv m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal_pre_finite_ln [hKernel16Ideal : Cert.Kernel16Ideal.Facts] [hReference16Ideal : Cert.Reference16Ideal.Facts] [hPre_finite_ln : Cert.Pre_finite_ln.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_ln m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v19_0)) (v1 : (c : Dev Cert.Kernel16Ideal.nD) → Buf (Elt Ideal) ((c.tc : Thread Cert.Kernel16Ideal.nD Cert.Kernel16Ideal.τ).loc Cert.Kernel16Ideal.main_v19_1)) (v2 : (c : Dev Cert.Kernel16Ideal.nD) → Buf (Elt Ideal) ((c.tc : Thread Cert.Kernel16Ideal.nD Cert.Kernel16Ideal.τ).loc Cert.Kernel16Ideal.main_v19_2)) (v3 : (c : Dev Cert.Kernel16Ideal.nD) → Buf (Elt Ideal) ((c.tc : Thread Cert.Kernel16Ideal.nD Cert.Kernel16Ideal.τ).loc Cert.Kernel16Ideal.main_v19_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v19_0) = v0 c
          ∧ r.2.mem ((c.tc : Thread Cert.Kernel16Ideal.nD Cert.Kernel16Ideal.τ).loc Cert.Kernel16Ideal.main_v19_1) = v1 c
          ∧ r.2.mem ((c.tc : Thread Cert.Kernel16Ideal.nD Cert.Kernel16Ideal.τ).loc Cert.Kernel16Ideal.main_v19_2) = v2 c
          ∧ r.2.mem ((c.tc : Thread Cert.Kernel16Ideal.nD Cert.Kernel16Ideal.τ).loc Cert.Kernel16Ideal.main_v19_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v63) = v0 c
          ∧ r.2.mem ((c.tc : Thread Cert.Reference16Ideal.nD Cert.Reference16Ideal.τ).loc Cert.Reference16Ideal.main_v64) = v1 c
          ∧ r.2.mem ((c.tc : Thread Cert.Reference16Ideal.nD Cert.Reference16Ideal.τ).loc Cert.Reference16Ideal.main_v65) = v2 c
          ∧ r.2.mem ((c.tc : Thread Cert.Reference16Ideal.nD Cert.Reference16Ideal.τ).loc Cert.Reference16Ideal.main_v66) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_v13) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal_pre_finite_conv [hKernel18Ideal : Cert.Kernel18Ideal.Facts] [hReference18Ideal : Cert.Reference18Ideal.Facts] [hPre_finite_conv : Cert.Pre_finite_conv.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_conv m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)) (v3 : (c : Dev Cert.Kernel18Ideal.nD) → Buf (Elt Ideal) ((c.tc : Thread Cert.Kernel18Ideal.nD Cert.Kernel18Ideal.τ).loc Cert.Kernel18Ideal.main_v2_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_v2_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v64) = v0 c
          ∧ r.2.mem ((c.tc : Thread Cert.Reference18Ideal.nD Cert.Reference18Ideal.τ).loc Cert.Reference18Ideal.main_v65) = v1 c
          ∧ r.2.mem ((c.tc : Thread Cert.Reference18Ideal.nD Cert.Reference18Ideal.τ).loc Cert.Reference18Ideal.main_v66) = v2 c
          ∧ r.2.mem ((c.tc : Thread Cert.Reference18Ideal.nD Cert.Reference18Ideal.τ).loc Cert.Reference18Ideal.main_v68) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v580) = v0 c
          ∧ r.2.mem ((c.tc : Thread Cert.Reference19Ideal.nD Cert.Reference19Ideal.τ).loc Cert.Reference19Ideal.main_v582) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v258) = v0 c
          ∧ r.2.mem ((c.tc : Thread Cert.Reference20Ideal.nD Cert.Reference20Ideal.τ).loc Cert.Reference20Ideal.main_v232) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_ln : Cert.Pre_finite_ln.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_ln (hKernel16Ideal := hKernel16Ideal) (hPre_finite_ln := hPre_finite_ln)
    ∧ quiescent_Reference16Ideal (hReference16Ideal := hReference16Ideal)
    ∧ quiescent_Reference16Ideal_pre_finite_ln (hReference16Ideal := hReference16Ideal) (hPre_finite_ln := hPre_finite_ln)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_conv (hKernel18Ideal := hKernel18Ideal) (hPre_finite_conv := hPre_finite_conv)
    ∧ quiescent_Reference18Ideal (hReference18Ideal := hReference18Ideal)
    ∧ quiescent_Reference18Ideal_pre_finite_conv (hReference18Ideal := hReference18Ideal) (hPre_finite_conv := hPre_finite_conv)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_ln (hKernel16Ideal := hKernel16Ideal) (hReference16Ideal := hReference16Ideal) (hPre_finite_ln := hPre_finite_ln)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_conv (hKernel18Ideal := hKernel18Ideal) (hReference18Ideal := hReference18Ideal) (hPre_finite_conv := hPre_finite_conv)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S8192x3072 : Shape := ⟨2, ![8192, 3072]⟩
abbrev S8x1x8192 : Shape := ⟨3, ![8, 1, 8192]⟩
abbrev S8192x2048 : Shape := ⟨2, ![8192, 2048]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8x1x8192 : S_.BroadcastsInDim S8x1x8192 (![] : Fin 0 → Fin S8x1x8192.rank)
  reducesTo_S8x1x8192_S_d0_1_2 : S8x1x8192.ReducesTo [0, 1, 2] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x3072 .f32) (main_arg1 : FVec F S8x1x8192 .f32) (main_arg2 : FVec F S8192x2048 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8x1x8192 .f32 := Host.absf main_arg1
  let main_cst_0 : FVec F S_ .f32 := constant S_ .f32 0x7F800000#32
  let main_v5 : FVec F S8x1x8192 .f32 := broadcastInDim S8x1x8192 ![] bcast_S_S8x1x8192 main_cst_0
  let main_v6 : IVec S8x1x8192 1 := cmpf .olt main_v4 main_v5
  let main_c_1 : IVec S_ 1 := constantI S_ 1 1#1
  let main_v7 : IVec S_ 1 := (fun x v => Host.reduce IntOp.andi x v reducesTo_S8x1x8192_S_d0_1_2 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_finite_conv.lean ====
abbrev S8192x1024 : Shape := ⟨2, ![8192, 1024]⟩
abbrev S1024 : Shape := ⟨1, ![1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024 .f32) (main_arg3 : FVec F S8192x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite_ln.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S8192x3072 : Shape := ⟨2, ![8192, 3072]⟩
abbrev S8x1x8192 : Shape := ⟨3, ![8, 1, 8192]⟩
abbrev S8192x2048 : Shape := ⟨2, ![8192, 2048]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S1024x128 : Shape := ⟨2, ![1024, 128]⟩
abbrev S1x1x1024 : Shape := ⟨3, ![1, 1, 1024]⟩
abbrev S1x1024x1 : Shape := ⟨3, ![1, 1024, 1]⟩
abbrev S8192x128 : Shape := ⟨2, ![8192, 128]⟩
abbrev S1x1024 : Shape := ⟨2, ![1, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 49
  | .vmem => 25
  | .smem => 0
  | _ => 0

abbrev bufTy : (tb : Table) → Fin (tcTables nBuf tb) → BufTy
  | .hbm, ⟨0, _⟩ => ⟨S8192x3072, .f32⟩
  | .hbm, ⟨1, _⟩ => ⟨S8x1x8192, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8x8192x128, .f32⟩
  | .hbm, ⟨8, _⟩ => ⟨S8192x8x128, .f32⟩
  | .hbm, ⟨9, _⟩ => ⟨S8x8192x128, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8192x8x128, .f32⟩
  | .hbm, ⟨39, _⟩ => ⟨S8x8192x128, .f32⟩
  | .hbm, ⟨40, _⟩ => ⟨S8x8192x128, .f32⟩
  | .hbm, ⟨41, _⟩ => ⟨S8192x8x128, .f32⟩
  | .hbm, ⟨42, _⟩ => ⟨S8192x1024, .f32⟩
  | .hbm, ⟨43, _⟩ => ⟨S8x8192x1, .f32⟩
  | .hbm, ⟨44, _⟩ => ⟨S8x8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8x1x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1024, .f32⟩
  | .local _ .vmem, ⟨7, _⟩ => ⟨S1x1x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S8192x128, .f32⟩
  | .local _ .vmem, ⟨15, _⟩ => ⟨S8192x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1x1024, .f32⟩
  | .local _ .vmem, ⟨21, _⟩ => ⟨S1x1x1024, .f32⟩
  | .local _ .vmem, ⟨22, _⟩ => ⟨S1024x128, .f32⟩
  | .local _ .vmem, ⟨23, _⟩ => ⟨S1024x128, .f32⟩
  | .local _ .vmem, ⟨24, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev main_v35_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 4, 9], ![false, false, false]⟩

def k0_mult1 (i : grid0.Coords) : BitVec 32 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c1024_i32 : BitVec 32 := 1024#32
  let v74 : BitVec 32 := Scalar.muli v4 c1024_i32
  v74
def k0_off1 (i : grid0.Coords) : Fin 2 → Nat :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c1024_i32 : BitVec 32 := 1024#32
  let v74 : BitVec 32 := Scalar.muli v4 c1024_i32
  let v75 : BitVec 32 := v74
  let v76 : Index := Scalar.indexCast v75
  let c0_41 : Index := 0#32
  ![v76.toNat, 0]
def k0_cond4 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32_45 : BitVec 32 := 7#32
  let v85 : BitVec 1 := Scalar.cmpi .eq v4 c7_i32_45
  let v86 : BitVec 32 := Scalar.extui v85
  let c0_i32_46 : BitVec 32 := 0#32
  let v87 : BitVec 1 := Scalar.cmpi .ne v86 c0_i32_46
  v87

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  ![v4.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c8_i32_0 : BitVec 32 := 8#32
  let v7 : BitVec 32 := Scalar.addi c8_i32_0 arg0
  let c0_i32 : BitVec 32 := 0#32
  ![v6.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c16_i32 : BitVec 32 := 16#32
  let v7 : BitVec 32 := Scalar.addi c16_i32 arg0
  let c0_i32 : BitVec 32 := 0#32
  ![v6.toNat, v7.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  let c0_i32_0 : BitVec 32 := 0#32
  ![arg0.toNat, c0_i32.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  ![v4.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  let v7 : BitVec 32 := Scalar.addi c0_i32 arg0
  let c0_i32_0 : BitVec 32 := 0#32
  ![v4.toNat, v7.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  let c0_i32_0 : BitVec 32 := 0#32
  ![arg0.toNat, v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  ![v6.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  ![v6.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .sge arg2 v0
  let c1_i32 : BitVec 32 := 1#32
  let v2 : BitVec 32 := Scalar.subi arg2 c1_i32
  let v3 : BitVec 32 := Scalar.addi arg1 arg2
  let v4 : BitVec 32 := Scalar.select v1 v2 v3
  let c7_i32 : BitVec 32 := 7#32
  let v5 : BitVec 32 := Scalar.subi c7_i32 arg1
  let v6 : BitVec 32 := Scalar.select v1 v5 arg1
  let c0_i32 : BitVec 32 := 0#32
  let c0_i32_0 : BitVec 32 := 0#32
  ![arg0.toNat, c0_i32.toNat, v6.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8x1x8192 : Shape := ⟨3, ![8, 1, 8192]⟩
abbrev S8192x2048 : Shape := ⟨2, ![8192, 2048]⟩
abbrev S8192x1024 : Shape := ⟨2, ![8192, 1024]⟩
abbrev S8x8192 : Shape := ⟨2, ![8, 8192]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192x1 : Shape := ⟨3, ![8, 8192, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩

abbrev nBuf : Space → Nat
  | .hbm => 124
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8x1x8192, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8x8192, .f32⟩
  | .hbm, ⟨7, _⟩ => ⟨S8192x8x128, .f32⟩
  | .hbm, ⟨8, _⟩ => ⟨S8x8192x128, .f32⟩
  | .hbm, ⟨9, _⟩ => ⟨S8192x8x128, .f32⟩
  | .hbm, ⟨10, _⟩ => ⟨S8x8192x128, .f32⟩
  | .hbm, ⟨11, _⟩ => ⟨S8192x8x128, .f32⟩
  | .hbm, ⟨12, _⟩ => ⟨S8x8192x128, .f32⟩
  | .hbm, ⟨13, _⟩ => ⟨S8x8192x8192, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x1x8192, .f32⟩
  | .hbm, ⟨21, _⟩ => ⟨S8x8192x8192, .f32⟩
  | .hbm, ⟨22, _⟩ => ⟨S8x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .i1⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S8x8192, .i1⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S8x8192x1, .f32⟩
  | .hbm, ⟨71, _⟩ => ⟨S_, .f32⟩
  | .hbm, ⟨72, _⟩ => ⟨S8x8192x1, .f32⟩
  | .hbm, ⟨73, _⟩ => ⟨S8x8192x1, .f32⟩
  | .hbm, ⟨74, _⟩ => ⟨S8x8192x128, .f32⟩
  | .hbm, ⟨75, _⟩ => ⟨S8192x8x128, .f32⟩
  | .hbm, ⟨76, _⟩ => ⟨S8192x1024, .f32⟩
  | .hbm, ⟨77, _⟩ => ⟨S8192x1024, .f32⟩
  | .hbm, ⟨78, _⟩ => ⟨S8192x8x128, .f32⟩
  | .hbm, ⟨79, _⟩ => ⟨S8x8192x128, .f32⟩
  | .hbm, ⟨80, _⟩ => ⟨S8x128x8192, .f32⟩
  | .hbm, ⟨81, _⟩ => ⟨S8x8192x128, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192, .f32⟩
  | .hbm, ⟨88, _⟩ => ⟨S8x8192x1, .f32⟩
  | .hbm, ⟨89, _⟩ => ⟨S8x8192x1, .f32⟩
  | .hbm, ⟨90, _⟩ => ⟨S8x8192x8192, .f32⟩
  | .hbm, ⟨91, _⟩ => ⟨S8x8192x8192, .f32⟩
  | .hbm, ⟨92, _⟩ => ⟨S_, .f32⟩
  | .hbm, ⟨93, _⟩ => ⟨S8x8192, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192x8192, .f32⟩
  | .hbm, ⟨99, _⟩ => ⟨S8x8192x8192, .f32⟩
  | .hbm, ⟨100, _⟩ => ⟨S8x8192x8192, .f32⟩
  | .hbm, ⟨101, _⟩ => ⟨S_, .f32⟩
  | .hbm, ⟨102, _⟩ => ⟨S8x8192, .f32⟩
  | .hbm, ⟨103, _⟩ => ⟨S8x1x8192, .f32⟩
  | .hbm, ⟨104, _⟩ => ⟨S_, .f32⟩
  | .hbm, ⟨105, _⟩ => ⟨S8x8192, .f32⟩
  | .hbm, ⟨106, _⟩ => ⟨S_, .f32⟩
  | .hbm, ⟨107, _⟩ => ⟨S8x8192, .f32⟩
  | .hbm, ⟨108, _⟩ => ⟨S8x8192x1, .f32⟩
  | .hbm, ⟨109, _⟩ => ⟨S_, .f32⟩
  | .hbm, ⟨110, _⟩ => ⟨S8x8192, .f32⟩
  | .hbm, ⟨111, _⟩ => ⟨S8x8192, .f32⟩
  | .hbm, ⟨112, _⟩ => ⟨S_, .f32⟩
  | .hbm, ⟨113, _⟩ => ⟨S8x8192x8192, .f32⟩
  | .hbm, ⟨114, _⟩ => ⟨S8x8192x8192, .f32⟩
  | .hbm, ⟨115, _⟩ => ⟨S8x8192x128, .f32⟩
  | .hbm, ⟨116, _⟩ => ⟨S8x8192x128, .f32⟩
  | .hbm, ⟨117, _⟩ => ⟨S8192x8x128, .f32⟩
  | .hbm, ⟨118, _⟩ => ⟨S8192x1024, .f32⟩
  | .hbm, ⟨119, _⟩ => ⟨S8192x8x128, .f32⟩
  | .hbm, ⟨120, _⟩ => ⟨S8192x1024, .f32⟩
  | .hbm, ⟨121, _⟩ => ⟨S8192x8x128, .f32⟩
  | .hbm, ⟨122, _⟩ => ⟨S8192x1024, .f32⟩
  | .hbm, ⟨123, _⟩ => ⟨S8x1x8192, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S8192x8192, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .bf16⟩
  | .hbm, ⟨3, _⟩ => ⟨S8192x8192, .bf16⟩
  | .hbm, ⟨4, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x8192, .f32⟩
  | .hbm, ⟨10, _⟩ => ⟨S2048x8x1024, .f32⟩
  | .hbm, ⟨11, _⟩ => ⟨S8x2048x1024, .f32⟩
  | .hbm, ⟨12, _⟩ => ⟨S8x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S2048x8192 : Shape := ⟨2, ![2048, 8192]⟩
abbrev S8192x8192 : Shape := ⟨2, ![8192, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x8192, .f32⟩
  | .hbm, ⟨2, _⟩ => ⟨S8192x2048, .f32⟩
  | .hbm, ⟨3, _⟩ => ⟨S8192x8192, .bf16⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x8192 : Shape := ⟨2, ![2048, 8192]⟩
abbrev S8192x8192 : Shape := ⟨2, ![8192, 8192]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x8192, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel6.lean ====
abbrev S8192x2048 : Shape := ⟨2, ![8192, 2048]⟩
abbrev S8192x6144 : Shape := ⟨2, ![8192, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S8192x6144, .bf16⟩
  | .hbm, ⟨3, _⟩ => ⟨S8x2048x768, .bf16⟩
  | .local _ .vmem, ⟨0, _⟩ => ⟨S2048x1024, .f32⟩
  | .local _ .vmem, ⟨1, _⟩ => ⟨S2048x1024, .f32⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S_, .f32⟩
  | .hbm, ⟨3, _⟩ => ⟨S2048x6144, .f32⟩
  | .hbm, ⟨4, _⟩ => ⟨S8192x6144, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S6144x2048, .f32⟩
  | .hbm, ⟨9, _⟩ => ⟨S2048x6144, .f32⟩
  | .hbm, ⟨10, _⟩ => ⟨S2048x8x768, .f32⟩
  | .hbm, ⟨11, _⟩ => ⟨S8x2048x768, .f32⟩
  | .hbm, ⟨12, _⟩ => ⟨S8x2048x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S2048x6144 : Shape := ⟨2, ![2048, 6144]⟩
abbrev S8192x6144 : Shape := ⟨2, ![8192, 6144]⟩
abbrev S8192x2048 : Shape := ⟨2, ![8192, 2048]⟩
abbrev S2048x8x768 : Shape := ⟨3, ![2048, 8, 768]⟩
abbrev S8x2048x768 : Shape := ⟨3, ![8, 2048, 768]⟩
abbrev S1024x1536 : Shape := ⟨2, ![1024, 1536]⟩
abbrev S2x1024x768 : Shape := ⟨3, ![2, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 8
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S8192x2048, .f32⟩
  | .hbm, ⟨3, _⟩ => ⟨S8192x6144, .bf16⟩
  | .hbm, ⟨4, _⟩ => ⟨S2048x6144, .bf16⟩
  | .hbm, ⟨5, _⟩ => ⟨S2048x8x768, .bf16⟩
  | .hbm, ⟨6, _⟩ => ⟨S8x2048x768, .bf16⟩
  | .hbm, ⟨7, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S2x1024x768, .bf16⟩
  | .local _ .vmem, ⟨3, _⟩ => ⟨S2x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x6144 : Shape := ⟨2, ![2048, 6144]⟩
abbrev S8192x6144 : Shape := ⟨2, ![8192, 6144]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x6144, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel8.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x2048, .bf16⟩
  | .hbm, ⟨3, _⟩ => ⟨S8192x3072, .bf16⟩
  | .hbm, ⟨4, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S_, .f32⟩
  | .hbm, ⟨3, _⟩ => ⟨S2048x3072, .f32⟩
  | .hbm, ⟨4, _⟩ => ⟨S8192x3072, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S3072x2048, .f32⟩
  | .hbm, ⟨9, _⟩ => ⟨S2048x3072, .f32⟩
  | .hbm, ⟨10, _⟩ => ⟨S2048x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S2048x3072 : Shape := ⟨2, ![2048, 3072]⟩
abbrev S8192x3072 : Shape := ⟨2, ![8192, 3072]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S8192x3072, .f32⟩
  | .hbm, ⟨2, _⟩ => ⟨S8192x2048, .f32⟩
  | .hbm, ⟨3, _⟩ => ⟨S8192x3072, .bf16⟩
  | .hbm, ⟨4, _⟩ => ⟨S2048x3072, .bf16⟩
  | .hbm, ⟨5, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x3072 : Shape := ⟨2, ![2048, 3072]⟩
abbrev S8192x3072 : Shape := ⟨2, ![8192, 3072]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S8192x3072, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x3072, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel10.lean ====
abbrev S2048x3072 : Shape := ⟨2, ![2048, 3072]⟩
abbrev S8192x3072 : Shape := ⟨2, ![8192, 3072]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S8192x3072, .f32⟩
  | .hbm, ⟨2, _⟩ => ⟨S8192x2048, .f32⟩
  | .hbm, ⟨3, _⟩ => ⟨S8192x3072, .bf16⟩
  | .hbm, ⟨4, _⟩ => ⟨S2048x3072, .bf16⟩
  | .hbm, ⟨5, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x3072 : Shape := ⟨2, ![2048, 3072]⟩
abbrev S8192x3072 : Shape := ⟨2, ![8192, 3072]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S8192x3072, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x3072, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel11.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S8192x6144 : Shape := ⟨2, ![8192, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S2048x6144, .bf16⟩
  | .hbm, ⟨3, _⟩ => ⟨S2048x8x768, .bf16⟩
  | .hbm, ⟨4, _⟩ => ⟨S8x2048x768, .bf16⟩
  | .hbm, ⟨5, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x6144 : Shape := ⟨2, ![2048, 6144]⟩
abbrev S8192x6144 : Shape := ⟨2, ![8192, 6144]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | .hbm, ⟨3, _⟩ => ⟨S_, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x2048, .bf16⟩
  | .hbm, ⟨3, _⟩ => ⟨S2048x3072, .bf16⟩
  | .hbm, ⟨4, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x3072 : Shape := ⟨2, ![2048, 3072]⟩
abbrev S8192x3072 : Shape := ⟨2, ![8192, 3072]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | .hbm, ⟨3, _⟩ => ⟨S_, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel15.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S256x2048 : Shape := ⟨2, ![256, 2048]⟩
abbrev S256x1 : Shape := ⟨2, ![256, 1]⟩
abbrev S256 : Shape := ⟨1, ![256]⟩

abbrev nBuf : Space → Nat
  | .hbm => 31
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .bf16⟩
  | .hbm, ⟨29, _⟩ => ⟨S1x2048, .f32⟩
  | .hbm, ⟨30, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x2048, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x2048, .f32⟩
  | .hbm, ⟨85, _⟩ => ⟨S8192x2048, .f32⟩
  | .hbm, ⟨86, _⟩ => ⟨S8192x2048, .bf16⟩
  | .hbm, ⟨87, _⟩ => ⟨S1x2048, .f32⟩
  | .hbm, ⟨88, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel17.lean ====
abbrev S8192x8 : Shape := ⟨2, ![8192, 8]⟩
abbrev S8 : Shape := ⟨1, ![8]⟩
abbrev S8x8192 : Shape := ⟨2, ![8, 8192]⟩
abbrev S1x8 : Shape := ⟨2, ![1, 8]⟩
abbrev S8x1 : Shape := ⟨2, ![8, 1]⟩
abbrev S8x512 : Shape := ⟨2, ![8, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S8x8192, .f32⟩
  | .hbm, ⟨3, _⟩ => ⟨S1x8, .f32⟩
  | .hbm, ⟨4, _⟩ => ⟨S8192x8, .f32⟩
  | .hbm, ⟨5, _⟩ => ⟨S8192x8, .f32⟩
  | .hbm, ⟨6, _⟩ => ⟨S8x8192, .f32⟩
  | .hbm, ⟨7, _⟩ => ⟨S8x8192, .f32⟩
  | .hbm, ⟨8, _⟩ => ⟨S8x1, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x1, .f32⟩
  | .local _ .vmem, ⟨7, _⟩ => ⟨S8x1, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S8192x8 : Shape := ⟨2, ![8192, 8]⟩
abbrev S8 : Shape := ⟨1, ![8]⟩
abbrev S8x8192 : Shape := ⟨2, ![8, 8192]⟩
abbrev S1x8 : Shape := ⟨2, ![1, 8]⟩
abbrev S_ : Shape := ⟨0, ![]⟩
abbrev S8x1 : Shape := ⟨2, ![8, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8, .f32⟩
  | .hbm, ⟨2, _⟩ => ⟨S8x8192, .f32⟩
  | .hbm, ⟨3, _⟩ => ⟨S1x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .i1⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192x8, .f32⟩
  | .hbm, ⟨23, _⟩ => ⟨S8192x8, .i1⟩
  | .hbm, ⟨24, _⟩ => ⟨S_, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x8, .f32⟩
  | .hbm, ⟨29, _⟩ => ⟨S8192x8, .i1⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x8, .f32⟩
  | .hbm, ⟨43, _⟩ => ⟨S8192x8, .i1⟩
  | .hbm, ⟨44, _⟩ => ⟨S_, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S_, .f32⟩
  | .hbm, ⟨55, _⟩ => ⟨S_, .f32⟩
  | .hbm, ⟨56, _⟩ => ⟨S8192x8, .f32⟩
  | .hbm, ⟨57, _⟩ => ⟨S8x8192, .f32⟩
  | .hbm, ⟨58, _⟩ => ⟨S8192x8, .f32⟩
  | .hbm, ⟨59, _⟩ => ⟨S_, .f32⟩
  | .hbm, ⟨60, _⟩ => ⟨S_, .f32⟩
  | .hbm, ⟨61, _⟩ => ⟨S8192x8, .f32⟩
  | .hbm, ⟨62, _⟩ => ⟨S8192x8, .f32⟩
  | .hbm, ⟨63, _⟩ => ⟨S8192x8, .f32⟩
  | .hbm, ⟨64, _⟩ => ⟨S8192x8, .f32⟩
  | .hbm, ⟨65, _⟩ => ⟨S_, .f32⟩
  | .hbm, ⟨66, _⟩ => ⟨S8, .f32⟩
  | .hbm, ⟨67, _⟩ => ⟨S1x8, .f32⟩
  | .hbm, ⟨68, _⟩ => ⟨S_, .f32⟩
  | .hbm, ⟨69, _⟩ => ⟨S8, .f32⟩
  | .hbm, ⟨70, _⟩ => ⟨S8x8192, .f32⟩
  | .hbm, ⟨71, _⟩ => ⟨S8x1, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩

abbrev nD : Nat := 1
abbrev τ : Topo := Topo.v7x

variable {F : FTy → Type} [FloatOps F]
-- ==== Kernel18.lean ====
abbrev S8192x1024 : Shape := ⟨2, ![8192, 1024]⟩
abbrev S1024 : Shape := ⟨1, ![1024]⟩
abbrev S8192x2048 : Shape := ⟨2, ![8192, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2048, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference18Ideal.lean ====
abbrev S8192x1024 : Shape := ⟨2, ![8192, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1024, .f32⟩
  | .hbm, ⟨106, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== Kernel19.lean ====
abbrev S8192x6144 : Shape := ⟨2, ![8192, 6144]⟩
abbrev S31x1024 : Shape := ⟨2, ![31, 1024]⟩
abbrev S8192x1024 : Shape := ⟨2, ![8192, 1024]⟩
abbrev S8192x2048 : Shape := ⟨2, ![8192, 2048]⟩
abbrev S32x1024 : Shape := ⟨2, ![32, 1024]⟩
abbrev S512x1024 : Shape := ⟨2, ![512, 1024]⟩
abbrev S512x2048 : Shape := ⟨2, ![512, 2048]⟩
abbrev S544x1024 : Shape := ⟨2, ![544, 1024]⟩
abbrev S536x1024 : Shape := ⟨2, ![536, 1024]⟩
abbrev S1x1024 : Shape := ⟨2, ![1, 1024]⟩
abbrev S1024 : Shape := ⟨1, ![1024]⟩

abbrev nBuf : Space → Nat
  | .hbm => 5
  | .vmem => 19
  | .smem => 0
  | _ => 0

abbrev bufTy : (tb : Table) → Fin (tcTables nBuf tb) → BufTy
  | .hbm, ⟨0, _⟩ => ⟨S8192x6144, .f32⟩
  | .hbm, ⟨1, _⟩ => ⟨S31x1024, .f32⟩
  | .hbm, ⟨2, _⟩ => ⟨S8192x1024, .f32⟩
  | .hbm, ⟨3, _⟩ => ⟨S8192x2048, .f32⟩
  | .hbm, ⟨4, _⟩ => ⟨S32x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S31x1024, .f32⟩
  | .local _ .vmem, ⟨13, _⟩ => ⟨S512x2048, .f32⟩
  | .local _ .vmem, ⟨14, _⟩ => ⟨S512x2048, .f32⟩
  | .local _ .vmem, ⟨15, _⟩ => ⟨S32x1024, .f32⟩
  | .local _ .vmem, ⟨16, _⟩ => ⟨S544x1024, .f32⟩
  | .local _ .vmem, ⟨17, _⟩ => ⟨S544x1024, .f32⟩
  | .local _ .vmem, ⟨18, _⟩ => ⟨S536x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference19Ideal.lean ====
abbrev S8192x6144 : Shape := ⟨2, ![8192, 6144]⟩
abbrev S31x1024 : Shape := ⟨2, ![31, 1024]⟩
abbrev S8192x1024 : Shape := ⟨2, ![8192, 1024]⟩
abbrev S8192x2048 : Shape := ⟨2, ![8192, 2048]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S1024 : Shape := ⟨1, ![1024]⟩
abbrev S32x1024 : Shape := ⟨2, ![32, 1024]⟩

abbrev nBuf : Space → Nat
  | .hbm => 717
  | .vmem => 0
  | .smem => 0
  | _ => 0

abbrev hbmTy0_0 (i : Nat) : BufTy := match i % 128 with
  | 0 => ⟨S8192x6144, .f32⟩
  | 1 => ⟨S31x1024, .f32⟩
  | 2 => ⟨S8192x1024, .f32⟩
  | 3 => ⟨S8192x2048, .f32⟩
  | 4 => ⟨S8192x1024, .f32⟩
  | 5 => ⟨S8192x1024, .f32⟩
  | 6 => ⟨S_, .f32⟩
  | 7 => ⟨S30x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1024, .f32⟩
  | 21 => ⟨S8222x1024, .f32⟩
  | 22 => ⟨S_, .f32⟩
  | 23 => ⟨S30x1024, .f32⟩
  | 24 => ⟨S8192x1024, .f32⟩
  | 25 => ⟨S1x1024, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S1x1024, .f32⟩
  | 63 => ⟨S1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S1x1024, .f32⟩
  | 70 => ⟨S1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S1x1024, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S1024, .f32⟩
  | 85 => ⟨S1x1024, .f32⟩
  | 86 => ⟨S8192x1024, .f32⟩
  | 87 => ⟨S8192x1024, .f32⟩
  | 88 => ⟨S8192x1024, .f32⟩
  | 89 => ⟨S8192x1024, .f32⟩
  | 90 => ⟨S1x1024, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S1x1024, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S8192x1024, .f32⟩
  | 104 => ⟨S1x1024, .f32⟩
  | 105 => ⟨S1024, .f32⟩
  | 106 => ⟨S1x1024, .f32⟩
  | 107 => ⟨S8192x1024, .f32⟩
  | 108 => ⟨S8192x1024, .f32⟩
  | 109 => ⟨S8192x1024, .f32⟩
  | 110 => ⟨S8192x1024, .f32⟩
  | 111 => ⟨S1x1024, .f32⟩
  | 112 => ⟨S1024, .f32⟩
  | 113 => ⟨S1x1024, .f32⟩
  | 114 => ⟨S8192x1024, .f32⟩
  | 115 => ⟨S8192x1024, .f32⟩
  | 116 => ⟨S8192x1024, .f32⟩
  | 117 => ⟨S8192x1024, .f32⟩
  | 118 => ⟨S1x1024, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S8192x1024, .f32⟩
  | 125 => ⟨S1x1024, .f32⟩
  | 126 => ⟨S1024, .f32⟩
  | 127 => ⟨S1x1024, .f32⟩
  | _ => ⟨S8192x6144, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x1024, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S1x1024, .f32⟩
  | 12 => ⟨S1024, .f32⟩
  | 13 => ⟨S1x1024, .f32⟩
  | 14 => ⟨S8192x1024, .f32⟩
  | 15 => ⟨S8192x1024, .f32⟩
  | 16 => ⟨S8192x1024, .f32⟩
  | 17 => ⟨S8192x1024, .f32⟩
  | 18 => ⟨S1x1024, .f32⟩
  | 19 => ⟨S1024, .f32⟩
  | 20 => ⟨S1x1024, .f32⟩
  | 21 => ⟨S8192x1024, .f32⟩
  | 22 => ⟨S8192x1024, .f32⟩
  | 23 => ⟨S8192x1024, .f32⟩
  | 24 => ⟨S8192x1024, .f32⟩
  | 25 => ⟨S1x1024, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S1x1024, .f32⟩
  | 40 => ⟨S1024, .f32⟩
  | 41 => ⟨S1x1024, .f32⟩
  | 42 => ⟨S8192x1024, .f32⟩
  | 43 => ⟨S8192x1024, .f32⟩
  | 44 => ⟨S8192x1024, .f32⟩
  | 45 => ⟨S8192x1024, .f32⟩
  | 46 => ⟨S1x1024, .f32⟩
  | 47 => ⟨S1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S1024, .f32⟩
  | 55 => ⟨S1x1024, .f32⟩
  | 56 => ⟨S8192x1024, .f32⟩
  | 57 => ⟨S8192x1024, .f32⟩
  | 58 => ⟨S8192x1024, .f32⟩
  | 59 => ⟨S8192x1024, .f32⟩
  | 60 => ⟨S1x1024, .f32⟩
  | 61 => ⟨S1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S1x1024, .f32⟩
  | 68 => ⟨S1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S1x1024, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S1x1024, .f32⟩
  | 82 => ⟨S1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S1x1024, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S1x1024, .f32⟩
  | 96 => ⟨S1024, .f32⟩
  | 97 => ⟨S1x1024, .f32⟩
  | 98 => ⟨S8192x1024, .f32⟩
  | 99 => ⟨S8192x1024, .f32⟩
  | 100 => ⟨S8192x1024, .f32⟩
  | 101 => ⟨S8192x1024, .f32⟩
  | 102 => ⟨S1x1024, .f32⟩
  | 103 => ⟨S1024, .f32⟩
  | 104 => ⟨S1x1024, .f32⟩
  | 105 => ⟨S8192x1024, .f32⟩
  | 106 => ⟨S8192x1024, .f32⟩
  | 107 => ⟨S8192x1024, .f32⟩
  | 108 => ⟨S8192x1024, .f32⟩
  | 109 => ⟨S1x1024, .f32⟩
  | 110 => ⟨S1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S_, .f32⟩
  | 127 => ⟨S31x1024, .f32⟩
  | _ => ⟨S8192x6144, .f32⟩

abbrev hbmTy0_2 (i : Nat) : BufTy := match i % 128 with
  | 0 => ⟨S_, .f32⟩
  | 1 => ⟨S8222x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S_, .f32⟩
  | 12 => ⟨S31x1024, .f32⟩
  | 13 => ⟨S31x1024, .f32⟩
  | 14 => ⟨S_, .f32⟩
  | 15 => ⟨S8222x1024, .f32⟩
  | 16 => ⟨S8222x1024, .f32⟩
  | 17 => ⟨S8192x1024, .f32⟩
  | 18 => ⟨S_, .f32⟩
  | 19 => ⟨S1024, .f32⟩
  | 20 => ⟨S1x1024, .f32⟩
  | 21 => ⟨S8192x1024, .f32⟩
  | 22 => ⟨S8192x1024, .f32⟩
  | 23 => ⟨S_, .f32⟩
  | 24 => ⟨S1024, .f32⟩
  | 25 => ⟨S1x1024, .f32⟩
  | 26 => ⟨S_, .f32⟩
  | 27 => ⟨S31x1024, .f32⟩
  | 28 => ⟨S31x1024, .f32⟩
  | 29 => ⟨S_, .f32⟩
  | 30 => ⟨S8222x1024, .f32⟩
  | 31 => ⟨S8222x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S_, .f32⟩
  | 42 => ⟨S31x1024, .f32⟩
  | 43 => ⟨S31x1024, .f32⟩
  | 44 => ⟨S_, .f32⟩
  | 45 => ⟨S8222x1024, .f32⟩
  | 46 => ⟨S8222x1024, .f32⟩
  | 47 => ⟨S8192x1024, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S_, .f32⟩
  | 54 => ⟨S1024, .f32⟩
  | 55 => ⟨S1x1024, .f32⟩
  | 56 => ⟨S_, .f32⟩
  | 57 => ⟨S31x1024, .f32⟩
  | 58 => ⟨S31x1024, .f32⟩
  | 59 => ⟨S_, .f32⟩
  | 60 => ⟨S8222x1024, .f32⟩
  | 61 => ⟨S8222x1024, .f32⟩
  | 62 => ⟨S8192x1024, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S_, .f32⟩
  | 72 => ⟨S31x1024, .f32⟩
  | 73 => ⟨S31x1024, .f32⟩
  | 74 => ⟨S_, .f32⟩
  | 75 => ⟨S8222x1024, .f32⟩
  | 76 => ⟨S8222x1024, .f32⟩
  | 77 => ⟨S8192x1024, .f32⟩
  | 78 => ⟨S_, .f32⟩
  | 79 => ⟨S1024, .f32⟩
  | 80 => ⟨S1x1024, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S31x1024, .f32⟩
  | 88 => ⟨S31x1024, .f32⟩
  | 89 => ⟨S_, .f32⟩
  | 90 => ⟨S8222x1024, .f32⟩
  | 91 => ⟨S8222x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S_, .f32⟩
  | 102 => ⟨S31x1024, .f32⟩
  | 103 => ⟨S31x1024, .f32⟩
  | 104 => ⟨S_, .f32⟩
  | 105 => ⟨S8222x1024, .f32⟩
  | 106 => ⟨S8222x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S_, .f32⟩
  | 114 => ⟨S1024, .f32⟩
  | 115 => ⟨S1x1024, .f32⟩
  | 116 => ⟨S_, .f32⟩
  | 117 => ⟨S31x1024, .f32⟩
  | 118 => ⟨S31x1024, .f32⟩
  | 119 => ⟨S_, .f32⟩
  | 120 => ⟨S8222x1024, .f32⟩
  | 121 => ⟨S8222x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x6144, .f32⟩

abbrev hbmTy0_3 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S31x1024, .f32⟩
  | 6 => ⟨S_, .f32⟩
  | 7 => ⟨S8222x1024, .f32⟩
  | 8 => ⟨S8222x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S_, .f32⟩
  | 22 => ⟨S8222x1024, .f32⟩
  | 23 => ⟨S8222x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S_, .f32⟩
  | 34 => ⟨S31x1024, .f32⟩
  | 35 => ⟨S31x1024, .f32⟩
  | 36 => ⟨S_, .f32⟩
  | 37 => ⟨S8222x1024, .f32⟩
  | 38 => ⟨S8222x1024, .f32⟩
  | 39 => ⟨S8192x1024, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S_, .f32⟩
  | 46 => ⟨S1024, .f32⟩
  | 47 => ⟨S1x1024, .f32⟩
  | 48 => ⟨S_, .f32⟩
  | 49 => ⟨S31x1024, .f32⟩
  | 50 => ⟨S31x1024, .f32⟩
  | 51 => ⟨S_, .f32⟩
  | 52 => ⟨S8222x1024, .f32⟩
  | 53 => ⟨S8222x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S_, .f32⟩
  | 61 => ⟨S1024, .f32⟩
  | 62 => ⟨S1x1024, .f32⟩
  | 63 => ⟨S_, .f32⟩
  | 64 => ⟨S31x1024, .f32⟩
  | 65 => ⟨S31x1024, .f32⟩
  | 66 => ⟨S_, .f32⟩
  | 67 => ⟨S8222x1024, .f32⟩
  | 68 => ⟨S8222x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S_, .f32⟩
  | 82 => ⟨S8222x1024, .f32⟩
  | 83 => ⟨S8222x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S31x1024, .f32⟩
  | 95 => ⟨S31x1024, .f32⟩
  | 96 => ⟨S_, .f32⟩
  | 97 => ⟨S8222x1024, .f32⟩
  | 98 => ⟨S8222x1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S_, .f32⟩
  | 112 => ⟨S8222x1024, .f32⟩
  | 113 => ⟨S8222x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S31x1024, .f32⟩
  | 126 => ⟨S_, .f32⟩
  | 127 => ⟨S8222x1024, .f32⟩
  | _ => ⟨S8192x6144, .f32⟩

abbrev hbmTy0_4 (i : Nat) : BufTy := match i % 128 with
  | 0 => ⟨S8222x1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S_, .f32⟩
  | 14 => ⟨S8222x1024, .f32⟩
  | 15 => ⟨S8222x1024, .f32⟩
  | 16 => ⟨S8192x1024, .f32⟩
  | 17 => ⟨S_, .f32⟩
  | 18 => ⟨S1024, .f32⟩
  | 19 => ⟨S1x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S_, .f32⟩
  | 29 => ⟨S8222x1024, .f32⟩
  | 30 => ⟨S8222x1024, .f32⟩
  | 31 => ⟨S8192x1024, .f32⟩
  | 32 => ⟨S_, .f32⟩
  | 33 => ⟨S1024, .f32⟩
  | 34 => ⟨S1x1024, .f32⟩
  | 35 => ⟨S8192x1024, .f32⟩
  | 36 => ⟨S8192x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S_, .f32⟩
  | 44 => ⟨S8222x1024, .f32⟩
  | 45 => ⟨S8222x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S_, .f32⟩
  | 59 => ⟨S8222x1024, .f32⟩
  | 60 => ⟨S8222x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S_, .f32⟩
  | 74 => ⟨S8222x1024, .f32⟩
  | 75 => ⟨S8222x1024, .f32⟩
  | 76 => ⟨S8192x1024, .f32⟩
  | 77 => ⟨S_, .f32⟩
  | 78 => ⟨S1024, .f32⟩
  | 79 => ⟨S1x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S_, .f32⟩
  | 86 => ⟨S31x1024, .f32⟩
  | 87 => ⟨S31x1024, .f32⟩
  | 88 => ⟨S_, .f32⟩
  | 89 => ⟨S8222x1024, .f32⟩
  | 90 => ⟨S8222x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S_, .f32⟩
  | 104 => ⟨S8222x1024, .f32⟩
  | 105 => ⟨S8222x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S_, .f32⟩
  | 116 => ⟨S31x1024, .f32⟩
  | 117 => ⟨S31x1024, .f32⟩
  | 118 => ⟨S_, .f32⟩
  | 119 => ⟨S8222x1024, .f32⟩
  | 120 => ⟨S8222x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S_, .f32⟩
  | _ => ⟨S8192x6144, .f32⟩

abbrev hbmTy0_5 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S_, .f32⟩
  | 6 => ⟨S8222x1024, .f32⟩
  | 7 => ⟨S8222x1024, .f32⟩
  | 8 => ⟨S8192x1024, .f32⟩
  | 9 => ⟨S_, .f32⟩
  | 10 => ⟨S1024, .f32⟩
  | 11 => ⟨S1x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S_, .f32⟩
  | 18 => ⟨S31x1024, .f32⟩
  | 19 => ⟨S31x1024, .f32⟩
  | 20 => ⟨S_, .f32⟩
  | 21 => ⟨S8222x1024, .f32⟩
  | 22 => ⟨S8222x1024, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S_, .f32⟩
  | 33 => ⟨S31x1024, .f32⟩
  | 34 => ⟨S31x1024, .f32⟩
  | 35 => ⟨S_, .f32⟩
  | 36 => ⟨S8222x1024, .f32⟩
  | 37 => ⟨S8222x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S31x1024, .f32⟩
  | 49 => ⟨S31x1024, .f32⟩
  | 50 => ⟨S_, .f32⟩
  | 51 => ⟨S8222x1024, .f32⟩
  | 52 => ⟨S8222x1024, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S_, .f32⟩
  | 63 => ⟨S31x1024, .f32⟩
  | 64 => ⟨S31x1024, .f32⟩
  | 65 => ⟨S_, .f32⟩
  | 66 => ⟨S8222x1024, .f32⟩
  | 67 => ⟨S8222x1024, .f32⟩
  | 68 => ⟨S30x1024, .f32⟩
  | 69 => ⟨S8192x1024, .f32⟩
  | 70 => ⟨S8192x1024, .f32⟩
  | 71 => ⟨S8192x1024, .f32⟩
  | 72 => ⟨S8192x1024, .f32⟩
  | 73 => ⟨S8192x2048, .f32⟩
  | 74 => ⟨S_, .f32⟩
  | 75 => ⟨S1x1024, .f32⟩
  | 76 => ⟨S32x1024, .f32⟩
  | _ => ⟨S8192x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_cst_5 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_6 : Ref sig .tc := ⟨.hbm, 251, rfl⟩
abbrev main_v241 : Ref sig .tc := ⟨.hbm, 252, rfl⟩
abbrev main_v242 : Ref sig .tc := ⟨.hbm, 253, rfl⟩
abbrev main_cst_7 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_v251 : Ref sig .tc := ⟨.hbm, 266, rfl⟩
abbrev main_cst_11 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_cst_13 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_cst_14 : Ref sig .tc := ⟨.hbm, 279, rfl⟩
abbrev main_v261 : Ref sig .tc := ⟨.hbm, 280, rfl⟩
abbrev main_v262 : Ref sig .tc := ⟨.hbm, 281, rfl⟩
abbrev main_cst_15 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_cst_17 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_cst_18 : Ref sig .tc := ⟨.hbm, 294, rfl⟩
abbrev main_v272 : Ref sig .tc := ⟨.hbm, 295, rfl⟩
abbrev main_v273 : Ref sig .tc := ⟨.hbm, 296, rfl⟩
abbrev main_cst_19 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_cst_21 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_cst_22 : Ref sig .tc := ⟨.hbm, 309, rfl⟩
abbrev main_v283 : Ref sig .tc := ⟨.hbm, 310, rfl⟩
abbrev main_v284 : Ref sig .tc := ⟨.hbm, 311, rfl⟩
abbrev main_cst_23 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_cst_25 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_v295 : Ref sig .tc := ⟨.hbm, 326, rfl⟩
abbrev main_cst_27 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_cst_29 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_cst_30 : Ref sig .tc := ⟨.hbm, 339, rfl⟩
abbrev main_v305 : Ref sig .tc := ⟨.hbm, 340, rfl⟩
abbrev main_v306 : Ref sig .tc := ⟨.hbm, 341, rfl⟩
abbrev main_cst_31 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_cst_33 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_cst_34 : Ref sig .tc := ⟨.hbm, 354, rfl⟩
abbrev main_v316 : Ref sig .tc := ⟨.hbm, 355, rfl⟩
abbrev main_v317 : Ref sig .tc := ⟨.hbm, 356, rfl⟩
abbrev main_cst_35 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_cst_37 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_cst_38 : Ref sig .tc := ⟨.hbm, 369, rfl⟩
abbrev main_v327 : Ref sig .tc := ⟨.hbm, 370, rfl⟩
abbrev main_v328 : Ref sig .tc := ⟨.hbm, 371, rfl⟩
abbrev main_cst_39 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_cst_41 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_cst_42 : Ref sig .tc := ⟨.hbm, 384, rfl⟩
abbrev main_v338 : Ref sig .tc := ⟨.hbm, 385, rfl⟩
abbrev main_v339 : Ref sig .tc := ⟨.hbm, 386, rfl⟩
abbrev main_cst_43 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_cst_45 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_cst_46 : Ref sig .tc := ⟨.hbm, 399, rfl⟩
abbrev main_v349 : Ref sig .tc := ⟨.hbm, 400, rfl⟩
abbrev main_v350 : Ref sig .tc := ⟨.hbm, 401, rfl⟩
abbrev main_cst_47 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_cst_49 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_cst_50 : Ref sig .tc := ⟨.hbm, 414, rfl⟩
abbrev main_v360 : Ref sig .tc := ⟨.hbm, 415, rfl⟩
abbrev main_v361 : Ref sig .tc := ⟨.hbm, 416, rfl⟩
abbrev main_cst_51 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_cst_53 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_cst_54 : Ref sig .tc := ⟨.hbm, 429, rfl⟩
abbrev main_v371 : Ref sig .tc := ⟨.hbm, 430, rfl⟩
abbrev main_v372 : Ref sig .tc := ⟨.hbm, 431, rfl⟩
abbrev main_cst_55 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_cst_57 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_cst_58 : Ref sig .tc := ⟨.hbm, 444, rfl⟩
abbrev main_v382 : Ref sig .tc := ⟨.hbm, 445, rfl⟩
abbrev main_v383 : Ref sig .tc := ⟨.hbm, 446, rfl⟩
abbrev main_cst_59 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_cst_61 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_cst_62 : Ref sig .tc := ⟨.hbm, 459, rfl⟩
abbrev main_v393 : Ref sig .tc := ⟨.hbm, 460, rfl⟩
abbrev main_v394 : Ref sig .tc := ⟨.hbm, 461, rfl⟩
abbrev main_cst_63 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_cst_65 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_cst_66 : Ref sig .tc := ⟨.hbm, 474, rfl⟩
abbrev main_v404 : Ref sig .tc := ⟨.hbm, 475, rfl⟩
abbrev main_v405 : Ref sig .tc := ⟨.hbm, 476, rfl⟩
abbrev main_cst_67 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_cst_69 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_cst_70 : Ref sig .tc := ⟨.hbm, 489, rfl⟩
abbrev main_v415 : Ref sig .tc := ⟨.hbm, 490, rfl⟩
abbrev main_v416 : Ref sig .tc := ⟨.hbm, 491, rfl⟩
abbrev main_cst_71 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_cst_73 : Ref sig .tc := ⟨.hbm, 499, rfl⟩
abbrev main_v422 : Ref sig .tc := ⟨.hbm, 500, rfl⟩
abbrev main_v423 : Ref sig .tc := ⟨.hbm, 501, rfl⟩
abbrev main_v424 : Ref sig .tc := ⟨.hbm, 502, rfl⟩
abbrev main_v425 : Ref sig .tc := ⟨.hbm, 503, rfl⟩
abbrev main_cst_74 : Ref sig .tc := ⟨.hbm, 504, rfl⟩
abbrev main_v426 : Ref sig .tc := ⟨.hbm, 505, rfl⟩
abbrev main_v427 : Ref sig .tc := ⟨.hbm, 506, rfl⟩
abbrev main_cst_75 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_cst_77 : Ref sig .tc := ⟨.hbm, 514, rfl⟩
abbrev main_v433 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_cst_78 : Ref sig .tc := ⟨.hbm, 519, rfl⟩
abbrev main_v437 : Ref sig .tc := ⟨.hbm, 520, rfl⟩
abbrev main_v438 : Ref sig .tc := ⟨.hbm, 521, rfl⟩
abbrev main_cst_79 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_cst_81 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_cst_82 : Ref sig .tc := ⟨.hbm, 534, rfl⟩
abbrev main_v448 : Ref sig .tc := ⟨.hbm, 535, rfl⟩
abbrev main_v449 : Ref sig .tc := ⟨.hbm, 536, rfl⟩
abbrev main_cst_83 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_cst_85 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_cst_86 : Ref sig .tc := ⟨.hbm, 549, rfl⟩
abbrev main_v459 : Ref sig .tc := ⟨.hbm, 550, rfl⟩
abbrev main_v460 : Ref sig .tc := ⟨.hbm, 551, rfl⟩
abbrev main_cst_87 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_cst_89 : Ref sig .tc := ⟨.hbm, 559, rfl⟩
abbrev main_v466 : Ref sig .tc := ⟨.hbm, 560, rfl⟩
abbrev main_v467 : Ref sig .tc := ⟨.hbm, 561, rfl⟩
abbrev main_v468 : Ref sig .tc := ⟨.hbm, 562, rfl⟩
abbrev main_v469 : Ref sig .tc := ⟨.hbm, 563, rfl⟩
abbrev main_cst_90 : Ref sig .tc := ⟨.hbm, 564, rfl⟩
abbrev main_v470 : Ref sig .tc := ⟨.hbm, 565, rfl⟩
abbrev main_v471 : Ref sig .tc := ⟨.hbm, 566, rfl⟩
abbrev main_cst_91 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_cst_93 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_cst_94 : Ref sig .tc := ⟨.hbm, 579, rfl⟩
abbrev main_v481 : Ref sig .tc := ⟨.hbm, 580, rfl⟩
abbrev main_v482 : Ref sig .tc := ⟨.hbm, 581, rfl⟩
abbrev main_cst_95 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_cst_97 : Ref sig .tc := ⟨.hbm, 589, rfl⟩
abbrev main_v488 : Ref sig .tc := ⟨.hbm, 590, rfl⟩
abbrev main_v489 : Ref sig .tc := ⟨.hbm, 591, rfl⟩
abbrev main_v490 : Ref sig .tc := ⟨.hbm, 592, rfl⟩
abbrev main_v491 : Ref sig .tc := ⟨.hbm, 593, rfl⟩
abbrev main_cst_98 : Ref sig .tc := ⟨.hbm, 594, rfl⟩
abbrev main_v492 : Ref sig .tc := ⟨.hbm, 595, rfl⟩
abbrev main_v493 : Ref sig .tc := ⟨.hbm, 596, rfl⟩
abbrev main_cst_99 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_cst_101 : Ref sig .tc := ⟨.hbm, 604, rfl⟩
abbrev main_v499 : Ref sig .tc := ⟨.hbm, 605, rfl⟩
abbrev main_v500 : Ref sig .tc := ⟨.hbm, 606, rfl⟩
abbrev main_v501 : Ref sig .tc := ⟨.hbm, 607, rfl⟩
abbrev main_v502 : Ref sig .tc := ⟨.hbm, 608, rfl⟩
abbrev main_cst_102 : Ref sig .tc := ⟨.hbm, 609, rfl⟩
abbrev main_v503 : Ref sig .tc := ⟨.hbm, 610, rfl⟩
abbrev main_v504 : Ref sig .tc := ⟨.hbm, 611, rfl⟩
abbrev main_cst_103 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_cst_105 : Ref sig .tc := ⟨.hbm, 619, rfl⟩
abbrev main_v510 : Ref sig .tc := ⟨.hbm, 620, rfl⟩
abbrev main_v511 : Ref sig .tc := ⟨.hbm, 621, rfl⟩
abbrev main_v512 : Ref sig .tc := ⟨.hbm, 622, rfl⟩
abbrev main_v513 : Ref sig .tc := ⟨.hbm, 623, rfl⟩
abbrev main_cst_106 : Ref sig .tc := ⟨.hbm, 624, rfl⟩
abbrev main_v514 : Ref sig .tc := ⟨.hbm, 625, rfl⟩
abbrev main_v515 : Ref sig .tc := ⟨.hbm, 626, rfl⟩
abbrev main_cst_107 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_cst_109 : Ref sig .tc := ⟨.hbm, 634, rfl⟩
abbrev main_v521 : Ref sig .tc := ⟨.hbm, 635, rfl⟩
abbrev main_v522 : Ref sig .tc := ⟨.hbm, 636, rfl⟩
abbrev main_v523 : Ref sig .tc := ⟨.hbm, 637, rfl⟩
abbrev main_v524 : Ref sig .tc := ⟨.hbm, 638, rfl⟩
abbrev main_cst_110 : Ref sig .tc := ⟨.hbm, 639, rfl⟩
abbrev main_v525 : Ref sig .tc := ⟨.hbm, 640, rfl⟩
abbrev main_v526 : Ref sig .tc := ⟨.hbm, 641, rfl⟩
abbrev main_cst_111 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_cst_113 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_v535 : Ref sig .tc := ⟨.hbm, 653, rfl⟩
abbrev main_cst_114 : Ref sig .tc := ⟨.hbm, 654, rfl⟩
abbrev main_v536 : Ref sig .tc := ⟨.hbm, 655, rfl⟩
abbrev main_v537 : Ref sig .tc := ⟨.hbm, 656, rfl⟩
abbrev main_cst_115 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_cst_117 : Ref sig .tc := ⟨.hbm, 664, rfl⟩
abbrev main_v543 : Ref sig .tc := ⟨.hbm, 665, rfl⟩
abbrev main_v544 : Ref sig .tc := ⟨.hbm, 666, rfl⟩
abbrev main_v545 : Ref sig .tc := ⟨.hbm, 667, rfl⟩
abbrev main_v546 : Ref sig .tc := ⟨.hbm, 668, rfl⟩
abbrev main_cst_118 : Ref sig .tc := ⟨.hbm, 669, rfl⟩
abbrev main_v547 : Ref sig .tc := ⟨.hbm, 670, rfl⟩
abbrev main_v548 : Ref sig .tc := ⟨.hbm, 671, rfl⟩
abbrev main_cst_119 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_cst_121 : Ref sig .tc := ⟨.hbm, 679, rfl⟩
abbrev main_v554 : Ref sig .tc := ⟨.hbm, 680, rfl⟩
abbrev main_v555 : Ref sig .tc := ⟨.hbm, 681, rfl⟩
abbrev main_v556 : Ref sig .tc := ⟨.hbm, 682, rfl⟩
abbrev main_v557 : Ref sig .tc := ⟨.hbm, 683, rfl⟩
abbrev main_cst_122 : Ref sig .tc := ⟨.hbm, 684, rfl⟩
abbrev main_v558 : Ref sig .tc := ⟨.hbm, 685, rfl⟩
abbrev main_v559 : Ref sig .tc := ⟨.hbm, 686, rfl⟩
abbrev main_cst_123 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_cst_125 : Ref sig .tc := ⟨.hbm, 694, rfl⟩
abbrev main_v565 : Ref sig .tc := ⟨.hbm, 695, rfl⟩
abbrev main_v566 : Ref sig .tc := ⟨.hbm, 696, rfl⟩
abbrev main_v567 : Ref sig .tc := ⟨.hbm, 697, rfl⟩
abbrev main_v568 : Ref sig .tc := ⟨.hbm, 698, rfl⟩
abbrev main_cst_126 : Ref sig .tc := ⟨.hbm, 699, rfl⟩
abbrev main_v569 : Ref sig .tc := ⟨.hbm, 700, rfl⟩
abbrev main_v570 : Ref sig .tc := ⟨.hbm, 701, rfl⟩
abbrev main_cst_127 : Ref sig .tc := ⟨.hbm, 702, rfl⟩
abbrev main_v571 : Ref sig .tc := ⟨.hbm, 703, rfl⟩
abbrev main_v572 : Ref sig .tc := ⟨.hbm, 704, rfl⟩
abbrev main_cst_128 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_cst_129 : Ref sig .tc := ⟨.hbm, 714, rfl⟩
abbrev main_v581 : Ref sig .tc := ⟨.hbm, 715, rfl⟩
abbrev main_v582 : Ref sig .tc := ⟨.hbm, 716, rfl⟩

abbrev nD : Nat := 1
abbrev τ : Topo := Topo.v7x

variable {F : FTy → Type} [FloatOps F]
-- ==== Kernel20.lean ====
abbrev S8192x6144 : Shape := ⟨2, ![8192, 6144]⟩
abbrev S31x1024 : Shape := ⟨2, ![31, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S32x1024 : Shape := ⟨2, ![32, 1024]⟩
abbrev S544x1024 : Shape := ⟨2, ![544, 1024]⟩
abbrev S536x1024 : Shape := ⟨2, ![536, 1024]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x6144, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S544x1024, .f32⟩
  | .local _ .vmem, ⟨17, _⟩ => ⟨S536x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference20Ideal.lean ====
abbrev S8192x6144 : Shape := ⟨2, ![8192, 6144]⟩
abbrev S31x1024 : Shape := ⟨2, ![31, 1024]⟩
abbrev S1024 : Shape := ⟨1, ![1024]⟩
abbrev S8192x2048 : Shape := ⟨2, ![8192, 2048]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 281
  | .vmem => 0
  | .smem => 0
  | _ => 0

abbrev hbmTy0_0 (i : Nat) : BufTy := match i % 128 with
  | 0 => ⟨S8192x6144, .f32⟩
  | 1 => ⟨S31x1024, .f32⟩
  | 2 => ⟨S1024, .f32⟩
  | 3 => ⟨S1024, .f32⟩
  | 4 => ⟨S1024, .f32⟩
  | 5 => ⟨S8192x2048, .f32⟩
  | 6 => ⟨S8192x1024, .f32⟩
  | 7 => ⟨S8192x1024, .f32⟩
  | 8 => ⟨S_, .f32⟩
  | 9 => ⟨S30x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8222x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S1x1024, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S1x1024, .f32⟩
  | 101 => ⟨S1024, .f32⟩
  | 102 => ⟨S1x1024, .f32⟩
  | 103 => ⟨S8192x1024, .f32⟩
  | 104 => ⟨S8192x1024, .f32⟩
  | 105 => ⟨S8192x1024, .f32⟩
  | 106 => ⟨S8192x1024, .f32⟩
  | 107 => ⟨S1x1024, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S8192x1024, .f32⟩
  | 114 => ⟨S1x1024, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S8192x1024, .f32⟩
  | 121 => ⟨S1x1024, .f32⟩
  | 122 => ⟨S1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x6144, .f32⟩

abbrev hbmTy0_1 (i : Nat) : BufTy := match i % 128 with
  | 0 => ⟨S1x1024, .f32⟩
  | 1 => ⟨S1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S1x1024, .f32⟩
  | 50 => ⟨S1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S1x1024, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S1x1024, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S1x1024, .f32⟩
  | 85 => ⟨S1024, .f32⟩
  | 86 => ⟨S1x1024, .f32⟩
  | 87 => ⟨S8192x1024, .f32⟩
  | 88 => ⟨S8192x1024, .f32⟩
  | 89 => ⟨S8192x1024, .f32⟩
  | 90 => ⟨S8192x1024, .f32⟩
  | 91 => ⟨S1x1024, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S8192x1024, .f32⟩
  | 98 => ⟨S1x1024, .f32⟩
  | 99 => ⟨S1024, .f32⟩
  | 100 => ⟨S1x1024, .f32⟩
  | 101 => ⟨S8192x1024, .f32⟩
  | 102 => ⟨S8192x1024, .f32⟩
  | 103 => ⟨S8192x1024, .f32⟩
  | 104 => ⟨S8192x1024, .f32⟩
  | 105 => ⟨S1x1024, .f32⟩
  | 106 => ⟨S1024, .f32⟩
  | 107 => ⟨S1x1024, .f32⟩
  | 108 => ⟨S8192x1024, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x6144, .f32⟩

abbrev hbmTy0_2 (i : Nat) : BufTy := match i % 128 with
  | 0 => ⟨S8192x1, .f32⟩
  | 1 => ⟨S8192x1024, .f32⟩
  | 2 => ⟨S8192x1024, .f32⟩
  | 3 => ⟨S_, .f32⟩
  | 4 => ⟨S8192x1, .f32⟩
  | 5 => ⟨S8192x1, .f32⟩
  | 6 => ⟨S8192x1, .f32⟩
  | 7 => ⟨S8192x1024, .f32⟩
  | 8 => ⟨S8192x1024, .f32⟩
  | 9 => ⟨S1x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S8192x1024, .bf16⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_7 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_call0_v0 : Ref sig .tc := ⟨.hbm, 271, rfl⟩
abbrev main_call0_v1 : Ref sig .tc := ⟨.hbm, 272, rfl⟩
abbrev main_call0_cst : Ref sig .tc := ⟨.hbm, 273, rfl⟩
abbrev main_call0_v2 : Ref sig .tc := ⟨.hbm, 274, rfl⟩
abbrev main_call0_v3 : Ref sig .tc := ⟨.hbm, 275, rfl⟩
abbrev main_call0_cst_0 : Ref sig .tc := ⟨.hbm, 276, rfl⟩
abbrev main_call0_v4 : Ref sig .tc := ⟨.hbm, 277, rfl⟩
abbrev main_call0_v5 : Ref sig .tc := ⟨.hbm, 278, rfl⟩
abbrev main_v257 : Ref sig .tc := ⟨.hbm, 279, rfl⟩
abbrev main_v258 : Ref sig .tc := ⟨.hbm, 280, rfl⟩

abbrev nD : Nat := 1
abbrev τ : Topo := Topo.v7x

variable {F : FTy → Type} [FloatOps F]
-- ==== Proof.M.DownDw.lean ====
/- The weight gradient of the MLP's second product: what the kernel's result holds, and that the reference holds the same. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel2Ideal.Mlp

open Idealize.ShloMosaic Idealize.ShloMosaic.TcCoe Cert.Kernel2Ideal.Gen

/-- One product of two blocks, at an entry. -/
theorem pay2_read (a b : FVec Ideal S2048x1024 .bf16) (r s : Fin 1024) :
    (k0_pay2 (F := Ideal) a b (ix2 r s) : EReal) = 0 + ∑ k : Fin 2048, a (ix2 k r) * b (ix2 k s) := by
  pointwise [k0_pay2, k0_pay1]

theorem pay3_read (a b : FVec Ideal S2048x1024 .bf16) (x : FVec Ideal S1024x1024 .f32) (r s : Fin 1024) :
    (k0_pay3 (F := Ideal) a b x (ix2 r s) : EReal) = x (ix2 r s) + (0 + ∑ k : Fin 2048, a (ix2 k r) * b (ix2 k s)) := by
  pointwise [k0_pay3, k0_pay1]

theorem pay4_read (x : FVec Ideal S1024x1024 .f32) (r s : Fin 1024) :
    (k0_pay4 (F := Ideal) x (ix2 r s) : EReal) = x (ix2 r s) := by
  pointwise [k0_pay4]

variable (m : (ℓ : Loc nD τ sig) → Buf (Elt Ideal) ℓ) (c : Dev nD)

theorem sc_A (t : Fin cfg0.N) (h : t.val % 4 = 0) :
    (outsAt0 m c t.val t.isLt).2 = k0_pay2 (iblk m c 0 t) (iblk m c 1 t) := by
  rw [outsAt0_A m c t h (by omega) (by omega)]
  frame_out

theorem sc_BC (t : Fin cfg0.N) (h : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
  · rw [outsAt0_B m c t h (by omega) h2]
    frame_out
    simp only [read_unread_whole]

theorem out_C (t : Fin cfg0.N) (h : t.val % 4 = 3) :
    (outsAt0 m c t.val t.isLt).1 = k0_pay4 (outsAt0 m c t.val t.isLt).2 := by
  rw [sc_BC m c t (by omega), outsAt0_C m c t (by omega) (by omega) h]
  frame_out
  simp only [read_unread_whole]

/-- The launch's two arrays, their blocks at a point, and the accumulator after it. -/
def arrA : FVec Ideal S8192x8192 .bf16 := V m c main_v2
def arrB : FVec Ideal S8192x2048 .bf16 := V m c main_v3
def blkA (t : Fin cfg0.N) : FVec Ideal S2048x1024 .bf16 := iblk m c 0 t
def blkB (t : Fin cfg0.N) : FVec Ideal S2048x1024 .bf16 := iblk m c 1 t
def acc (n : ℕ) (hn : n < cfg0.N) : FVec Ideal S1024x1024 .f32 := (outsAt0 m c n hn).2

theorem idx_0 : ∀ t : Fin grid0.N, win0_0.index t = ![t.val % 4, t.val / 8] := by decide +kernel
theorem idx_1 : ∀ t : Fin grid0.N, win0_1.index t = ![t.val % 4, t.val / 4 % 2] := by decide +kernel
theorem idx_2 : ∀ t : Fin grid0.N, win0_2.index t = ![t.val / 8, t.val / 4 % 2] := by decide +kernel

theorem lt_N (t : Fin cfg0.N) : t.val < 64 := lt_of_lt_of_eq t.isLt (show cfg0.N = 64 from N_0)

theorem blk_0 (t : Fin cfg0.N) (k : Fin 2048) (r : Fin 1024) :
    blkA m c t (ix2 k r) = arrA m c (ix2 ⟨t.val % 4 * 2048 + k.val, by omega⟩ ⟨t.val / 8 * 1024 + r.val, by have := lt_N t; omega⟩) := by
  have hi := idx_0 t
  unfold blkA arrA iblk
  blk_ext [hi]

theorem blk_1 (t : Fin cfg0.N) (k : Fin 2048) (r : Fin 1024) :
    blkB m c t (ix2 k r) = arrB m c (ix2 ⟨t.val % 4 * 2048 + k.val, by omega⟩ ⟨t.val / 4 % 2 * 1024 + r.val, by omega⟩) := by
  have hi := idx_1 t
  unfold blkB arrB iblk
  blk_ext [hi]

/-- The product of the whole arrays, at an entry. -/
def prod (A : FVec Ideal S8192x8192 .bf16) (B : FVec Ideal S8192x2048 .bf16) : S8192x2048.Idx → EReal := fun y =>
  ∑ l : Fin 8192, A (ix2 l (y 0)) * B (ix2 l (y 1))

/-- What one step along the sequence adds. -/
def part (A : FVec Ideal S8192x8192 .bf16) (B : FVec Ideal S8192x2048 .bf16) (n : ℕ) (hn : n < 64) (r s : Fin 1024) : EReal :=
  ∑ k : Fin 2048, A (ix2 ⟨n % 4 * 2048 + k.val, by omega⟩ ⟨n / 8 * 1024 + r.val, by omega⟩)
    * B (ix2 ⟨n % 4 * 2048 + k.val, by omega⟩ ⟨n / 4 % 2 * 1024 + s.val, by omega⟩)

/-- The four steps of an output block make the whole sum. -/
theorem part_sum (A : FVec Ideal S8192x8192 .bf16) (B : FVec Ideal S8192x2048 .bf16) (n : ℕ) (hn : n < 64) (r s : Fin 1024) :
    ∑ u : Fin 4, part A B (4 * (n / 4) + u.val) (by omega) r s
      = prod A B (ix2 ⟨n / 8 * 1024 + r.val, by omega⟩ ⟨n / 4 % 2 * 1024 + s.val, by omega⟩) := by
  refine Fin.sum_mul_add_congr fun u k hl => ?_
  have h1 : (4 * (n / 4) + u.val) % 4 = u.val := by omega
  have h2 : (4 * (n / 4) + u.val) / 8 = n / 8 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 2048 + k.val) h1
  · exact congrArg (· * 1024 + r.val) h2
  · exact congrArg (· * 2048 + k.val) h1
  · exact congrArg (· % 2 * 1024 + s.val) h3

theorem sum_blocks (t : Fin cfg0.N) (r s : Fin 1024) :
    0 + ∑ k : Fin 2048, blkA m c t (ix2 k r) * blkB m c t (ix2 k s) = part (arrA m c) (arrB m c) t.val (lt_N t) r s :=
  (zero_add _).trans (Finset.sum_congr rfl fun k _ => congrArg₂ (· * ·) (blk_0 m c t k r) (blk_1 m c t k s))

theorem acc_A (t : Fin cfg0.N) (h : t.val % 4 = 0) (r s : Fin 1024) :
    acc m c t.val t.isLt (ix2 r s) = 0 + part (arrA m c) (arrB m c) t.val (lt_N t) r s := by
  rw [← sum_blocks, zero_add]
  exact (congrFun (sc_A m c t h) (ix2 r s)).trans (pay2_read (blkA m c t) (blkB m c t) r s)

theorem acc_BC (t : Fin cfg0.N) (h : ¬t.val % 4 = 0) (r s : Fin 1024) :
    acc m c t.val t.isLt (ix2 r s) = acc m c (t.val - 1) (Nat.lt_of_le_of_lt (Nat.sub_le _ _) t.isLt) (ix2 r s)
      + part (arrA m c) (arrB m c) t.val (lt_N t) r s := by
  rw [← sum_blocks]
  exact (congrFun (sc_BC m c t h) (ix2 r s)).trans (pay3_read (blkA m c t) (blkB m c t) _ r s)

/-- At the last of the four steps along the sequence the accumulator holds the whole sum. -/
theorem acc_all (t : Fin cfg0.N) (h : t.val % 4 = 3) (r s : Fin 1024) :
    acc m c t.val t.isLt (ix2 r s)
      = prod (arrA m c) (arrB m c) (ix2 ⟨t.val / 8 * 1024 + r.val, by have := lt_N t; omega⟩ ⟨t.val / 4 % 2 * 1024 + s.val, by omega⟩) :=
  (Pipeline.eq_sum_fin_of_reset_step_apply_of_flush (M := EReal)
    (fun n hn (y : Fin 1024 × Fin 1024) => acc m c n hn (ix2 y.1 y.2)) 4 (fun _ => 0)
    (fun u y => part (arrA m c) (arrB m c) u.val (lt_N u) y.1 y.2)
    (fun u hu y => acc_A m c u hu y.1 y.2) (fun u hu y => acc_BC m c u hu y.1 y.2) t h (r, s)).trans
    ((zero_add _).trans (part_sum _ _ t.val (lt_N t) r s))

/-- The kernel's result. -/
theorem out_array : ((dats m 0 c).arrAt 2 (cfgs 0).N : S8192x2048.Idx → EReal) = prod (arrA m c) (arrB m c) := by
  refine (dats m 0 c).arrAt_eq_of_covers 2 _ (by decide +kernel) fun t hf y => ?_
  have h3 : t.val % 4 = 3 := (flush0_2 t).mp hf
  have hi := idx_2 t
  obtain ⟨a, b, rfl⟩ : ∃ (a : Fin 1024) (b : Fin 1024), y = ix2 a b := ⟨y 0, y 1, eq_ix2 y⟩
  rw [after0_2, out_C m c t h3]
  refine (pay4_read _ a b).trans ((acc_all m c t h3 a b).trans (congrArg (prod _ _) ?_))
  blk_ext [hi]

/-- The arguments. -/
def argZ : FVec Ideal S8192x8192 .f32 := m (c, Proc.tc.devRef main_arg0)
def argY : FVec Ideal S8192x2048 .f32 := m (c, Proc.tc.devRef main_arg1)

/-- The arrays that the kernel is launched on. -/
theorem arrA_read (l : Fin 8192) (i : Fin 8192) :
    arrA m c (ix2 l i) = max (argZ m c (ix2 l i)) 0 * max (argZ m c (ix2 l i)) 0 := by
  unfold arrA argZ V
  after_reads_at

theorem arrB_read (l : Fin 8192) (j : Fin 2048) : arrB m c (ix2 l j) = argY m c (ix2 l j) := by
  unfold arrB argY V
  after_reads_at

/-- What both results hold: at `(i, j)` the sum over the sequence of the activation `i` times the incoming gradient `j`. -/
def grad (z : FVec Ideal S8192x8192 .f32) (dy : FVec Ideal S8192x2048 .f32) : FVec Ideal S8192x2048 .bf16 := fun y =>
  ∑ l : Fin 8192, dy (ix2 l (y 1)) * (max (z (ix2 l (y 0))) 0 * max (z (ix2 l (y 0))) 0)

theorem out_grad : (dats m 0 c).arrAt 2 (cfgs 0).N = grad (argZ m c) (argY m c) :=
  (out_array m c).trans (funext fun y => Finset.sum_congr rfl fun l _ =>
    (congrArg₂ (· * ·) (arrA_read m c l (y 0)) (arrB_read m c l (y 1))).trans (mul_comm _ _))

end Cert.Kernel2Ideal.Mlp

namespace Cert.Reference2Ideal.Mlp

open Idealize.ShloMosaic Idealize.ShloMosaic.TcCoe Cert.Reference2Ideal.Gen

/-- The reference's expression, at an entry. -/
theorem ref_read (z : FVec Ideal S8192x8192 .f32) (dy : FVec Ideal S8192x2048 .f32) (i : Fin 8192) (j : Fin 2048) :
    ((truncf .bf16 (transpose S8192x2048 [1, 0] (Host.dotGeneral dot_S8192x2048_S8192x8192_S2048x8192_0_0_1_1_n_n none dy (mulf (maximumf z (broadcastInDim S8192x8192 ![] bcast_S_S8192x8192 (constant S_ .f32 0x00000000#32))) (maximumf z (broadcastInDim S8192x8192 ![] bcast_S_S8192x8192 (constant S_ .f32 0x00000000#32))))) transposes_S2048x8192_S8192x2048_1_0) bitsLt_bf16_f32 : FVec Ideal S8192x2048 .bf16) (ix2 i j) : EReal)
      = ∑ l : Fin 8192, dy (ix2 l j) * (max (z (ix2 l i)) 0 * max (z (ix2 l i)) 0) := by
  pointwise

/-- The reference's whole array. -/
theorem ref_array (z : FVec Ideal S8192x8192 .f32) (dy : FVec Ideal S8192x2048 .f32) :
    (truncf .bf16 (transpose S8192x2048 [1, 0] (Host.dotGeneral dot_S8192x2048_S8192x8192_S2048x8192_0_0_1_1_n_n none dy (mulf (maximumf z (broadcastInDim S8192x8192 ![] bcast_S_S8192x8192 (constant S_ .f32 0x00000000#32))) (maximumf z (broadcastInDim S8192x8192 ![] bcast_S_S8192x8192 (constant S_ .f32 0x00000000#32))))) transposes_S2048x8192_S8192x2048_1_0) bitsLt_bf16_f32 : FVec Ideal S8192x2048 .bf16)
      = Cert.Kernel2Ideal.Mlp.grad z dy := by
  funext y
  obtain ⟨a, b, rfl⟩ : ∃ (a : Fin 8192) (b : Fin 2048), y = ix2 a b := ⟨y 0, y 1, eq_ix2 y⟩
  exact ref_read z dy a b

end Cert.Reference2Ideal.Mlp

end
-- ==== Proof.M.DownDx.lean ====
/- The gradient through the MLP's second product and the squared ReLU: what the kernel's result holds, and that the reference holds the same. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel3Ideal.Mlp

open Idealize.ShloMosaic Idealize.ShloMosaic.TcCoe Cert.Kernel3Ideal.Gen

/-- The block of the result, at an entry. -/
theorem pay1_read (a : FVec Ideal S1024x2048 .bf16) (w : FVec Ideal S1024x2048 .bf16) (z : FVec Ideal S1024x1024 .bf16) (r s : Fin 1024) :
    (k0_pay1 (F := Ideal) a w z (ix2 r s) : EReal)
      = (0 + ∑ k : Fin 2048, a (ix2 r k) * w (ix2 s k)) * Ideal.ofBits .f32 0x40000000#32 * max (z (ix2 r s)) 0 := by
  pointwise [k0_pay1]

variable (m : (ℓ : Loc nD τ sig) → Buf (Elt Ideal) ℓ) (c : Dev nD)

/-- The arguments. -/
def argZ : FVec Ideal S8192x8192 .f32 := m (c, Proc.tc.devRef main_arg0)
def argW : FVec Ideal S8192x2048 .f32 := m (c, Proc.tc.devRef main_arg1)
def argY : FVec Ideal S8192x2048 .f32 := m (c, Proc.tc.devRef main_arg2)

/-- The blocks that a point is given. -/
def blkY (t : Fin cfg0.N) : FVec Ideal S1024x2048 .bf16 := iblk m c 0 t
def blkW (t : Fin cfg0.N) : FVec Ideal S1024x2048 .bf16 := iblk m c 1 t
def blkZ (t : Fin cfg0.N) : FVec Ideal S1024x1024 .bf16 := iblk m c 2 t

theorem idx_0 : ∀ t : Fin grid0.N, win0_0.index t = ![t.val / 8, 0] := by decide +kernel
theorem idx_1 : ∀ t : Fin grid0.N, win0_1.index t = ![t.val % 8, 0] := by decide +kernel
theorem idx_2 : ∀ t : Fin grid0.N, win0_2.index t = ![t.val / 8, t.val % 8] := by decide +kernel
theorem idx_3 : ∀ t : Fin grid0.N, win0_3.index t = ![t.val / 8, t.val % 8] := by decide +kernel

theorem lt_N (t : Fin cfg0.N) : t.val < 64 := lt_of_lt_of_eq t.isLt (show cfg0.N = 64 from N_0)

theorem arr_Y (i : Fin 8192) (k : Fin 2048) : (V m c main_v0 : FVec Ideal S8192x2048 .bf16) (ix2 i k) = argY m c (ix2 i k) := by
  unfold argY V
  after_reads_at

theorem arr_Z (i j : Fin 8192) : (V m c main_v2 : FVec Ideal S8192x8192 .bf16) (ix2 i j) = argZ m c (ix2 i j) := by
  unfold argZ V
  after_reads_at

theorem blk_Y (t : Fin cfg0.N) (r : Fin 1024) (k : Fin 2048) :
    blkY m c t (ix2 r k) = argY m c (ix2 ⟨t.val / 8 * 1024 + r.val, by have := lt_N t; omega⟩ k) := by
  refine Eq.trans ?_ (arr_Y m c _ k)
  have hi := idx_0 t
  unfold blkY iblk
  blk_ext [hi]

theorem arr_W (i : Fin 8192) (k : Fin 2048) : (V m c main_v1 : FVec Ideal S8192x2048 .bf16) (ix2 i k) = argW m c (ix2 i k) := by
  unfold argW V
  after_reads_at

theorem blk_W (t : Fin cfg0.N) (s : Fin 1024) (k : Fin 2048) :
    blkW m c t (ix2 s k) = argW m c (ix2 ⟨t.val % 8 * 1024 + s.val, by omega⟩ k) := by
  refine Eq.trans ?_ (arr_W m c _ _)
  have hi := idx_1 t
  unfold blkW iblk
  blk_ext [hi]

theorem blk_Z (t : Fin cfg0.N) (r s : Fin 1024) :
    blkZ m c t (ix2 r s) = argZ m c (ix2 ⟨t.val / 8 * 1024 + r.val, by have := lt_N t; omega⟩ ⟨t.val % 8 * 1024 + s.val, by omega⟩) := by
  refine Eq.trans ?_ (arr_Z m c _ _)
  have hi := idx_2 t
  unfold blkZ iblk
  blk_ext [hi]

/-- What both results hold: at `(i, j)` the incoming gradient's row `i` times the weights' row `j`, by the slope of the
    squared ReLU. -/
def grad (z : FVec Ideal S8192x8192 .f32) (w dy : FVec Ideal S8192x2048 .f32) : FVec Ideal S8192x8192 .bf16 := fun y =>
  (∑ k : Fin 2048, dy (ix2 (y 0) k) * w (ix2 (y 1) k)) * Ideal.ofBits .f32 0x40000000#32 * max (z y) 0

theorem out_grad : (dats m 0 c).arrAt 3 (cfgs 0).N = grad (argZ m c) (argW m c) (argY m c) := by
  refine (dats m 0 c).arrAt_eq_of_covers 3 _ (by decide +kernel) fun t hf y => ?_
  have hi := idx_3 t
  obtain ⟨a, b, rfl⟩ : ∃ (a : Fin 1024) (b : Fin 1024), y = ix2 a b := ⟨y 0, y 1, eq_ix2 y⟩
  rw [after0_3]
  frame_out
  have key := pay1_read (blkY m c t) (blkW m c t) (blkZ m c t) a b
  rw [zero_add, blk_Z, Finset.sum_congr rfl fun k _ => congrArg₂ (· * ·) (blk_Y m c t a k) (blk_W m c t b k)] at key
  refine key.trans (?_ : grad (argZ m c) (argW m c) (argY m c) (ix2 _ _) = _)
  refine congrArg (grad _ _ _) ?_
  blk_ext [hi]

end Cert.Kernel3Ideal.Mlp

namespace Cert.Reference3Ideal.Mlp

open Idealize.ShloMosaic Idealize.ShloMosaic.TcCoe Cert.Reference3Ideal.Gen

/-- A gradient passed where the value is positive and nowhere else is the gradient times the value's positive part. -/
theorem select_pos (p z q : EReal) : (if 0 < z then p * (q * max z 0) else 0) = p * q * max z 0 := by
  split
  · exact (mul_assoc _ _ _).symm
  · rw [max_eq_right (not_lt.mp ‹_›), mul_zero]

/-- The reference's expression, at an entry. -/
theorem ref_read (z : FVec Ideal S8192x8192 .f32) (w dy : FVec Ideal S8192x2048 .f32) (i j : Fin 8192) :
    ((truncf .bf16 (select (cmpf .ogt z (broadcastInDim S8192x8192 ![] bcast_S_S8192x8192 (constant S_ .f32 0x00000000#32))) (mulf (Host.dotGeneral dot_S8192x2048_S8192x2048_S8192x8192_1_1_0_0_n_n none dy w) (mulf (broadcastInDim S8192x8192 ![] bcast_S_S8192x8192 (constant S_ .f32 0x40000000#32)) (maximumf z (broadcastInDim S8192x8192 ![] bcast_S_S8192x8192 (constant S_ .f32 0x00000000#32))))) (broadcastInDim S8192x8192 ![] bcast_S_S8192x8192 (constant S_ .f32 0x00000000#32))) bitsLt_bf16_f32 : FVec Ideal S8192x8192 .bf16) (ix2 i j) : EReal)
      = (if 0 < z (ix2 i j) then (∑ k : Fin 2048, dy (ix2 i k) * w (ix2 j k)) * (Ideal.ofBits .f32 0x40000000#32 * max (z (ix2 i j)) 0) else 0) := by
  pointwise

/-- The reference's whole array. -/
theorem ref_array (z : FVec Ideal S8192x8192 .f32) (w dy : FVec Ideal S8192x2048 .f32) :
    (truncf .bf16 (select (cmpf .ogt z (broadcastInDim S8192x8192 ![] bcast_S_S8192x8192 (constant S_ .f32 0x00000000#32))) (mulf (Host.dotGeneral dot_S8192x2048_S8192x2048_S8192x8192_1_1_0_0_n_n none dy w) (mulf (broadcastInDim S8192x8192 ![] bcast_S_S8192x8192 (constant S_ .f32 0x40000000#32)) (maximumf z (broadcastInDim S8192x8192 ![] bcast_S_S8192x8192 (constant S_ .f32 0x00000000#32))))) (broadcastInDim S8192x8192 ![] bcast_S_S8192x8192 (constant S_ .f32 0x00000000#32))) bitsLt_bf16_f32 : FVec Ideal S8192x8192 .bf16)
      = Cert.Kernel3Ideal.Mlp.grad z w dy := by
  funext y
  obtain ⟨a, b, rfl⟩ : ∃ (a b : Fin 8192), y = ix2 a b := ⟨y 0, y 1, eq_ix2 y⟩
  exact (ref_read z w dy a b).trans (select_pos _ _ _)

end Cert.Reference3Ideal.Mlp

end
-- ==== Proof.M.UpDw.lean ====
/- The weight gradient of the MLP's first product, in the devices' blocks of columns: what the kernel's result holds, and that the reference holds the same. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel4Ideal.Mlp

open Idealize.ShloMosaic Idealize.ShloMosaic.TcCoe Cert.Kernel4Ideal.Gen

/-- One product of two blocks, at an entry. -/
theorem pay2_read (a b : FVec Ideal S2048x1024 .bf16) (r s : Fin 1024) :
    (k0_pay2 (F := Ideal) a b (ix2 r s) : EReal) = 0 + ∑ k : Fin 2048, a (ix2 k r) * b (ix2 k s) := by
  pointwise [k0_pay2, k0_pay1]

theorem pay3_read (a b : FVec Ideal S2048x1024 .bf16) (x : FVec Ideal S1024x1024 .f32) (r s : Fin 1024) :
    (k0_pay3 (F := Ideal) a b x (ix2 r s) : EReal) = x (ix2 r s) + (0 + ∑ k : Fin 2048, a (ix2 k r) * b (ix2 k s)) := by
  pointwise [k0_pay3, k0_pay1]

theorem pay4_read (x : FVec Ideal S1024x1024 .f32) (r s : Fin 1024) :
    (k0_pay4 (F := Ideal) x (ix3 0 r s) : EReal) = x (ix2 r s) := by
  pointwise [k0_pay4]

variable (m : (ℓ : Loc nD τ sig) → Buf (Elt Ideal) ℓ) (c : Dev nD)

theorem sc_A (t : Fin cfg0.N) (h : t.val % 4 = 0) :
    (outsAt0 m c t.val t.isLt).2 = k0_pay2 (iblk m c 0 t) (iblk m c 1 t) := by
  rw [outsAt0_A m c t h (by omega) (by omega)]
  frame_out

theorem sc_BC (t : Fin cfg0.N) (h : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
  · rw [outsAt0_B m c t h (by omega) h2]
    frame_out
    simp only [read_unread_whole]

theorem out_C (t : Fin cfg0.N) (h : t.val % 4 = 3) :
    (outsAt0 m c t.val t.isLt).1 = k0_pay4 (outsAt0 m c t.val t.isLt).2 := by
  rw [sc_BC m c t (by omega), outsAt0_C m c t (by omega) (by omega) h]
  frame_out
  simp only [read_unread_whole]

/-- The launch's two arrays, their blocks at a point, and the accumulator after it. -/
def arrA : FVec Ideal S8192x2048 .bf16 := V m c main_v0
def arrB : FVec Ideal S8192x8192 .bf16 := V m c main_v1
def blkA (t : Fin cfg0.N) : FVec Ideal S2048x1024 .bf16 := iblk m c 0 t
def blkB (t : Fin cfg0.N) : FVec Ideal S2048x1024 .bf16 := iblk m c 1 t
def acc (n : ℕ) (hn : n < cfg0.N) : FVec Ideal S1024x1024 .f32 := (outsAt0 m c n hn).2

theorem idx_0 : ∀ t : Fin grid0.N, win0_0.index t = ![t.val % 4, t.val / 32] := by decide +kernel
theorem idx_1 : ∀ t : Fin grid0.N, win0_1.index t = ![t.val % 4, t.val / 4 % 8] := by decide +kernel
theorem idx_2 : ∀ t : Fin grid0.N, win0_2.index t = ![t.val / 4 % 8, t.val / 32, 0] := by decide +kernel

theorem lt_N (t : Fin cfg0.N) : t.val < 64 := lt_of_lt_of_eq t.isLt (show cfg0.N = 64 from N_0)

theorem blk_0 (t : Fin cfg0.N) (k : Fin 2048) (r : Fin 1024) :
    blkA m c t (ix2 k r) = arrA m c (ix2 ⟨t.val % 4 * 2048 + k.val, by omega⟩ ⟨t.val / 32 * 1024 + r.val, by have := lt_N t; omega⟩) := by
  have hi := idx_0 t
  unfold blkA arrA iblk
  blk_ext [hi]

theorem blk_1 (t : Fin cfg0.N) (k : Fin 2048) (r : Fin 1024) :
    blkB m c t (ix2 k r) = arrB m c (ix2 ⟨t.val % 4 * 2048 + k.val, by omega⟩ ⟨t.val / 4 % 8 * 1024 + r.val, by omega⟩) := by
  have hi := idx_1 t
  unfold blkB arrB iblk
  blk_ext [hi]

/-- Column `s` of block `j`. -/
def col (j : Fin 8) (s : Fin 1024) : Fin 8192 := ⟨j.val * 1024 + s.val, by omega⟩

/-- The product of the whole arrays, at an entry. -/
def prod (A : FVec Ideal S8192x2048 .bf16) (B : FVec Ideal S8192x8192 .bf16) : S8x2048x1024.Idx → EReal := fun y =>
  ∑ l : Fin 8192, A (ix2 l (y 1)) * B (ix2 l (col (y 0) (y 2)))

/-- What one step along the sequence adds. -/
def part (A : FVec Ideal S8192x2048 .bf16) (B : FVec Ideal S8192x8192 .bf16) (n : ℕ) (hn : n < 64) (r s : Fin 1024) : EReal :=
  ∑ k : Fin 2048, A (ix2 ⟨n % 4 * 2048 + k.val, by omega⟩ ⟨n / 32 * 1024 + r.val, by omega⟩)
    * B (ix2 ⟨n % 4 * 2048 + k.val, by omega⟩ ⟨n / 4 % 8 * 1024 + s.val, by omega⟩)

/-- The four steps of an output block make the whole sum. -/
theorem part_sum (A : FVec Ideal S8192x2048 .bf16) (B : FVec Ideal S8192x8192 .bf16) (n : ℕ) (hn : n < 64) (r s : Fin 1024) :
    ∑ u : Fin 4, part A B (4 * (n / 4) + u.val) (by omega) r s
      = prod A B (ix3 ⟨n / 4 % 8, by omega⟩ ⟨n / 32 * 1024 + r.val, by omega⟩ s) := by
  refine Fin.sum_mul_add_congr fun u k hl => ?_
  have h1 : (4 * (n / 4) + u.val) % 4 = u.val := by omega
  have h2 : (4 * (n / 4) + u.val) / 32 = n / 32 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 2048 + k.val) h1
  · exact congrArg (· * 1024 + r.val) h2
  · exact congrArg (· * 2048 + k.val) h1
  · exact congrArg (· % 8 * 1024 + s.val) h3

theorem sum_blocks (t : Fin cfg0.N) (r s : Fin 1024) :
    0 + ∑ k : Fin 2048, blkA m c t (ix2 k r) * blkB m c t (ix2 k s) = part (arrA m c) (arrB m c) t.val (lt_N t) r s :=
  (zero_add _).trans (Finset.sum_congr rfl fun k _ => congrArg₂ (· * ·) (blk_0 m c t k r) (blk_1 m c t k s))

theorem acc_A (t : Fin cfg0.N) (h : t.val % 4 = 0) (r s : Fin 1024) :
    acc m c t.val t.isLt (ix2 r s) = 0 + part (arrA m c) (arrB m c) t.val (lt_N t) r s := by
  rw [← sum_blocks, zero_add]
  exact (congrFun (sc_A m c t h) (ix2 r s)).trans (pay2_read (blkA m c t) (blkB m c t) r s)

theorem acc_BC (t : Fin cfg0.N) (h : ¬t.val % 4 = 0) (r s : Fin 1024) :
    acc m c t.val t.isLt (ix2 r s) = acc m c (t.val - 1) (Nat.lt_of_le_of_lt (Nat.sub_le _ _) t.isLt) (ix2 r s)
      + part (arrA m c) (arrB m c) t.val (lt_N t) r s := by
  rw [← sum_blocks]
  exact (congrFun (sc_BC m c t h) (ix2 r s)).trans (pay3_read (blkA m c t) (blkB m c t) _ r s)

/-- At the last of the four steps along the sequence the accumulator holds the whole sum. -/
theorem acc_all (t : Fin cfg0.N) (h : t.val % 4 = 3) (r s : Fin 1024) :
    acc m c t.val t.isLt (ix2 r s)
      = prod (arrA m c) (arrB m c) (ix3 ⟨t.val / 4 % 8, by omega⟩ ⟨t.val / 32 * 1024 + r.val, by have := lt_N t; omega⟩ s) :=
  (Pipeline.eq_sum_fin_of_reset_step_apply_of_flush (M := EReal)
    (fun n hn (y : Fin 1024 × Fin 1024) => acc m c n hn (ix2 y.1 y.2)) 4 (fun _ => 0)
    (fun u y => part (arrA m c) (arrB m c) u.val (lt_N u) y.1 y.2)
    (fun u hu y => acc_A m c u hu y.1 y.2) (fun u hu y => acc_BC m c u hu y.1 y.2) t h (r, s)).trans
    ((zero_add _).trans (part_sum _ _ t.val (lt_N t) r s))

/-- The kernel's result. -/
theorem out_array : ((dats m 0 c).arrAt 2 (cfgs 0).N : S8x2048x1024.Idx → EReal) = prod (arrA m c) (arrB m c) := by
  refine (dats m 0 c).arrAt_eq_of_covers 2 _ (by decide +kernel) fun t hf y => ?_
  have h3 : t.val % 4 = 3 := (flush0_2 t).mp hf
  have hi := idx_2 t
  obtain ⟨z, a, b, rfl⟩ : ∃ (z : Fin 1) (a : Fin 1024) (b : Fin 1024), y = ix3 z a b := ⟨y 0, y 1, y 2, eq_ix3 y⟩
  obtain rfl : z = 0 := Subsingleton.elim _ _
  rw [after0_2, out_C m c t h3]
  refine (pay4_read _ a b).trans ((acc_all m c t h3 a b).trans (congrArg (prod _ _) ?_))
  blk_ext [hi]

/-- The arguments. -/
def argX : FVec Ideal S8192x2048 .f32 := m (c, Proc.tc.devRef main_arg0)
def argY : FVec Ideal S8192x8192 .f32 := m (c, Proc.tc.devRef main_arg1)

/-- The arrays that the kernel is launched on. -/
theorem arrA_read (l : Fin 8192) (i : Fin 2048) : arrA m c (ix2 l i) = argX m c (ix2 l i) := by
  unfold arrA argX V
  after_reads_at

theorem arrB_read (l : Fin 8192) (j : Fin 8192) : arrB m c (ix2 l j) = argY m c (ix2 l j) := by
  unfold arrB argY V
  after_reads_at

/-- What both results hold: at row `i` and column `s` of block `j` the sum over the sequence of the activation `i` times
    that column's incoming gradient. -/
def grad (x : FVec Ideal S8192x2048 .f32) (dz : FVec Ideal S8192x8192 .f32) : FVec Ideal S8x2048x1024 .bf16 := fun y =>
  ∑ l : Fin 8192, dz (ix2 l (col (y 0) (y 2))) * x (ix2 l (y 1))

theorem out_grad : (dats m 0 c).arrAt 2 (cfgs 0).N = grad (argX m c) (argY m c) :=
  (out_array m c).trans (funext fun y => Finset.sum_congr rfl fun l _ =>
    (congrArg₂ (· * ·) (arrA_read m c l (y 1)) (arrB_read m c l (col (y 0) (y 2)))).trans (mul_comm _ _))

end Cert.Kernel4Ideal.Mlp

namespace Cert.Reference4Ideal.Mlp

open Idealize.ShloMosaic Idealize.ShloMosaic.TcCoe Cert.Reference4Ideal.Gen

/-- The reference's expression, at an entry. -/
theorem ref_read (x : FVec Ideal S8192x2048 .f32) (dz : FVec Ideal S8192x8192 .f32) (j : Fin 8) (i : Fin 2048) (s : Fin 1024) :
    ((truncf .bf16 (transpose S8x2048x1024 [1, 0, 2] (shapeCast _ (transpose S2048x8192 [1, 0] (Host.dotGeneral dot_S8192x8192_S8192x2048_S8192x2048_0_0_1_1_n_n none dz x) transposes_S8192x2048_S2048x8192_1_0) shapeCasts_S2048x8192_S2048x8x1024) transposes_S2048x8x1024_S8x2048x1024_1_0_2) bitsLt_bf16_f32 : FVec Ideal S8x2048x1024 .bf16) (ix3 j i s) : EReal)
      = ∑ l : Fin 8192, dz (ix2 l ⟨j.val * 1024 + s.val, by omega⟩) * x (ix2 l i) := by
  pointwise

/-- The reference's whole array. -/
theorem ref_array (x : FVec Ideal S8192x2048 .f32) (dz : FVec Ideal S8192x8192 .f32) :
    (truncf .bf16 (transpose S8x2048x1024 [1, 0, 2] (shapeCast _ (transpose S2048x8192 [1, 0] (Host.dotGeneral dot_S8192x8192_S8192x2048_S8192x2048_0_0_1_1_n_n none dz x) transposes_S8192x2048_S2048x8192_1_0) shapeCasts_S2048x8192_S2048x8x1024) transposes_S2048x8x1024_S8x2048x1024_1_0_2) bitsLt_bf16_f32 : FVec Ideal S8x2048x1024 .bf16)
      = Cert.Kernel4Ideal.Mlp.grad x dz := by
  funext y
  obtain ⟨j, a, b, rfl⟩ : ∃ (j : Fin 8) (a : Fin 2048) (b : Fin 1024), y = ix3 j a b := ⟨y 0, y 1, y 2, eq_ix3 y⟩
  exact ref_read x dz j a b

end Cert.Reference4Ideal.Mlp

end
-- ==== Proof.M.UpDx.lean ====
/- The gradient through the MLP's first product, with the residual branch's: what the kernel's result holds, and that the reference holds the same. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel5Ideal.Mlp

open Idealize.ShloMosaic Idealize.ShloMosaic.TcCoe Cert.Kernel5Ideal.Gen

/-- The products of two shards, at an entry. -/
theorem pay1_read (a : FVec Ideal S1024x2048 .bf16) (w v : FVec Ideal S1x1024x1024 .bf16) (r s : Fin 1024) :
    (k0_pay1 (F := Ideal) a w v (ix2 r s) : EReal)
      = (0 + (0 + ∑ k : Fin 1024, a (ix2 r ⟨k.val, by omega⟩) * w (ix3 0 s k)))
        + (0 + ∑ k : Fin 1024, a (ix2 r ⟨1024 + k.val, by omega⟩) * v (ix3 0 s k)) := by
  pointwise [k0_pay1]

theorem pay2_read (a : FVec Ideal S1024x2048 .bf16) (w v : FVec Ideal S1x1024x1024 .bf16) (r s : Fin 1024) :
    (k0_pay2 (F := Ideal) a w v (ix2 r s) : EReal) = k0_pay1 (F := Ideal) a w v (ix2 r s) := by
  pointwise [k0_pay2]

theorem pay3_read (a : FVec Ideal S1024x2048 .bf16) (w v : FVec Ideal S1x1024x1024 .bf16) (x : FVec Ideal S1024x1024 .f32) (r s : Fin 1024) :
    (k0_pay3 (F := Ideal) a w v x (ix2 r s) : EReal) = x (ix2 r s) + k0_pay1 (F := Ideal) a w v (ix2 r s) := by
  pointwise [k0_pay3]

theorem pay4_read (x y : FVec Ideal S1024x1024 .f32) (r s : Fin 1024) :
    (k0_pay4 (F := Ideal) x y (ix2 r s) : EReal) = x (ix2 r s) + Ideal.ofBits .f32 0x3FB504F3#32 * y (ix2 r s) := by
  pointwise [k0_pay4]

variable (m : (ℓ : Loc nD τ sig) → Buf (Elt Ideal) ℓ) (c : Dev nD)

/-- The arguments, the blocks of a point, its two shards of weights, and the accumulator after it. -/
def argW : FVec Ideal S2048x8192 .f32 := m (c, Proc.tc.devRef main_arg0)
def argZ : FVec Ideal S8192x8192 .f32 := m (c, Proc.tc.devRef main_arg1)
def argR : FVec Ideal S8192x2048 .f32 := m (c, Proc.tc.devRef main_arg2)
def blkZ (t : Fin cfg0.N) : FVec Ideal S1024x2048 .bf16 := iblk m c 0 t
def blkW (t : Fin cfg0.N) : FVec Ideal S2x1024x1024 .bf16 := iblk m c 1 t
def blkR (t : Fin cfg0.N) : FVec Ideal S1024x1024 .f32 := iblk m c 2 t

def sh0 (t : Fin cfg0.N) : FVec Ideal S1x1024x1024 .bf16 :=
  View.ld (Val := Elt Ideal) (e' := .f32) (blkW m c t) (Rect.unit (s := S2x1024x1024) ![0, 0, 0] S1x1024x1024.size inb_S2x1024x1024_S1x1024x1024_0_0_0)
def sh1 (t : Fin cfg0.N) : FVec Ideal S1x1024x1024 .bf16 :=
  View.ld (Val := Elt Ideal) (e' := .f32) (blkW m c t) (Rect.unit (s := S2x1024x1024) ![1, 0, 0] S1x1024x1024.size inb_S2x1024x1024_S1x1024x1024_1_0_0)
def acc (n : ℕ) (hn : n < cfg0.N) : FVec Ideal S1024x1024 .f32 := (outsAt0 m c n hn).2

theorem sc_A (t : Fin cfg0.N) (h : t.val % 4 = 0) :
    (outsAt0 m c t.val t.isLt).2 = k0_pay2 (F := Ideal) (blkZ m c t) (sh0 m c t) (sh1 m c t) := by
  rw [outsAt0_A m c t h (by omega) (by omega)]
  frame_out
  rfl

theorem sc_BC (t : Fin cfg0.N) (h : ¬t.val % 4 = 0) :
    (outsAt0 m c t.val t.isLt).2 = k0_pay3 (blkZ m c t) (sh0 m c t) (sh1 m c t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
    rfl
  · rw [outsAt0_B m c t h (by omega) h2]
    frame_out
    simp only [read_unread_whole]
    rfl

theorem out_C (t : Fin cfg0.N) (h : t.val % 4 = 3) :
    (outsAt0 m c t.val t.isLt).1 = k0_pay4 (outsAt0 m c t.val t.isLt).2 (blkR m c t) := by
  rw [sc_BC m c t (by omega), outsAt0_C m c t (by omega) (by omega) h]
  frame_out
  simp only [read_unread_whole]
  rfl

theorem idx_0 : ∀ t : Fin grid0.N, win0_0.index t = ![t.val / 8, t.val % 4] := by decide +kernel
theorem idx_1 : ∀ t : Fin grid0.N, win0_1.index t = ![t.val % 4, t.val / 4 % 2, 0] := by decide +kernel
theorem idx_2 : ∀ t : Fin grid0.N, win0_2.index t = ![t.val / 8, t.val / 4 % 2] := by decide +kernel
theorem idx_3 : ∀ t : Fin grid0.N, win0_3.index t = ![t.val / 8, t.val / 4 % 2] := by decide +kernel

theorem lt_N (t : Fin cfg0.N) : t.val < 64 := lt_of_lt_of_eq t.isLt (show cfg0.N = 64 from N_0)

theorem arr_Z (i l : Fin 8192) : (V m c main_v0 : FVec Ideal S8192x8192 .bf16) (ix2 i l) = argZ m c (ix2 i l) := by
  unfold argZ V
  after_reads_at

theorem arr_W (q : Fin 8) (j : Fin 2048) (k : Fin 1024) :
    (V m c main_v3 : FVec Ideal S8x2048x1024 .bf16) (ix3 q j k) = argW m c (ix2 j ⟨q.val * 1024 + k.val, by omega⟩) := by
  unfold argW V
  after_reads_at

theorem blk_Z (t : Fin cfg0.N) (r : Fin 1024) (k : Fin 2048) :
    blkZ m c t (ix2 r k) = argZ m c (ix2 ⟨t.val / 8 * 1024 + r.val, by have := lt_N t; omega⟩ ⟨t.val % 4 * 2048 + k.val, by omega⟩) := by
  refine Eq.trans ?_ (arr_Z m c _ _)
  have hi := idx_0 t
  unfold blkZ iblk
  blk_ext [hi]

theorem blk_W (t : Fin cfg0.N) (q : Fin 2) (s k : Fin 1024) :
    blkW m c t (ix3 q s k) = argW m c (ix2 ⟨t.val / 4 % 2 * 1024 + s.val, by omega⟩ ⟨(t.val % 4 * 2 + q.val) * 1024 + k.val, by omega⟩) := by
  refine Eq.trans ?_ (arr_W m c ⟨t.val % 4 * 2 + q.val, by omega⟩ _ _)
  have hi := idx_1 t
  unfold blkW iblk
  blk_ext [hi]

theorem blk_R (t : Fin cfg0.N) (r s : Fin 1024) :
    blkR m c t (ix2 r s) = argR m c (ix2 ⟨t.val / 8 * 1024 + r.val, by have := lt_N t; omega⟩ ⟨t.val / 4 % 2 * 1024 + s.val, by omega⟩) := by
  have hi := idx_2 t
  have h1 : V m c main_arg2 = m (c, Proc.tc.devRef main_arg2) := V_main_arg2 m c
  unfold blkR argR iblk
  blk_ext [hi, h1]

theorem sh0_read (t : Fin cfg0.N) (s k : Fin 1024) : sh0 m c t (ix3 0 s k) = blkW m c t (ix3 0 s k) := by
  unfold sh0
  generalize blkW m c t = x
  show x ((Rect.unit (s := S2x1024x1024) ![0, 0, 0] S1x1024x1024.size inb_S2x1024x1024_S1x1024x1024_0_0_0).idx (ix3 0 s k)) = x _
  blk_ext
  all_goals first | rfl | exact (Nat.zero_add _).trans (Nat.mul_one _) | exact (Nat.zero_add _).trans (Nat.one_mul _) | simp [Rect.unit, Rect.idx]

theorem sh1_read (t : Fin cfg0.N) (s k : Fin 1024) : sh1 m c t (ix3 0 s k) = blkW m c t (ix3 1 s k) := by
  unfold sh1
  generalize blkW m c t = x
  show x ((Rect.unit (s := S2x1024x1024) ![1, 0, 0] S1x1024x1024.size inb_S2x1024x1024_S1x1024x1024_1_0_0).idx (ix3 0 s k)) = x _
  blk_ext
  all_goals first | rfl | exact (Nat.zero_add _).trans (Nat.mul_one _) | exact (Nat.zero_add _).trans (Nat.one_mul _) | simp [Rect.unit, Rect.idx]

/-- The product of the whole arrays, at an entry. -/
def prod (A : FVec Ideal S8192x8192 .f32) (B : FVec Ideal S2048x8192 .f32) (i : Fin 8192) (j : Fin 2048) : EReal :=
  ∑ l : Fin 8192, A (ix2 i l) * B (ix2 j l)

/-- What one step adds: two shards of the contracted columns. -/
def part (A : FVec Ideal S8192x8192 .f32) (B : FVec Ideal S2048x8192 .f32) (n : ℕ) (hn : n < 64) (r s : Fin 1024) : EReal :=
  ∑ k : Fin 2048, A (ix2 ⟨n / 8 * 1024 + r.val, by omega⟩ ⟨n % 4 * 2048 + k.val, by omega⟩)
    * B (ix2 ⟨n / 4 % 2 * 1024 + s.val, by omega⟩ ⟨n % 4 * 2048 + k.val, by omega⟩)

/-- The four steps of an output block make the whole sum. -/
theorem part_sum (A : FVec Ideal S8192x8192 .f32) (B : FVec Ideal S2048x8192 .f32) (n : ℕ) (hn : n < 64) (r s : Fin 1024) :
    ∑ u : Fin 4, part A B (4 * (n / 4) + u.val) (by omega) r s
      = prod A B ⟨n / 8 * 1024 + r.val, by omega⟩ ⟨n / 4 % 2 * 1024 + s.val, by omega⟩ := by
  refine Fin.sum_mul_add_congr fun u k hl => ?_
  have h1 : (4 * (n / 4) + u.val) % 4 = u.val := by omega
  have h2 : (4 * (n / 4) + u.val) / 8 = n / 8 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 1024 + r.val) h2
  · exact congrArg (· * 2048 + k.val) h1
  · exact congrArg (· % 2 * 1024 + s.val) h3
  · exact congrArg (· * 2048 + k.val) h1

theorem sum_blocks (t : Fin cfg0.N) (r s : Fin 1024) :
    (k0_pay1 (F := Ideal) (blkZ m c t) (sh0 m c t) (sh1 m c t) (ix2 r s) : EReal) = part (argZ m c) (argW m c) t.val (lt_N t) r s := by
  rw [pay1_read, zero_add, zero_add, zero_add]
  refine Eq.trans ?_ (Fin.sum_mul_add_fin 2 1024 (fun k : Fin 2048 => argZ m c (ix2 ⟨t.val / 8 * 1024 + r.val, by have := lt_N t; omega⟩ ⟨t.val % 4 * 2048 + k.val, by omega⟩)
    * argW m c (ix2 ⟨t.val / 4 % 2 * 1024 + s.val, by omega⟩ ⟨t.val % 4 * 2048 + k.val, by omega⟩)))
  rw [Fin.sum_univ_two]
  refine congrArg₂ (· + ·) (Finset.sum_congr rfl fun k _ => ?_) (Finset.sum_congr rfl fun k _ => ?_)
  · rw [sh0_read, blk_Z, blk_W]
    refine congrArg₂ (· * ·) (congrArg _ (congrArg₂ ix2 rfl (Fin.ext ?_))) (congrArg _ (congrArg₂ ix2 rfl (Fin.ext ?_)))
    · show t.val % 4 * 2048 + k.val = t.val % 4 * 2048 + (0 * 1024 + k.val); omega
    · show (t.val % 4 * 2 + 0) * 1024 + k.val = t.val % 4 * 2048 + (0 * 1024 + k.val); omega
  · rw [sh1_read, blk_Z, blk_W]
    refine congrArg₂ (· * ·) (congrArg _ (congrArg₂ ix2 rfl (Fin.ext ?_))) (congrArg _ (congrArg₂ ix2 rfl (Fin.ext ?_)))
    · show t.val % 4 * 2048 + (1024 + k.val) = t.val % 4 * 2048 + (1 * 1024 + k.val); omega
    · show (t.val % 4 * 2 + 1) * 1024 + k.val = t.val % 4 * 2048 + (1 * 1024 + k.val); omega

theorem acc_A (t : Fin cfg0.N) (h : t.val % 4 = 0) (r s : Fin 1024) :
    acc m c t.val t.isLt (ix2 r s) = 0 + part (argZ m c) (argW m c) t.val (lt_N t) r s := by
  rw [← sum_blocks, zero_add]
  exact (congrFun (sc_A m c t h) (ix2 r s)).trans (pay2_read _ _ _ r s)

theorem acc_BC (t : Fin cfg0.N) (h : ¬t.val % 4 = 0) (r s : Fin 1024) :
    acc m c t.val t.isLt (ix2 r s) = acc m c (t.val - 1) (Nat.lt_of_le_of_lt (Nat.sub_le _ _) t.isLt) (ix2 r s)
      + part (argZ m c) (argW m c) t.val (lt_N t) r s := by
  rw [← sum_blocks]
  exact (congrFun (sc_BC m c t h) (ix2 r s)).trans (pay3_read _ _ _ _ r s)

/-- At the last of the four steps the accumulator holds the whole sum. -/
theorem acc_all (t : Fin cfg0.N) (h : t.val % 4 = 3) (r s : Fin 1024) :
    acc m c t.val t.isLt (ix2 r s)
      = prod (argZ m c) (argW m c) ⟨t.val / 8 * 1024 + r.val, by have := lt_N t; omega⟩ ⟨t.val / 4 % 2 * 1024 + s.val, by omega⟩ :=
  (Pipeline.eq_sum_fin_of_reset_step_apply_of_flush (M := EReal)
    (fun n hn (y : Fin 1024 × Fin 1024) => acc m c n hn (ix2 y.1 y.2)) 4 (fun _ => 0)
    (fun u y => part (argZ m c) (argW m c) u.val (lt_N u) y.1 y.2)
    (fun u hu y => acc_A m c u hu y.1 y.2) (fun u hu y => acc_BC m c u hu y.1 y.2) t h (r, s)).trans
    ((zero_add _).trans (part_sum _ _ t.val (lt_N t) r s))

/-- What both results hold: at `(i, j)` the incoming gradient's row `i` times the weights' row `j`, and the residual
    branch's gradient by its factor. -/
def grad (w : FVec Ideal S2048x8192 .f32) (dz : FVec Ideal S8192x8192 .f32) (dr : FVec Ideal S8192x2048 .f32) : FVec Ideal S8192x2048 .f32 := fun y =>
  prod dz w (y 0) (y 1) + Ideal.ofBits .f32 0x3FB504F3#32 * dr y

theorem out_grad : (dats m 0 c).arrAt 3 (cfgs 0).N = grad (argW m c) (argZ m c) (argR m c) := by
  refine (dats m 0 c).arrAt_eq_of_covers 3 _ (by decide +kernel) fun t hf y => ?_
  have h3 : t.val % 4 = 3 := (flush0_3 t).mp hf
  have hi := idx_3 t
  obtain ⟨a, b, rfl⟩ : ∃ (a : Fin 1024) (b : Fin 1024), y = ix2 a b := ⟨y 0, y 1, eq_ix2 y⟩
  rw [after0_3, out_C m c t h3]
  have key := pay4_read (acc m c t.val t.isLt) (blkR m c t) a b
  rw [blk_R, acc_all m c t h3] at key
  refine key.trans (?_ : grad (argW m c) (argZ m c) (argR m c) (ix2 _ _) = _)
  refine congrArg (grad _ _ _) ?_
  blk_ext [hi]

end Cert.Kernel5Ideal.Mlp

namespace Cert.Reference5Ideal.Mlp

open Idealize.ShloMosaic Idealize.ShloMosaic.TcCoe Cert.Reference5Ideal.Gen

/-- The reference's expression, at an entry. -/
theorem ref_read (w : FVec Ideal S2048x8192 .f32) (dz : FVec Ideal S8192x8192 .f32) (dr : FVec Ideal S8192x2048 .f32) (i : Fin 8192) (j : Fin 2048) :
    ((addf (mulf (broadcastInDim S8192x2048 ![] bcast_S_S8192x2048 (constant S_ .f32 0x3FB504F3#32)) dr) (Host.dotGeneral dot_S8192x8192_S2048x8192_S8192x2048_1_1_0_0_n_n none dz w) : FVec Ideal S8192x2048 .f32) (ix2 i j) : EReal)
      = Ideal.ofBits .f32 0x3FB504F3#32 * dr (ix2 i j) + ∑ l : Fin 8192, dz (ix2 i l) * w (ix2 j l) := by
  pointwise

/-- The reference's whole array. -/
theorem ref_array (w : FVec Ideal S2048x8192 .f32) (dz : FVec Ideal S8192x8192 .f32) (dr : FVec Ideal S8192x2048 .f32) :
    (addf (mulf (broadcastInDim S8192x2048 ![] bcast_S_S8192x2048 (constant S_ .f32 0x3FB504F3#32)) dr) (Host.dotGeneral dot_S8192x8192_S2048x8192_S8192x2048_1_1_0_0_n_n none dz w) : FVec Ideal S8192x2048 .f32)
      = Cert.Kernel5Ideal.Mlp.grad w dz dr := by
  funext y
  obtain ⟨a, b, rfl⟩ : ∃ (a : Fin 8192) (b : Fin 2048), y = ix2 a b := ⟨y 0, y 1, eq_ix2 y⟩
  exact (ref_read w dz dr a b).trans (add_comm _ _)

end Cert.Reference5Ideal.Mlp

end
-- ==== Proof.M.InDw.lean ====
/- The weight gradient of the first layer's input product, in the devices' blocks of columns: what the kernel's result holds, and that the reference holds the same. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel6Ideal.Mlp

open Idealize.ShloMosaic Idealize.ShloMosaic.TcCoe Cert.Kernel6Ideal.Gen

/-- One product of two blocks, at an entry. -/
theorem pay2_read (a : FVec Ideal S2048x1024 .f32) (b : FVec Ideal S2048x768 .bf16) (r : Fin 1024) (s : Fin 768) :
    (k0_pay2 (F := Ideal) a b (ix2 r s) : EReal) = 0 + ∑ k : Fin 2048, a (ix2 k r) * b (ix2 k s) := by
  pointwise [k0_pay2, k0_pay1]

theorem pay3_read (a : FVec Ideal S2048x1024 .f32) (b : FVec Ideal S2048x768 .bf16) (x : FVec Ideal S1024x768 .f32) (r : Fin 1024) (s : Fin 768) :
    (k0_pay3 (F := Ideal) a b x (ix2 r s) : EReal) = x (ix2 r s) + (0 + ∑ k : Fin 2048, a (ix2 k r) * b (ix2 k s)) := by
  pointwise [k0_pay3, k0_pay1]

theorem pay4_read (x : FVec Ideal S1024x768 .f32) (r : Fin 1024) (s : Fin 768) :
    (k0_pay4 (F := Ideal) x (ix3 0 r s) : EReal) = x (ix2 r s) := by
  pointwise [k0_pay4]

variable (m : (ℓ : Loc nD τ sig) → Buf (Elt Ideal) ℓ) (c : Dev nD)

theorem sc_A (t : Fin cfg0.N) (h : t.val % 4 = 0) :
    (outsAt0 m c t.val t.isLt).2 = k0_pay2 (iblk m c 0 t) (iblk m c 1 t) := by
  rw [outsAt0_A m c t h (by omega) (by omega)]
  frame_out

theorem sc_BC (t : Fin cfg0.N) (h : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
  · rw [outsAt0_B m c t h (by omega) h2]
    frame_out
    simp only [read_unread_whole]

theorem out_C (t : Fin cfg0.N) (h : t.val % 4 = 3) :
    (outsAt0 m c t.val t.isLt).1 = k0_pay4 (outsAt0 m c t.val t.isLt).2 := by
  rw [sc_BC m c t (by omega), outsAt0_C m c t (by omega) (by omega) h]
  frame_out
  simp only [read_unread_whole]

/-- The launch's two arrays, their blocks at a point, and the accumulator after it. -/
def arrA : FVec Ideal S8192x2048 .f32 := V m c main_arg0
def arrB : FVec Ideal S8192x6144 .bf16 := V m c main_v0
def blkA (t : Fin cfg0.N) : FVec Ideal S2048x1024 .f32 := iblk m c 0 t
def blkB (t : Fin cfg0.N) : FVec Ideal S2048x768 .bf16 := iblk m c 1 t
def acc (n : ℕ) (hn : n < cfg0.N) : FVec Ideal S1024x768 .f32 := (outsAt0 m c n hn).2

theorem idx_0 : ∀ t : Fin grid0.N, win0_0.index t = ![t.val % 4, t.val / 32] := by decide +kernel
theorem idx_1 : ∀ t : Fin grid0.N, win0_1.index t = ![t.val % 4, t.val / 4 % 8] := by decide +kernel
theorem idx_2 : ∀ t : Fin grid0.N, win0_2.index t = ![t.val / 4 % 8, t.val / 32, 0] := by decide +kernel

theorem lt_N (t : Fin cfg0.N) : t.val < 64 := lt_of_lt_of_eq t.isLt (show cfg0.N = 64 from N_0)

theorem blk_0 (t : Fin cfg0.N) (k : Fin 2048) (r : Fin 1024) :
    blkA m c t (ix2 k r) = arrA m c (ix2 ⟨t.val % 4 * 2048 + k.val, by omega⟩ ⟨t.val / 32 * 1024 + r.val, by have := lt_N t; omega⟩) := by
  have hi := idx_0 t
  unfold blkA arrA iblk
  blk_ext [hi]

theorem blk_1 (t : Fin cfg0.N) (k : Fin 2048) (r : Fin 768) :
    blkB m c t (ix2 k r) = arrB m c (ix2 ⟨t.val % 4 * 2048 + k.val, by omega⟩ ⟨t.val / 4 % 8 * 768 + r.val, by omega⟩) := by
  have hi := idx_1 t
  unfold blkB arrB iblk
  blk_ext [hi]

/-- Column `s` of block `j`. -/
def col (j : Fin 8) (s : Fin 768) : Fin 6144 := ⟨j.val * 768 + s.val, by omega⟩

/-- The product of the whole arrays, at an entry. -/
def prod (A : FVec Ideal S8192x2048 .f32) (B : FVec Ideal S8192x6144 .bf16) : S8x2048x768.Idx → EReal := fun y =>
  ∑ l : Fin 8192, A (ix2 l (y 1)) * B (ix2 l (col (y 0) (y 2)))

/-- What one step along the sequence adds. -/
def part (A : FVec Ideal S8192x2048 .f32) (B : FVec Ideal S8192x6144 .bf16) (n : ℕ) (hn : n < 64) (r : Fin 1024) (s : Fin 768) : EReal :=
  ∑ k : Fin 2048, A (ix2 ⟨n % 4 * 2048 + k.val, by omega⟩ ⟨n / 32 * 1024 + r.val, by omega⟩)
    * B (ix2 ⟨n % 4 * 2048 + k.val, by omega⟩ ⟨n / 4 % 8 * 768 + s.val, by omega⟩)

/-- The four steps of an output block make the whole sum. -/
theorem part_sum (A : FVec Ideal S8192x2048 .f32) (B : FVec Ideal S8192x6144 .bf16) (n : ℕ) (hn : n < 64) (r : Fin 1024) (s : Fin 768) :
    ∑ u : Fin 4, part A B (4 * (n / 4) + u.val) (by omega) r s
      = prod A B (ix3 ⟨n / 4 % 8, by omega⟩ ⟨n / 32 * 1024 + r.val, by omega⟩ s) := by
  refine Fin.sum_mul_add_congr fun u k hl => ?_
  have h1 : (4 * (n / 4) + u.val) % 4 = u.val := by omega
  have h2 : (4 * (n / 4) + u.val) / 32 = n / 32 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 2048 + k.val) h1
  · exact congrArg (· * 1024 + r.val) h2
  · exact congrArg (· * 2048 + k.val) h1
  · exact congrArg (· % 8 * 768 + s.val) h3

theorem sum_blocks (t : Fin cfg0.N) (r : Fin 1024) (s : Fin 768) :
    0 + ∑ k : Fin 2048, blkA m c t (ix2 k r) * blkB m c t (ix2 k s) = part (arrA m c) (arrB m c) t.val (lt_N t) r s :=
  (zero_add _).trans (Finset.sum_congr rfl fun k _ => congrArg₂ (· * ·) (blk_0 m c t k r) (blk_1 m c t k s))

theorem acc_A (t : Fin cfg0.N) (h : t.val % 4 = 0) (r : Fin 1024) (s : Fin 768) :
    acc m c t.val t.isLt (ix2 r s) = 0 + part (arrA m c) (arrB m c) t.val (lt_N t) r s := by
  rw [← sum_blocks, zero_add]
  exact (congrFun (sc_A m c t h) (ix2 r s)).trans (pay2_read (blkA m c t) (blkB m c t) r s)

theorem acc_BC (t : Fin cfg0.N) (h : ¬t.val % 4 = 0) (r : Fin 1024) (s : Fin 768) :
    acc m c t.val t.isLt (ix2 r s) = acc m c (t.val - 1) (Nat.lt_of_le_of_lt (Nat.sub_le _ _) t.isLt) (ix2 r s)
      + part (arrA m c) (arrB m c) t.val (lt_N t) r s := by
  rw [← sum_blocks]
  exact (congrFun (sc_BC m c t h) (ix2 r s)).trans (pay3_read (blkA m c t) (blkB m c t) _ r s)

/-- At the last of the four steps along the sequence the accumulator holds the whole sum. -/
theorem acc_all (t : Fin cfg0.N) (h : t.val % 4 = 3) (r : Fin 1024) (s : Fin 768) :
    acc m c t.val t.isLt (ix2 r s)
      = prod (arrA m c) (arrB m c) (ix3 ⟨t.val / 4 % 8, by omega⟩ ⟨t.val / 32 * 1024 + r.val, by have := lt_N t; omega⟩ s) :=
  (Pipeline.eq_sum_fin_of_reset_step_apply_of_flush (M := EReal)
    (fun n hn (y : Fin 1024 × Fin 768) => acc m c n hn (ix2 y.1 y.2)) 4 (fun _ => 0)
    (fun u y => part (arrA m c) (arrB m c) u.val (lt_N u) y.1 y.2)
    (fun u hu y => acc_A m c u hu y.1 y.2) (fun u hu y => acc_BC m c u hu y.1 y.2) t h (r, s)).trans
    ((zero_add _).trans (part_sum _ _ t.val (lt_N t) r s))

/-- The kernel's result. -/
theorem out_array : ((dats m 0 c).arrAt 2 (cfgs 0).N : S8x2048x768.Idx → EReal) = prod (arrA m c) (arrB m c) := by
  refine (dats m 0 c).arrAt_eq_of_covers 2 _ (by decide +kernel) fun t hf y => ?_
  have h3 : t.val % 4 = 3 := (flush0_2 t).mp hf
  have hi := idx_2 t
  obtain ⟨z, a, b, rfl⟩ : ∃ (z : Fin 1) (a : Fin 1024) (b : Fin 768), y = ix3 z a b := ⟨y 0, y 1, y 2, eq_ix3 y⟩
  obtain rfl : z = 0 := Subsingleton.elim _ _
  rw [after0_2, out_C m c t h3]
  refine (pay4_read _ a b).trans ((acc_all m c t h3 a b).trans (congrArg (prod _ _) ?_))
  blk_ext [hi]

/-- The arguments. -/
def argX : FVec Ideal S8192x2048 .f32 := m (c, Proc.tc.devRef main_arg0)
def argY : FVec Ideal S8192x6144 .f32 := m (c, Proc.tc.devRef main_arg1)

/-- The arrays that the kernel is launched on. -/
theorem arrA_read (l : Fin 8192) (i : Fin 2048) : arrA m c (ix2 l i) = argX m c (ix2 l i) := by
  unfold arrA argX V
  after_reads_at

theorem arrB_read (l : Fin 8192) (j : Fin 6144) : arrB m c (ix2 l j) = argY m c (ix2 l j) := by
  unfold arrB argY V
  after_reads_at

/-- What both results hold: at row `i` and column `s` of block `j` the sum over the sequence of the activation `i` times
    that column's incoming gradient. -/
def grad (x : FVec Ideal S8192x2048 .f32) (du : FVec Ideal S8192x6144 .f32) : FVec Ideal S8x2048x768 .bf16 := fun y =>
  ∑ l : Fin 8192, du (ix2 l (col (y 0) (y 2))) * x (ix2 l (y 1))

theorem out_grad : (dats m 0 c).arrAt 2 (cfgs 0).N = grad (argX m c) (argY m c) :=
  (out_array m c).trans (funext fun y => Finset.sum_congr rfl fun l _ =>
    (congrArg₂ (· * ·) (arrA_read m c l (y 1)) (arrB_read m c l (col (y 0) (y 2)))).trans (mul_comm _ _))

end Cert.Kernel6Ideal.Mlp

namespace Cert.Reference6Ideal.Mlp

open Idealize.ShloMosaic Idealize.ShloMosaic.TcCoe Cert.Reference6Ideal.Gen

/-- The reference's expression, at an entry. -/
theorem ref_read (x : FVec Ideal S8192x2048 .f32) (du : FVec Ideal S8192x6144 .f32) (j : Fin 8) (i : Fin 2048) (s : Fin 768) :
    ((truncf .bf16 (transpose S8x2048x768 [1, 0, 2] (shapeCast _ (transpose S2048x6144 [1, 0] (Host.dotGeneral dot_S8192x6144_S8192x2048_S6144x2048_0_0_1_1_n_n none du x) transposes_S6144x2048_S2048x6144_1_0) shapeCasts_S2048x6144_S2048x8x768) transposes_S2048x8x768_S8x2048x768_1_0_2) bitsLt_bf16_f32 : FVec Ideal S8x2048x768 .bf16) (ix3 j i s) : EReal)
      = ∑ l : Fin 8192, du (ix2 l ⟨j.val * 768 + s.val, by omega⟩) * x (ix2 l i) := by
  pointwise

/-- The reference's whole array. -/
theorem ref_array (x : FVec Ideal S8192x2048 .f32) (du : FVec Ideal S8192x6144 .f32) :
    (truncf .bf16 (transpose S8x2048x768 [1, 0, 2] (shapeCast _ (transpose S2048x6144 [1, 0] (Host.dotGeneral dot_S8192x6144_S8192x2048_S6144x2048_0_0_1_1_n_n none du x) transposes_S6144x2048_S2048x6144_1_0) shapeCasts_S2048x6144_S2048x8x768) transposes_S2048x8x768_S8x2048x768_1_0_2) bitsLt_bf16_f32 : FVec Ideal S8x2048x768 .bf16)
      = Cert.Kernel6Ideal.Mlp.grad x du := by
  funext y
  obtain ⟨j, a, b, rfl⟩ : ∃ (j : Fin 8) (a : Fin 2048) (b : Fin 768), y = ix3 j a b := ⟨y 0, y 1, y 2, eq_ix3 y⟩
  exact ref_read x du j a b

end Cert.Reference6Ideal.Mlp

end
-- ==== Proof.M.InDx.lean ====
/- The gradient through the first layer's input product, with the residual branch's: what the kernel's result holds, and that the reference holds the same. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel7Ideal.Mlp

open Idealize.ShloMosaic Idealize.ShloMosaic.TcCoe Cert.Kernel7Ideal.Gen

/-- The products of two shards, at an entry. -/
theorem pay1_read (a : FVec Ideal S1024x1536 .bf16) (w v : FVec Ideal S1x1024x768 .bf16) (r s : Fin 1024) :
    (k0_pay1 (F := Ideal) a w v (ix2 r s) : EReal)
      = (0 + (0 + ∑ k : Fin 768, a (ix2 r ⟨k.val, by omega⟩) * w (ix3 0 s k)))
        + (0 + ∑ k : Fin 768, a (ix2 r ⟨768 + k.val, by omega⟩) * v (ix3 0 s k)) := by
  pointwise [k0_pay1]

theorem pay2_read (a : FVec Ideal S1024x1536 .bf16) (w v : FVec Ideal S1x1024x768 .bf16) (r s : Fin 1024) :
    (k0_pay2 (F := Ideal) a w v (ix2 r s) : EReal) = k0_pay1 (F := Ideal) a w v (ix2 r s) := by
  pointwise [k0_pay2]

theorem pay3_read (a : FVec Ideal S1024x1536 .bf16) (w v : FVec Ideal S1x1024x768 .bf16) (x : FVec Ideal S1024x1024 .f32) (r s : Fin 1024) :
    (k0_pay3 (F := Ideal) a w v x (ix2 r s) : EReal) = x (ix2 r s) + k0_pay1 (F := Ideal) a w v (ix2 r s) := by
  pointwise [k0_pay3]

theorem pay4_read (x y : FVec Ideal S1024x1024 .f32) (r s : Fin 1024) :
    (k0_pay4 (F := Ideal) x y (ix2 r s) : EReal) = x (ix2 r s) + Ideal.ofBits .f32 0x3FB504F3#32 * y (ix2 r s) := by
  pointwise [k0_pay4]

variable (m : (ℓ : Loc nD τ sig) → Buf (Elt Ideal) ℓ) (c : Dev nD)

/-- The arguments, the blocks of a point, its two shards of weights, and the accumulator after it. -/
def argW : FVec Ideal S2048x6144 .f32 := m (c, Proc.tc.devRef main_arg0)
def argZ : FVec Ideal S8192x6144 .f32 := m (c, Proc.tc.devRef main_arg1)
def argR : FVec Ideal S8192x2048 .f32 := m (c, Proc.tc.devRef main_arg2)
def blkZ (t : Fin cfg0.N) : FVec Ideal S1024x1536 .bf16 := iblk m c 0 t
def blkW (t : Fin cfg0.N) : FVec Ideal S2x1024x768 .bf16 := iblk m c 1 t
def blkR (t : Fin cfg0.N) : FVec Ideal S1024x1024 .f32 := iblk m c 2 t

def sh0 (t : Fin cfg0.N) : FVec Ideal S1x1024x768 .bf16 :=
  View.ld (Val := Elt Ideal) (e' := .f32) (blkW m c t) (Rect.unit (s := S2x1024x768) ![0, 0, 0] S1x1024x768.size inb_S2x1024x768_S1x1024x768_0_0_0)
def sh1 (t : Fin cfg0.N) : FVec Ideal S1x1024x768 .bf16 :=
  View.ld (Val := Elt Ideal) (e' := .f32) (blkW m c t) (Rect.unit (s := S2x1024x768) ![1, 0, 0] S1x1024x768.size inb_S2x1024x768_S1x1024x768_1_0_0)
def acc (n : ℕ) (hn : n < cfg0.N) : FVec Ideal S1024x1024 .f32 := (outsAt0 m c n hn).2

theorem sc_A (t : Fin cfg0.N) (h : t.val % 4 = 0) :
    (outsAt0 m c t.val t.isLt).2 = k0_pay2 (F := Ideal) (blkZ m c t) (sh0 m c t) (sh1 m c t) := by
  rw [outsAt0_A m c t h (by omega) (by omega)]
  frame_out
  rfl

theorem sc_BC (t : Fin cfg0.N) (h : ¬t.val % 4 = 0) :
    (outsAt0 m c t.val t.isLt).2 = k0_pay3 (blkZ m c t) (sh0 m c t) (sh1 m c t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
    rfl
  · rw [outsAt0_B m c t h (by omega) h2]
    frame_out
    simp only [read_unread_whole]
    rfl

theorem out_C (t : Fin cfg0.N) (h : t.val % 4 = 3) :
    (outsAt0 m c t.val t.isLt).1 = k0_pay4 (outsAt0 m c t.val t.isLt).2 (blkR m c t) := by
  rw [sc_BC m c t (by omega), outsAt0_C m c t (by omega) (by omega) h]
  frame_out
  simp only [read_unread_whole]
  rfl

theorem idx_0 : ∀ t : Fin grid0.N, win0_0.index t = ![t.val / 8, t.val % 4] := by decide +kernel
theorem idx_1 : ∀ t : Fin grid0.N, win0_1.index t = ![t.val % 4, t.val / 4 % 2, 0] := by decide +kernel
theorem idx_2 : ∀ t : Fin grid0.N, win0_2.index t = ![t.val / 8, t.val / 4 % 2] := by decide +kernel
theorem idx_3 : ∀ t : Fin grid0.N, win0_3.index t = ![t.val / 8, t.val / 4 % 2] := by decide +kernel

theorem lt_N (t : Fin cfg0.N) : t.val < 64 := lt_of_lt_of_eq t.isLt (show cfg0.N = 64 from N_0)

theorem arr_Z (i : Fin 8192) (l : Fin 6144) : (V m c main_v0 : FVec Ideal S8192x6144 .bf16) (ix2 i l) = argZ m c (ix2 i l) := by
  unfold argZ V
  after_reads_at

theorem arr_W (q : Fin 8) (j : Fin 2048) (k : Fin 768) :
    (V m c main_v3 : FVec Ideal S8x2048x768 .bf16) (ix3 q j k) = argW m c (ix2 j ⟨q.val * 768 + k.val, by omega⟩) := by
  unfold argW V
  after_reads_at

theorem blk_Z (t : Fin cfg0.N) (r : Fin 1024) (k : Fin 1536) :
    blkZ m c t (ix2 r k) = argZ m c (ix2 ⟨t.val / 8 * 1024 + r.val, by have := lt_N t; omega⟩ ⟨t.val % 4 * 1536 + k.val, by omega⟩) := by
  refine Eq.trans ?_ (arr_Z m c _ _)
  have hi := idx_0 t
  unfold blkZ iblk
  blk_ext [hi]

theorem blk_W (t : Fin cfg0.N) (q : Fin 2) (s : Fin 1024) (k : Fin 768) :
    blkW m c t (ix3 q s k) = argW m c (ix2 ⟨t.val / 4 % 2 * 1024 + s.val, by omega⟩ ⟨(t.val % 4 * 2 + q.val) * 768 + k.val, by omega⟩) := by
  refine Eq.trans ?_ (arr_W m c ⟨t.val % 4 * 2 + q.val, by omega⟩ _ _)
  have hi := idx_1 t
  unfold blkW iblk
  blk_ext [hi]

theorem blk_R (t : Fin cfg0.N) (r s : Fin 1024) :
    blkR m c t (ix2 r s) = argR m c (ix2 ⟨t.val / 8 * 1024 + r.val, by have := lt_N t; omega⟩ ⟨t.val / 4 % 2 * 1024 + s.val, by omega⟩) := by
  have hi := idx_2 t
  have h1 : V m c main_arg2 = m (c, Proc.tc.devRef main_arg2) := V_main_arg2 m c
  unfold blkR argR iblk
  blk_ext [hi, h1]

theorem sh0_read (t : Fin cfg0.N) (s : Fin 1024) (k : Fin 768) : sh0 m c t (ix3 0 s k) = blkW m c t (ix3 0 s k) := by
  unfold sh0
  generalize blkW m c t = x
  show x ((Rect.unit (s := S2x1024x768) ![0, 0, 0] S1x1024x768.size inb_S2x1024x768_S1x1024x768_0_0_0).idx (ix3 0 s k)) = x _
  blk_ext
  all_goals first | rfl | exact (Nat.zero_add _).trans (Nat.mul_one _) | exact (Nat.zero_add _).trans (Nat.one_mul _) | simp [Rect.unit, Rect.idx]

theorem sh1_read (t : Fin cfg0.N) (s : Fin 1024) (k : Fin 768) : sh1 m c t (ix3 0 s k) = blkW m c t (ix3 1 s k) := by
  unfold sh1
  generalize blkW m c t = x
  show x ((Rect.unit (s := S2x1024x768) ![1, 0, 0] S1x1024x768.size inb_S2x1024x768_S1x1024x768_1_0_0).idx (ix3 0 s k)) = x _
  blk_ext
  all_goals first | rfl | exact (Nat.zero_add _).trans (Nat.mul_one _) | exact (Nat.zero_add _).trans (Nat.one_mul _) | simp [Rect.unit, Rect.idx]

/-- The product of the whole arrays, at an entry. -/
def prod (A : FVec Ideal S8192x6144 .f32) (B : FVec Ideal S2048x6144 .f32) (i : Fin 8192) (j : Fin 2048) : EReal :=
  ∑ l : Fin 6144, A (ix2 i l) * B (ix2 j l)

/-- What one step adds: two shards of the contracted columns. -/
def part (A : FVec Ideal S8192x6144 .f32) (B : FVec Ideal S2048x6144 .f32) (n : ℕ) (hn : n < 64) (r s : Fin 1024) : EReal :=
  ∑ k : Fin 1536, A (ix2 ⟨n / 8 * 1024 + r.val, by omega⟩ ⟨n % 4 * 1536 + k.val, by omega⟩)
    * B (ix2 ⟨n / 4 % 2 * 1024 + s.val, by omega⟩ ⟨n % 4 * 1536 + k.val, by omega⟩)

/-- The four steps of an output block make the whole sum. -/
theorem part_sum (A : FVec Ideal S8192x6144 .f32) (B : FVec Ideal S2048x6144 .f32) (n : ℕ) (hn : n < 64) (r s : Fin 1024) :
    ∑ u : Fin 4, part A B (4 * (n / 4) + u.val) (by omega) r s
      = prod A B ⟨n / 8 * 1024 + r.val, by omega⟩ ⟨n / 4 % 2 * 1024 + s.val, by omega⟩ := by
  refine Fin.sum_mul_add_congr fun u k hl => ?_
  have h1 : (4 * (n / 4) + u.val) % 4 = u.val := by omega
  have h2 : (4 * (n / 4) + u.val) / 8 = n / 8 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 1024 + r.val) h2
  · exact congrArg (· * 1536 + k.val) h1
  · exact congrArg (· % 2 * 1024 + s.val) h3
  · exact congrArg (· * 1536 + k.val) h1

theorem sum_blocks (t : Fin cfg0.N) (r s : Fin 1024) :
    (k0_pay1 (F := Ideal) (blkZ m c t) (sh0 m c t) (sh1 m c t) (ix2 r s) : EReal) = part (argZ m c) (argW m c) t.val (lt_N t) r s := by
  rw [pay1_read, zero_add, zero_add, zero_add]
  refine Eq.trans ?_ (Fin.sum_mul_add_fin 2 768 (fun k : Fin 1536 => argZ m c (ix2 ⟨t.val / 8 * 1024 + r.val, by have := lt_N t; omega⟩ ⟨t.val % 4 * 1536 + k.val, by omega⟩)
    * argW m c (ix2 ⟨t.val / 4 % 2 * 1024 + s.val, by omega⟩ ⟨t.val % 4 * 1536 + k.val, by omega⟩)))
  rw [Fin.sum_univ_two]
  refine congrArg₂ (· + ·) (Finset.sum_congr rfl fun k _ => ?_) (Finset.sum_congr rfl fun k _ => ?_)
  · rw [sh0_read, blk_Z, blk_W]
    refine congrArg₂ (· * ·) (congrArg _ (congrArg₂ ix2 rfl (Fin.ext ?_))) (congrArg _ (congrArg₂ ix2 rfl (Fin.ext ?_)))
    · show t.val % 4 * 1536 + k.val = t.val % 4 * 1536 + (0 * 768 + k.val); omega
    · show (t.val % 4 * 2 + 0) * 768 + k.val = t.val % 4 * 1536 + (0 * 768 + k.val); omega
  · rw [sh1_read, blk_Z, blk_W]
    refine congrArg₂ (· * ·) (congrArg _ (congrArg₂ ix2 rfl (Fin.ext ?_))) (congrArg _ (congrArg₂ ix2 rfl (Fin.ext ?_)))
    · show t.val % 4 * 1536 + (768 + k.val) = t.val % 4 * 1536 + (1 * 768 + k.val); omega
    · show (t.val % 4 * 2 + 1) * 768 + k.val = t.val % 4 * 1536 + (1 * 768 + k.val); omega

theorem acc_A (t : Fin cfg0.N) (h : t.val % 4 = 0) (r s : Fin 1024) :
    acc m c t.val t.isLt (ix2 r s) = 0 + part (argZ m c) (argW m c) t.val (lt_N t) r s := by
  rw [← sum_blocks, zero_add]
  exact (congrFun (sc_A m c t h) (ix2 r s)).trans (pay2_read _ _ _ r s)

theorem acc_BC (t : Fin cfg0.N) (h : ¬t.val % 4 = 0) (r s : Fin 1024) :
    acc m c t.val t.isLt (ix2 r s) = acc m c (t.val - 1) (Nat.lt_of_le_of_lt (Nat.sub_le _ _) t.isLt) (ix2 r s)
      + part (argZ m c) (argW m c) t.val (lt_N t) r s := by
  rw [← sum_blocks]
  exact (congrFun (sc_BC m c t h) (ix2 r s)).trans (pay3_read _ _ _ _ r s)

/-- At the last of the four steps the accumulator holds the whole sum. -/
theorem acc_all (t : Fin cfg0.N) (h : t.val % 4 = 3) (r s : Fin 1024) :
    acc m c t.val t.isLt (ix2 r s)
      = prod (argZ m c) (argW m c) ⟨t.val / 8 * 1024 + r.val, by have := lt_N t; omega⟩ ⟨t.val / 4 % 2 * 1024 + s.val, by omega⟩ :=
  (Pipeline.eq_sum_fin_of_reset_step_apply_of_flush (M := EReal)
    (fun n hn (y : Fin 1024 × Fin 1024) => acc m c n hn (ix2 y.1 y.2)) 4 (fun _ => 0)
    (fun u y => part (argZ m c) (argW m c) u.val (lt_N u) y.1 y.2)
    (fun u hu y => acc_A m c u hu y.1 y.2) (fun u hu y => acc_BC m c u hu y.1 y.2) t h (r, s)).trans
    ((zero_add _).trans (part_sum _ _ t.val (lt_N t) r s))

/-- What both results hold: at `(i, j)` the incoming gradient's row `i` times the weights' row `j`, and the residual
    branch's gradient by its factor. -/
def grad (w : FVec Ideal S2048x6144 .f32) (du : FVec Ideal S8192x6144 .f32) (dr : FVec Ideal S8192x2048 .f32) : FVec Ideal S8192x2048 .f32 := fun y =>
  prod du w (y 0) (y 1) + Ideal.ofBits .f32 0x3FB504F3#32 * dr y

theorem out_grad : (dats m 0 c).arrAt 3 (cfgs 0).N = grad (argW m c) (argZ m c) (argR m c) := by
  refine (dats m 0 c).arrAt_eq_of_covers 3 _ (by decide +kernel) fun t hf y => ?_
  have h3 : t.val % 4 = 3 := (flush0_3 t).mp hf
  have hi := idx_3 t
  obtain ⟨a, b, rfl⟩ : ∃ (a : Fin 1024) (b : Fin 1024), y = ix2 a b := ⟨y 0, y 1, eq_ix2 y⟩
  rw [after0_3, out_C m c t h3]
  have key := pay4_read (acc m c t.val t.isLt) (blkR m c t) a b
  rw [blk_R, acc_all m c t h3] at key
  refine key.trans (?_ : grad (argW m c) (argZ m c) (argR m c) (ix2 _ _) = _)
  refine congrArg (grad _ _ _) ?_
  blk_ext [hi]

end Cert.Kernel7Ideal.Mlp

namespace Cert.Reference7Ideal.Mlp

open Idealize.ShloMosaic Idealize.ShloMosaic.TcCoe Cert.Reference7Ideal.Gen

/-- The reference's expression, at an entry. -/
theorem ref_read (w : FVec Ideal S2048x6144 .f32) (du : FVec Ideal S8192x6144 .f32) (dr : FVec Ideal S8192x2048 .f32) (i : Fin 8192) (j : Fin 2048) :
    ((addf (mulf (broadcastInDim S8192x2048 ![] bcast_S_S8192x2048 (constant S_ .f32 0x3FB504F3#32)) dr) (Host.dotGeneral dot_S8192x6144_S2048x6144_S8192x2048_1_1_0_0_n_n none du w) : FVec Ideal S8192x2048 .f32) (ix2 i j) : EReal)
      = Ideal.ofBits .f32 0x3FB504F3#32 * dr (ix2 i j) + ∑ l : Fin 6144, du (ix2 i l) * w (ix2 j l) := by
  pointwise

/-- The reference's whole array. -/
theorem ref_array (w : FVec Ideal S2048x6144 .f32) (du : FVec Ideal S8192x6144 .f32) (dr : FVec Ideal S8192x2048 .f32) :
    (addf (mulf (broadcastInDim S8192x2048 ![] bcast_S_S8192x2048 (constant S_ .f32 0x3FB504F3#32)) dr) (Host.dotGeneral dot_S8192x6144_S2048x6144_S8192x2048_1_1_0_0_n_n none du w) : FVec Ideal S8192x2048 .f32)
      = Cert.Kernel7Ideal.Mlp.grad w du dr := by
  funext y
  obtain ⟨a, b, rfl⟩ : ∃ (a : Fin 8192) (b : Fin 2048), y = ix2 a b := ⟨y 0, y 1, eq_ix2 y⟩
  exact (ref_read w du dr a b).trans (add_comm _ _)

end Cert.Reference7Ideal.Mlp

end
-- ==== Proof.M.PartDw.lean ====
/- The weight gradient of one part of the second layer's input product: what the kernel's result holds, and that the reference holds the same. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel8Ideal.Mlp

open Idealize.ShloMosaic Idealize.ShloMosaic.TcCoe Cert.Kernel8Ideal.Gen

/-- One product of two blocks, at an entry. -/
theorem pay2_read (a b : FVec Ideal S2048x1024 .bf16) (r s : Fin 1024) :
    (k0_pay2 (F := Ideal) a b (ix2 r s) : EReal) = 0 + ∑ k : Fin 2048, a (ix2 k r) * b (ix2 k s) := by
  pointwise [k0_pay2, k0_pay1]

theorem pay3_read (a b : FVec Ideal S2048x1024 .bf16) (x : FVec Ideal S1024x1024 .f32) (r s : Fin 1024) :
    (k0_pay3 (F := Ideal) a b x (ix2 r s) : EReal) = x (ix2 r s) + (0 + ∑ k : Fin 2048, a (ix2 k r) * b (ix2 k s)) := by
  pointwise [k0_pay3, k0_pay1]

theorem pay4_read (x : FVec Ideal S1024x1024 .f32) (r s : Fin 1024) :
    (k0_pay4 (F := Ideal) x (ix2 r s) : EReal) = x (ix2 r s) := by
  pointwise [k0_pay4]

variable (m : (ℓ : Loc nD τ sig) → Buf (Elt Ideal) ℓ) (c : Dev nD)

theorem sc_A (t : Fin cfg0.N) (h : t.val % 4 = 0) :
    (outsAt0 m c t.val t.isLt).2 = k0_pay2 (iblk m c 0 t) (iblk m c 1 t) := by
  rw [outsAt0_A m c t h (by omega) (by omega)]
  frame_out

theorem sc_BC (t : Fin cfg0.N) (h : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
  · rw [outsAt0_B m c t h (by omega) h2]
    frame_out
    simp only [read_unread_whole]

theorem out_C (t : Fin cfg0.N) (h : t.val % 4 = 3) :
    (outsAt0 m c t.val t.isLt).1 = k0_pay4 (outsAt0 m c t.val t.isLt).2 := by
  rw [sc_BC m c t (by omega), outsAt0_C m c t (by omega) (by omega) h]
  frame_out
  simp only [read_unread_whole]

/-- The launch's two arrays, their blocks at a point, and the accumulator after it. -/
def arrA : FVec Ideal S8192x2048 .bf16 := V m c main_v0
def arrB : FVec Ideal S8192x3072 .bf16 := V m c main_v1
def blkA (t : Fin cfg0.N) : FVec Ideal S2048x1024 .bf16 := iblk m c 0 t
def blkB (t : Fin cfg0.N) : FVec Ideal S2048x1024 .bf16 := iblk m c 1 t
def acc (n : ℕ) (hn : n < cfg0.N) : FVec Ideal S1024x1024 .f32 := (outsAt0 m c n hn).2

theorem idx_0 : ∀ t : Fin grid0.N, win0_0.index t = ![t.val % 4, t.val / 12] := by decide +kernel
theorem idx_1 : ∀ t : Fin grid0.N, win0_1.index t = ![t.val % 4, t.val / 4 % 3] := by decide +kernel
theorem idx_2 : ∀ t : Fin grid0.N, win0_2.index t = ![t.val / 12, t.val / 4 % 3] := by decide +kernel

theorem lt_N (t : Fin cfg0.N) : t.val < 24 := lt_of_lt_of_eq t.isLt (show cfg0.N = 24 from N_0)

theorem blk_0 (t : Fin cfg0.N) (k : Fin 2048) (r : Fin 1024) :
    blkA m c t (ix2 k r) = arrA m c (ix2 ⟨t.val % 4 * 2048 + k.val, by omega⟩ ⟨t.val / 12 * 1024 + r.val, by have := lt_N t; omega⟩) := by
  have hi := idx_0 t
  unfold blkA arrA iblk
  blk_ext [hi]

theorem blk_1 (t : Fin cfg0.N) (k : Fin 2048) (r : Fin 1024) :
    blkB m c t (ix2 k r) = arrB m c (ix2 ⟨t.val % 4 * 2048 + k.val, by omega⟩ ⟨t.val / 4 % 3 * 1024 + r.val, by omega⟩) := by
  have hi := idx_1 t
  unfold blkB arrB iblk
  blk_ext [hi]

/-- The product of the whole arrays, at an entry. -/
def prod (A : FVec Ideal S8192x2048 .bf16) (B : FVec Ideal S8192x3072 .bf16) : S2048x3072.Idx → EReal := fun y =>
  ∑ l : Fin 8192, A (ix2 l (y 0)) * B (ix2 l (y 1))

/-- What one step along the sequence adds. -/
def part (A : FVec Ideal S8192x2048 .bf16) (B : FVec Ideal S8192x3072 .bf16) (n : ℕ) (hn : n < 24) (r s : Fin 1024) : EReal :=
  ∑ k : Fin 2048, A (ix2 ⟨n % 4 * 2048 + k.val, by omega⟩ ⟨n / 12 * 1024 + r.val, by omega⟩)
    * B (ix2 ⟨n % 4 * 2048 + k.val, by omega⟩ ⟨n / 4 % 3 * 1024 + s.val, by omega⟩)

/-- The four steps of an output block make the whole sum. -/
theorem part_sum (A : FVec Ideal S8192x2048 .bf16) (B : FVec Ideal S8192x3072 .bf16) (n : ℕ) (hn : n < 24) (r s : Fin 1024) :
    ∑ u : Fin 4, part A B (4 * (n / 4) + u.val) (by omega) r s
      = prod A B (ix2 ⟨n / 12 * 1024 + r.val, by omega⟩ ⟨n / 4 % 3 * 1024 + s.val, by omega⟩) := by
  refine Fin.sum_mul_add_congr fun u k hl => ?_
  have h1 : (4 * (n / 4) + u.val) % 4 = u.val := by omega
  have h2 : (4 * (n / 4) + u.val) / 12 = n / 12 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 2048 + k.val) h1
  · exact congrArg (· * 1024 + r.val) h2
  · exact congrArg (· * 2048 + k.val) h1
  · exact congrArg (· % 3 * 1024 + s.val) h3

theorem sum_blocks (t : Fin cfg0.N) (r s : Fin 1024) :
    0 + ∑ k : Fin 2048, blkA m c t (ix2 k r) * blkB m c t (ix2 k s) = part (arrA m c) (arrB m c) t.val (lt_N t) r s :=
  (zero_add _).trans (Finset.sum_congr rfl fun k _ => congrArg₂ (· * ·) (blk_0 m c t k r) (blk_1 m c t k s))

theorem acc_A (t : Fin cfg0.N) (h : t.val % 4 = 0) (r s : Fin 1024) :
    acc m c t.val t.isLt (ix2 r s) = 0 + part (arrA m c) (arrB m c) t.val (lt_N t) r s := by
  rw [← sum_blocks, zero_add]
  exact (congrFun (sc_A m c t h) (ix2 r s)).trans (pay2_read (blkA m c t) (blkB m c t) r s)

theorem acc_BC (t : Fin cfg0.N) (h : ¬t.val % 4 = 0) (r s : Fin 1024) :
    acc m c t.val t.isLt (ix2 r s) = acc m c (t.val - 1) (Nat.lt_of_le_of_lt (Nat.sub_le _ _) t.isLt) (ix2 r s)
      + part (arrA m c) (arrB m c) t.val (lt_N t) r s := by
  rw [← sum_blocks]
  exact (congrFun (sc_BC m c t h) (ix2 r s)).trans (pay3_read (blkA m c t) (blkB m c t) _ r s)

/-- At the last of the four steps along the sequence the accumulator holds the whole sum. -/
theorem acc_all (t : Fin cfg0.N) (h : t.val % 4 = 3) (r s : Fin 1024) :
    acc m c t.val t.isLt (ix2 r s)
      = prod (arrA m c) (arrB m c) (ix2 ⟨t.val / 12 * 1024 + r.val, by have := lt_N t; omega⟩ ⟨t.val / 4 % 3 * 1024 + s.val, by omega⟩) :=
  (Pipeline.eq_sum_fin_of_reset_step_apply_of_flush (M := EReal)
    (fun n hn (y : Fin 1024 × Fin 1024) => acc m c n hn (ix2 y.1 y.2)) 4 (fun _ => 0)
    (fun u y => part (arrA m c) (arrB m c) u.val (lt_N u) y.1 y.2)
    (fun u hu y => acc_A m c u hu y.1 y.2) (fun u hu y => acc_BC m c u hu y.1 y.2) t h (r, s)).trans
    ((zero_add _).trans (part_sum _ _ t.val (lt_N t) r s))

/-- The kernel's result. -/
theorem out_array : ((dats m 0 c).arrAt 2 (cfgs 0).N : S2048x3072.Idx → EReal) = prod (arrA m c) (arrB m c) := by
  refine (dats m 0 c).arrAt_eq_of_covers 2 _ (by decide +kernel) fun t hf y => ?_
  have h3 : t.val % 4 = 3 := (flush0_2 t).mp hf
  have hi := idx_2 t
  obtain ⟨a, b, rfl⟩ : ∃ (a : Fin 1024) (b : Fin 1024), y = ix2 a b := ⟨y 0, y 1, eq_ix2 y⟩
  rw [after0_2, out_C m c t h3]
  refine (pay4_read _ a b).trans ((acc_all m c t h3 a b).trans (congrArg (prod _ _) ?_))
  blk_ext [hi]

/-- The arguments. -/
def argX : FVec Ideal S8192x2048 .f32 := m (c, Proc.tc.devRef main_arg0)
def argY : FVec Ideal S8192x3072 .f32 := m (c, Proc.tc.devRef main_arg1)

/-- The arrays that the kernel is launched on. -/
theorem arrA_read (l : Fin 8192) (i : Fin 2048) : arrA m c (ix2 l i) = argX m c (ix2 l i) := by
  unfold arrA argX V
  after_reads_at

theorem arrB_read (l : Fin 8192) (j : Fin 3072) : arrB m c (ix2 l j) = argY m c (ix2 l j) := by
  unfold arrB argY V
  after_reads_at

/-- What both results hold: at `(i, j)` the sum over the sequence of the activation `i` times the incoming gradient `j`. -/
def grad (x : FVec Ideal S8192x2048 .f32) (du : FVec Ideal S8192x3072 .f32) : FVec Ideal S2048x3072 .bf16 := fun y =>
  ∑ l : Fin 8192, du (ix2 l (y 1)) * x (ix2 l (y 0))

theorem out_grad : (dats m 0 c).arrAt 2 (cfgs 0).N = grad (argX m c) (argY m c) :=
  (out_array m c).trans (funext fun y => Finset.sum_congr rfl fun l _ =>
    (congrArg₂ (· * ·) (arrA_read m c l (y 0)) (arrB_read m c l (y 1))).trans (mul_comm _ _))

end Cert.Kernel8Ideal.Mlp

namespace Cert.Reference8Ideal.Mlp

open Idealize.ShloMosaic Idealize.ShloMosaic.TcCoe Cert.Reference8Ideal.Gen

/-- The reference's expression, at an entry. -/
theorem ref_read (x : FVec Ideal S8192x2048 .f32) (du : FVec Ideal S8192x3072 .f32) (i : Fin 2048) (j : Fin 3072) :
    ((truncf .bf16 (transpose S2048x3072 [1, 0] (Host.dotGeneral dot_S8192x3072_S8192x2048_S3072x2048_0_0_1_1_n_n none du x) transposes_S3072x2048_S2048x3072_1_0) bitsLt_bf16_f32 : FVec Ideal S2048x3072 .bf16) (ix2 i j) : EReal)
      = ∑ l : Fin 8192, du (ix2 l j) * x (ix2 l i) := by
  pointwise

/-- The reference's whole array. -/
theorem ref_array (x : FVec Ideal S8192x2048 .f32) (du : FVec Ideal S8192x3072 .f32) :
    (truncf .bf16 (transpose S2048x3072 [1, 0] (Host.dotGeneral dot_S8192x3072_S8192x2048_S3072x2048_0_0_1_1_n_n none du x) transposes_S3072x2048_S2048x3072_1_0) bitsLt_bf16_f32 : FVec Ideal S2048x3072 .bf16)
      = Cert.Kernel8Ideal.Mlp.grad x du := by
  funext y
  obtain ⟨a, b, rfl⟩ : ∃ (a : Fin 2048) (b : Fin 3072), y = ix2 a b := ⟨y 0, y 1, eq_ix2 y⟩
  exact ref_read x du a b

end Cert.Reference8Ideal.Mlp

end
-- ==== Proof.M.PartDx.lean ====
/- The gradient through the attention's part of the second layer's input product, with the residual branch's: what the kernel's result holds, and that the reference holds the same. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel9Ideal.Mlp

open Idealize.ShloMosaic Idealize.ShloMosaic.TcCoe Cert.Kernel9Ideal.Gen

/-- One product of two blocks, at an entry. -/
theorem pay2_read (a : FVec Ideal S1024x1536 .bf16) (w : FVec Ideal S1024x1536 .bf16) (r s : Fin 1024) :
    (k0_pay2 (F := Ideal) a w (ix2 r s) : EReal) = 0 + ∑ k : Fin 1536, a (ix2 r k) * w (ix2 s k) := by
  pointwise [k0_pay2, k0_pay1]

theorem pay3_read (a : FVec Ideal S1024x1536 .bf16) (w : FVec Ideal S1024x1536 .bf16) (x : FVec Ideal S1024x1024 .f32) (r s : Fin 1024) :
    (k0_pay3 (F := Ideal) a w x (ix2 r s) : EReal) = x (ix2 r s) + (0 + ∑ k : Fin 1536, a (ix2 r k) * w (ix2 s k)) := by
  pointwise [k0_pay3, k0_pay1]

theorem pay4_read (x y : FVec Ideal S1024x1024 .f32) (r s : Fin 1024) :
    (k0_pay4 (F := Ideal) x y (ix2 r s) : EReal) = x (ix2 r s) + Ideal.ofBits .f32 0x3FB504F3#32 * y (ix2 r s) := by
  pointwise [k0_pay4]

variable (m : (ℓ : Loc nD τ sig) → Buf (Elt Ideal) ℓ) (c : Dev nD)

/-- The arguments, the blocks of a point, and the accumulator after it. -/
def argW : FVec Ideal S2048x3072 .f32 := m (c, Proc.tc.devRef main_arg0)
def argZ : FVec Ideal S8192x3072 .f32 := m (c, Proc.tc.devRef main_arg1)
def argR : FVec Ideal S8192x2048 .f32 := m (c, Proc.tc.devRef main_arg2)
def blkZ (t : Fin cfg0.N) : FVec Ideal S1024x1536 .bf16 := iblk m c 0 t
def blkW (t : Fin cfg0.N) : FVec Ideal S1024x1536 .bf16 := iblk m c 1 t
def blkR (t : Fin cfg0.N) : FVec Ideal S1024x1024 .f32 := iblk m c 2 t
def acc (n : ℕ) (hn : n < cfg0.N) : FVec Ideal S1024x1024 .f32 := (outsAt0 m c n hn).2

theorem sc_A (t : Fin cfg0.N) (h : t.val % 2 = 0) :
    (outsAt0 m c t.val t.isLt).2 = k0_pay2 (F := Ideal) (blkZ m c t) (blkW m c t) := by
  rw [outsAt0_A m c t h (by omega) (by omega)]
  frame_out
  rfl

theorem sc_B (t : Fin cfg0.N) (h : ¬t.val % 2 = 0) :
    (outsAt0 m c t.val t.isLt).2 = k0_pay3 (blkZ m c t) (blkW m c t)
      (outsAt0 m c (t.val - 1) (Nat.lt_of_le_of_lt (Nat.sub_le _ _) t.isLt)).2 := by
  rw [outsAt0_B m c t h (by omega) (by omega)]
  frame_out
  simp only [read_unread_whole]
  rfl

theorem out_B (t : Fin cfg0.N) (h : t.val % 2 = 1) :
    (outsAt0 m c t.val t.isLt).1 = k0_pay4 (outsAt0 m c t.val t.isLt).2 (blkR m c t) := by
  rw [sc_B m c t (by omega), outsAt0_B m c t (by omega) (by omega) h]
  frame_out
  simp only [read_unread_whole]
  rfl

theorem idx_0 : ∀ t : Fin grid0.N, win0_0.index t = ![t.val / 4, t.val % 2] := by decide +kernel
theorem idx_1 : ∀ t : Fin grid0.N, win0_1.index t = ![t.val / 2 % 2, t.val % 2] := by decide +kernel
theorem idx_2 : ∀ t : Fin grid0.N, win0_2.index t = ![t.val / 4, t.val / 2 % 2] := by decide +kernel
theorem idx_3 : ∀ t : Fin grid0.N, win0_3.index t = ![t.val / 4, t.val / 2 % 2] := by decide +kernel

theorem lt_N (t : Fin cfg0.N) : t.val < 32 := lt_of_lt_of_eq t.isLt (show cfg0.N = 32 from N_0)

theorem arr_Z (i : Fin 8192) (l : Fin 3072) : (V m c main_v0 : FVec Ideal S8192x3072 .bf16) (ix2 i l) = argZ m c (ix2 i l) := by
  unfold argZ V
  after_reads_at

theorem blk_Z (t : Fin cfg0.N) (r : Fin 1024) (k : Fin 1536) :
    blkZ m c t (ix2 r k) = argZ m c (ix2 ⟨t.val / 4 * 1024 + r.val, by have := lt_N t; omega⟩ ⟨t.val % 2 * 1536 + k.val, by omega⟩) := by
  refine Eq.trans ?_ (arr_Z m c _ _)
  have hi := idx_0 t
  unfold blkZ iblk
  blk_ext [hi]

theorem arr_W (i : Fin 2048) (k : Fin 3072) : (V m c main_v1 : FVec Ideal S2048x3072 .bf16) (ix2 i k) = argW m c (ix2 i k) := by
  unfold argW V
  after_reads_at

theorem blk_W (t : Fin cfg0.N) (s : Fin 1024) (k : Fin 1536) :
    blkW m c t (ix2 s k) = argW m c (ix2 ⟨t.val / 2 % 2 * 1024 + s.val, by omega⟩ ⟨t.val % 2 * 1536 + k.val, by omega⟩) := by
  refine Eq.trans ?_ (arr_W m c _ _)
  have hi := idx_1 t
  unfold blkW iblk
  blk_ext [hi]

theorem blk_R (t : Fin cfg0.N) (r s : Fin 1024) :
    blkR m c t (ix2 r s) = argR m c (ix2 ⟨t.val / 4 * 1024 + r.val, by have := lt_N t; omega⟩ ⟨t.val / 2 % 2 * 1024 + s.val, by omega⟩) := by
  have hi := idx_2 t
  have h1 : V m c main_arg2 = m (c, Proc.tc.devRef main_arg2) := V_main_arg2 m c
  unfold blkR argR iblk
  blk_ext [hi, h1]

/-- The product of the whole arrays, at an entry. -/
def prod (A : FVec Ideal S8192x3072 .f32) (B : FVec Ideal S2048x3072 .f32) (i : Fin 8192) (j : Fin 2048) : EReal :=
  ∑ l : Fin 3072, A (ix2 i l) * B (ix2 j l)

/-- What one step adds: half of the contracted columns. -/
def part (A : FVec Ideal S8192x3072 .f32) (B : FVec Ideal S2048x3072 .f32) (n : ℕ) (hn : n < 32) (r s : Fin 1024) : EReal :=
  ∑ k : Fin 1536, A (ix2 ⟨n / 4 * 1024 + r.val, by omega⟩ ⟨n % 2 * 1536 + k.val, by omega⟩)
    * B (ix2 ⟨n / 2 % 2 * 1024 + s.val, by omega⟩ ⟨n % 2 * 1536 + k.val, by omega⟩)

/-- The two steps of an output block make the whole sum. -/
theorem part_sum (A : FVec Ideal S8192x3072 .f32) (B : FVec Ideal S2048x3072 .f32) (n : ℕ) (hn : n < 32) (r s : Fin 1024) :
    ∑ u : Fin 2, part A B (2 * (n / 2) + u.val) (by omega) r s
      = prod A B ⟨n / 4 * 1024 + r.val, by omega⟩ ⟨n / 2 % 2 * 1024 + s.val, by omega⟩ := by
  refine Fin.sum_mul_add_congr fun u k hl => ?_
  have h1 : (2 * (n / 2) + u.val) % 2 = u.val := by omega
  have h2 : (2 * (n / 2) + u.val) / 4 = n / 4 := by omega
  have h3 : (2 * (n / 2) + u.val) / 2 = n / 2 := by omega
  refine congrArg₂ (· * ·) (congrArg A (congrArg₂ ix2 (Fin.ext ?_) (Fin.ext ?_))) (congrArg B (congrArg₂ ix2 (Fin.ext ?_) (Fin.ext ?_)))
  · exact congrArg (· * 1024 + r.val) h2
  · exact congrArg (· * 1536 + k.val) h1
  · exact congrArg (· % 2 * 1024 + s.val) h3
  · exact congrArg (· * 1536 + k.val) h1

theorem sum_blocks (t : Fin cfg0.N) (r s : Fin 1024) :
    0 + ∑ k : Fin 1536, blkZ m c t (ix2 r k) * blkW m c t (ix2 s k) = part (argZ m c) (argW m c) t.val (lt_N t) r s :=
  (zero_add _).trans (Finset.sum_congr rfl fun k _ => congrArg₂ (· * ·) (blk_Z m c t r k) (blk_W m c t s k))

theorem acc_A (t : Fin cfg0.N) (h : t.val % 2 = 0) (r s : Fin 1024) :
    acc m c t.val t.isLt (ix2 r s) = 0 + part (argZ m c) (argW m c) t.val (lt_N t) r s := by
  rw [← sum_blocks, zero_add]
  exact (congrFun (sc_A m c t h) (ix2 r s)).trans (pay2_read (blkZ m c t) (blkW m c t) r s)

theorem acc_B (t : Fin cfg0.N) (h : ¬t.val % 2 = 0) (r s : Fin 1024) :
    acc m c t.val t.isLt (ix2 r s) = acc m c (t.val - 1) (Nat.lt_of_le_of_lt (Nat.sub_le _ _) t.isLt) (ix2 r s)
      + part (argZ m c) (argW m c) t.val (lt_N t) r s := by
  rw [← sum_blocks]
  exact (congrFun (sc_B m c t h) (ix2 r s)).trans (pay3_read (blkZ m c t) (blkW m c t) _ r s)

/-- At the second step the accumulator holds the whole sum. -/
theorem acc_all (t : Fin cfg0.N) (h : t.val % 2 = 1) (r s : Fin 1024) :
    acc m c t.val t.isLt (ix2 r s)
      = prod (argZ m c) (argW m c) ⟨t.val / 4 * 1024 + r.val, by have := lt_N t; omega⟩ ⟨t.val / 2 % 2 * 1024 + s.val, by omega⟩ :=
  (Pipeline.eq_sum_fin_of_reset_step_apply_of_flush (M := EReal)
    (fun n hn (y : Fin 1024 × Fin 1024) => acc m c n hn (ix2 y.1 y.2)) 2 (fun _ => 0)
    (fun u y => part (argZ m c) (argW m c) u.val (lt_N u) y.1 y.2)
    (fun u hu y => acc_A m c u hu y.1 y.2) (fun u hu y => acc_B m c u hu y.1 y.2) t h (r, s)).trans
    ((zero_add _).trans (part_sum _ _ t.val (lt_N t) r s))

/-- What both results hold: at `(i, j)` the incoming gradient's row `i` times the weights' row `j`, and the residual
    branch's gradient by its factor. -/
def grad (w : FVec Ideal S2048x3072 .f32) (du : FVec Ideal S8192x3072 .f32) (dr : FVec Ideal S8192x2048 .f32) : FVec Ideal S8192x2048 .f32 := fun y =>
  prod du w (y 0) (y 1) + Ideal.ofBits .f32 0x3FB504F3#32 * dr y

theorem out_grad : (dats m 0 c).arrAt 3 (cfgs 0).N = grad (argW m c) (argZ m c) (argR m c) := by
  refine (dats m 0 c).arrAt_eq_of_covers 3 _ (by decide +kernel) fun t hf y => ?_
  have h3 : t.val % 2 = 1 := (flush0_3 t).mp hf
  have hi := idx_3 t
  obtain ⟨a, b, rfl⟩ : ∃ (a : Fin 1024) (b : Fin 1024), y = ix2 a b := ⟨y 0, y 1, eq_ix2 y⟩
  rw [after0_3, out_B m c t h3]
  have key := pay4_read (acc m c t.val t.isLt) (blkR m c t) a b
  rw [blk_R, acc_all m c t h3] at key
  refine key.trans (?_ : grad (argW m c) (argZ m c) (argR m c) (ix2 _ _) = _)
  refine congrArg (grad _ _ _) ?_
  blk_ext [hi]

end Cert.Kernel9Ideal.Mlp

namespace Cert.Reference9Ideal.Mlp

open Idealize.ShloMosaic Idealize.ShloMosaic.TcCoe Cert.Reference9Ideal.Gen

/-- The reference's expression, at an entry. -/
theorem ref_read (w : FVec Ideal S2048x3072 .f32) (du : FVec Ideal S8192x3072 .f32) (dr : FVec Ideal S8192x2048 .f32) (i : Fin 8192) (j : Fin 2048) :
    ((addf (mulf (broadcastInDim S8192x2048 ![] bcast_S_S8192x2048 (constant S_ .f32 0x3FB504F3#32)) dr) (Host.dotGeneral dot_S8192x3072_S2048x3072_S8192x2048_1_1_0_0_n_n none du w) : FVec Ideal S8192x2048 .f32) (ix2 i j) : EReal)
      = Ideal.ofBits .f32 0x3FB504F3#32 * dr (ix2 i j) + ∑ l : Fin 3072, du (ix2 i l) * w (ix2 j l) := by
  pointwise

/-- The reference's whole array. -/
theorem ref_array (w : FVec Ideal S2048x3072 .f32) (du : FVec Ideal S8192x3072 .f32) (dr : FVec Ideal S8192x2048 .f32) :
    (addf (mulf (broadcastInDim S8192x2048 ![] bcast_S_S8192x2048 (constant S_ .f32 0x3FB504F3#32)) dr) (Host.dotGeneral dot_S8192x3072_S2048x3072_S8192x2048_1_1_0_0_n_n none du w) : FVec Ideal S8192x2048 .f32)
      = Cert.Kernel9Ideal.Mlp.grad w du dr := by
  funext y
  obtain ⟨a, b, rfl⟩ : ∃ (a : Fin 8192) (b : Fin 2048), y = ix2 a b := ⟨y 0, y 1, eq_ix2 y⟩
  exact (ref_read w du dr a b).trans (add_comm _ _)

end Cert.Reference9Ideal.Mlp

end
-- ==== Proof.M.PartAdd.lean ====
/- The gradient through the other part of the second layer's input product, added to the branches before it: what the kernel's result holds, and that the reference holds the same. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel10Ideal.Mlp

open Idealize.ShloMosaic Idealize.ShloMosaic.TcCoe Cert.Kernel10Ideal.Gen

/-- The word of the number one. -/
theorem one_word : (Ideal.ofBits .f32 0x3F800000#32 : EReal) = 1 := Ideal.ofBits_one_f32

/-- One product of two blocks, at an entry. -/
theorem pay2_read (a : FVec Ideal S1024x1536 .bf16) (w : FVec Ideal S1024x1536 .bf16) (r s : Fin 1024) :
    (k0_pay2 (F := Ideal) a w (ix2 r s) : EReal) = 0 + ∑ k : Fin 1536, a (ix2 r k) * w (ix2 s k) := by
  pointwise [k0_pay2, k0_pay1]

theorem pay3_read (a : FVec Ideal S1024x1536 .bf16) (w : FVec Ideal S1024x1536 .bf16) (x : FVec Ideal S1024x1024 .f32) (r s : Fin 1024) :
    (k0_pay3 (F := Ideal) a w x (ix2 r s) : EReal) = x (ix2 r s) + (0 + ∑ k : Fin 1536, a (ix2 r k) * w (ix2 s k)) := by
  pointwise [k0_pay3, k0_pay1]

theorem pay4_read (x y : FVec Ideal S1024x1024 .f32) (r s : Fin 1024) :
    (k0_pay4 (F := Ideal) x y (ix2 r s) : EReal) = x (ix2 r s) + Ideal.ofBits .f32 0x3F800000#32 * y (ix2 r s) := by
  pointwise [k0_pay4]

variable (m : (ℓ : Loc nD τ sig) → Buf (Elt Ideal) ℓ) (c : Dev nD)

/-- The arguments, the blocks of a point, and the accumulator after it. -/
def argW : FVec Ideal S2048x3072 .f32 := m (c, Proc.tc.devRef main_arg0)
def argZ : FVec Ideal S8192x3072 .f32 := m (c, Proc.tc.devRef main_arg1)
def argR : FVec Ideal S8192x2048 .f32 := m (c, Proc.tc.devRef main_arg2)
def blkZ (t : Fin cfg0.N) : FVec Ideal S1024x1536 .bf16 := iblk m c 0 t
def blkW (t : Fin cfg0.N) : FVec Ideal S1024x1536 .bf16 := iblk m c 1 t
def blkR (t : Fin cfg0.N) : FVec Ideal S1024x1024 .f32 := iblk m c 2 t
def acc (n : ℕ) (hn : n < cfg0.N) : FVec Ideal S1024x1024 .f32 := (outsAt0 m c n hn).2

theorem sc_A (t : Fin cfg0.N) (h : t.val % 2 = 0) :
    (outsAt0 m c t.val t.isLt).2 = k0_pay2 (F := Ideal) (blkZ m c t) (blkW m c t) := by
  rw [outsAt0_A m c t h (by omega) (by omega)]
  frame_out
  rfl

theorem sc_B (t : Fin cfg0.N) (h : ¬t.val % 2 = 0) :
    (outsAt0 m c t.val t.isLt).2 = k0_pay3 (blkZ m c t) (blkW m c t)
      (outsAt0 m c (t.val - 1) (Nat.lt_of_le_of_lt (Nat.sub_le _ _) t.isLt)).2 := by
  rw [outsAt0_B m c t h (by omega) (by omega)]
  frame_out
  simp only [read_unread_whole]
  rfl

theorem out_B (t : Fin cfg0.N) (h : t.val % 2 = 1) :
    (outsAt0 m c t.val t.isLt).1 = k0_pay4 (outsAt0 m c t.val t.isLt).2 (blkR m c t) := by
  rw [sc_B m c t (by omega), outsAt0_B m c t (by omega) (by omega) h]
  frame_out
  simp only [read_unread_whole]
  rfl

theorem idx_0 : ∀ t : Fin grid0.N, win0_0.index t = ![t.val / 4, t.val % 2] := by decide +kernel
theorem idx_1 : ∀ t : Fin grid0.N, win0_1.index t = ![t.val / 2 % 2, t.val % 2] := by decide +kernel
theorem idx_2 : ∀ t : Fin grid0.N, win0_2.index t = ![t.val / 4, t.val / 2 % 2] := by decide +kernel
theorem idx_3 : ∀ t : Fin grid0.N, win0_3.index t = ![t.val / 4, t.val / 2 % 2] := by decide +kernel

theorem lt_N (t : Fin cfg0.N) : t.val < 32 := lt_of_lt_of_eq t.isLt (show cfg0.N = 32 from N_0)

theorem arr_Z (i : Fin 8192) (l : Fin 3072) : (V m c main_v0 : FVec Ideal S8192x3072 .bf16) (ix2 i l) = argZ m c (ix2 i l) := by
  unfold argZ V
  after_reads_at

theorem blk_Z (t : Fin cfg0.N) (r : Fin 1024) (k : Fin 1536) :
    blkZ m c t (ix2 r k) = argZ m c (ix2 ⟨t.val / 4 * 1024 + r.val, by have := lt_N t; omega⟩ ⟨t.val % 2 * 1536 + k.val, by omega⟩) := by
  refine Eq.trans ?_ (arr_Z m c _ _)
  have hi := idx_0 t
  unfold blkZ iblk
  blk_ext [hi]

theorem arr_W (i : Fin 2048) (k : Fin 3072) : (V m c main_v1 : FVec Ideal S2048x3072 .bf16) (ix2 i k) = argW m c (ix2 i k) := by
  unfold argW V
  after_reads_at

theorem blk_W (t : Fin cfg0.N) (s : Fin 1024) (k : Fin 1536) :
    blkW m c t (ix2 s k) = argW m c (ix2 ⟨t.val / 2 % 2 * 1024 + s.val, by omega⟩ ⟨t.val % 2 * 1536 + k.val, by omega⟩) := by
  refine Eq.trans ?_ (arr_W m c _ _)
  have hi := idx_1 t
  unfold blkW iblk
  blk_ext [hi]

theorem blk_R (t : Fin cfg0.N) (r s : Fin 1024) :
    blkR m c t (ix2 r s) = argR m c (ix2 ⟨t.val / 4 * 1024 + r.val, by have := lt_N t; omega⟩ ⟨t.val / 2 % 2 * 1024 + s.val, by omega⟩) := by
  have hi := idx_2 t
  have h1 : V m c main_arg2 = m (c, Proc.tc.devRef main_arg2) := V_main_arg2 m c
  unfold blkR argR iblk
  blk_ext [hi, h1]

/-- The product of the whole arrays, at an entry. -/
def prod (A : FVec Ideal S8192x3072 .f32) (B : FVec Ideal S2048x3072 .f32) (i : Fin 8192) (j : Fin 2048) : EReal :=
  ∑ l : Fin 3072, A (ix2 i l) * B (ix2 j l)

/-- What one step adds: half of the contracted columns. -/
def part (A : FVec Ideal S8192x3072 .f32) (B : FVec Ideal S2048x3072 .f32) (n : ℕ) (hn : n < 32) (r s : Fin 1024) : EReal :=
  ∑ k : Fin 1536, A (ix2 ⟨n / 4 * 1024 + r.val, by omega⟩ ⟨n % 2 * 1536 + k.val, by omega⟩)
    * B (ix2 ⟨n / 2 % 2 * 1024 + s.val, by omega⟩ ⟨n % 2 * 1536 + k.val, by omega⟩)

/-- The two steps of an output block make the whole sum. -/
theorem part_sum (A : FVec Ideal S8192x3072 .f32) (B : FVec Ideal S2048x3072 .f32) (n : ℕ) (hn : n < 32) (r s : Fin 1024) :
    ∑ u : Fin 2, part A B (2 * (n / 2) + u.val) (by omega) r s
      = prod A B ⟨n / 4 * 1024 + r.val, by omega⟩ ⟨n / 2 % 2 * 1024 + s.val, by omega⟩ := by
  refine Fin.sum_mul_add_congr fun u k hl => ?_
  have h1 : (2 * (n / 2) + u.val) % 2 = u.val := by omega
  have h2 : (2 * (n / 2) + u.val) / 4 = n / 4 := by omega
  have h3 : (2 * (n / 2) + u.val) / 2 = n / 2 := by omega
  refine congrArg₂ (· * ·) (congrArg A (congrArg₂ ix2 (Fin.ext ?_) (Fin.ext ?_))) (congrArg B (congrArg₂ ix2 (Fin.ext ?_) (Fin.ext ?_)))
  · exact congrArg (· * 1024 + r.val) h2
  · exact congrArg (· * 1536 + k.val) h1
  · exact congrArg (· % 2 * 1024 + s.val) h3
  · exact congrArg (· * 1536 + k.val) h1

theorem sum_blocks (t : Fin cfg0.N) (r s : Fin 1024) :
    0 + ∑ k : Fin 1536, blkZ m c t (ix2 r k) * blkW m c t (ix2 s k) = part (argZ m c) (argW m c) t.val (lt_N t) r s :=
  (zero_add _).trans (Finset.sum_congr rfl fun k _ => congrArg₂ (· * ·) (blk_Z m c t r k) (blk_W m c t s k))

theorem acc_A (t : Fin cfg0.N) (h : t.val % 2 = 0) (r s : Fin 1024) :
    acc m c t.val t.isLt (ix2 r s) = 0 + part (argZ m c) (argW m c) t.val (lt_N t) r s := by
  rw [← sum_blocks, zero_add]
  exact (congrFun (sc_A m c t h) (ix2 r s)).trans (pay2_read (blkZ m c t) (blkW m c t) r s)

theorem acc_B (t : Fin cfg0.N) (h : ¬t.val % 2 = 0) (r s : Fin 1024) :
    acc m c t.val t.isLt (ix2 r s) = acc m c (t.val - 1) (Nat.lt_of_le_of_lt (Nat.sub_le _ _) t.isLt) (ix2 r s)
      + part (argZ m c) (argW m c) t.val (lt_N t) r s := by
  rw [← sum_blocks]
  exact (congrFun (sc_B m c t h) (ix2 r s)).trans (pay3_read (blkZ m c t) (blkW m c t) _ r s)

/-- At the second step the accumulator holds the whole sum. -/
theorem acc_all (t : Fin cfg0.N) (h : t.val % 2 = 1) (r s : Fin 1024) :
    acc m c t.val t.isLt (ix2 r s)
      = prod (argZ m c) (argW m c) ⟨t.val / 4 * 1024 + r.val, by have := lt_N t; omega⟩ ⟨t.val / 2 % 2 * 1024 + s.val, by omega⟩ :=
  (Pipeline.eq_sum_fin_of_reset_step_apply_of_flush (M := EReal)
    (fun n hn (y : Fin 1024 × Fin 1024) => acc m c n hn (ix2 y.1 y.2)) 2 (fun _ => 0)
    (fun u y => part (argZ m c) (argW m c) u.val (lt_N u) y.1 y.2)
    (fun u hu y => acc_A m c u hu y.1 y.2) (fun u hu y => acc_B m c u hu y.1 y.2) t h (r, s)).trans
    ((zero_add _).trans (part_sum _ _ t.val (lt_N t) r s))

/-- What both results hold: at `(i, j)` the incoming gradient's row `i` times the weights' row `j`, and the gradient of
    the branches before it. -/
def grad (w : FVec Ideal S2048x3072 .f32) (du : FVec Ideal S8192x3072 .f32) (dr : FVec Ideal S8192x2048 .f32) : FVec Ideal S8192x2048 .f32 := fun y =>
  prod du w (y 0) (y 1) + Ideal.ofBits .f32 0x3F800000#32 * dr y

theorem out_grad : (dats m 0 c).arrAt 3 (cfgs 0).N = grad (argW m c) (argZ m c) (argR m c) := by
  refine (dats m 0 c).arrAt_eq_of_covers 3 _ (by decide +kernel) fun t hf y => ?_
  have h3 : t.val % 2 = 1 := (flush0_3 t).mp hf
  have hi := idx_3 t
  obtain ⟨a, b, rfl⟩ : ∃ (a : Fin 1024) (b : Fin 1024), y = ix2 a b := ⟨y 0, y 1, eq_ix2 y⟩
  rw [after0_3, out_B m c t h3]
  have key := pay4_read (acc m c t.val t.isLt) (blkR m c t) a b
  rw [blk_R, acc_all m c t h3] at key
  refine key.trans (?_ : grad (argW m c) (argZ m c) (argR m c) (ix2 _ _) = _)
  refine congrArg (grad _ _ _) ?_
  blk_ext [hi]

end Cert.Kernel10Ideal.Mlp

namespace Cert.Reference10Ideal.Mlp

open Idealize.ShloMosaic Idealize.ShloMosaic.TcCoe Cert.Reference10Ideal.Gen

/-- The reference's expression, at an entry. -/
theorem ref_read (w : FVec Ideal S2048x3072 .f32) (du : FVec Ideal S8192x3072 .f32) (dr : FVec Ideal S8192x2048 .f32) (i : Fin 8192) (j : Fin 2048) :
    ((addf dr (Host.dotGeneral dot_S8192x3072_S2048x3072_S8192x2048_1_1_0_0_n_n none du w) : FVec Ideal S8192x2048 .f32) (ix2 i j) : EReal)
      = dr (ix2 i j) + ∑ l : Fin 3072, du (ix2 i l) * w (ix2 j l) := by
  pointwise

/-- The reference's whole array. -/
theorem ref_array (w : FVec Ideal S2048x3072 .f32) (du : FVec Ideal S8192x3072 .f32) (dr : FVec Ideal S8192x2048 .f32) :
    (addf dr (Host.dotGeneral dot_S8192x3072_S2048x3072_S8192x2048_1_1_0_0_n_n none du w) : FVec Ideal S8192x2048 .f32)
      = Cert.Kernel10Ideal.Mlp.grad w du dr := by
  funext y
  obtain ⟨a, b, rfl⟩ : ∃ (a : Fin 8192) (b : Fin 2048), y = ix2 a b := ⟨y 0, y 1, eq_ix2 y⟩
  exact (ref_read w du dr a b).trans ((add_comm _ _).trans (congrArg (_ + ·) (by rw [Cert.Kernel10Ideal.Mlp.one_word, one_mul])))

end Cert.Reference10Ideal.Mlp

end
-- ==== Proof.M.OutDx.lean ====
/- The gradient through a layer's last product: what the kernel's result holds, and that the reference holds the same. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel11Ideal.Mlp

open Idealize.ShloMosaic Idealize.ShloMosaic.TcCoe Cert.Kernel11Ideal.Gen

/-- The block of the result, at an entry. -/
theorem pay1_read (a : FVec Ideal S1024x2048 .bf16) (w : FVec Ideal S1024x2048 .bf16) (r s : Fin 1024) :
    (k0_pay1 (F := Ideal) a w (ix2 r s) : EReal) = 0 + ∑ k : Fin 2048, a (ix2 r k) * w (ix2 s k) := by
  pointwise [k0_pay1]

variable (m : (ℓ : Loc nD τ sig) → Buf (Elt Ideal) ℓ) (c : Dev nD)

/-- The arguments, and the blocks that a point is given. -/
def argW : FVec Ideal S2048x2048 .f32 := m (c, Proc.tc.devRef main_arg0)
def argY : FVec Ideal S8192x2048 .f32 := m (c, Proc.tc.devRef main_arg1)
def blkY (t : Fin cfg0.N) : FVec Ideal S1024x2048 .bf16 := iblk m c 0 t
def blkW (t : Fin cfg0.N) : FVec Ideal S1024x2048 .bf16 := iblk m c 1 t

theorem idx_0 : ∀ t : Fin grid0.N, win0_0.index t = ![t.val / 2, 0] := by decide +kernel
theorem idx_1 : ∀ t : Fin grid0.N, win0_1.index t = ![t.val % 2, 0] := by decide +kernel
theorem idx_2 : ∀ t : Fin grid0.N, win0_2.index t = ![t.val / 2, t.val % 2] := by decide +kernel

theorem lt_N (t : Fin cfg0.N) : t.val < 16 := lt_of_lt_of_eq t.isLt (show cfg0.N = 16 from N_0)

theorem arr_Y (i : Fin 8192) (k : Fin 2048) : (V m c main_v0 : FVec Ideal S8192x2048 .bf16) (ix2 i k) = argY m c (ix2 i k) := by
  unfold argY V
  after_reads_at

theorem blk_Y (t : Fin cfg0.N) (r : Fin 1024) (k : Fin 2048) :
    blkY m c t (ix2 r k) = argY m c (ix2 ⟨t.val / 2 * 1024 + r.val, by have := lt_N t; omega⟩ k) := by
  refine Eq.trans ?_ (arr_Y m c _ k)
  have hi := idx_0 t
  unfold blkY iblk
  blk_ext [hi]

theorem arr_W (i : Fin 2048) (k : Fin 2048) : (V m c main_v1 : FVec Ideal S2048x2048 .bf16) (ix2 i k) = argW m c (ix2 i k) := by
  unfold argW V
  after_reads_at

theorem blk_W (t : Fin cfg0.N) (s : Fin 1024) (k : Fin 2048) :
    blkW m c t (ix2 s k) = argW m c (ix2 ⟨t.val % 2 * 1024 + s.val, by omega⟩ k) := by
  refine Eq.trans ?_ (arr_W m c _ _)
  have hi := idx_1 t
  unfold blkW iblk
  blk_ext [hi]

/-- What both results hold: at `(i, j)` the incoming gradient's row `i` times the weights' row `j`. -/
def grad (w : FVec Ideal S2048x2048 .f32) (dy : FVec Ideal S8192x2048 .f32) : FVec Ideal S8192x2048 .f32 := fun y =>
  ∑ k : Fin 2048, dy (ix2 (y 0) k) * w (ix2 (y 1) k)

theorem out_grad : (dats m 0 c).arrAt 2 (cfgs 0).N = grad (argW m c) (argY m c) := by
  refine (dats m 0 c).arrAt_eq_of_covers 2 _ (by decide +kernel) fun t hf y => ?_
  have hi := idx_2 t
  obtain ⟨a, b, rfl⟩ : ∃ (a : Fin 1024) (b : Fin 1024), y = ix2 a b := ⟨y 0, y 1, eq_ix2 y⟩
  rw [after0_2]
  frame_out
  have key := pay1_read (blkY m c t) (blkW m c t) a b
  rw [zero_add, Finset.sum_congr rfl fun k _ => congrArg₂ (· * ·) (blk_Y m c t a k) (blk_W m c t b k)] at key
  refine key.trans (?_ : grad (argW m c) (argY m c) (ix2 _ _) = _)
  refine congrArg (grad _ _) ?_
  blk_ext [hi]

end Cert.Kernel11Ideal.Mlp

namespace Cert.Reference11Ideal.Mlp

open Idealize.ShloMosaic Idealize.ShloMosaic.TcCoe Cert.Reference11Ideal.Gen

/-- The reference's whole array: its two operands' gradients are the product's two halves. -/
theorem ref_array (w : FVec Ideal S2048x2048 .f32) (dy : FVec Ideal S8192x2048 .f32) :
    (concatenate S8192x2048 1 [⟨S8192x1024, (extractStridedSlice S8192x1024 ![0, 0] (Host.dotGeneral dot_S8192x2048_S2048x2048_S8192x2048_1_1_0_0_n_n none dy w) slices_S8192x2048_S8192x1024_0_0)⟩, ⟨S8192x1024, (extractStridedSlice S8192x1024 ![0, 1024] (Host.dotGeneral dot_S8192x2048_S2048x2048_S8192x2048_1_1_0_0_n_n none dy w) slices_S8192x2048_S8192x1024_0_1024)⟩] concatenates_S8192x1024_S8192x1024_S8192x2048_d1 : FVec Ideal S8192x2048 .f32)
      = Cert.Kernel11Ideal.Mlp.grad w dy := by
  funext y
  obtain ⟨a, b, rfl⟩ : ∃ (a : Fin 8192) (b : Fin 2048), y = ix2 a b := ⟨y 0, y 1, eq_ix2 y⟩
  show _ = ∑ k : Fin 2048, dy (ix2 a k) * w (ix2 b k)
  pointwise
  split
  · rfl
  · exact Finset.sum_congr rfl fun k _ => congrArg (dy (ix2 a k) * ·) (congrArg w (congrArg₂ ix2 (Fin.ext (by show 1024 + (b.val - 1024) = b.val; omega)) rfl))

end Cert.Reference11Ideal.Mlp

end
-- ==== Proof.M.In.lean ====
/- The first layer's input product: what the kernel's result holds, and that the reference holds the same. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel12Ideal.Mlp

open Idealize.ShloMosaic Idealize.ShloMosaic.TcCoe Cert.Kernel12Ideal.Gen

/-- The block of the result, at an entry. -/
theorem pay1_read (a : FVec Ideal S1024x2048 .f32) (w : FVec Ideal S1x2048x768 .bf16) (r : Fin 1024) (s : Fin 768) :
    (k0_pay1 (F := Ideal) a w (ix2 r s) : EReal) = 0 + ∑ k : Fin 2048, a (ix2 r k) * w (ix3 0 k s) := by
  pointwise [k0_pay1]

variable (m : (ℓ : Loc nD τ sig) → Buf (Elt Ideal) ℓ) (c : Dev nD)

/-- The arguments, and the blocks that a point is given. -/
def argX : FVec Ideal S8192x2048 .f32 := m (c, Proc.tc.devRef main_arg0)
def argW : FVec Ideal S2048x6144 .f32 := m (c, Proc.tc.devRef main_arg1)
def blkX (t : Fin cfg0.N) : FVec Ideal S1024x2048 .f32 := iblk m c 0 t
def blkW (t : Fin cfg0.N) : FVec Ideal S1x2048x768 .bf16 := iblk m c 1 t

theorem idx_0 : ∀ t : Fin grid0.N, win0_0.index t = ![t.val / 8, 0] := by decide +kernel
theorem idx_1 : ∀ t : Fin grid0.N, win0_1.index t = ![t.val % 8, 0, 0] := by decide +kernel
theorem idx_2 : ∀ t : Fin grid0.N, win0_2.index t = ![t.val / 8, t.val % 8] := by decide +kernel

theorem lt_N (t : Fin cfg0.N) : t.val < 64 := lt_of_lt_of_eq t.isLt (show cfg0.N = 64 from N_0)

theorem blk_X (t : Fin cfg0.N) (r : Fin 1024) (k : Fin 2048) :
    blkX m c t (ix2 r k) = argX m c (ix2 ⟨t.val / 8 * 1024 + r.val, by have := lt_N t; omega⟩ k) := by
  have hi := idx_0 t
  have h1 : V m c main_arg0 = m (c, Proc.tc.devRef main_arg0) := V_main_arg0 m c
  unfold blkX argX iblk
  blk_ext [hi, h1]

theorem arr_W (q : Fin 8) (k : Fin 2048) (s : Fin 768) :
    (V m c main_v2 : FVec Ideal S8x2048x768 .bf16) (ix3 q k s) = argW m c (ix2 k ⟨q.val * 768 + s.val, by omega⟩) := by
  unfold argW V
  after_reads_at

theorem blk_W (t : Fin cfg0.N) (k : Fin 2048) (s : Fin 768) :
    blkW m c t (ix3 0 k s) = argW m c (ix2 k ⟨t.val % 8 * 768 + s.val, by omega⟩) := by
  refine Eq.trans ?_ (arr_W m c ⟨t.val % 8, by omega⟩ k s)
  have hi := idx_1 t
  unfold blkW iblk
  blk_ext [hi]

/-- What both results hold: the product of the whole arrays. -/
def grad (x : FVec Ideal S8192x2048 .f32) (w : FVec Ideal S2048x6144 .f32) : FVec Ideal S8192x6144 .f32 := fun y =>
  ∑ k : Fin 2048, x (ix2 (y 0) k) * w (ix2 k (y 1))

theorem out_grad : (dats m 0 c).arrAt 2 (cfgs 0).N = grad (argX m c) (argW m c) := by
  refine (dats m 0 c).arrAt_eq_of_covers 2 _ (by decide +kernel) fun t hf y => ?_
  have hi := idx_2 t
  obtain ⟨a, b, rfl⟩ : ∃ (a : Fin 1024) (b : Fin 768), y = ix2 a b := ⟨y 0, y 1, eq_ix2 y⟩
  rw [after0_2]
  frame_out
  have key := pay1_read (blkX m c t) (blkW m c t) a b
  rw [zero_add, Finset.sum_congr rfl fun k _ => congrArg₂ (· * ·) (blk_X m c t a k) (blk_W m c t k b)] at key
  refine key.trans (?_ : grad (argX m c) (argW m c) (ix2 _ _) = _)
  refine congrArg (grad _ _) ?_
  blk_ext [hi]

end Cert.Kernel12Ideal.Mlp

namespace Cert.Reference12Ideal.Mlp

open Idealize.ShloMosaic Idealize.ShloMosaic.TcCoe Cert.Reference12Ideal.Gen

/-- The reference's whole array. -/
theorem ref_array (x : FVec Ideal S8192x2048 .f32) (w : FVec Ideal S2048x6144 .f32) :
    (Host.dotGeneral dot_S8192x2048_S2048x6144_S8192x6144_1_0_0_1_n_n none x w : FVec Ideal S8192x6144 .f32)
      = Cert.Kernel12Ideal.Mlp.grad x w := by
  funext y
  obtain ⟨a, b, rfl⟩ : ∃ (a : Fin 8192) (b : Fin 6144), y = ix2 a b := ⟨y 0, y 1, eq_ix2 y⟩
  show _ = ∑ k : Fin 2048, x (ix2 a k) * w (ix2 k b)
  pointwise

end Cert.Reference12Ideal.Mlp

end
-- ==== Proof.M.Part.lean ====
/- One part of the second layer's input product: what the kernel's result holds, and that the reference holds the same. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel13Ideal.Mlp

open Idealize.ShloMosaic Idealize.ShloMosaic.TcCoe Cert.Kernel13Ideal.Gen

/-- The block of the result, at an entry. -/
theorem pay1_read (a : FVec Ideal S1024x2048 .bf16) (w : FVec Ideal S2048x1024 .bf16) (r s : Fin 1024) :
    (k0_pay1 (F := Ideal) a w (ix2 r s) : EReal) = 0 + ∑ k : Fin 2048, a (ix2 r k) * w (ix2 k s) := by
  pointwise [k0_pay1]

variable (m : (ℓ : Loc nD τ sig) → Buf (Elt Ideal) ℓ) (c : Dev nD)

/-- The arguments, and the blocks that a point is given. -/
def argX : FVec Ideal S8192x2048 .f32 := m (c, Proc.tc.devRef main_arg0)
def argW : FVec Ideal S2048x3072 .f32 := m (c, Proc.tc.devRef main_arg1)
def blkX (t : Fin cfg0.N) : FVec Ideal S1024x2048 .bf16 := iblk m c 0 t
def blkW (t : Fin cfg0.N) : FVec Ideal S2048x1024 .bf16 := iblk m c 1 t

theorem idx_0 : ∀ t : Fin grid0.N, win0_0.index t = ![t.val / 3, 0] := by decide +kernel
theorem idx_1 : ∀ t : Fin grid0.N, win0_1.index t = ![0, t.val % 3] := by decide +kernel
theorem idx_2 : ∀ t : Fin grid0.N, win0_2.index t = ![t.val / 3, t.val % 3] := by decide +kernel

theorem lt_N (t : Fin cfg0.N) : t.val < 24 := lt_of_lt_of_eq t.isLt (show cfg0.N = 24 from N_0)

theorem arr_X (i : Fin 8192) (k : Fin 2048) : (V m c main_v0 : FVec Ideal S8192x2048 .bf16) (ix2 i k) = argX m c (ix2 i k) := by
  unfold argX V
  after_reads_at

theorem blk_X (t : Fin cfg0.N) (r : Fin 1024) (k : Fin 2048) :
    blkX m c t (ix2 r k) = argX m c (ix2 ⟨t.val / 3 * 1024 + r.val, by have := lt_N t; omega⟩ k) := by
  refine Eq.trans ?_ (arr_X m c _ k)
  have hi := idx_0 t
  unfold blkX iblk
  blk_ext [hi]

theorem arr_W (i : Fin 2048) (k : Fin 3072) : (V m c main_v1 : FVec Ideal S2048x3072 .bf16) (ix2 i k) = argW m c (ix2 i k) := by
  unfold argW V
  after_reads_at

theorem blk_W (t : Fin cfg0.N) (k : Fin 2048) (s : Fin 1024) :
    blkW m c t (ix2 k s) = argW m c (ix2 k ⟨t.val % 3 * 1024 + s.val, by omega⟩) := by
  refine Eq.trans ?_ (arr_W m c _ _)
  have hi := idx_1 t
  unfold blkW iblk
  blk_ext [hi]

/-- What both results hold: the product of the whole arrays. -/
def grad (x : FVec Ideal S8192x2048 .f32) (w : FVec Ideal S2048x3072 .f32) : FVec Ideal S8192x3072 .f32 := fun y =>
  ∑ k : Fin 2048, x (ix2 (y 0) k) * w (ix2 k (y 1))

theorem out_grad : (dats m 0 c).arrAt 2 (cfgs 0).N = grad (argX m c) (argW m c) := by
  refine (dats m 0 c).arrAt_eq_of_covers 2 _ (by decide +kernel) fun t hf y => ?_
  have hi := idx_2 t
  obtain ⟨a, b, rfl⟩ : ∃ (a : Fin 1024) (b : Fin 1024), y = ix2 a b := ⟨y 0, y 1, eq_ix2 y⟩
  rw [after0_2]
  frame_out
  have key := pay1_read (blkX m c t) (blkW m c t) a b
  rw [zero_add, Finset.sum_congr rfl fun k _ => congrArg₂ (· * ·) (blk_X m c t a k) (blk_W m c t k b)] at key
  refine key.trans (?_ : grad (argX m c) (argW m c) (ix2 _ _) = _)
  refine congrArg (grad _ _) ?_
  blk_ext [hi]

end Cert.Kernel13Ideal.Mlp

namespace Cert.Reference13Ideal.Mlp

open Idealize.ShloMosaic Idealize.ShloMosaic.TcCoe Cert.Reference13Ideal.Gen

/-- The reference's whole array. -/
theorem ref_array (x : FVec Ideal S8192x2048 .f32) (w : FVec Ideal S2048x3072 .f32) :
    (Host.dotGeneral dot_S8192x2048_S2048x3072_S8192x3072_1_0_0_1_n_n none x w : FVec Ideal S8192x3072 .f32)
      = Cert.Kernel13Ideal.Mlp.grad x w := by
  funext y
  obtain ⟨a, b, rfl⟩ : ∃ (a : Fin 8192) (b : Fin 3072), y = ix2 a b := ⟨y 0, y 1, eq_ix2 y⟩
  show _ = ∑ k : Fin 2048, x (ix2 a k) * w (ix2 k b)
  pointwise

end Cert.Reference13Ideal.Mlp

end
-- ==== Proof.M.Up.lean ====
/- The MLP's first product and the squared ReLU: what the kernel's result holds, and that the reference holds the same. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel14Ideal.Mlp

open Idealize.ShloMosaic Idealize.ShloMosaic.TcCoe Cert.Kernel14Ideal.Gen

/-- The block of the product, and of its squared positive part, at an entry. -/
theorem pay2_read (a : FVec Ideal S1024x2048 .bf16) (w : FVec Ideal S1x2048x1024 .bf16) (r s : Fin 1024) :
    (k0_pay2 (F := Ideal) a w (ix2 r s) : EReal) = 0 + ∑ k : Fin 2048, a (ix2 r k) * w (ix3 0 k s) := by
  pointwise [k0_pay2, k0_pay1]

theorem pay3_read (a : FVec Ideal S1024x2048 .bf16) (w : FVec Ideal S1x2048x1024 .bf16) (r s : Fin 1024) :
    (k0_pay3 (F := Ideal) a w (ix2 r s) : EReal)
      = max (0 + ∑ k : Fin 2048, a (ix2 r k) * w (ix3 0 k s)) 0 * max (0 + ∑ k : Fin 2048, a (ix2 r k) * w (ix3 0 k s)) 0 := by
  pointwise [k0_pay3, k0_pay1]

variable (m : (ℓ : Loc nD τ sig) → Buf (Elt Ideal) ℓ) (c : Dev nD)

/-- The arguments, and the blocks that a point is given. -/
def argX : FVec Ideal S8192x2048 .f32 := m (c, Proc.tc.devRef main_arg0)
def argW : FVec Ideal S2048x8192 .f32 := m (c, Proc.tc.devRef main_arg1)
def blkX (t : Fin cfg0.N) : FVec Ideal S1024x2048 .bf16 := iblk m c 0 t
def blkW (t : Fin cfg0.N) : FVec Ideal S1x2048x1024 .bf16 := iblk m c 1 t

theorem idx_0 : ∀ t : Fin grid0.N, win0_0.index t = ![t.val / 8, 0] := by decide +kernel
theorem idx_1 : ∀ t : Fin grid0.N, win0_1.index t = ![t.val % 8, 0, 0] := by decide +kernel
theorem idx_2 : ∀ t : Fin grid0.N, win0_2.index t = ![t.val / 8, t.val % 8] := by decide +kernel
theorem idx_3 : ∀ t : Fin grid0.N, win0_3.index t = ![t.val / 8, t.val % 8] := by decide +kernel

theorem lt_N (t : Fin cfg0.N) : t.val < 64 := lt_of_lt_of_eq t.isLt (show cfg0.N = 64 from N_0)

theorem arr_X (i : Fin 8192) (k : Fin 2048) : (V m c main_v0 : FVec Ideal S8192x2048 .bf16) (ix2 i k) = argX m c (ix2 i k) := by
  unfold argX V
  after_reads_at

theorem blk_X (t : Fin cfg0.N) (r : Fin 1024) (k : Fin 2048) :
    blkX m c t (ix2 r k) = argX m c (ix2 ⟨t.val / 8 * 1024 + r.val, by have := lt_N t; omega⟩ k) := by
  refine Eq.trans ?_ (arr_X m c _ k)
  have hi := idx_0 t
  unfold blkX iblk
  blk_ext [hi]

theorem arr_W (q : Fin 8) (k : Fin 2048) (s : Fin 1024) :
    (V m c main_v3 : FVec Ideal S8x2048x1024 .bf16) (ix3 q k s) = argW m c (ix2 k ⟨q.val * 1024 + s.val, by omega⟩) := by
  unfold argW V
  after_reads_at

theorem blk_W (t : Fin cfg0.N) (k : Fin 2048) (s : Fin 1024) :
    blkW m c t (ix3 0 k s) = argW m c (ix2 k ⟨t.val % 8 * 1024 + s.val, by omega⟩) := by
  refine Eq.trans ?_ (arr_W m c ⟨t.val % 8, by omega⟩ k s)
  have hi := idx_1 t
  unfold blkW iblk
  blk_ext [hi]

/-- The product of the whole arrays, at an entry. -/
def prod (x : FVec Ideal S8192x2048 .f32) (w : FVec Ideal S2048x8192 .f32) (i j : Fin 8192) : EReal :=
  ∑ k : Fin 2048, x (ix2 i k) * w (ix2 k j)

/-- What both first results hold: the product. -/
def val (x : FVec Ideal S8192x2048 .f32) (w : FVec Ideal S2048x8192 .f32) : FVec Ideal S8192x8192 .bf16 := fun y => prod x w (y 0) (y 1)

/-- What both second results hold: the square of the product's positive part. -/
def act (x : FVec Ideal S8192x2048 .f32) (w : FVec Ideal S2048x8192 .f32) : FVec Ideal S8192x8192 .bf16 := fun y =>
  max (prod x w (y 0) (y 1)) 0 * max (prod x w (y 0) (y 1)) 0

theorem prod_block (t : Fin cfg0.N) (a b : Fin 1024) :
    0 + ∑ k : Fin 2048, blkX m c t (ix2 a k) * blkW m c t (ix3 0 k b)
      = prod (argX m c) (argW m c) ⟨t.val / 8 * 1024 + a.val, by have := lt_N t; omega⟩ ⟨t.val % 8 * 1024 + b.val, by omega⟩ :=
  (zero_add _).trans (Finset.sum_congr rfl fun k _ => congrArg₂ (· * ·) (blk_X m c t a k) (blk_W m c t k b))

theorem out_val : (dats m 0 c).arrAt 2 (cfgs 0).N = val (argX m c) (argW m c) := by
  refine (dats m 0 c).arrAt_eq_of_covers 2 _ (by decide +kernel) fun t hf y => ?_
  have hi := idx_2 t
  obtain ⟨a, b, rfl⟩ : ∃ (a : Fin 1024) (b : Fin 1024), y = ix2 a b := ⟨y 0, y 1, eq_ix2 y⟩
  rw [after0_2]
  frame_out
  have key := pay2_read (blkX m c t) (blkW m c t) a b
  rw [prod_block] at key
  refine key.trans (?_ : val (argX m c) (argW m c) (ix2 _ _) = _)
  refine congrArg (val _ _) ?_
  blk_ext [hi]

theorem out_act : (dats m 0 c).arrAt 3 (cfgs 0).N = act (argX m c) (argW m c) := by
  refine (dats m 0 c).arrAt_eq_of_covers 3 _ (by decide +kernel) fun t hf y => ?_
  have hi := idx_3 t
  obtain ⟨a, b, rfl⟩ : ∃ (a : Fin 1024) (b : Fin 1024), y = ix2 a b := ⟨y 0, y 1, eq_ix2 y⟩
  rw [after0_3]
  frame_out
  have key := pay3_read (blkX m c t) (blkW m c t) a b
  rw [prod_block] at key
  refine key.trans (?_ : act (argX m c) (argW m c) (ix2 _ _) = _)
  refine congrArg (act _ _) ?_
  blk_ext [hi]

end Cert.Kernel14Ideal.Mlp

namespace Cert.Reference14Ideal.Mlp

open Idealize.ShloMosaic Idealize.ShloMosaic.TcCoe Cert.Reference14Ideal.Gen

/-- The reference's two arrays. -/
theorem ref_val (x : FVec Ideal S8192x2048 .f32) (w : FVec Ideal S2048x8192 .f32) :
    (truncf .bf16 (Host.dotGeneral dot_S8192x2048_S2048x8192_S8192x8192_1_0_0_1_n_n none x w) bitsLt_bf16_f32 : FVec Ideal S8192x8192 .bf16)
      = Cert.Kernel14Ideal.Mlp.val x w := by
  funext y
  obtain ⟨a, b, rfl⟩ : ∃ (a b : Fin 8192), y = ix2 a b := ⟨y 0, y 1, eq_ix2 y⟩
  show _ = ∑ k : Fin 2048, x (ix2 a k) * w (ix2 k b)
  pointwise

theorem ref_act (x : FVec Ideal S8192x2048 .f32) (w : FVec Ideal S2048x8192 .f32) :
    (truncf .bf16 (mulf (maximumf (Host.dotGeneral dot_S8192x2048_S2048x8192_S8192x8192_1_0_0_1_n_n none x w) (broadcastInDim S8192x8192 ![] bcast_S_S8192x8192 (constant S_ .f32 0x00000000#32))) (maximumf (Host.dotGeneral dot_S8192x2048_S2048x8192_S8192x8192_1_0_0_1_n_n none x w) (broadcastInDim S8192x8192 ![] bcast_S_S8192x8192 (constant S_ .f32 0x00000000#32)))) bitsLt_bf16_f32 : FVec Ideal S8192x8192 .bf16)
      = Cert.Kernel14Ideal.Mlp.act x w := by
  funext y
  obtain ⟨a, b, rfl⟩ : ∃ (a b : Fin 8192), y = ix2 a b := ⟨y 0, y 1, eq_ix2 y⟩
  show _ = max (∑ k : Fin 2048, x (ix2 a k) * w (ix2 k b)) 0 * max (∑ k : Fin 2048, x (ix2 a k) * w (ix2 k b)) 0
  pointwise

end Cert.Reference14Ideal.Mlp

end
-- ==== Proof.M.Down.lean ====
/- The MLP's second product: what the kernel's result holds, and that the reference holds the same. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel15Ideal.Mlp

open Idealize.ShloMosaic Idealize.ShloMosaic.TcCoe Cert.Kernel15Ideal.Gen

/-- One product of two blocks, at an entry. -/
theorem pay2_read (a : FVec Ideal S1024x2048 .bf16) (b : FVec Ideal S2048x1024 .bf16) (r s : Fin 1024) :
    (k0_pay2 (F := Ideal) a b (ix2 r s) : EReal) = 0 + ∑ k : Fin 2048, a (ix2 r k) * b (ix2 k s) := by
  pointwise [k0_pay2, k0_pay1]

theorem pay3_read (a : FVec Ideal S1024x2048 .bf16) (b : FVec Ideal S2048x1024 .bf16) (x : FVec Ideal S1024x1024 .f32) (r s : Fin 1024) :
    (k0_pay3 (F := Ideal) a b x (ix2 r s) : EReal) = x (ix2 r s) + (0 + ∑ k : Fin 2048, a (ix2 r k) * b (ix2 k s)) := by
  pointwise [k0_pay3, k0_pay1]

variable (m : (ℓ : Loc nD τ sig) → Buf (Elt Ideal) ℓ) (c : Dev nD)

theorem sc_A (t : Fin cfg0.N) (h : t.val % 4 = 0) :
    (outsAt0 m c t.val t.isLt).2 = k0_pay2 (iblk m c 0 t) (iblk m c 1 t) := by
  rw [outsAt0_A m c t h (by omega) (by omega)]
  frame_out

theorem sc_BC (t : Fin cfg0.N) (h : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h (by omega) h2]
    frame_out
    simp only [read_unread_whole]
  · rw [outsAt0_B m c t h (by omega) h2]
    frame_out
    simp only [read_unread_whole]

theorem out_C (t : Fin cfg0.N) (h : t.val % 4 = 3) :
    (outsAt0 m c t.val t.isLt).1 = (outsAt0 m c t.val t.isLt).2 := by
  rw [sc_BC m c t (by omega), outsAt0_C m c t (by omega) (by omega) h]
  frame_out
  simp only [read_unread_whole]

/-- The launch's two arrays, their blocks at a point, and the accumulator after it. -/
def arrA : FVec Ideal S8192x8192 .bf16 := V m c main_v2
def arrB : FVec Ideal S8192x2048 .bf16 := V m c main_v3
def blkA (t : Fin cfg0.N) : FVec Ideal S1024x2048 .bf16 := iblk m c 0 t
def blkB (t : Fin cfg0.N) : FVec Ideal S2048x1024 .bf16 := iblk m c 1 t
def acc (n : ℕ) (hn : n < cfg0.N) : FVec Ideal S1024x1024 .f32 := (outsAt0 m c n hn).2

theorem idx_0 : ∀ t : Fin grid0.N, win0_0.index t = ![t.val / 8, t.val % 4] := by decide +kernel
theorem idx_1 : ∀ t : Fin grid0.N, win0_1.index t = ![t.val % 4, t.val / 4 % 2] := by decide +kernel
theorem idx_2 : ∀ t : Fin grid0.N, win0_2.index t = ![t.val / 8, t.val / 4 % 2] := by decide +kernel

theorem lt_N (t : Fin cfg0.N) : t.val < 64 := lt_of_lt_of_eq t.isLt (show cfg0.N = 64 from N_0)

theorem blk_0 (t : Fin cfg0.N) (k : Fin 2048) (r : Fin 1024) :
    blkA m c t (ix2 r k) = arrA m c (ix2 ⟨t.val / 8 * 1024 + r.val, by have := lt_N t; omega⟩ ⟨t.val % 4 * 2048 + k.val, by omega⟩) := by
  have hi := idx_0 t
  unfold blkA arrA iblk
  blk_ext [hi]

theorem blk_1 (t : Fin cfg0.N) (k : Fin 2048) (r : Fin 1024) :
    blkB m c t (ix2 k r) = arrB m c (ix2 ⟨t.val % 4 * 2048 + k.val, by omega⟩ ⟨t.val / 4 % 2 * 1024 + r.val, by omega⟩) := by
  have hi := idx_1 t
  unfold blkB arrB iblk
  blk_ext [hi]

/-- The product of the whole arrays, at an entry. -/
def prod (A : FVec Ideal S8192x8192 .bf16) (B : FVec Ideal S8192x2048 .bf16) : S8192x2048.Idx → EReal := fun y =>
  ∑ l : Fin 8192, A (ix2 (y 0) l) * B (ix2 l (y 1))

/-- What one step along the contracted axis adds. -/
def part (A : FVec Ideal S8192x8192 .bf16) (B : FVec Ideal S8192x2048 .bf16) (n : ℕ) (hn : n < 64) (r s : Fin 1024) : EReal :=
  ∑ k : Fin 2048, A (ix2 ⟨n / 8 * 1024 + r.val, by omega⟩ ⟨n % 4 * 2048 + k.val, by omega⟩)
    * B (ix2 ⟨n % 4 * 2048 + k.val, by omega⟩ ⟨n / 4 % 2 * 1024 + s.val, by omega⟩)

/-- The four steps of an output block make the whole sum. -/
theorem part_sum (A : FVec Ideal S8192x8192 .bf16) (B : FVec Ideal S8192x2048 .bf16) (n : ℕ) (hn : n < 64) (r s : Fin 1024) :
    ∑ u : Fin 4, part A B (4 * (n / 4) + u.val) (by omega) r s
      = prod A B (ix2 ⟨n / 8 * 1024 + r.val, by omega⟩ ⟨n / 4 % 2 * 1024 + s.val, by omega⟩) := by
  refine Fin.sum_mul_add_congr fun u k hl => ?_
  have h1 : (4 * (n / 4) + u.val) % 4 = u.val := by omega
  have h2 : (4 * (n / 4) + u.val) / 8 = n / 8 := by omega
  have h3 : (4 * (n / 4) + u.val) / 4 = n / 4 := by omega
  refine congrArg₂ (· * ·) (congrArg A (congrArg₂ ix2 (Fin.ext ?_) (Fin.ext ?_))) (congrArg B (congrArg₂ ix2 (Fin.ext ?_) (Fin.ext ?_)))
  · exact congrArg (· * 1024 + r.val) h2
  · exact congrArg (· * 2048 + k.val) h1
  · exact congrArg (· * 2048 + k.val) h1
  · exact congrArg (· % 2 * 1024 + s.val) h3

theorem sum_blocks (t : Fin cfg0.N) (r s : Fin 1024) :
    0 + ∑ k : Fin 2048, blkA m c t (ix2 r k) * blkB m c t (ix2 k s) = part (arrA m c) (arrB m c) t.val (lt_N t) r s :=
  (zero_add _).trans (Finset.sum_congr rfl fun k _ => congrArg₂ (· * ·) (blk_0 m c t k r) (blk_1 m c t k s))

theorem acc_A (t : Fin cfg0.N) (h : t.val % 4 = 0) (r s : Fin 1024) :
    acc m c t.val t.isLt (ix2 r s) = 0 + part (arrA m c) (arrB m c) t.val (lt_N t) r s := by
  rw [← sum_blocks, zero_add]
  exact (congrFun (sc_A m c t h) (ix2 r s)).trans (pay2_read (blkA m c t) (blkB m c t) r s)

theorem acc_BC (t : Fin cfg0.N) (h : ¬t.val % 4 = 0) (r s : Fin 1024) :
    acc m c t.val t.isLt (ix2 r s) = acc m c (t.val - 1) (Nat.lt_of_le_of_lt (Nat.sub_le _ _) t.isLt) (ix2 r s)
      + part (arrA m c) (arrB m c) t.val (lt_N t) r s := by
  rw [← sum_blocks]
  exact (congrFun (sc_BC m c t h) (ix2 r s)).trans (pay3_read (blkA m c t) (blkB m c t) _ r s)

/-- At the last of the four steps along the contracted axis the accumulator holds the whole sum. -/
theorem acc_all (t : Fin cfg0.N) (h : t.val % 4 = 3) (r s : Fin 1024) :
    acc m c t.val t.isLt (ix2 r s)
      = prod (arrA m c) (arrB m c) (ix2 ⟨t.val / 8 * 1024 + r.val, by have := lt_N t; omega⟩ ⟨t.val / 4 % 2 * 1024 + s.val, by omega⟩) :=
  (Pipeline.eq_sum_fin_of_reset_step_apply_of_flush (M := EReal)
    (fun n hn (y : Fin 1024 × Fin 1024) => acc m c n hn (ix2 y.1 y.2)) 4 (fun _ => 0)
    (fun u y => part (arrA m c) (arrB m c) u.val (lt_N u) y.1 y.2)
    (fun u hu y => acc_A m c u hu y.1 y.2) (fun u hu y => acc_BC m c u hu y.1 y.2) t h (r, s)).trans
    ((zero_add _).trans (part_sum _ _ t.val (lt_N t) r s))

/-- The kernel's result. -/
theorem out_array : ((dats m 0 c).arrAt 2 (cfgs 0).N : S8192x2048.Idx → EReal) = prod (arrA m c) (arrB m c) := by
  refine (dats m 0 c).arrAt_eq_of_covers 2 _ (by decide +kernel) fun t hf y => ?_
  have h3 : t.val % 4 = 3 := (flush0_2 t).mp hf
  have hi := idx_2 t
  obtain ⟨a, b, rfl⟩ : ∃ (a : Fin 1024) (b : Fin 1024), y = ix2 a b := ⟨y 0, y 1, eq_ix2 y⟩
  rw [after0_2, out_C m c t h3]
  refine (acc_all m c t h3 a b).trans (congrArg (prod _ _) ?_)
  blk_ext [hi]

/-- The arguments. -/
def argZ : FVec Ideal S8192x8192 .f32 := m (c, Proc.tc.devRef main_arg0)
def argW : FVec Ideal S8192x2048 .f32 := m (c, Proc.tc.devRef main_arg1)

/-- The arrays that the kernel is launched on. -/
theorem arrA_read (i l : Fin 8192) : arrA m c (ix2 i l) = max (argZ m c (ix2 i l)) 0 * max (argZ m c (ix2 i l)) 0 := by
  unfold arrA argZ V
  after_reads_at

theorem arrB_read (l : Fin 8192) (j : Fin 2048) : arrB m c (ix2 l j) = argW m c (ix2 l j) := by
  unfold arrB argW V
  after_reads_at

/-- What both results hold: the squared positive parts times the weights. -/
def grad (z : FVec Ideal S8192x8192 .f32) (w : FVec Ideal S8192x2048 .f32) : FVec Ideal S8192x2048 .f32 := fun y =>
  ∑ l : Fin 8192, max (z (ix2 (y 0) l)) 0 * max (z (ix2 (y 0) l)) 0 * w (ix2 l (y 1))

theorem out_grad : (dats m 0 c).arrAt 2 (cfgs 0).N = grad (argZ m c) (argW m c) :=
  (out_array m c).trans (funext fun y => Finset.sum_congr rfl fun l _ =>
    congrArg₂ (· * ·) (arrA_read m c (y 0) l) (arrB_read m c l (y 1)))

end Cert.Kernel15Ideal.Mlp

namespace Cert.Reference15Ideal.Mlp

open Idealize.ShloMosaic Idealize.ShloMosaic.TcCoe Cert.Reference15Ideal.Gen

/-- The reference's whole array. -/
theorem ref_array (z : FVec Ideal S8192x8192 .f32) (w : FVec Ideal S8192x2048 .f32) :
    (Host.dotGeneral dot_S8192x8192_S8192x2048_S8192x2048_1_0_0_1_n_n none (mulf (maximumf z (broadcastInDim S8192x8192 ![] bcast_S_S8192x8192 (constant S_ .f32 0x00000000#32))) (maximumf z (broadcastInDim S8192x8192 ![] bcast_S_S8192x8192 (constant S_ .f32 0x00000000#32)))) w : FVec Ideal S8192x2048 .f32)
      = Cert.Kernel15Ideal.Mlp.grad z w := by
  funext y
  obtain ⟨a, b, rfl⟩ : ∃ (a : Fin 8192) (b : Fin 2048), y = ix2 a b := ⟨y 0, y 1, eq_ix2 y⟩
  show _ = ∑ l : Fin 8192, max (z (ix2 a l)) 0 * max (z (ix2 a l)) 0 * w (ix2 l b)
  pointwise

end Cert.Reference15Ideal.Mlp

end
-- ==== Proof.V.Math.lean ====
/- The mathematics of the forgetting attention's gradient over the real numbers: the logits, the softmax over the keys
   that a query sees, the gradients of queries, keys, values and cumulative log forget gates, and the equations that
   relate the saved log-sum to the softmax. -/
module

public import Mathlib.Analysis.SpecialFunctions.Log.Basic
public import Mathlib.Data.EReal.Operations
public import Mathlib.Algebra.BigOperators.Field

@[expose] public section

noncomputable section

namespace Cert.FoxMath

/-- The real arguments of one layer's attention: queries, keys and values per head, the cumulative log forget gates, the
    output's cotangent, and the scale of the logits. -/
structure Args where
  q : Fin 8 → Fin 8192 → Fin 128 → ℝ
  k : Fin 8 → Fin 8192 → Fin 128 → ℝ
  v : Fin 8 → Fin 8192 → Fin 128 → ℝ
  g : Fin 8 → Fin 8192 → ℝ
  d : Fin 8 → Fin 8192 → Fin 128 → ℝ
  sc : ℝ

variable (A : Args)

/-- The logit of query `i` and key `j`, without the query's own bias. -/
def lg (h : Fin 8) (i j : Fin 8192) : ℝ := (∑ d, A.q h i d * A.k h j d) * A.sc - A.g h j

/-- A query's sum of the exponentials of its logits. -/
def zs (h : Fin 8) (i : Fin 8192) : ℝ := ∑ j, if j ≤ i then Real.exp (lg A h i j) else 0

/-- The attention weight of key `j` for query `i`. -/
def pr (h : Fin 8) (i j : Fin 8192) : ℝ := if j ≤ i then Real.exp (lg A h i j) / zs A h i else 0

/-- The weight's cotangent. -/
def dp (h : Fin 8) (i j : Fin 8192) : ℝ := ∑ d, A.d h i d * A.v h j d

/-- A query's weighted sum of the weights' cotangents. -/
def dl (h : Fin 8) (i : Fin 8192) : ℝ := ∑ j, pr A h i j * dp A h i j

/-- The logit's cotangent. -/
def ds (h : Fin 8) (i j : Fin 8192) : ℝ := pr A h i j * (dp A h i j - dl A h i)

/-- The attention's output. -/
def out (h : Fin 8) (i : Fin 8192) (d : Fin 128) : ℝ := ∑ j, pr A h i j * A.v h j d

/-- The queries' gradient. -/
def gq (h : Fin 8) (i : Fin 8192) (d : Fin 128) : ℝ := ∑ j, ds A h i j * A.sc * A.k h j d

/-- The keys' gradient. -/
def gk (h : Fin 8) (j : Fin 8192) (d : Fin 128) : ℝ := ∑ i, ds A h i j * A.sc * A.q h i d

/-- The values' gradient. -/
def gv (h : Fin 8) (j : Fin 8192) (d : Fin 128) : ℝ := ∑ i, A.d h i d * pr A h i j

/-- The gradient of the cumulative log forget gates. -/
def gf (h : Fin 8) (j : Fin 8192) : ℝ := -∑ i, ds A h i j

theorem zs_pos (h : Fin 8) (i : Fin 8192) : 0 < zs A h i := by
  unfold zs
  refine Finset.sum_pos' (fun j _ => ?_) ⟨i, Finset.mem_univ _, ?_⟩
  · split
    · exact (Real.exp_pos _).le
    · exact le_rfl
  · rw [if_pos le_rfl]; exact Real.exp_pos _

/-- A key after the query weighs nothing. -/
theorem pr_of_lt (h : Fin 8) {i j : Fin 8192} (hij : i < j) : pr A h i j = 0 := if_neg (not_le.mpr hij)

theorem ds_of_lt (h : Fin 8) {i j : Fin 8192} (hij : i < j) : ds A h i j = 0 := by
  unfold ds; rw [pr_of_lt A h hij, zero_mul]

/-- A query's weights sum to one. -/
theorem sum_pr (h : Fin 8) (i : Fin 8192) : ∑ j, pr A h i j = 1 := by
  have hz := zs_pos A h i
  have : ∑ j, pr A h i j = (∑ j, if j ≤ i then Real.exp (lg A h i j) else 0) / zs A h i := by
    rw [Finset.sum_div]
    refine Finset.sum_congr rfl fun j _ => ?_
    unfold pr; split
    · rfl
    · rw [zero_div]
  rw [this]; exact div_self hz.ne'

/-- A query's logits' cotangents sum to zero. -/
theorem sum_ds (h : Fin 8) (i : Fin 8192) : ∑ j, ds A h i j = 0 := by
  unfold ds
  simp only [mul_sub]
  rw [Finset.sum_sub_distrib, ← Finset.sum_mul, sum_pr, one_mul]
  exact sub_self _

/-- The saved log-sum gives the weight: for any shift `M`. -/
theorem exp_lse (h : Fin 8) (i j : Fin 8192) (hij : j ≤ i) (M : ℝ) :
    Real.exp (lg A h i j - (M + Real.log (∑ j', if j' ≤ i then Real.exp (lg A h i j' - M) else 0))) = pr A h i j := by
  have hz := zs_pos A h i
  have hs : (∑ j', if j' ≤ i then Real.exp (lg A h i j' - M) else 0) = zs A h i * Real.exp (-M) := by
    unfold zs
    rw [Finset.sum_mul]
    refine Finset.sum_congr rfl fun j' _ => ?_
    split
    · rw [← Real.exp_add]; rfl
    · rw [zero_mul]
  rw [hs, Real.log_mul hz.ne' (Real.exp_pos _).ne', Real.log_exp]
  unfold pr
  rw [if_pos hij, show lg A h i j - (M + (Real.log (zs A h i) + -M)) = lg A h i j - Real.log (zs A h i) by ring, Real.exp_sub,
    Real.exp_log hz]

/-- The softmax is the weight: for any shift `M`. -/
theorem exp_div (h : Fin 8) (i j : Fin 8192) (M : ℝ) :
    (if j ≤ i then Real.exp (lg A h i j - M) else 0) / (∑ j', if j' ≤ i then Real.exp (lg A h i j' - M) else 0) = pr A h i j := by
  have hz := zs_pos A h i
  have hM := Real.exp_pos (-M)
  have hs : (∑ j', if j' ≤ i then Real.exp (lg A h i j' - M) else 0) = zs A h i * Real.exp (-M) := by
    unfold zs
    rw [Finset.sum_mul]
    refine Finset.sum_congr rfl fun j' _ => ?_
    split
    · rw [← Real.exp_add]; rfl
    · rw [zero_mul]
  rw [hs]
  unfold pr
  split
  · rw [show lg A h i j - M = lg A h i j + -M by ring, Real.exp_add]
    rw [mul_div_mul_right _ _ hM.ne']
  · rw [zero_div]

/-- The shifted sum is positive. -/
theorem sum_exp_pos (h : Fin 8) (i : Fin 8192) (M : ℝ) : 0 < ∑ j', if j' ≤ i then Real.exp (lg A h i j' - M) else 0 := by
  refine Finset.sum_pos' (fun j _ => ?_) ⟨i, Finset.mem_univ _, ?_⟩
  · split
    · exact (Real.exp_pos _).le
    · exact le_rfl
  · rw [if_pos le_rfl]; exact Real.exp_pos _

/-- The cotangent against the output is the weighted sum of the weights' cotangents. -/
theorem sum_d_out (h : Fin 8) (i : Fin 8192) : ∑ d, A.d h i d * out A h i d = dl A h i := by
  unfold out dl dp
  simp only [Finset.mul_sum]
  rw [Finset.sum_comm]
  refine Finset.sum_congr rfl fun j _ => Finset.sum_congr rfl fun d _ => by ring

/-- The softmax's derivative as the reference writes it, from the weight's numerator `e` and the row's sum `E`. -/
theorem softmax_vjp (h : Fin 8) (i j : Fin 8192) (e : Fin 8192 → ℝ) (E : ℝ) (hE : E ≠ 0) (hp : ∀ j', e j' / E = pr A h i j') :
    (dp A h i j / E + -∑ j', dp A h i j' * (1 / (E * E)) * e j') * e j = ds A h i j := by
  have h1 : ∑ j', dp A h i j' * (1 / (E * E)) * e j' = dl A h i / E := by
    unfold dl
    rw [Finset.sum_div]
    refine Finset.sum_congr rfl fun j' _ => ?_
    rw [← hp j']
    field_simp
  rw [h1]
  unfold ds
  rw [← hp j]
  field_simp
  ring

/-- A finite sum of real numbers, taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many extended reals, none of them +∞ and one of them real, is real. -/
theorem fold_max_real {ι : Type*} (s : Finset ι) (f : ι → EReal) (i : ι) (hi : i ∈ s) (r : ℝ) (hr : f i = r)
    (hf : ∀ j ∈ s, f j ≠ ⊤) : ∃ M : ℝ, s.fold max ⊥ f = (M : EReal) := by
  classical
  have hle : (r : EReal) ≤ s.fold max ⊥ f := by
    rw [← hr]; exact Finset.le_fold_max (s := s) (b := ⊥) (f := f) (f i) |>.mpr (Or.inr ⟨i, hi, le_rfl⟩)
  have htop : s.fold max ⊥ f ≠ ⊤ := by
    have : s.fold max ⊥ f < ⊤ := (Finset.fold_max_lt ⊤).mpr ⟨bot_lt_top, fun j hj => lt_top_iff_ne_top.mpr (hf j hj)⟩
    exact this.ne
  have hbot : s.fold max ⊥ f ≠ ⊥ := fun h => by rw [h] at hle; exact absurd hle (not_le.mpr (EReal.bot_lt_coe r))
  exact ⟨(s.fold max ⊥ f).toReal, (EReal.coe_toReal htop hbot).symm⟩

/-- A sum over all positions, in eight blocks of 1024. -/
theorem sum_blocks {M : Type*} [AddCommMonoid M] (f : Fin 8192 → M) :
    ∑ j, f j = ∑ J : Fin 8, ∑ b : Fin 1024, f ⟨1024 * J.val + b.val, by omega⟩ := by
  rw [← (finProdFinEquiv (m := 8) (n := 1024)).sum_comp, Fintype.sum_prod_type]
  refine Finset.sum_congr rfl fun J _ => Finset.sum_congr rfl fun b _ => congrArg f (Fin.ext ?_)
  show b.val + 1024 * J.val = 1024 * J.val + b.val
  omega

end Cert.FoxMath

end
-- ==== Proof.V.Args.lean ====
/- The arguments' arrays as real numbers, and the readings that the kernel's host code and the reference share. -/
module

public import proofs.«01_k».proof.Proof.V.Math
public import Idealize.ShloMosaic.Lib.Pointwise
public import Idealize.ShloMosaic.Lib.IdealHost
public import Idealize.ShloMosaic.PureOps.Ideal.Laws

@[expose] public section

noncomputable section

namespace Cert.FoxMath

open Idealize.ShloMosaic

/-- The logits' scale as the programs' word has it. -/
def scv : ℝ := (Ideal.ofBits .f32 0x3DB504F3#32).toReal

theorem ofBits_scale : Ideal.ofBits .f32 0x3DB504F3#32 = ((scv : ℝ) : EReal) := by
  refine (EReal.coe_toReal ?_ ?_).symm <;> simp [Ideal.ofBits, Ideal.ieee, -EReal.coe_mul]

theorem ofBits_ninf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

variable (u : (⟨2, ![8192, 3072]⟩ : Shape).Idx → EReal) (g : (⟨3, ![8, 1, 8192]⟩ : Shape).Idx → EReal)
  (d : (⟨2, ![8192, 2048]⟩ : Shape).Idx → EReal)

/-- The real arguments that the three arrays hold: the queries, keys and values side by side in the first, head by head. -/
def argsOf : Args where
  q h i x := (u (ix2 i ⟨h.val * 128 + x.val, by omega⟩)).toReal
  k h i x := (u (ix2 i ⟨1024 + (h.val * 128 + x.val), by omega⟩)).toReal
  v h i x := (u (ix2 i ⟨2048 + (h.val * 128 + x.val), by omega⟩)).toReal
  g h i := (g (ix3 h 0 i)).toReal
  d h i x := (d (ix2 i ⟨h.val * 128 + x.val, by omega⟩)).toReal
  sc := scv

/-- Every element of the three arrays is a real number. -/
structure AllReal : Prop where
  u : ∀ x, u x = ((u x).toReal : EReal)
  g : ∀ x, g x = ((g x).toReal : EReal)
  d : ∀ x, d x = ((d x).toReal : EReal)

variable {u g d}

theorem read_q (H : AllReal u g d) (h : Fin 8) (i : Fin 8192) (x : Fin 128) :
    u (ix2 i ⟨h.val * 128 + x.val, by omega⟩) = ((argsOf u g d).q h i x : EReal) := H.u _
theorem read_k (H : AllReal u g d) (h : Fin 8) (i : Fin 8192) (x : Fin 128) :
    u (ix2 i ⟨1024 + (h.val * 128 + x.val), by omega⟩) = ((argsOf u g d).k h i x : EReal) := H.u _
theorem read_v (H : AllReal u g d) (h : Fin 8) (i : Fin 8192) (x : Fin 128) :
    u (ix2 i ⟨2048 + (h.val * 128 + x.val), by omega⟩) = ((argsOf u g d).v h i x : EReal) := H.u _
theorem read_g (H : AllReal u g d) (h : Fin 8) (i : Fin 8192) :
    g (ix3 h 0 i) = ((argsOf u g d).g h i : EReal) := H.g _
theorem read_d (H : AllReal u g d) (h : Fin 8) (i : Fin 8192) (x : Fin 128) :
    d (ix2 i ⟨h.val * 128 + x.val, by omega⟩) = ((argsOf u g d).d h i x : EReal) := H.d _

/-- A selection by the causal mask's word. -/
theorem select_mask (i j : Fin 8192) (x y : EReal) :
    Scalar.select (IntOp.cmpi .sle (BitVec.ofNat 32 j.val) (BitVec.ofNat 32 i.val)) x y = if j ≤ i then x else y := by
  have hw : ∀ a : Fin 8192, (BitVec.ofNat 32 a.val).toInt = a.val := fun a => by
    rw [BitVec.toInt_eq_toNat_of_lt] <;> rw [BitVec.toNat_ofNat] <;> omega
  have hab : (IntOp.cmpi .sle (BitVec.ofNat 32 j.val) (BitVec.ofNat 32 i.val) : BitVec 1) = if j ≤ i then 1#1 else 0#1 := by
    show (BitVec.ofBool ((BitVec.ofNat 32 j.val).sle (BitVec.ofNat 32 i.val)) : BitVec 1) = _
    rw [BitVec.sle_eq_decide, hw, hw]
    by_cases h : j ≤ i
    · rw [if_pos h, decide_eq_true (by exact_mod_cast h)]; rfl
    · rw [if_neg h, decide_eq_false (by exact_mod_cast h)]; rfl
  rw [hab]
  by_cases h : j ≤ i
  · rw [if_pos h, if_pos h]; rfl
  · rw [if_neg h, if_neg h]; rfl

/-- The product of two rows of real numbers. -/
theorem sum_mul_coe {ι : Type*} [Fintype ι] (a b : ι → ℝ) : ∑ x, (a x : EReal) * (b x : EReal) = ((∑ x, a x * b x : ℝ) : EReal) := by
  rw [← coe_sum]; exact Finset.sum_congr rfl fun x _ => (EReal.coe_mul _ _).symm

/-- A quotient of real numbers. -/
theorem div_coe_coe {y : ℝ} (hy : y ≠ 0) (x : ℝ) : Ideal.div (x : EReal) (y : EReal) = ((x / y : ℝ) : EReal) := by
  rw [Ideal.div_coe hy, ← EReal.coe_mul, mul_one_div]

/-- The exponential of a masked logit, less a real shift. -/
theorem exp_masked (p : Prop) [Decidable p] (a M : ℝ) :
    Ideal.exp ((if p then (a : EReal) else ⊥) - (M : EReal)) = ((if p then Real.exp (a - M) else 0 : ℝ) : EReal) := by
  split
  · rw [← EReal.coe_sub, Ideal.exp_coe]
  · rw [EReal.bot_sub, Ideal.exp_bot, EReal.coe_zero]

end Cert.FoxMath

end
-- ==== Proof.V.Pre.lean ====
/- The precondition: every element of the three arguments is a real number. -/
module

public import proofs.«01_k».proof.Proof.V.Args
public import proofs.«01_k».proof.Proof.Gen.Pre_finite
public import Idealize.ShloMosaic.Lib.ReduceAll
public import Idealize.ShloMosaic.Lib.Affine

@[expose] public section

set_option maxRecDepth 16384

noncomputable section

namespace Cert.FoxMath

open Idealize.ShloMosaic Cert.Pre_finite Idealize.ShloMosaic.TcCoe

/-- An extended real whose absolute value is less than the infinite word's value is a real number. -/
theorem real_of_lt (x : EReal) (h : Ideal.cmp .olt (max x (-x)) (Ideal.ofBits .f32 0x7F800000#32) = 1#1) : x = (x.toReal : EReal) := by
  have hT : Ideal.ofBits .f32 0x7F800000#32 = ⊤ := by simp [Ideal.ofBits, Ideal.ieee]
  rw [hT] at h
  refine (EReal.coe_toReal ?_ ?_).symm
  · rintro rfl
    revert h
    simp [Ideal.cmp]
  · rintro rfl
    revert h
    simp [Ideal.cmp]

instance : Subsingleton S_.Idx := ⟨fun a b => funext fun x => x.elim0⟩

variable [Cert.Pre_finite.Facts]
  {u : (⟨S8192x3072, .f32⟩ : BufTy).Contents (Elt Ideal)} {g : (⟨S8x1x8192, .f32⟩ : BufTy).Contents (Elt Ideal)}
  {d : (⟨S8192x2048, .f32⟩ : BufTy).Contents (Elt Ideal)}

theorem all_real (h : Cert.Pre_finite.fn (F := Ideal) u g d = fun _ => 1#1) : AllReal u g d := by
  have h0 := congrFun h ix0
  obtain ⟨h12, h3⟩ := IntOp.andi_eq_one.1 h0
  obtain ⟨h1, h2⟩ := IntOp.andi_eq_one.1 h12
  refine ⟨fun x => ?_, fun x => ?_, fun x => ?_⟩
  · exact real_of_lt _ (Host.reduce_andi_all _ _ _ _ _ h1 x)
  · exact real_of_lt _ (Host.reduce_andi_all _ _ _ _ _ h2 x)
  · exact real_of_lt _ (Host.reduce_andi_all _ _ _ _ _ h3 x)

end Cert.FoxMath

end
-- ==== Proof.M.Norm.lean ====
/- The layer norm of a row of any length, and the two forms of its gradient. -/
module

public import proofs.«01_k».proof.Proof.V.Pre
public import Idealize.ShloMosaic.PureOps.Ideal.Laws

@[expose] public section

noncomputable section

namespace Cert.Norm

open Idealize.ShloMosaic

variable {n : ℕ}

/-- The mean of a row. -/
def mean (w : BitVec 32) (v : Fin n → EReal) : EReal := Ideal.div (∑ x, v x) (Ideal.ofBits .f32 w)

/-- A row less its mean. -/
def cen (w : BitVec 32) (v : Fin n → EReal) (x : Fin n) : EReal := v x - mean w v

/-- A row's variance with the norm's epsilon. -/
def var (w : BitVec 32) (v : Fin n → EReal) : EReal := mean w (fun x => cen w v x * cen w v x) + Ideal.ofBits .f32 925353388#32

/-- A row's reciprocal standard deviation, and the row normalised. -/
def rs (w : BitVec 32) (v : Fin n → EReal) : EReal := Ideal.rsqrt (var w v)
def hat (w : BitVec 32) (v : Fin n → EReal) (x : Fin n) : EReal := cen w v x * rs w v

/-- The gradient through the norm of the row `v`, where `a` is the gradient that reaches the normalised row. -/
def row (w : BitVec 32) (v a : Fin n → EReal) (x : Fin n) : EReal :=
  rs w v * (a x - mean w a - hat w v x * mean w (fun y => a y * hat w v y))

/-- The derivative of the reciprocal root through the variance. -/
def viaVar (w : BitVec 32) (v a : Fin n → EReal) : EReal :=
  Ideal.div ((∑ x, cen w v x * a x) * (Ideal.ofBits .f32 3204448256#32 * Ideal.div (rs w v) (var w v))) (Ideal.ofBits .f32 w)

/-- The same gradient term by term: through the row itself, through the variance, and through the mean. -/
def row' (w : BitVec 32) (v a : Fin n → EReal) (x : Fin n) : EReal :=
  a x * rs w v + viaVar w v a * (Ideal.ofBits .f32 1073741824#32 * cen w v x)
    + Ideal.div (∑ x, -(a x * rs w v) + ∑ x, -(viaVar w v a * (Ideal.ofBits .f32 1073741824#32 * cen w v x))) (Ideal.ofBits .f32 w)

/-- The same with its two means as sums of one term. -/
def row1 (w : BitVec 32) (v a : Fin n → EReal) (x : Fin n) : EReal :=
  a x * rs w v + (∑ _y : Fin 1, viaVar w v a) * (Ideal.ofBits .f32 1073741824#32 * cen w v x)
    + ∑ _y : Fin 1, Ideal.div (∑ x, -(a x * rs w v) + ∑ x, -((∑ _y : Fin 1, viaVar w v a) * (Ideal.ofBits .f32 1073741824#32 * cen w v x))) (Ideal.ofBits .f32 w)

theorem row1_eq (w : BitVec 32) (v a : Fin n → EReal) (x : Fin n) : row1 w v a x = row' w v a x := by
  unfold row1 row'
  simp only [Finset.univ_unique, Finset.sum_singleton]

theorem word_two : Ideal.ofBits .f32 1073741824#32 = ((2 : ℝ) : EReal) := by
  simp [Ideal.ofBits, Ideal.ieee, -EReal.coe_mul]; norm_num
theorem word_half : Ideal.ofBits .f32 3204448256#32 = ((-(1 / 2) : ℝ) : EReal) := by
  simp [Ideal.ofBits, Ideal.ieee, -EReal.coe_mul]; norm_num
theorem word_eps : ∃ e : ℝ, 0 < e ∧ Ideal.ofBits .f32 925353388#32 = (e : EReal) := by
  refine ⟨10995116 * (2 : ℝ) ^ (-40 : Int), by positivity, ?_⟩
  simp [Ideal.ofBits, Ideal.ieee, -EReal.coe_mul]

theorem div_real {y : ℝ} (hy : y ≠ 0) (x : ℝ) : Ideal.div (x : EReal) (y : EReal) = ((x / y : ℝ) : EReal) := by
  rw [Ideal.div_coe hy, ← EReal.coe_mul, mul_one_div]

section
variable {w : BitVec 32} (hl : Ideal.ofBits .f32 w = ((n : ℝ) : EReal)) (hn : (n : ℝ) ≠ 0) (v a : Fin n → ℝ)

/-- The real numbers that these are on a row of real numbers. -/
def rcen (x : Fin n) : ℝ := v x - (∑ y, v y) / (n : ℝ)
def rvar (e : ℝ) : ℝ := (∑ x, rcen v x * rcen v x) / (n : ℝ) + e

include hl hn in
theorem mean_real : mean w (fun x => (v x : EReal)) = (((∑ x, v x) / (n : ℝ) : ℝ) : EReal) := by
  unfold mean
  rw [Cert.FoxMath.coe_sum, hl, div_real hn]

include hl hn in
theorem cen_real (x : Fin n) : cen w (fun x => (v x : EReal)) x = (rcen v x : EReal) := by
  unfold cen rcen
  rw [mean_real hl hn, ← EReal.coe_sub]

include hn in
theorem sum_rcen : ∑ x, rcen v x = 0 := by
  unfold rcen
  rw [Finset.sum_sub_distrib, Finset.sum_const, Finset.card_univ, Fintype.card_fin]
  simp only [nsmul_eq_mul]
  rw [mul_div_cancel₀ _ hn, sub_self]

variable {e : ℝ} (he : 0 < e) (hw : Ideal.ofBits .f32 925353388#32 = (e : EReal))

include he in
theorem rvar_pos : 0 < rvar v e :=
  add_pos_of_nonneg_of_pos (div_nonneg (Finset.sum_nonneg fun x _ => mul_self_nonneg _) (Nat.cast_nonneg n)) he

include hl hn hw in
theorem var_real : var w (fun x => (v x : EReal)) = (rvar v e : EReal) := by
  unfold var rvar
  simp only [cen_real hl hn, ← EReal.coe_mul]
  rw [mean_real hl hn, hw, ← EReal.coe_add]

include hl hn he hw in
theorem rs_real : rs w (fun x => (v x : EReal)) = (((Real.sqrt (rvar v e))⁻¹ : ℝ) : EReal) := by
  have h := rvar_pos v he
  unfold rs
  rw [var_real hl hn v hw, Ideal.rsqrt_coe, if_neg (not_lt.mpr h.le), if_neg h.ne']

include hl hn in
/-- On real numbers both forms are the same. -/
theorem row_eq (x : Fin n) : row' w (fun x => (v x : EReal)) (fun x => (a x : EReal)) x = row w (fun x => (v x : EReal)) (fun x => (a x : EReal)) x := by
  obtain ⟨e, he, hw⟩ := word_eps
  have hp := rvar_pos v he
  have hr := rs_real hl hn v he hw
  have hv := var_real hl hn v hw
  have hs := sum_rcen hn v
  have hq : (Real.sqrt (rvar v e))⁻¹ * (Real.sqrt (rvar v e))⁻¹ * rvar v e = 1 := by
    rw [← mul_inv, Real.mul_self_sqrt hp.le, inv_mul_cancel₀ hp.ne']
  generalize (Real.sqrt (rvar v e))⁻¹ = r at hr hq
  generalize rvar v e = u at hp hv hq
  unfold row row' viaVar hat
  rw [hr, hv]
  simp only [cen_real hl hn, mean_real hl hn, hl, word_two, word_half, ← EReal.coe_mul, div_real hp.ne', Cert.FoxMath.coe_sum,
    div_real hn, ← EReal.coe_neg, ← EReal.coe_add, ← EReal.coe_sub]
  refine congrArg _ ?_
  generalize hD : (∑ x, rcen v x * a x) * (-(1 / 2) * (r / u)) / (n : ℝ) = D
  have h1 : ∑ x, -(D * (2 * rcen v x)) = 0 := by
    rw [Finset.sum_neg_distrib, ← Finset.mul_sum, ← Finset.mul_sum, hs]; ring
  have h2 : ∑ x, -(a x * r) = -((∑ x, a x) * r) := by rw [Finset.sum_neg_distrib, Finset.sum_mul]
  have h3 : ∑ y, a y * (rcen v y * r) = (∑ x, rcen v x * a x) * r := by
    rw [Finset.sum_mul]; exact Finset.sum_congr rfl fun _ _ => by ring
  have h4 : r / u = r * r * r := by
    rw [div_eq_iff hp.ne']; linear_combination (-r) * hq
  rw [h1, h2, h3, ← hD, h4]
  ring

end

end Cert.Norm

end
-- ==== Proof.M.LnBwd.lean ====
/- The gradient of the layer norm: what the kernel's four results hold, and that the reference holds the same. -/
module

public import proofs.«01_k».proof.Proof.Gen.Kernel16Ideal.Value
public import proofs.«01_k».proof.Proof.Gen.Reference16Ideal.Run
public import proofs.«01_k».proof.Proof.Gen.Pre_finite_ln
public import proofs.«01_k».proof.Proof.M.Norm
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Norm

open Idealize.ShloMosaic

/-- The word of a row's length. -/
abbrev w2048 : BitVec 32 := 1157627904#32

theorem word_2048 : Ideal.ofBits .f32 w2048 = (((2048 : ℕ) : ℝ) : EReal) := by
  simp [w2048, Ideal.ofBits, Ideal.ieee, -EReal.coe_mul]; norm_num

end Cert.Norm

namespace Cert.Norm

open Idealize.ShloMosaic Idealize.ShloMosaic.TcCoe Cert.Pre_finite_ln

variable [Cert.Pre_finite_ln.Facts]
  {z : (⟨S8192x2048, .f32⟩ : BufTy).Contents (Elt Ideal)} {g : (⟨S2048, .f32⟩ : BufTy).Contents (Elt Ideal)}
  {d : (⟨S8192x2048, .f32⟩ : BufTy).Contents (Elt Ideal)}

/-- The precondition: every element of the three arguments is a real number. -/
theorem all_real (h : Cert.Pre_finite_ln.fn (F := Ideal) z g d = fun _ => 1#1) :
    (∀ x, z x = ((z x : EReal).toReal : EReal)) ∧ (∀ x, g x = ((g x : EReal).toReal : EReal)) ∧ (∀ x, d x = ((d x : EReal).toReal : EReal)) := by
  have h0 := congrFun h ix0
  obtain ⟨h12, h3⟩ := IntOp.andi_eq_one.1 h0
  obtain ⟨h1, h2⟩ := IntOp.andi_eq_one.1 h12
  refine ⟨fun x => ?_, fun x => ?_, fun x => ?_⟩
  · exact Cert.FoxMath.real_of_lt _ (Host.reduce_andi_all _ _ _ _ _ h1 x)
  · exact Cert.FoxMath.real_of_lt _ (Host.reduce_andi_all _ _ _ _ _ h2 x)
  · exact Cert.FoxMath.real_of_lt _ (Host.reduce_andi_all _ _ _ _ _ h3 x)

end Cert.Norm

namespace Cert.Kernel16Ideal.Mlp

open Idealize.ShloMosaic Idealize.ShloMosaic.TcCoe Cert.Kernel16Ideal.Gen Cert.Norm

/-- The gradient through the norm, of one block's row. -/
theorem pay4_read (dy xh : FVec Ideal S256x2048 .f32) (g : FVec Ideal S1x2048 .f32) (r : FVec Ideal S256x1 .f32) (i : Fin 256) (j : Fin 2048) :
    (k0_pay4 (F := Ideal) dy xh g r (ix2 i j) : EReal) = r (ix2 i 0) * (dy (ix2 i j) * g (ix2 0 j)
      - mean w2048 (fun x => dy (ix2 i x) * g (ix2 0 x)) - xh (ix2 i j) * mean w2048 (fun x => dy (ix2 i x) * g (ix2 0 x) * xh (ix2 i x))) := by
  unfold mean
  pointwise [k0_pay4, k0_pay3]

theorem pay5_read (dy xh : FVec Ideal S256x2048 .f32) (g : FVec Ideal S1x2048 .f32) (r : FVec Ideal S256x1 .f32) (i : Fin 256) (j : Fin 2048) :
    (k0_pay5 (F := Ideal) dy xh g r (ix2 i j) : EReal) = r (ix2 i 0) * (dy (ix2 i j) * g (ix2 0 j)
      - mean w2048 (fun x => dy (ix2 i x) * g (ix2 0 x)) - xh (ix2 i j) * mean w2048 (fun x => dy (ix2 i x) * g (ix2 0 x) * xh (ix2 i x))) := by
  unfold mean
  pointwise [k0_pay5, k0_pay4, k0_pay3]

/-- One block's sums of columns, added to what is there. -/
theorem pay1_read (dy xh : FVec Ideal S256x2048 .f32) (s : FVec Ideal S1x2048 .f32) (j : Fin 2048) :
    (k0_pay1 (F := Ideal) (k0_pay8 s) (k0_pay9 dy xh) (ix2 0 j) : EReal) = s (ix2 0 j) + ∑ i : Fin 256, dy (ix2 i j) * xh (ix2 i j) := by
  pointwise [k0_pay1, k0_pay8, k0_pay9, k0_pay3]

theorem pay2_read (dy : FVec Ideal S256x2048 .f32) (s : FVec Ideal S1x2048 .f32) (j : Fin 2048) :
    (k0_pay2 (F := Ideal) dy s (ix2 0 j) : EReal) = s (ix2 0 j) + ∑ i : Fin 256, dy (ix2 i j) := by
  pointwise [k0_pay2]

theorem pay6_read (j : Fin 2048) : (k0_pay6 (F := Ideal) (ix2 0 j) : EReal) = 0 := by
  pointwise [k0_pay6]
theorem pay7_read (j : Fin 2048) : (k0_pay7 (F := Ideal) (ix2 0 j) : EReal) = 0 := by
  pointwise [k0_pay7]

variable (m : (ℓ : Loc nD τ sig) → Buf (Elt Ideal) ℓ) (c : Dev nD)

theorem out_4 (t : Fin cfg0.N) : (outsAt0 m c t.val t.isLt).1 = k0_pay4 (iblk m c 0 t) (iblk m c 1 t) (iblk m c 3 t) (iblk m c 2 t) := by
  by_cases h : t.val % 32 = 0
  · rw [outsAt0_A m c t h]
    frame_out
  · rw [outsAt0_B m c t h]
    frame_out

theorem out_5 (t : Fin cfg0.N) : (outsAt0 m c t.val t.isLt).2.1 = k0_pay5 (iblk m c 0 t) (iblk m c 1 t) (iblk m c 3 t) (iblk m c 2 t) := by
  by_cases h : t.val % 32 = 0
  · rw [outsAt0_A m c t h]
    frame_out
  · rw [outsAt0_B m c t h]
    frame_out

theorem dg_A (t : Fin cfg0.N) (h : t.val % 32 = 0) :
    (outsAt0 m c t.val t.isLt).2.2.1 = k0_pay1 (k0_pay8 (k0_pay6 (F := Ideal))) (k0_pay9 (iblk m c 0 t) (iblk m c 1 t)) := by
  rw [outsAt0_A m c t h]
  frame_out

theorem dg_B (t : Fin cfg0.N) (h : ¬t.val % 32 = 0) :
    (outsAt0 m c t.val t.isLt).2.2.1 = k0_pay1 (k0_pay8 (outsAt0 m c (t.val - 1) (Nat.lt_of_le_of_lt (Nat.sub_le _ _) t.isLt)).2.2.1)
      (k0_pay9 (iblk m c 0 t) (iblk m c 1 t)) := by
  rw [outsAt0_B m c t h]
  frame_out

theorem db_A (t : Fin cfg0.N) (h : t.val % 32 = 0) :
    (outsAt0 m c t.val t.isLt).2.2.2 = k0_pay2 (iblk m c 0 t) (k0_pay7 (F := Ideal)) := by
  rw [outsAt0_A m c t h]
  frame_out

theorem db_B (t : Fin cfg0.N) (h : ¬t.val % 32 = 0) :
    (outsAt0 m c t.val t.isLt).2.2.2 = k0_pay2 (iblk m c 0 t)
      (outsAt0 m c (t.val - 1) (Nat.lt_of_le_of_lt (Nat.sub_le _ _) t.isLt)).2.2.2 := by
  rw [outsAt0_B m c t h]
  frame_out

/-- The arguments. -/
def argZ : FVec Ideal S8192x2048 .f32 := m (c, Proc.tc.devRef main_arg0)
def argG : FVec Ideal S2048 .f32 := m (c, Proc.tc.devRef main_arg1)
def argY : FVec Ideal S8192x2048 .f32 := m (c, Proc.tc.devRef main_arg2)

/-- The launch's blocks at a point, and the two sums after it. -/
def blkY (t : Fin cfg0.N) : FVec Ideal S256x2048 .f32 := iblk m c 0 t
def blkX (t : Fin cfg0.N) : FVec Ideal S256x2048 .f32 := iblk m c 1 t
def blkR (t : Fin cfg0.N) : FVec Ideal S256x1 .f32 := iblk m c 2 t
def blkG (t : Fin cfg0.N) : FVec Ideal S1x2048 .f32 := iblk m c 3 t
def dgAt (n : ℕ) (hn : n < cfg0.N) : FVec Ideal S1x2048 .f32 := (outsAt0 m c n hn).2.2.1
def dbAt (n : ℕ) (hn : n < cfg0.N) : FVec Ideal S1x2048 .f32 := (outsAt0 m c n hn).2.2.2

/-- The arrays that the kernel is launched on. -/
theorem arr_x (i : Fin 8192) (j : Fin 2048) : (V m c main_v17 : FVec Ideal S8192x2048 .f32) (ix2 i j) = hat w2048 (fun x => argZ m c (ix2 i x)) j := by
  unfold argZ V hat rs var cen mean
  after_reads_at
theorem arr_r (i : Fin 8192) : (V m c main_v13 : FVec Ideal S8192x1 .f32) (ix2 i 0) = rs w2048 (fun x => argZ m c (ix2 i x)) := by
  unfold argZ V rs var cen mean
  after_reads_at
theorem arr_g (j : Fin 2048) : (V m c main_v18 : FVec Ideal S1x2048 .f32) (ix2 0 j) = argG m c (ix1 j) := by
  unfold argG V
  after_reads_at

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![0, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![0, 0] := by decide +kernel
theorem idx_7 : ∀ t : Fin grid0.N, win0_7.index t = ![0, 0] := by decide +kernel

theorem lt_N (t : Fin cfg0.N) : t.val < 32 := lt_of_lt_of_eq t.isLt (show cfg0.N = 32 from N_0)

/-- Row `i` of block `n`. -/
def at_ (n : ℕ) (hn : n < 32) (i : Fin 256) : Fin 8192 := ⟨n * 256 + i.val, by omega⟩

theorem blk_y (t : Fin cfg0.N) (i : Fin 256) (j : Fin 2048) : blkY m c t (ix2 i j) = argY m c (ix2 (at_ t.val (lt_N t) i) j) := by
  have h1 : V m c main_arg2 = m (c, Proc.tc.devRef main_arg2) := V_main_arg2 m c
  have hi := idx_0 t
  unfold blkY argY iblk at_
  blk_ext [hi, h1]

theorem blk_x (t : Fin cfg0.N) (i : Fin 256) (j : Fin 2048) :
    blkX m c t (ix2 i j) = hat w2048 (fun x => argZ m c (ix2 (at_ t.val (lt_N t) i) x)) j := by
  refine Eq.trans ?_ (arr_x m c _ _)
  have hi := idx_1 t
  unfold blkX iblk at_
  blk_ext [hi]

theorem blk_r (t : Fin cfg0.N) (i : Fin 256) : blkR m c t (ix2 i 0) = rs w2048 (fun x => argZ m c (ix2 (at_ t.val (lt_N t) i) x)) := by
  refine Eq.trans ?_ (arr_r m c _)
  have hi := idx_2 t
  unfold blkR iblk at_
  blk_ext [hi]

theorem blk_g (t : Fin cfg0.N) (j : Fin 2048) : blkG m c t (ix2 0 j) = argG m c (ix1 j) := by
  refine Eq.trans ?_ (arr_g m c _)
  have hi := idx_3 t
  unfold blkG iblk
  blk_ext [hi]

/-- What the results hold: the gradient of the norm's argument, -/
def dz (z : FVec Ideal S8192x2048 .f32) (g : FVec Ideal S2048 .f32) (dy : FVec Ideal S8192x2048 .f32) : FVec Ideal S8192x2048 .f32 := fun y =>
  row w2048 (fun x => z (ix2 (y 0) x)) (fun x => dy (ix2 (y 0) x) * g (ix1 x)) (y 1)

/-- the same rounded to bfloat16, which changes nothing over the reals, -/
def dzb (z : FVec Ideal S8192x2048 .f32) (g : FVec Ideal S2048 .f32) (dy : FVec Ideal S8192x2048 .f32) : FVec Ideal S8192x2048 .bf16 := fun y =>
  row w2048 (fun x => z (ix2 (y 0) x)) (fun x => dy (ix2 (y 0) x) * g (ix1 x)) (y 1)

/-- the gradient of the norm's scale, -/
def dg (z dy : FVec Ideal S8192x2048 .f32) : FVec Ideal S1x2048 .f32 := fun y =>
  ∑ i : Fin 8192, dy (ix2 i (y 1)) * hat w2048 (fun x => z (ix2 i x)) (y 1)

/-- and that of its shift. -/
def db (dy : FVec Ideal S8192x2048 .f32) : FVec Ideal S1x2048 .f32 := fun y => ∑ i : Fin 8192, dy (ix2 i (y 1))

/-- The gradient of a block's row from the launch's blocks is that of the arguments' row. -/
theorem block_row (t : Fin cfg0.N) (i : Fin 256) (j : Fin 2048) :
    blkR m c t (ix2 i 0) * (blkY m c t (ix2 i j) * blkG m c t (ix2 0 j)
      - mean w2048 (fun x => blkY m c t (ix2 i x) * blkG m c t (ix2 0 x))
      - blkX m c t (ix2 i j) * mean w2048 (fun x => blkY m c t (ix2 i x) * blkG m c t (ix2 0 x) * blkX m c t (ix2 i x)))
      = dz (argZ m c) (argG m c) (argY m c) (ix2 (at_ t.val (lt_N t) i) j) := by
  simp only [blk_r, blk_y, blk_g, blk_x]
  rfl

theorem out_dz : ((dats m 0 c).arrAt 4 (cfgs 0).N : S8192x2048.Idx → EReal) = dz (argZ m c) (argG m c) (argY m c) := by
  refine (dats m 0 c).arrAt_eq_of_covers 4 _ (by decide +kernel) fun t hf y => ?_
  have hi := idx_4 t
  obtain ⟨a, b, rfl⟩ : ∃ (a : Fin 256) (b : Fin 2048), y = ix2 a b := ⟨y 0, y 1, eq_ix2 y⟩
  rw [after0_4, out_4 m c t]
  refine (pay4_read (blkY m c t) (blkX m c t) (blkG m c t) (blkR m c t) a b).trans ((block_row m c t a b).trans (congrArg (dz _ _ _) ?_))
  unfold at_
  blk_ext [hi]

theorem out_dzb : ((dats m 0 c).arrAt 5 (cfgs 0).N : S8192x2048.Idx → EReal) = dzb (argZ m c) (argG m c) (argY m c) := by
  refine (dats m 0 c).arrAt_eq_of_covers 5 _ (by decide +kernel) fun t hf y => ?_
  have hi := idx_5 t
  obtain ⟨a, b, rfl⟩ : ∃ (a : Fin 256) (b : Fin 2048), y = ix2 a b := ⟨y 0, y 1, eq_ix2 y⟩
  rw [after0_5, out_5 m c t]
  refine (pay5_read (blkY m c t) (blkX m c t) (blkG m c t) (blkR m c t) a b).trans ((block_row m c t a b).trans (congrArg (dzb _ _ _) ?_))
  unfold at_
  blk_ext [hi]

/-- What one block adds to the two sums. -/
def partG (z dy : FVec Ideal S8192x2048 .f32) (n : ℕ) (hn : n < 32) (j : Fin 2048) : EReal :=
  ∑ i : Fin 256, dy (ix2 (at_ n hn i) j) * hat w2048 (fun x => z (ix2 (at_ n hn i) x)) j
def partB (dy : FVec Ideal S8192x2048 .f32) (n : ℕ) (hn : n < 32) (j : Fin 2048) : EReal :=
  ∑ i : Fin 256, dy (ix2 (at_ n hn i) j)

theorem dgAt_A (t : Fin cfg0.N) (h : t.val % 32 = 0) (j : Fin 2048) :
    dgAt m c t.val t.isLt (ix2 0 j) = 0 + partG (argZ m c) (argY m c) t.val (lt_N t) j := by
  refine (congrFun (dg_A m c t h) (ix2 0 j)).trans ((pay1_read (blkY m c t) (blkX m c t) _ j).trans ?_)
  rw [pay6_read]
  simp only [blk_y, blk_x, partG]

theorem dgAt_B (t : Fin cfg0.N) (h : ¬t.val % 32 = 0) (j : Fin 2048) :
    dgAt m c t.val t.isLt (ix2 0 j) = dgAt m c (t.val - 1) (Nat.lt_of_le_of_lt (Nat.sub_le _ _) t.isLt) (ix2 0 j)
      + partG (argZ m c) (argY m c) t.val (lt_N t) j := by
  refine (congrFun (dg_B m c t h) (ix2 0 j)).trans ((pay1_read (blkY m c t) (blkX m c t) _ j).trans ?_)
  simp only [blk_y, blk_x, partG]
  rfl

theorem dbAt_A (t : Fin cfg0.N) (h : t.val % 32 = 0) (j : Fin 2048) :
    dbAt m c t.val t.isLt (ix2 0 j) = 0 + partB (argY m c) t.val (lt_N t) j := by
  refine (congrFun (db_A m c t h) (ix2 0 j)).trans ((pay2_read (blkY m c t) _ j).trans ?_)
  rw [pay7_read]
  simp only [blk_y, partB]

theorem dbAt_B (t : Fin cfg0.N) (h : ¬t.val % 32 = 0) (j : Fin 2048) :
    dbAt m c t.val t.isLt (ix2 0 j) = dbAt m c (t.val - 1) (Nat.lt_of_le_of_lt (Nat.sub_le _ _) t.isLt) (ix2 0 j)
      + partB (argY m c) t.val (lt_N t) j := by
  refine (congrFun (db_B m c t h) (ix2 0 j)).trans ((pay2_read (blkY m c t) _ j).trans ?_)
  simp only [blk_y, partB]
  rfl

theorem partG_sum (z dy : FVec Ideal S8192x2048 .f32) (j : Fin 2048) :
    ∑ u : Fin 32, partG z dy u.val u.isLt j = dg z dy (ix2 0 j) :=
  Fin.sum_mul_add_congr fun _ _ _ => rfl

theorem partB_sum (dy : FVec Ideal S8192x2048 .f32) (j : Fin 2048) :
    ∑ u : Fin 32, partB dy u.val u.isLt j = db dy (ix2 0 j) :=
  Fin.sum_mul_add_congr fun _ _ _ => rfl

/-- After the last block the sums are those over all rows. -/
theorem dg_all (t : Fin cfg0.N) (h : t.val % 32 = 31) (j : Fin 2048) : dgAt m c t.val t.isLt (ix2 0 j) = dg (argZ m c) (argY m c) (ix2 0 j) := by
  have ht : t.val / 32 = 0 := by have := lt_N t; omega
  refine (Pipeline.eq_sum_fin_of_reset_step_apply_of_flush (M := EReal)
    (fun n hn (j : Fin 2048) => dgAt m c n hn (ix2 0 j)) 32 (fun _ => 0)
    (fun u j => partG (argZ m c) (argY m c) u.val (lt_N u) j) (fun u hu j => dgAt_A m c u hu j) (fun u hu j => dgAt_B m c u hu j) t h j).trans
    ((zero_add _).trans (Eq.trans ?_ (partG_sum _ _ j)))
  refine Finset.sum_congr rfl fun u _ => ?_
  congr 1
  simp only [ht, Nat.mul_zero, Nat.zero_add]

theorem db_all (t : Fin cfg0.N) (h : t.val % 32 = 31) (j : Fin 2048) : dbAt m c t.val t.isLt (ix2 0 j) = db (argY m c) (ix2 0 j) := by
  have ht : t.val / 32 = 0 := by have := lt_N t; omega
  refine (Pipeline.eq_sum_fin_of_reset_step_apply_of_flush (M := EReal)
    (fun n hn (j : Fin 2048) => dbAt m c n hn (ix2 0 j)) 32 (fun _ => 0)
    (fun u j => partB (argY m c) u.val (lt_N u) j) (fun u hu j => dbAt_A m c u hu j) (fun u hu j => dbAt_B m c u hu j) t h j).trans
    ((zero_add _).trans (Eq.trans ?_ (partB_sum _ j)))
  refine Finset.sum_congr rfl fun u _ => ?_
  congr 1
  simp only [ht, Nat.mul_zero, Nat.zero_add]

theorem out_dg : ((dats m 0 c).arrAt 6 (cfgs 0).N : S1x2048.Idx → EReal) = dg (argZ m c) (argY m c) := by
  refine (dats m 0 c).arrAt_eq_of_covers 6 _ (by decide +kernel) fun t hf y => ?_
  have h3 : t.val % 32 = 31 := (flush0_6 t).mp hf
  have hi := idx_6 t
  obtain ⟨a, b, rfl⟩ : ∃ (a : Fin 1) (b : Fin 2048), y = ix2 a b := ⟨y 0, y 1, eq_ix2 y⟩
  obtain rfl : a = 0 := Subsingleton.elim _ _
  rw [after0_6]
  refine (dg_all m c t h3 b).trans (congrArg (dg _ _) ?_)
  blk_ext [hi]

theorem out_db : ((dats m 0 c).arrAt 7 (cfgs 0).N : S1x2048.Idx → EReal) = db (argY m c) := by
  refine (dats m 0 c).arrAt_eq_of_covers 7 _ (by decide +kernel) fun t hf y => ?_
  have h3 : t.val % 32 = 31 := (flush0_7 t).mp hf
  have hi := idx_7 t
  obtain ⟨a, b, rfl⟩ : ∃ (a : Fin 1) (b : Fin 2048), y = ix2 a b := ⟨y 0, y 1, eq_ix2 y⟩
  obtain rfl : a = 0 := Subsingleton.elim _ _
  rw [after0_7]
  refine (db_all m c t h3 b).trans (congrArg (db _) ?_)
  blk_ext [hi]

end Cert.Kernel16Ideal.Mlp

namespace Cert.Reference16Ideal.Mlp

open Idealize.ShloMosaic Idealize.ShloMosaic.TcCoe Cert.Reference16Ideal.Gen Cert.Norm

section
variable (z dy : FVec Ideal S8192x2048 .f32) (g : FVec Ideal S2048 .f32)

/-- The reference's expression, at an entry; its means are sums of one term each. -/
theorem ref_row (i : Fin 8192) (j : Fin 2048) :
    ((addf (addf (mulf (mulf (shapeCast _ dy shapeCasts_S8192x2048_S8192x2048) (broadcastInDim S8192x2048 ![0, 1] bcast_S1x2048_S8192x2048_0_1 (broadcastInDim S1x2048 ![1] bcast_S2048_S1x2048_1 g))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (mulf (broadcastInDim S8192x2048 ![0] bcast_S8192_S8192x2048_0 (Host.reduceAdd (Host.divf (mulf (shapeCast _ (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (mulf (shapeCast _ dy shapeCasts_S8192x2048_S8192x2048) (broadcastInDim S8192x2048 ![0, 1] bcast_S1x2048_S8192x2048_0_1 (broadcastInDim S1x2048 ![1] bcast_S2048_S1x2048_1 g)))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))) (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x1 ![] bcast_S_S8192x1 (constant S_ .f32 0x45000000#32))) (constant S_ .f32 0x00000000#32) reducesTo_S8192x1_S8192_d1 h_S_)) (mulf (broadcastInDim S8192x2048 ![] bcast_S_S8192x2048 (constant S_ .f32 0x40000000#32)) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))))) (broadcastInDim S8192x2048 ![0] bcast_S8192_S8192x2048_0 (Host.reduceAdd (Host.divf (addf (shapeCast _ (Host.reduceAdd (Host.negf (mulf (mulf (shapeCast _ dy shapeCasts_S8192x2048_S8192x2048) (broadcastInDim S8192x2048 ![0, 1] bcast_S1x2048_S8192x2048_0_1 (broadcastInDim S1x2048 ![1] bcast_S2048_S1x2048_1 g))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))))))) (constant S_ .f32 0x00000000#32) reducesTo_S8192x2048_S8192_d1 h_S_) shapeCasts_S8192_S8192x1) (shapeCast _ (Host.reduceAdd (Host.negf (mulf (broadcastInDim S8192x2048 ![0] bcast_S8192_S8192x2048_0 (Host.reduceAdd (Host.divf (mulf (shapeCast _ (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (mulf (shapeCast _ dy shapeCasts_S8192x2048_S8192x2048) (broadcastInDim S8192x2048 ![0, 1] bcast_S1x2048_S8192x2048_0_1 (broadcastInDim S1x2048 ![1] bcast_S2048_S1x2048_1 g)))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))) (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x1 ![] bcast_S_S8192x1 (constant S_ .f32 0x45000000#32))) (constant S_ .f32 0x00000000#32) reducesTo_S8192x1_S8192_d1 h_S_)) (mulf (broadcastInDim S8192x2048 ![] bcast_S_S8192x2048 (constant S_ .f32 0x40000000#32)) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))))) (constant S_ .f32 0x00000000#32) reducesTo_S8192x2048_S8192_d1 h_S_) shapeCasts_S8192_S8192x1)) (broadcastInDim S8192x1 ![] bcast_S_S8192x1 (constant S_ .f32 0x45000000#32))) (constant S_ .f32 0x00000000#32) reducesTo_S8192x1_S8192_d1 h_S_)) : FVec Ideal S8192x2048 .f32) (ix2 i j) : EReal) = row1 w2048 (fun x => z (ix2 i x)) (fun x => dy (ix2 i x) * g (ix1 x)) j := by
  unfold row1 viaVar rs var cen mean
  pointwise

/-- The reference's first two arrays, on real numbers. -/
theorem ref_dz (hz : ∀ x, z x = ((z x).toReal : EReal)) (hg : ∀ x, g x = ((g x).toReal : EReal)) (hd : ∀ x, dy x = ((dy x).toReal : EReal)) :
    (addf (addf (mulf (mulf (shapeCast _ dy shapeCasts_S8192x2048_S8192x2048) (broadcastInDim S8192x2048 ![0, 1] bcast_S1x2048_S8192x2048_0_1 (broadcastInDim S1x2048 ![1] bcast_S2048_S1x2048_1 g))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (mulf (broadcastInDim S8192x2048 ![0] bcast_S8192_S8192x2048_0 (Host.reduceAdd (Host.divf (mulf (shapeCast _ (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (mulf (shapeCast _ dy shapeCasts_S8192x2048_S8192x2048) (broadcastInDim S8192x2048 ![0, 1] bcast_S1x2048_S8192x2048_0_1 (broadcastInDim S1x2048 ![1] bcast_S2048_S1x2048_1 g)))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))) (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x1 ![] bcast_S_S8192x1 (constant S_ .f32 0x45000000#32))) (constant S_ .f32 0x00000000#32) reducesTo_S8192x1_S8192_d1 h_S_)) (mulf (broadcastInDim S8192x2048 ![] bcast_S_S8192x2048 (constant S_ .f32 0x40000000#32)) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))))) (broadcastInDim S8192x2048 ![0] bcast_S8192_S8192x2048_0 (Host.reduceAdd (Host.divf (addf (shapeCast _ (Host.reduceAdd (Host.negf (mulf (mulf (shapeCast _ dy shapeCasts_S8192x2048_S8192x2048) (broadcastInDim S8192x2048 ![0, 1] bcast_S1x2048_S8192x2048_0_1 (broadcastInDim S1x2048 ![1] bcast_S2048_S1x2048_1 g))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))))))) (constant S_ .f32 0x00000000#32) reducesTo_S8192x2048_S8192_d1 h_S_) shapeCasts_S8192_S8192x1) (shapeCast _ (Host.reduceAdd (Host.negf (mulf (broadcastInDim S8192x2048 ![0] bcast_S8192_S8192x2048_0 (Host.reduceAdd (Host.divf (mulf (shapeCast _ (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (mulf (shapeCast _ dy shapeCasts_S8192x2048_S8192x2048) (broadcastInDim S8192x2048 ![0, 1] bcast_S1x2048_S8192x2048_0_1 (broadcastInDim S1x2048 ![1] bcast_S2048_S1x2048_1 g)))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))) (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x1 ![] bcast_S_S8192x1 (constant S_ .f32 0x45000000#32))) (constant S_ .f32 0x00000000#32) reducesTo_S8192x1_S8192_d1 h_S_)) (mulf (broadcastInDim S8192x2048 ![] bcast_S_S8192x2048 (constant S_ .f32 0x40000000#32)) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))))) (constant S_ .f32 0x00000000#32) reducesTo_S8192x2048_S8192_d1 h_S_) shapeCasts_S8192_S8192x1)) (broadcastInDim S8192x1 ![] bcast_S_S8192x1 (constant S_ .f32 0x45000000#32))) (constant S_ .f32 0x00000000#32) reducesTo_S8192x1_S8192_d1 h_S_)) : FVec Ideal S8192x2048 .f32) = Cert.Kernel16Ideal.Mlp.dz z g dy := by
  funext y
  obtain ⟨i, j, rfl⟩ : ∃ (i : Fin 8192) (j : Fin 2048), y = ix2 i j := ⟨y 0, y 1, eq_ix2 y⟩
  refine (ref_row z dy g i j).trans ((row1_eq _ _ _ _).trans ?_)
  have h1 : (fun x => z (ix2 i x)) = fun x => ((z (ix2 i x)).toReal : EReal) := funext fun x => hz _
  have h2 : (fun x => dy (ix2 i x) * g (ix1 x)) = fun x => (((dy (ix2 i x)).toReal * (g (ix1 x)).toReal : ℝ) : EReal) :=
    funext fun x => (congrArg₂ (· * ·) (hd _) (hg _)).trans (EReal.coe_mul _ _).symm
  refine Eq.trans ?_ (Eq.trans (row_eq word_2048 (by norm_num) (fun x => (z (ix2 i x)).toReal) (fun x => (dy (ix2 i x)).toReal * (g (ix1 x)).toReal) j) ?_)
  · rw [h1, h2]
  · rw [← h1, ← h2]
    rfl

theorem ref_dg : (shapeCast _ (Host.reduceAdd (shapeCast _ (Host.reduceAdd (mulf (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (shapeCast _ dy shapeCasts_S8192x2048_S8192x2048)) (constant S_ .f32 0x00000000#32) reducesTo_S8192x2048_S2048_d0 h_S_) shapeCasts_S2048_S1x2048) (constant S_ .f32 0x00000000#32) reducesTo_S1x2048_S2048_d0 h_S_) shapeCasts_S2048_S1x2048 : FVec Ideal S1x2048 .f32) = Cert.Kernel16Ideal.Mlp.dg z dy := by
  funext y
  obtain ⟨a, b, rfl⟩ : ∃ (a : Fin 1) (b : Fin 2048), y = ix2 a b := ⟨y 0, y 1, eq_ix2 y⟩
  obtain rfl : a = 0 := Subsingleton.elim _ _
  refine Eq.trans (b := ∑ x : Fin 1, ∑ i : Fin 8192, hat w2048 (fun x => z (ix2 i x)) b * dy (ix2 i b)) ?_ ?_
  · unfold hat rs var cen mean
    pointwise
  · simp only [Finset.univ_unique, Finset.sum_singleton]
    exact Finset.sum_congr rfl fun _ _ => mul_comm _ _

theorem ref_db : (shapeCast _ (Host.reduceAdd (shapeCast _ (Host.reduceAdd dy (constant S_ .f32 0x00000000#32) reducesTo_S8192x2048_S2048_d0 h_S_) shapeCasts_S2048_S1x2048) (constant S_ .f32 0x00000000#32) reducesTo_S1x2048_S2048_d0 h_S_) shapeCasts_S2048_S1x2048 : FVec Ideal S1x2048 .f32) = Cert.Kernel16Ideal.Mlp.db dy := by
  funext y
  obtain ⟨a, b, rfl⟩ : ∃ (a : Fin 1) (b : Fin 2048), y = ix2 a b := ⟨y 0, y 1, eq_ix2 y⟩
  obtain rfl : a = 0 := Subsingleton.elim _ _
  refine Eq.trans (b := ∑ x : Fin 1, ∑ i : Fin 8192, dy (ix2 i b)) ?_ ?_
  · pointwise
  · simp only [Finset.univ_unique, Finset.sum_singleton]
    rfl
end

end Cert.Reference16Ideal.Mlp

end
-- ==== Proof.M.FgateBwd.lean ====
/- The gradient through the cumulative sums of the log forget gates: what the kernel's two results hold, and that the reference
   holds the same. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.IdealHost
public import Idealize.ShloMosaic.Lib.StableHlo.ReadAt

@[expose] public section

set_option maxRecDepth 16384

noncomputable section

namespace Cert.Gate

open Idealize.ShloMosaic

/-- The sum of a sequence of 8192 from position `j` on. -/
def suf (f : ℕ → EReal) (j : ℕ) : EReal := ∑ k ∈ Finset.Ico j 8192, f k

/-- The part of a block from its position `j` on. -/
theorem block_from (f : ℕ → EReal) (a n j : ℕ) (hj : j ≤ n) :
    ∑ x : Fin n, (if j ≤ x.val then f (a + x.val) else 0) = ∑ k ∈ Finset.Ico (a + j) (a + n), f k := by
  rw [Fin.sum_univ_eq_sum_range (fun x => if j ≤ x then f (a + x) else 0) n, ← Finset.sum_filter, add_comm a j, add_comm a n,
    ← Finset.sum_Ico_add]
  refine Finset.sum_congr ?_ fun _ _ => rfl
  ext x
  simp only [Finset.mem_filter, Finset.mem_range, Finset.mem_Ico]
  exact and_comm

/-- From position `j` of block `n` on: the block's own part and what follows the block. -/
theorem suf_block (f : ℕ → EReal) (n : ℕ) (hn : n < 16) (j : ℕ) (hj : j ≤ 512) :
    ∑ x : Fin 512, (if j ≤ x.val then f (n * 512 + x.val) else 0) + suf f ((n + 1) * 512) = suf f (n * 512 + j) := by
  rw [block_from f (n * 512) 512 j hj, show (n + 1) * 512 = n * 512 + 512 by ring]
  exact Finset.sum_Ico_consecutive f (by omega) (by omega)

theorem suf_end (f : ℕ → EReal) : suf f (16 * 512) = 0 := Finset.sum_eq_zero fun k hk => by
  have := Finset.mem_Ico.1 hk
  omega

/-- The host's window sum from position `j` on. -/
theorem suf_window (f : ℕ → EReal) (j : ℕ) (hj : j ≤ 8192) :
    ∑ w : Fin 8192, (if j + w.val < 8192 then f (j + w.val) else 0) = suf f j := by
  rw [Fin.sum_univ_eq_sum_range (fun w => if j + w < 8192 then f (j + w) else 0) 8192, ← Finset.sum_filter, suf,
    Finset.sum_Ico_eq_sum_range]
  refine Finset.sum_congr ?_ fun _ _ => rfl
  ext x
  simp only [Finset.mem_filter, Finset.mem_range]
  omega

/-- The gate's derivative: the logistic function of `-x`. -/
def gate (x : EReal) : EReal := Ideal.div 1 (1 + Ideal.exp x)

/-- The logarithm of one plus the exponential, as the host computes it. -/
def soft (y : EReal) : EReal := max y 0 + Ideal.log1p (Ideal.exp (-max y (-y)))

theorem log_one : Ideal.log 1 = 0 := by
  show Ideal.log ((1 : ℝ) : EReal) = 0
  refine (if_neg (by norm_num)).trans ?_
  rw [Real.log_one]
  rfl

theorem div_one_one : Ideal.div 1 1 = 1 := by
  unfold Ideal.div
  rw [if_neg one_ne_zero]
  simp

theorem exp_zero : Ideal.exp 0 = 1 := by
  show Ideal.exp ((0 : ℝ) : EReal) = 1
  rw [Ideal.exp_coe, Real.exp_zero]
  rfl

theorem coe_max (a b : ℝ) : max (a : EReal) (b : EReal) = ((max a b : ℝ) : EReal) :=
  (EReal.coe_strictMono.monotone.map_max).symm

theorem soft_real (y : ℝ) : soft y = (Real.log (1 + Real.exp y) : EReal) := by
  have h1 : (max (y : EReal) (-y) : EReal) = ((|y| : ℝ) : EReal) := by
    rw [← EReal.coe_neg, coe_max]; rfl
  have hp : 0 < 1 + Real.exp (-|y|) := by positivity
  have h2 : Ideal.log1p (Real.exp (-|y|) : EReal) = (Real.log (1 + Real.exp (-|y|)) : EReal) := by
    unfold Ideal.log1p
    rw [show (1 : EReal) + (Real.exp (-|y|) : EReal) = ((1 + Real.exp (-|y|) : ℝ) : EReal) by push_cast; rfl]
    exact if_neg (not_le.mpr hp)
  unfold soft
  rw [h1, ← EReal.coe_neg, Ideal.exp_coe, h2, show (0 : EReal) = ((0 : ℝ) : EReal) from rfl, coe_max, ← EReal.coe_add]
  refine congrArg _ ?_
  rcases le_total 0 y with h | h
  · rw [max_eq_left h, abs_of_nonneg h]
    have e : 1 + Real.exp y = Real.exp y * (1 + Real.exp (-y)) := by
      rw [mul_add, ← Real.exp_add, add_neg_cancel, Real.exp_zero]; ring
    rw [e, Real.log_mul (Real.exp_ne_zero _) (by positivity), Real.log_exp]
  · rw [max_eq_right h, abs_of_nonpos h, neg_neg, zero_add]

/-- The exponential of `y` less that, with both infinities left out: the logistic function of `y`. -/
theorem gate_eq (x : EReal) :
    Ideal.exp ((if -x = ⊤ then 0 else -x) - (if soft (-x) = ⊤ then 0 else soft (-x))) = gate x := by
  induction x using EReal.rec with
  | bot =>
    have h : soft (⊤ : EReal) = ⊤ := by
      unfold soft Ideal.log1p
      simp [log_one]
    simp [gate, h, exp_zero, div_one_one]
  | top =>
    have h : soft (⊥ : EReal) = 0 := by
      unfold soft Ideal.log1p
      simp [log_one]
    have h1 : (1 : EReal) + ⊤ = ⊤ := rfl
    simp [gate, h, h1, Ideal.div]
  | coe x =>
    have hp : 0 < 1 + Real.exp (-x) := by positivity
    have hq : (1 + Real.exp x) ≠ 0 := by positivity
    rw [← EReal.coe_neg, if_neg (EReal.coe_ne_top _), soft_real, if_neg (EReal.coe_ne_top _), ← EReal.coe_sub, Ideal.exp_coe,
      Real.exp_sub, Real.exp_log hp, gate, Ideal.exp_coe, show (1 : EReal) + (Real.exp x : EReal) = ((1 + Real.exp x : ℝ) : EReal) by push_cast; rfl,
      Ideal.div_coe hq, one_mul]
    refine congrArg _ ?_
    rw [div_eq_div_iff hp.ne' hq, mul_add, ← Real.exp_add, neg_add_cancel, Real.exp_zero]
    ring

/-- A left fold of additions is a sum. -/
theorem foldl_sum {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

end Cert.Gate

namespace Cert.Kernel17Ideal.Mlp

open Idealize.ShloMosaic Idealize.ShloMosaic.TcCoe Cert.Kernel17Ideal.Gen Cert.Gate

/-- The word of the triangular mask. -/
theorem mask_word (j x : Fin 512) (a : EReal) :
    a * (FloatOps.sitofp (F := Ideal) .f32 (BitVec.setWidth 32 (IntOp.cmpi .sle (BitVec.ofNat 32 j.val) (BitVec.ofNat 32 x.val))) : EReal)
      = if j.val ≤ x.val then a else 0 := by
  have hw : ∀ a : Fin 512, (BitVec.ofNat 32 a.val).toInt = a.val := fun a => by
    rw [BitVec.toInt_eq_toNat_of_lt] <;> rw [BitVec.toNat_ofNat] <;> omega
  have hab : (IntOp.cmpi .sle (BitVec.ofNat 32 j.val) (BitVec.ofNat 32 x.val) : BitVec 1) = BitVec.ofBool (decide (j.val ≤ x.val)) := by
    show (BitVec.ofBool ((BitVec.ofNat 32 j.val).sle (BitVec.ofNat 32 x.val)) : BitVec 1) = _
    rw [BitVec.sle_eq_decide, hw, hw]
    exact congrArg _ (decide_eq_decide.mpr (by omega))
  rw [hab]
  by_cases h : j.val ≤ x.val
  · rw [if_pos h, decide_eq_true h]
    refine Eq.trans (congrArg (a * ·) (?_ : _ = (1 : EReal))) (mul_one a)
    show (((BitVec.setWidth 32 (BitVec.ofBool true)).toInt : ℝ) : EReal) = 1
    rw [show (BitVec.setWidth 32 (BitVec.ofBool true)).toInt = 1 by decide, Int.cast_one]
    rfl
  · rw [if_neg h, decide_eq_false h]
    refine Eq.trans (congrArg (a * ·) (?_ : _ = (0 : EReal))) (mul_zero a)
    show (((BitVec.setWidth 32 (BitVec.ofBool false)).toInt : ℝ) : EReal) = 0
    norm_num

/-- The sums of a block from each position on, with what follows the block. -/
theorem pay3_read (d : FVec Ideal S8x512 .f32) (c : FVec Ideal S8x1 .f32) (i : Fin 8) (j : Fin 512) :
    (k0_pay3 (F := Ideal) d c (ix2 i j) : EReal) = ∑ x : Fin 512, (if j.val ≤ x.val then d (ix2 i x) else 0) + c (ix2 i 0) := by
  simp only [← mask_word]
  pointwise [k0_pay3]

theorem pay5_read (d : FVec Ideal S8x512 .f32) (c : FVec Ideal S8x1 .f32) (x : FVec Ideal S8x512 .f32) (i : Fin 8) (j : Fin 512) :
    (k0_pay5 (F := Ideal) d c x (ix2 i j) : EReal) = k0_pay3 (F := Ideal) d c (ix2 i j) * gate (x (ix2 i j)) := by
  refine Eq.trans (b := k0_pay3 (F := Ideal) d c (ix2 i j) * Ideal.div 1 (1 + Ideal.exp (0 - (0 - x (ix2 i j))))) ?_ ?_
  · pointwise [k0_pay5]
  · rw [zero_sub, zero_sub, neg_neg]
    rfl

theorem pay4_read (d : FVec Ideal S8x512 .f32) (c : FVec Ideal S8x1 .f32) (i : Fin 8) :
    (k0_pay4 (F := Ideal) d c (ix2 i 0) : EReal) = k0_pay3 (F := Ideal) d c (ix2 i 0) := by
  pointwise [k0_pay4]

theorem pay6_read (d : FVec Ideal S8x512 .f32) (c : FVec Ideal S8x1 .f32) (x : FVec Ideal S8x512 .f32) (a : FVec Ideal S8x1 .f32) (i : Fin 8) :
    (k0_pay6 (F := Ideal) d c x a (ix2 i 0) : EReal) = a (ix2 i 0) + ∑ j : Fin 512, k0_pay5 (F := Ideal) d c x (ix2 i j) := by
  pointwise [k0_pay6]

theorem pay1_read (i : Fin 8) : (k0_pay1 (F := Ideal) (ix2 i 0) : EReal) = 0 := by
  pointwise [k0_pay1]
theorem pay2_read (i : Fin 8) : (k0_pay2 (F := Ideal) (ix2 i 0) : EReal) = 0 := by
  pointwise [k0_pay2]

variable (m : (ℓ : Loc nD τ sig) → Buf (Elt Ideal) ℓ) (c : Dev nD)

theorem dl_A (t : Fin cfg0.N) (h : t.val % 16 = 0) :
    (outsAt0 m c t.val t.isLt).1 = k0_pay5 (iblk m c 0 t) (k0_pay1 (F := Ideal)) (iblk m c 1 t) := by
  rw [outsAt0_A m c t h]
  frame_out

theorem dl_B (t : Fin cfg0.N) (h : ¬t.val % 16 = 0) :
    (outsAt0 m c t.val t.isLt).1 = k0_pay5 (iblk m c 0 t)
      (outsAt0 m c (t.val - 1) (Nat.lt_of_le_of_lt (Nat.sub_le _ _) t.isLt)).2.2 (iblk m c 1 t) := by
  rw [outsAt0_B m c t h]
  frame_out
  try simp only [read_unread_whole]

theorem db_A (t : Fin cfg0.N) (h : t.val % 16 = 0) :
    (outsAt0 m c t.val t.isLt).2.1 = k0_pay6 (iblk m c 0 t) (k0_pay1 (F := Ideal)) (iblk m c 1 t) (k0_pay2 (F := Ideal)) := by
  rw [outsAt0_A m c t h]
  frame_out

theorem db_B (t : Fin cfg0.N) (h : ¬t.val % 16 = 0) :
    (outsAt0 m c t.val t.isLt).2.1 = k0_pay6 (iblk m c 0 t)
      (outsAt0 m c (t.val - 1) (Nat.lt_of_le_of_lt (Nat.sub_le _ _) t.isLt)).2.2 (iblk m c 1 t)
      (outsAt0 m c (t.val - 1) (Nat.lt_of_le_of_lt (Nat.sub_le _ _) t.isLt)).2.1 := by
  rw [outsAt0_B m c t h]
  frame_out
  try simp only [read_unread_whole]

theorem car_A (t : Fin cfg0.N) (h : t.val % 16 = 0) :
    (outsAt0 m c t.val t.isLt).2.2 = k0_pay4 (iblk m c 0 t) (k0_pay1 (F := Ideal)) := by
  rw [outsAt0_A m c t h]
  frame_out

theorem car_B (t : Fin cfg0.N) (h : ¬t.val % 16 = 0) :
    (outsAt0 m c t.val t.isLt).2.2 = k0_pay4 (iblk m c 0 t)
      (outsAt0 m c (t.val - 1) (Nat.lt_of_le_of_lt (Nat.sub_le _ _) t.isLt)).2.2 := by
  rw [outsAt0_B m c t h]
  frame_out
  try simp only [read_unread_whole]

/-- The arguments. -/
def argF : FVec Ideal S8192x8 .f32 := m (c, Proc.tc.devRef main_arg0)
def argB : FVec Ideal S8 .f32 := m (c, Proc.tc.devRef main_arg1)
def argD : FVec Ideal S8x8192 .f32 := m (c, Proc.tc.devRef main_arg2)

/-- The launch's blocks at a point, and the gate's sum and the carried sum after it. -/
def blkD (t : Fin cfg0.N) : FVec Ideal S8x512 .f32 := iblk m c 0 t
def blkX (t : Fin cfg0.N) : FVec Ideal S8x512 .f32 := iblk m c 1 t
def dbAt (n : ℕ) (hn : n < cfg0.N) : FVec Ideal S8x1 .f32 := (outsAt0 m c n hn).2.1
def carAt (n : ℕ) (hn : n < cfg0.N) : FVec Ideal S8x1 .f32 := (outsAt0 m c n hn).2.2

theorem arr_x (i : Fin 8) (j : Fin 8192) : (V m c main_v3 : FVec Ideal S8x8192 .f32) (ix2 i j) = argF m c (ix2 j i) + argB m c (ix1 i) := by
  unfold argF argB V
  after_reads_at

theorem idx_0 : ∀ t : Fin grid0.N, win0_0.index t = ![0, 15 - t.val] := by decide +kernel
theorem idx_1 : ∀ t : Fin grid0.N, win0_1.index t = ![0, 15 - t.val] := by decide +kernel
theorem idx_2 : ∀ t : Fin grid0.N, win0_2.index t = ![0, 15 - t.val] := by decide +kernel
theorem idx_3 : ∀ t : Fin grid0.N, win0_3.index t = ![0, 0] := by decide +kernel

theorem lt_N (t : Fin cfg0.N) : t.val < 16 := lt_of_lt_of_eq t.isLt (show cfg0.N = 16 from N_0)

/-- Position `x` of the block of point `n`, the last block first. -/
def pos (n : ℕ) (x : Fin 512) : Fin 8192 := ⟨(15 - n) * 512 + x.val, by omega⟩

theorem blk_d (t : Fin cfg0.N) (i : Fin 8) (x : Fin 512) : blkD m c t (ix2 i x) = argD m c (ix2 i (pos t.val x)) := by
  have h1 : V m c main_arg2 = m (c, Proc.tc.devRef main_arg2) := V_main_arg2 m c
  have hi := idx_0 t
  unfold blkD argD iblk pos
  blk_ext [hi, h1]

theorem blk_x (t : Fin cfg0.N) (i : Fin 8) (x : Fin 512) :
    blkX m c t (ix2 i x) = argF m c (ix2 (pos t.val x) i) + argB m c (ix1 i) := by
  refine Eq.trans ?_ (arr_x m c _ _)
  have hi := idx_1 t
  unfold blkX iblk pos
  blk_ext [hi]

/-- Row `i` of an array as a sequence. -/
def seq (d : FVec Ideal S8x8192 .f32) (i : Fin 8) (k : ℕ) : EReal := if h : k < 8192 then d (ix2 i ⟨k, h⟩) else 0

/-- What the results hold: the incoming gradient summed from each position on, times the gate's derivative there, -/
def dl (f : FVec Ideal S8192x8 .f32) (b : FVec Ideal S8 .f32) (d : FVec Ideal S8x8192 .f32) : FVec Ideal S8x8192 .f32 := fun y =>
  suf (seq d (y 0)) (y 1).val * gate (f (ix2 (y 1) (y 0)) + b (ix1 (y 0)))

/-- and the sum of that over all positions. -/
def db (f : FVec Ideal S8192x8 .f32) (b : FVec Ideal S8 .f32) (d : FVec Ideal S8x8192 .f32) : FVec Ideal S8x1 .f32 := fun y =>
  ∑ j : Fin 8192, dl f b d (ix2 (y 0) j)

/-- A block's sums, when what follows the block is carried. -/
theorem block_suf (t : Fin cfg0.N) (r : FVec Ideal S8x1 .f32) (i : Fin 8) (hr : r (ix2 i 0) = suf (seq (argD m c) i) ((15 - t.val + 1) * 512)) (j : Fin 512) :
    k0_pay3 (F := Ideal) (blkD m c t) r (ix2 i j) = suf (seq (argD m c) i) ((15 - t.val) * 512 + j.val) := by
  rw [pay3_read, hr, ← suf_block _ (15 - t.val) (by omega) j.val (by omega)]
  refine congrArg (· + _) (Finset.sum_congr rfl fun x _ => ?_)
  rw [blk_d]
  refine congrArg (fun a => if j.val ≤ x.val then a else 0) ?_
  unfold seq
  rw [dif_pos (show (15 - t.val) * 512 + x.val < 8192 from (pos t.val x).isLt)]
  rfl

/-- After each point the carried sum is that from the block's first position on. -/
theorem carried (n : ℕ) (hn : n < cfg0.N) (i : Fin 8) : carAt m c n hn (ix2 i 0) = suf (seq (argD m c) i) ((15 - n) * 512) := by
  induction n with
  | zero =>
    refine (congrFun (car_A m c ⟨0, hn⟩ rfl) (ix2 i 0)).trans ((pay4_read (blkD m c ⟨0, hn⟩) _ i).trans ?_)
    exact block_suf m c ⟨0, hn⟩ _ i ((pay1_read i).trans (suf_end _).symm) 0
  | succ n ih =>
    have hlt : n + 1 < 16 := lt_N ⟨n + 1, hn⟩
    refine (congrFun (car_B m c ⟨n + 1, hn⟩ (by dsimp only; omega)) (ix2 i 0)).trans ((pay4_read (blkD m c ⟨n + 1, hn⟩) _ i).trans ?_)
    refine block_suf m c ⟨n + 1, hn⟩ _ i ((ih (Nat.lt_of_succ_lt hn)).trans ?_) 0
    exact congrArg (fun k => suf _ (k * 512)) (by dsimp only; omega)

/-- The gradient at a block's position. -/
theorem block_dl (t : Fin cfg0.N) (r : FVec Ideal S8x1 .f32) (i : Fin 8) (hr : r (ix2 i 0) = suf (seq (argD m c) i) ((15 - t.val + 1) * 512)) (j : Fin 512) :
    k0_pay5 (F := Ideal) (blkD m c t) r (blkX m c t) (ix2 i j) = dl (argF m c) (argB m c) (argD m c) (ix2 i (pos t.val j)) := by
  rw [pay5_read, block_suf m c t r i hr j, blk_x]
  rfl

theorem before (t : Fin cfg0.N) (h : ¬t.val % 16 = 0) (i : Fin 8) :
    carAt m c (t.val - 1) (Nat.lt_of_le_of_lt (Nat.sub_le _ _) t.isLt) (ix2 i 0) = suf (seq (argD m c) i) ((15 - t.val + 1) * 512) :=
  (carried m c _ _ i).trans (congrArg (fun k => suf _ (k * 512)) (by have := lt_N t; omega))

theorem first (t : Fin cfg0.N) (h : t.val % 16 = 0) (i : Fin 8) :
    (k0_pay1 (F := Ideal) (ix2 i 0) : EReal) = suf (seq (argD m c) i) ((15 - t.val + 1) * 512) :=
  (pay1_read i).trans ((suf_end _).symm.trans (congrArg (fun k => suf _ (k * 512)) (by have := lt_N t; omega)))

theorem dl_read (t : Fin cfg0.N) (i : Fin 8) (j : Fin 512) :
    ((outsAt0 m c t.val t.isLt).1 (ix2 i j) : EReal) = dl (argF m c) (argB m c) (argD m c) (ix2 i (pos t.val j)) := by
  by_cases h : t.val % 16 = 0
  · exact (congrFun (dl_A m c t h) (ix2 i j)).trans (block_dl m c t _ i (first m c t h i) j)
  · exact (congrFun (dl_B m c t h) (ix2 i j)).trans (block_dl m c t _ i (before m c t h i) j)

theorem out_dl : ((dats m 0 c).arrAt 2 (cfgs 0).N : S8x8192.Idx → EReal) = dl (argF m c) (argB m c) (argD m c) := by
  refine (dats m 0 c).arrAt_eq_of_covers 2 _ (by decide +kernel) fun t hf y => ?_
  have hi := idx_2 t
  obtain ⟨a, b, rfl⟩ : ∃ (a : Fin 8) (b : Fin 512), y = ix2 a b := ⟨y 0, y 1, eq_ix2 y⟩
  rw [after0_2]
  refine (dl_read m c t a b).trans (congrArg (dl _ _ _) ?_)
  unfold pos
  blk_ext [hi]

/-- What one block adds to the gate's sum. -/
def part (f : FVec Ideal S8192x8 .f32) (b : FVec Ideal S8 .f32) (d : FVec Ideal S8x8192 .f32) (n : ℕ) (i : Fin 8) : EReal :=
  ∑ j : Fin 512, dl f b d (ix2 i (pos n j))

theorem dbAt_A (t : Fin cfg0.N) (h : t.val % 16 = 0) (i : Fin 8) :
    dbAt m c t.val t.isLt (ix2 i 0) = 0 + part (argF m c) (argB m c) (argD m c) t.val i := by
  refine (congrFun (db_A m c t h) (ix2 i 0)).trans ((pay6_read (blkD m c t) _ (blkX m c t) _ i).trans ?_)
  rw [pay2_read]
  exact congrArg (0 + ·) (Finset.sum_congr rfl fun j _ => block_dl m c t _ i (first m c t h i) j)

theorem dbAt_B (t : Fin cfg0.N) (h : ¬t.val % 16 = 0) (i : Fin 8) :
    dbAt m c t.val t.isLt (ix2 i 0) = dbAt m c (t.val - 1) (Nat.lt_of_le_of_lt (Nat.sub_le _ _) t.isLt) (ix2 i 0)
      + part (argF m c) (argB m c) (argD m c) t.val i := by
  refine (congrFun (db_B m c t h) (ix2 i 0)).trans ((pay6_read (blkD m c t) _ (blkX m c t) _ i).trans ?_)
  exact congrArg (_ + ·) (Finset.sum_congr rfl fun j _ => block_dl m c t _ i (before m c t h i) j)

/-- The blocks, the last first, make the whole sum. -/
theorem part_sum (f : FVec Ideal S8192x8 .f32) (b : FVec Ideal S8 .f32) (d : FVec Ideal S8x8192 .f32) (i : Fin 8) :
    ∑ u : Fin 16, part f b d u.val i = db f b d (ix2 i 0) := by
  refine (Equiv.sum_comp Fin.revPerm fun u : Fin 16 => part f b d u.val i).symm.trans ?_
  refine Fin.sum_mul_add_congr fun u x hl => congrArg (fun k => dl f b d (ix2 i k)) (Fin.ext ?_)
  show (15 - (Fin.rev u).val) * 512 + x.val = u.val * 512 + x.val
  rw [Fin.val_rev]
  omega

theorem db_all (t : Fin cfg0.N) (h : t.val % 16 = 15) (i : Fin 8) :
    dbAt m c t.val t.isLt (ix2 i 0) = db (argF m c) (argB m c) (argD m c) (ix2 i 0) := by
  have ht : t.val / 16 = 0 := by have := lt_N t; omega
  refine (Pipeline.eq_sum_fin_of_reset_step_apply_of_flush (M := EReal)
    (fun n hn (i : Fin 8) => dbAt m c n hn (ix2 i 0)) 16 (fun _ => 0)
    (fun u i => part (argF m c) (argB m c) (argD m c) u.val i) (fun u hu i => dbAt_A m c u hu i) (fun u hu i => dbAt_B m c u hu i) t h i).trans
    ((zero_add _).trans (Eq.trans ?_ (part_sum _ _ _ i)))
  refine Finset.sum_congr rfl fun u _ => ?_
  simp only [ht, Nat.mul_zero, Nat.zero_add]

theorem out_db : ((dats m 0 c).arrAt 3 (cfgs 0).N : S8x1.Idx → EReal) = db (argF m c) (argB m c) (argD m c) := by
  refine (dats m 0 c).arrAt_eq_of_covers 3 _ (by decide +kernel) fun t hf y => ?_
  have h3 : t.val % 16 = 15 := (flush0_3 t).mp hf
  have hi := idx_3 t
  obtain ⟨a, b, rfl⟩ : ∃ (a : Fin 8) (b : Fin 1), y = ix2 a b := ⟨y 0, y 1, eq_ix2 y⟩
  obtain rfl : b = 0 := Subsingleton.elim _ _
  rw [after0_3]
  refine (db_all m c t h3 a).trans (congrArg (db _ _ _) ?_)
  blk_ext [hi]

end Cert.Kernel17Ideal.Mlp

namespace Cert.Reference17Ideal.Mlp

open Idealize.ShloMosaic Idealize.ShloMosaic.TcCoe Cert.Reference17Ideal.Gen Cert.Gate Cert.Kernel17Ideal.Mlp

/-- A window sum along the first axis, from each row to the end: the sum over the window's positions that are rows. -/
theorem window_sum {N M K : ℕ} (x : FVec Ideal (⟨2, ![N, M]⟩ : Shape) .f32) (z : FVec Ideal (⟨0, ![]⟩ : Shape) .f32) (hz : ∀ y, z y = (0 : EReal)) (f : ℕ → EReal)
    (i : Fin M) (hf : ∀ k : Fin N, x (ix2 k i) = f k.val)
    (h : (⟨2, ![N, M]⟩ : Shape).ReduceWindows (![N, 1] : Fin 2 → ℕ) ![1, 1] ![0, 0] ![K, 0] (⟨2, ![N, M]⟩ : Shape)) (hu : 0 < (⟨0, ![]⟩ : Shape).numel) (j : Fin N) :
    (Host.reduceWindowAdd (![N, 1] : Fin 2 → ℕ) ![1, 1] ![0, 0] ![K, 0] x z h hu (ix2 j i) : EReal)
      = ∑ w : Fin N, if j.val + w.val < N then f (j.val + w.val) else 0 := by
  unfold Host.reduceWindowAdd
  rw [Ideal.hostReduceWindowAdd_def]
  unfold Ideal.hostReduceWindowAdd Host.reduceWindow
  dsimp only
  rw [hz, foldl_sum, zero_add, ← Fin.sum_univ_def]
  let W : Shape := ⟨2, ![N, 1]⟩
  have hW : ∀ q : W.Idx, q = ix2 (q 0) 0 := fun q => (eq_ix2 q).trans (congrArg (ix2 (q 0)) (Subsingleton.elim _ _))
  refine (Fintype.sum_bijective (fun w : Fin N => W.rowMajor (ix2 w 0))
    ⟨fun a b h => congrFun (W.rowMajor.injective h) 0, fun n => ⟨W.rowMajor.symm n 0, ?_⟩⟩ _ _ fun w => ?_).symm
  · rw [Equiv.apply_eq_iff_eq_symm_apply]
    exact (hW _).symm
  · have e : W.rowMajor.symm (W.rowMajor (ix2 w 0)) = ix2 w 0 := Equiv.symm_apply_apply _ _
    have e0 : (W.rowMajor.symm (W.rowMajor (ix2 w 0)) 0).val = w.val := congrArg (fun q : W.Idx => (q 0).val) e
    have e1 : (W.rowMajor.symm (W.rowMajor (ix2 w 0)) 1).val = 0 := congrArg (fun q : W.Idx => (q 1).val) e
    by_cases hw : j.val + w.val < N
    · rw [if_pos hw, dif_pos ?_]
      · refine (hf ⟨j.val + w.val, hw⟩).symm.trans (congrArg x ?_)
        funext a
        refine Fin.ext ?_
        match a with
        | ⟨0, _⟩ => show j.val + w.val = j.val * 1 + (W.rowMajor.symm (W.rowMajor (ix2 w 0)) 0).val - 0; omega
        | ⟨1, _⟩ => show i.val = i.val * 1 + (W.rowMajor.symm (W.rowMajor (ix2 w 0)) 1).val - 0; omega
      · intro a
        match a with
        | ⟨0, _⟩ => exact ⟨Nat.zero_le _, by show j.val * 1 + (W.rowMajor.symm (W.rowMajor (ix2 w 0)) 0).val - 0 < N; omega⟩
        | ⟨1, _⟩ => exact ⟨Nat.zero_le _, by show i.val * 1 + (W.rowMajor.symm (W.rowMajor (ix2 w 0)) 1).val - 0 < M; omega⟩
    · rw [if_neg hw, dif_neg ?_]
      intro hin
      have h0 : j.val * 1 + (W.rowMajor.symm (W.rowMajor (ix2 w 0)) 0).val - 0 < N := (hin 0).2
      omega

/-- Two sums of the gate's gradient: the reference's window sum, and its derivative of the log-sigmoid. -/
theorem ref_suf (d : FVec Ideal S8x8192 .f32) (z : FVec Ideal S_ .f32) (hz : ∀ y, z y = (0 : EReal)) (h) (hu) (j : Fin 8192) (i : Fin 8) :
    (Host.reduceWindowAdd (t := S8192x8) (![8192, 1] : Fin 2 → ℕ) ![1, 1] ![0, 0] ![8191, 0]
      (transpose S8192x8 [1, 0] d transposes_S8x8192_S8192x8_1_0 : FVec Ideal S8192x8 .f32) z h hu (ix2 j i) : EReal) = suf (seq d i) j.val := by
  refine (window_sum (transpose S8192x8 [1, 0] d transposes_S8x8192_S8192x8_1_0 : FVec Ideal S8192x8 .f32) z hz (seq d i) i (fun k => ?_) h hu j).trans
    (suf_window _ _ (by omega))
  unfold seq
  rw [dif_pos k.isLt]
  pointwise

variable (f : FVec Ideal S8192x8 .f32) (b : FVec Ideal S8 .f32) (d : FVec Ideal S8x8192 .f32)

/-- The reference's expression, at an entry. -/
theorem ref_read (i : Fin 8) (j : Fin 8192) :
    ((transpose S8x8192 [1, 0] (Host.negf (mulf (Host.negf (Host.reduceWindowAdd ![8192, 1] ![1, 1] ![0, 0] ![8191, 0] (transpose S8192x8 [1, 0] d transposes_S8x8192_S8192x8_1_0) (broadcastInDim S_ ![] bcast_S_S_ (constant S_ .f32 0x00000000#32)) reduceWindows_S8192x8_S8192x8_w8192s1p0_8191_w1s1p0_0 h_S_)) (Host.exp (subf (select (cmpf .oeq (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x7F800000#32))) (broadcastInDim S8192x8 ![] bcast_S_S8192x8 (constant S_ .f32 0x00000000#32)) (Host.negf (addf f (broadcastInDim S8192x8 ![0, 1] bcast_S1x8_S8192x8_0_1 (broadcastInDim S1x8 ![1] bcast_S8_S1x8_1 b))))) (select (cmpf .oeq (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))))))))) (broadcastInDim S8192x8 ![] bcast_S_S8192x8 (constant S_ .f32 0x7F800000#32))) (broadcastInDim S8192x8 ![] bcast_S_S8192x8 (constant S_ .f32 0x00000000#32)) (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))))))))))))) transposes_S8192x8_S8x8192_1_0 : FVec Ideal S8x8192 .f32) (ix2 i j) : EReal) = dl f b d (ix2 i j) := by
  have hs := ref_suf d (broadcastInDim S_ ![] bcast_S_S_ (constant S_ .f32 0x00000000#32)) (fun y => by pointwise) reduceWindows_S8192x8_S8192x8_w8192s1p0_8191_w1s1p0_0 h_S_ j i
  have ht : Ideal.ofBits .f32 2139095040#32 = (⊤ : EReal) := by simp [Ideal.ofBits, Ideal.ieee]
  show _ = suf (seq d i) j.val * gate (f (ix2 j i) + b (ix1 i))
  rw [← hs, ← gate_eq]
  refine Eq.trans ?_ (neg_neg _)
  rw [← neg_mul]
  unfold soft
  pointwise
  simp only [ne_eq, not_true_eq_false, if_false, ht]
  rfl

theorem ref_dl : (transpose S8x8192 [1, 0] (Host.negf (mulf (Host.negf (Host.reduceWindowAdd ![8192, 1] ![1, 1] ![0, 0] ![8191, 0] (transpose S8192x8 [1, 0] d transposes_S8x8192_S8192x8_1_0) (broadcastInDim S_ ![] bcast_S_S_ (constant S_ .f32 0x00000000#32)) reduceWindows_S8192x8_S8192x8_w8192s1p0_8191_w1s1p0_0 h_S_)) (Host.exp (subf (select (cmpf .oeq (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x7F800000#32))) (broadcastInDim S8192x8 ![] bcast_S_S8192x8 (constant S_ .f32 0x00000000#32)) (Host.negf (addf f (broadcastInDim S8192x8 ![0, 1] bcast_S1x8_S8192x8_0_1 (broadcastInDim S1x8 ![1] bcast_S8_S1x8_1 b))))) (select (cmpf .oeq (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))))))))) (broadcastInDim S8192x8 ![] bcast_S_S8192x8 (constant S_ .f32 0x7F800000#32))) (broadcastInDim S8192x8 ![] bcast_S_S8192x8 (constant S_ .f32 0x00000000#32)) (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))))))))))))) transposes_S8192x8_S8x8192_1_0 : FVec Ideal S8x8192 .f32) = dl f b d := by
  funext y
  obtain ⟨i, j, rfl⟩ : ∃ (i : Fin 8) (j : Fin 8192), y = ix2 i j := ⟨y 0, y 1, eq_ix2 y⟩
  exact ref_read f b d i j

/-- The reference's second array is the sum of its first. -/
theorem ref_db : (shapeCast _ (Host.reduceAdd (shapeCast _ (Host.reduceAdd (Host.negf (mulf (Host.negf (Host.reduceWindowAdd ![8192, 1] ![1, 1] ![0, 0] ![8191, 0] (transpose S8192x8 [1, 0] d transposes_S8x8192_S8192x8_1_0) (broadcastInDim S_ ![] bcast_S_S_ (constant S_ .f32 0x00000000#32)) reduceWindows_S8192x8_S8192x8_w8192s1p0_8191_w1s1p0_0 h_S_)) (Host.exp (subf (select (cmpf .oeq (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x7F800000#32))) (broadcastInDim S8192x8 ![] bcast_S_S8192x8 (constant S_ .f32 0x00000000#32)) (Host.negf (addf f (broadcastInDim S8192x8 ![0, 1] bcast_S1x8_S8192x8_0_1 (broadcastInDim S1x8 ![1] bcast_S8_S1x8_1 b))))) (select (cmpf .oeq (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))))))))) (broadcastInDim S8192x8 ![] bcast_S_S8192x8 (constant S_ .f32 0x7F800000#32))) (broadcastInDim S8192x8 ![] bcast_S_S8192x8 (constant S_ .f32 0x00000000#32)) (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))))))))))))) (constant S_ .f32 0x00000000#32) reducesTo_S8192x8_S8_d0 h_S_) shapeCasts_S8_S1x8) (constant S_ .f32 0x00000000#32) reducesTo_S1x8_S8_d0 h_S_) shapeCasts_S8_S8x1 : FVec Ideal S8x1 .f32) = db f b d := by
  funext y
  obtain ⟨i, j, rfl⟩ : ∃ (i : Fin 8) (j : Fin 1), y = ix2 i j := ⟨y 0, y 1, eq_ix2 y⟩
  obtain rfl : j = 0 := Subsingleton.elim _ _
  refine Eq.trans (b := ∑ x : Fin 1, ∑ j : Fin 8192, ((transpose S8x8192 [1, 0] (Host.negf (mulf (Host.negf (Host.reduceWindowAdd ![8192, 1] ![1, 1] ![0, 0] ![8191, 0] (transpose S8192x8 [1, 0] d transposes_S8x8192_S8192x8_1_0) (broadcastInDim S_ ![] bcast_S_S_ (constant S_ .f32 0x00000000#32)) reduceWindows_S8192x8_S8192x8_w8192s1p0_8191_w1s1p0_0 h_S_)) (Host.exp (subf (select (cmpf .oeq (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x7F800000#32))) (broadcastInDim S8192x8 ![] bcast_S_S8192x8 (constant S_ .f32 0x00000000#32)) (Host.negf (addf f (broadcastInDim S8192x8 ![0, 1] bcast_S1x8_S8192x8_0_1 (broadcastInDim S1x8 ![1] bcast_S8_S1x8_1 b))))) (select (cmpf .oeq (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))))))))) (broadcastInDim S8192x8 ![] bcast_S_S8192x8 (constant S_ .f32 0x7F800000#32))) (broadcastInDim S8192x8 ![] bcast_S_S8192x8 (constant S_ .f32 0x00000000#32)) (select (cmpf .une (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))) (addf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (addf (maximumf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32))) (Host.log1p (Host.exp (Host.negf (Host.absf (subf (Host.negf (addf f (broadcastInDim S8192x8 ![0, 1] bcast_S1x8_S8192x8_0_1 (broadcastInDim S1x8 ![1] bcast_S8_S1x8_1 b)))) (broadcastInDim S8192x8 ![] bcast_S_S8192x8 (constant S_ .f32 0x00000000#32)))))))))))))) transposes_S8192x8_S8x8192_1_0 : FVec Ideal S8x8192 .f32) (ix2 i j) : EReal)) ?_ ?_
  · pointwise
  · simp only [Finset.univ_unique, Finset.sum_singleton]
    exact Finset.sum_congr rfl fun j _ => ref_read f b d i j

end Cert.Reference17Ideal.Mlp

end
-- ==== Proof.M.ConvNorm.lean ====
/- The gradient of the convolution's norm and activation: what the kernel's four results hold, and that the reference holds the same. -/
module

public import proofs.«01_k».proof.Proof.Gen.Kernel18Ideal.Value
public import proofs.«01_k».proof.Proof.Gen.Reference18Ideal.Read
public import proofs.«01_k».proof.Proof.Gen.Pre_finite_conv
public import proofs.«01_k».proof.Proof.M.Norm
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Norm

open Idealize.ShloMosaic

/-- The word of a row's length. -/
abbrev w1024 : BitVec 32 := 1149239296#32

theorem word_1024 : Ideal.ofBits .f32 w1024 = (((1024 : ℕ) : ℝ) : EReal) := by
  simp [w1024, Ideal.ofBits, Ideal.ieee, -EReal.coe_mul]; norm_num

/-- On real numbers the norm of a row is a row of real numbers. -/
theorem hat_real (v : Fin 1024 → ℝ) (x : Fin 1024) : ∃ r : ℝ, hat w1024 (fun x => (v x : EReal)) x = (r : EReal) := by
  obtain ⟨e, he, hw⟩ := word_eps
  exact ⟨rcen v x * (Real.sqrt (rvar v e))⁻¹, by
    unfold hat
    rw [cen_real word_1024 (by norm_num), rs_real word_1024 (by norm_num) v he hw, ← EReal.coe_mul]⟩

/-- The activation's gradient as the kernel computes it: `n` is the activation's argument and `a` the gradient of its value. -/
def silu (n a : EReal) : EReal :=
  a * Ideal.div 1 (1 + Ideal.exp (0 - n)) * (1 + n * (1 - Ideal.div 1 (1 + Ideal.exp (0 - n))))

/-- The same as the reference computes it. -/
def silu' (n a : EReal) : EReal :=
  a * Ideal.div 1 (1 + Ideal.exp (-n)) + n * a * (Ideal.div 1 (1 + Ideal.exp (-n)) * (1 - Ideal.div 1 (1 + Ideal.exp (-n))))

theorem logistic_real (n : ℝ) : Ideal.div 1 (1 + Ideal.exp (-(n : EReal))) = (((1 + Real.exp (-n))⁻¹ : ℝ) : EReal) := by
  have hq : 1 + Real.exp (-n) ≠ 0 := by positivity
  rw [← EReal.coe_neg, Ideal.exp_coe, show (1 : EReal) + (Real.exp (-n) : EReal) = ((1 + Real.exp (-n) : ℝ) : EReal) by push_cast; rfl,
    Ideal.div_coe hq, one_mul, one_div]

/-- On real numbers both forms are the same real number. -/
theorem silu_real (n a : ℝ) : ∃ r : ℝ, silu n a = (r : EReal) ∧ silu' n a = (r : EReal) := by
  have h := logistic_real n
  have h1 : (1 : EReal) = ((1 : ℝ) : EReal) := rfl
  generalize (1 + Real.exp (-n))⁻¹ = s at h
  refine ⟨a * s * (1 + n * (1 - s)), ?_, ?_⟩
  · unfold silu
    rw [zero_sub, h]
    rw [h1, ← EReal.coe_sub, ← EReal.coe_mul, ← EReal.coe_mul, ← EReal.coe_add, ← EReal.coe_mul]
  · unfold silu'
    rw [h]
    rw [h1, ← EReal.coe_sub, ← EReal.coe_mul, ← EReal.coe_mul, ← EReal.coe_mul, ← EReal.coe_mul, ← EReal.coe_add]
    exact congrArg _ (by ring)

end Cert.Norm

namespace Cert.Kernel18Ideal.Mlp

open Idealize.ShloMosaic Idealize.ShloMosaic.TcCoe Cert.Kernel18Ideal.Gen Cert.Norm

/-- What one block computes: its rows normalised, -/
theorem pay4_read (x : FVec Ideal S512x1024 .f32) (i : Fin 512) (j : Fin 1024) :
    (k0_pay4 (F := Ideal) x (ix2 i j) : EReal) = hat w1024 (fun y => x (ix2 i y)) j := by
  unfold hat rs var cen mean
  pointwise [k0_pay4, k0_pay3, k0_pay2]

/-- their reciprocal standard deviations, -/
theorem pay3_read (x : FVec Ideal S512x1024 .f32) (i : Fin 512) :
    (k0_pay3 (F := Ideal) x (ix2 i 0) : EReal) = rs w1024 (fun y => x (ix2 i y)) := by
  unfold rs var cen mean
  pointwise [k0_pay3, k0_pay2]

/-- the gradient of the norm's result, -/
theorem pay5_read (x d : FVec Ideal S512x1024 .f32) (g b : FVec Ideal S1x1024 .f32) (i : Fin 512) (j : Fin 1024) :
    (k0_pay5 (F := Ideal) x g b d (ix2 i j) : EReal) = silu (hat w1024 (fun y => x (ix2 i y)) j * g (ix2 0 j) + b (ix2 0 j)) (d (ix2 i j)) := by
  rw [← pay4_read]
  unfold silu
  pointwise [k0_pay5]

/-- the gradient of the norm's argument, -/
theorem pay6_read (r : FVec Ideal S512x1 .f32) (xh dn : FVec Ideal S512x1024 .f32) (g : FVec Ideal S1x1024 .f32) (i : Fin 512) (j : Fin 1024) :
    (k0_pay6 (F := Ideal) r xh dn g (ix2 i j) : EReal) = r (ix2 i 0) * (dn (ix2 i j) * g (ix2 0 j)
      - mean w1024 (fun x => dn (ix2 i x) * g (ix2 0 x)) - xh (ix2 i j) * mean w1024 (fun x => dn (ix2 i x) * g (ix2 0 x) * xh (ix2 i x))) := by
  unfold mean
  pointwise [k0_pay6]

/-- and the sums of columns, added to what is there. -/
theorem pay10_read (xh dn : FVec Ideal S512x1024 .f32) (s : FVec Ideal S1x1024 .f32) (j : Fin 1024) :
    (k0_pay10 (F := Ideal) xh dn s (ix2 0 j) : EReal) = s (ix2 0 j) + ∑ i : Fin 512, dn (ix2 i j) * xh (ix2 i j) := by
  pointwise [k0_pay10]
theorem pay11_read (dn : FVec Ideal S512x1024 .f32) (s : FVec Ideal S1x1024 .f32) (j : Fin 1024) :
    (k0_pay11 (F := Ideal) dn s (ix2 0 j) : EReal) = s (ix2 0 j) + ∑ i : Fin 512, dn (ix2 i j) := by
  pointwise [k0_pay11]
theorem pay1_read (dh : FVec Ideal S512x1024 .f32) (s : FVec Ideal S1x1024 .f32) (j : Fin 1024) :
    (k0_pay1 (F := Ideal) dh s (ix2 0 j) : EReal) = s (ix2 0 j) + ∑ i : Fin 512, dh (ix2 i j) := by
  pointwise [k0_pay1]
theorem pay7_read (j : Fin 1024) : (k0_pay7 (F := Ideal) (ix2 0 j) : EReal) = 0 := by
  pointwise [k0_pay7]
theorem pay8_read (j : Fin 1024) : (k0_pay8 (F := Ideal) (ix2 0 j) : EReal) = 0 := by
  pointwise [k0_pay8]
theorem pay9_read (j : Fin 1024) : (k0_pay9 (F := Ideal) (ix2 0 j) : EReal) = 0 := by
  pointwise [k0_pay9]

variable (m : (ℓ : Loc nD τ sig) → Buf (Elt Ideal) ℓ) (c : Dev nD)

/-- The launch's blocks at a point, and the three sums after it. -/
def blkD (t : Fin cfg0.N) : FVec Ideal S512x1024 .f32 := iblk m c 0 t
def blkX (t : Fin cfg0.N) : FVec Ideal S512x1024 .f32 := iblk m c 1 t
def blkG (t : Fin cfg0.N) : FVec Ideal S1x1024 .f32 := iblk m c 2 t
def blkB (t : Fin cfg0.N) : FVec Ideal S1x1024 .f32 := iblk m c 3 t
def dgAt (n : ℕ) (hn : n < cfg0.N) : FVec Ideal S1x1024 .f32 := (outsAt0 m c n hn).2.1
def dbAt (n : ℕ) (hn : n < cfg0.N) : FVec Ideal S1x1024 .f32 := (outsAt0 m c n hn).2.2.1
def dcAt (n : ℕ) (hn : n < cfg0.N) : FVec Ideal S1x1024 .f32 := (outsAt0 m c n hn).2.2.2

/-- The gradients of the norm's result and of its argument, of one block. -/
def dnAt (t : Fin cfg0.N) : FVec Ideal S512x1024 .f32 := k0_pay5 (blkX m c t) (blkG m c t) (blkB m c t) (blkD m c t)
def dhAt (t : Fin cfg0.N) : FVec Ideal S512x1024 .f32 := k0_pay6 (k0_pay3 (blkX m c t)) (k0_pay4 (blkX m c t)) (dnAt m c t) (blkG m c t)

theorem out_4 (t : Fin cfg0.N) : (outsAt0 m c t.val t.isLt).1 = dhAt m c t := by
  by_cases h : t.val % 16 = 0
  · rw [outsAt0_A m c t h]
    unfold dhAt dnAt blkD blkX blkG blkB
    frame_out
  · rw [outsAt0_B m c t h]
    unfold dhAt dnAt blkD blkX blkG blkB
    frame_out

theorem dg_A (t : Fin cfg0.N) (h : t.val % 16 = 0) : dgAt m c t.val t.isLt = k0_pay10 (k0_pay4 (blkX m c t)) (dnAt m c t) (k0_pay7 (F := Ideal)) := by
  unfold dgAt
  rw [outsAt0_A m c t h]
  unfold dnAt blkD blkX blkG blkB
  frame_out

theorem dg_B (t : Fin cfg0.N) (h : ¬t.val % 16 = 0) :
    dgAt m c t.val t.isLt = k0_pay10 (k0_pay4 (blkX m c t)) (dnAt m c t) (dgAt m c (t.val - 1) (Nat.lt_of_le_of_lt (Nat.sub_le _ _) t.isLt)) := by
  unfold dgAt
  rw [outsAt0_B m c t h]
  unfold dnAt blkD blkX blkG blkB
  frame_out

theorem db_A (t : Fin cfg0.N) (h : t.val % 16 = 0) : dbAt m c t.val t.isLt = k0_pay11 (dnAt m c t) (k0_pay8 (F := Ideal)) := by
  unfold dbAt
  rw [outsAt0_A m c t h]
  unfold dnAt blkD blkX blkG blkB
  frame_out

theorem db_B (t : Fin cfg0.N) (h : ¬t.val % 16 = 0) :
    dbAt m c t.val t.isLt = k0_pay11 (dnAt m c t) (dbAt m c (t.val - 1) (Nat.lt_of_le_of_lt (Nat.sub_le _ _) t.isLt)) := by
  unfold dbAt
  rw [outsAt0_B m c t h]
  unfold dnAt blkD blkX blkG blkB
  frame_out

theorem dc_A (t : Fin cfg0.N) (h : t.val % 16 = 0) : dcAt m c t.val t.isLt = k0_pay1 (dhAt m c t) (k0_pay9 (F := Ideal)) := by
  unfold dcAt
  rw [outsAt0_A m c t h]
  unfold dhAt dnAt blkD blkX blkG blkB
  frame_out

theorem dc_B (t : Fin cfg0.N) (h : ¬t.val % 16 = 0) :
    dcAt m c t.val t.isLt = k0_pay1 (dhAt m c t) (dcAt m c (t.val - 1) (Nat.lt_of_le_of_lt (Nat.sub_le _ _) t.isLt)) := by
  unfold dcAt
  rw [outsAt0_B m c t h]
  unfold dhAt dnAt blkD blkX blkG blkB
  frame_out

/-- The arguments. -/
def argH : FVec Ideal S8192x1024 .f32 := m (c, Proc.tc.devRef main_arg0)
def argG : FVec Ideal S1024 .f32 := m (c, Proc.tc.devRef main_arg1)
def argB : FVec Ideal S1024 .f32 := m (c, Proc.tc.devRef main_arg2)
def argD : FVec Ideal S8192x2048 .f32 := m (c, Proc.tc.devRef main_arg3)

/-- The arrays that the kernel is launched on. -/
theorem arr_g (j : Fin 1024) : (V m c main_v0 : FVec Ideal S1x1024 .f32) (ix2 0 j) = argG m c (ix1 j) := by
  unfold argG V
  after_reads_at
theorem arr_b (j : Fin 1024) : (V m c main_v1 : FVec Ideal S1x1024 .f32) (ix2 0 j) = argB m c (ix1 j) := by
  unfold argB V
  after_reads_at

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![t.val, 0] := by decide +kernel
theorem idx_5 : ∀ t : Fin grid0.N, win0_5.index t = ![0, 0] := by decide +kernel
theorem idx_6 : ∀ t : Fin grid0.N, win0_6.index t = ![0, 0] := by decide +kernel
theorem idx_7 : ∀ t : Fin grid0.N, win0_7.index t = ![0, 0] := by decide +kernel

theorem lt_N (t : Fin cfg0.N) : t.val < 16 := lt_of_lt_of_eq t.isLt (show cfg0.N = 16 from N_0)

/-- Row `i` of block `n`, and a column of the first half. -/
def at_ (n : ℕ) (hn : n < 16) (i : Fin 512) : Fin 8192 := ⟨n * 512 + i.val, by omega⟩
def lo (j : Fin 1024) : Fin 2048 := ⟨j.val, by omega⟩

theorem blk_d (t : Fin cfg0.N) (i : Fin 512) (j : Fin 1024) : blkD m c t (ix2 i j) = argD m c (ix2 (at_ t.val (lt_N t) i) (lo j)) := by
  have h1 : V m c main_arg3 = m (c, Proc.tc.devRef main_arg3) := V_main_arg3 m c
  have hi := idx_0 t
  unfold blkD argD iblk at_ lo
  blk_ext [hi, h1]

theorem blk_x (t : Fin cfg0.N) (i : Fin 512) (j : Fin 1024) :
    blkX m c t (ix2 i j) = argH m c (ix2 (at_ t.val (lt_N t) i) j) := by
  have h1 : V m c main_arg0 = m (c, Proc.tc.devRef main_arg0) := V_main_arg0 m c
  have hi := idx_1 t
  unfold blkX argH iblk at_
  blk_ext [hi, h1]

theorem blk_g (t : Fin cfg0.N) (j : Fin 1024) : blkG m c t (ix2 0 j) = argG m c (ix1 j) := by
  refine Eq.trans ?_ (arr_g m c _)
  have hi := idx_2 t
  unfold blkG iblk
  blk_ext [hi]

theorem blk_b (t : Fin cfg0.N) (j : Fin 1024) : blkB m c t (ix2 0 j) = argB m c (ix1 j) := by
  refine Eq.trans ?_ (arr_b m c _)
  have hi := idx_3 t
  unfold blkB iblk
  blk_ext [hi]

section
variable (h : FVec Ideal S8192x1024 .f32) (g b : FVec Ideal S1024 .f32) (d : FVec Ideal S8192x2048 .f32)

/-- A row of the norm's argument, and the gradient of the norm's result. -/
def arg (i : Fin 8192) (x : Fin 1024) : EReal := h (ix2 i x)
def dn (i : Fin 8192) (j : Fin 1024) : EReal := silu (hat w1024 (arg h i) j * g (ix1 j) + b (ix1 j)) (d (ix2 i (lo j)))

/-- What the results hold: the gradient of the convolution, -/
def dh : FVec Ideal S8192x1024 .f32 := fun y => row w1024 (arg h (y 0)) (fun x => dn h g b d (y 0) x * g (ix1 x)) (y 1)

/-- the gradient of the norm's scale, -/
def dg : FVec Ideal S1x1024 .f32 := fun y => ∑ i : Fin 8192, dn h g b d i (y 1) * hat w1024 (arg h i) (y 1)

/-- of its shift, -/
def db : FVec Ideal S1x1024 .f32 := fun y => ∑ i : Fin 8192, dn h g b d i (y 1)

/-- and of the convolution's shift. -/
def dc : FVec Ideal S1x1024 .f32 := fun y => ∑ i : Fin 8192, dh h g b d (ix2 i (y 1))

end

theorem hat_blk (t : Fin cfg0.N) (i : Fin 512) (j : Fin 1024) :
    (k0_pay4 (F := Ideal) (blkX m c t) (ix2 i j) : EReal) = hat w1024 (arg (argH m c) (at_ t.val (lt_N t) i)) j := by
  refine (pay4_read _ i j).trans ?_
  simp only [blk_x]
  rfl

theorem rs_blk (t : Fin cfg0.N) (i : Fin 512) :
    (k0_pay3 (F := Ideal) (blkX m c t) (ix2 i 0) : EReal) = rs w1024 (arg (argH m c) (at_ t.val (lt_N t) i)) := by
  refine (pay3_read _ i).trans ?_
  simp only [blk_x]
  rfl

theorem dn_blk (t : Fin cfg0.N) (i : Fin 512) (j : Fin 1024) :
    dnAt m c t (ix2 i j) = dn (argH m c) (argG m c) (argB m c) (argD m c) (at_ t.val (lt_N t) i) j := by
  refine (pay5_read _ _ _ _ i j).trans ?_
  simp only [blk_x, blk_g, blk_b, blk_d]
  rfl

theorem dh_blk (t : Fin cfg0.N) (i : Fin 512) (j : Fin 1024) :
    dhAt m c t (ix2 i j) = dh (argH m c) (argG m c) (argB m c) (argD m c) (ix2 (at_ t.val (lt_N t) i) j) := by
  refine (pay6_read _ _ _ _ i j).trans ?_
  simp only [rs_blk, hat_blk, dn_blk, blk_g]
  rfl

theorem out_dh : ((dats m 0 c).arrAt 4 (cfgs 0).N : S8192x1024.Idx → EReal) = dh (argH m c) (argG m c) (argB m c) (argD m c) := by
  refine (dats m 0 c).arrAt_eq_of_covers 4 _ (by decide +kernel) fun t hf y => ?_
  have hi := idx_4 t
  obtain ⟨a, b, rfl⟩ : ∃ (a : Fin 512) (b : Fin 1024), y = ix2 a b := ⟨y 0, y 1, eq_ix2 y⟩
  rw [after0_4, out_4 m c t]
  refine (dh_blk m c t a b).trans (congrArg (dh _ _ _ _) ?_)
  unfold at_
  blk_ext [hi]

/-- A sum that the first block resets and every block adds to is, after the last one, the sum over the blocks. -/
theorem acc_all (f : (n : ℕ) → n < cfg0.N → FVec Ideal S1x1024 .f32) (p : Fin 16 → Fin 1024 → EReal)
    (hA : ∀ (t : Fin cfg0.N), t.val % 16 = 0 → ∀ j, f t.val t.isLt (ix2 0 j) = 0 + p ⟨t.val, lt_N t⟩ j)
    (hB : ∀ (t : Fin cfg0.N), ¬t.val % 16 = 0 → ∀ j,
      f t.val t.isLt (ix2 0 j) = f (t.val - 1) (Nat.lt_of_le_of_lt (Nat.sub_le _ _) t.isLt) (ix2 0 j) + p ⟨t.val, lt_N t⟩ j)
    (t : Fin cfg0.N) (h : t.val % 16 = 15) (j : Fin 1024) : f t.val t.isLt (ix2 0 j) = ∑ u : Fin 16, p u j := by
  have ht : t.val / 16 = 0 := by have := lt_N t; omega
  refine (Pipeline.eq_sum_fin_of_reset_step_apply_of_flush (M := EReal)
    (fun n hn (j : Fin 1024) => f n hn (ix2 0 j)) 16 (fun _ => 0)
    (fun u j => p ⟨u.val, lt_N u⟩ j) (fun u hu j => hA u hu j) (fun u hu j => hB u hu j) t h j).trans
    ((zero_add _).trans ?_)
  refine Finset.sum_congr rfl fun u _ => ?_
  congr 1
  exact Fin.ext (by simp only [ht, Nat.mul_zero, Nat.zero_add])

/-- The kernel's second result, -/
theorem dg_all (t : Fin cfg0.N) (h : t.val % 16 = 15) (j : Fin 1024) : dgAt m c t.val t.isLt (ix2 0 j) = dg (argH m c) (argG m c) (argB m c) (argD m c) (ix2 0 j) := by
  refine (acc_all (dgAt m c) (fun u j => ∑ i : Fin 512, dn (argH m c) (argG m c) (argB m c) (argD m c) (at_ u.val u.isLt i) j * hat w1024 (arg (argH m c) (at_ u.val u.isLt i)) j) (fun t h j => ?_) (fun t h j => ?_) t h j).trans (Fin.sum_mul_add_congr fun _ _ _ => rfl)
  · refine (congrFun (dg_A m c t h) (ix2 0 j)).trans ((pay10_read _ _ _ j).trans ?_)
    rw [pay7_read]
    simp only [hat_blk, dn_blk]
  · refine (congrFun (dg_B m c t h) (ix2 0 j)).trans ((pay10_read _ _ _ j).trans ?_)
    simp only [hat_blk, dn_blk]

theorem out_dg : ((dats m 0 c).arrAt 5 (cfgs 0).N : S1x1024.Idx → EReal) = dg (argH m c) (argG m c) (argB m c) (argD m c) := by
  refine (dats m 0 c).arrAt_eq_of_covers 5 _ (by decide +kernel) fun t hf y => ?_
  have h3 : t.val % 16 = 15 := (flush0_5 t).mp hf
  have hi := idx_5 t
  obtain ⟨a, b, rfl⟩ : ∃ (a : Fin 1) (b : Fin 1024), y = ix2 a b := ⟨y 0, y 1, eq_ix2 y⟩
  obtain rfl : a = 0 := Subsingleton.elim _ _
  rw [after0_5]
  refine (dg_all m c t h3 b).trans (congrArg (dg _ _ _ _) ?_)
  blk_ext [hi]

/-- its third, -/
theorem db_all (t : Fin cfg0.N) (h : t.val % 16 = 15) (j : Fin 1024) : dbAt m c t.val t.isLt (ix2 0 j) = db (argH m c) (argG m c) (argB m c) (argD m c) (ix2 0 j) := by
  refine (acc_all (dbAt m c) (fun u j => ∑ i : Fin 512, dn (argH m c) (argG m c) (argB m c) (argD m c) (at_ u.val u.isLt i) j) (fun t h j => ?_) (fun t h j => ?_) t h j).trans (Fin.sum_mul_add_congr fun _ _ _ => rfl)
  · refine (congrFun (db_A m c t h) (ix2 0 j)).trans ((pay11_read _ _ j).trans ?_)
    rw [pay8_read]
    simp only [dn_blk]
  · refine (congrFun (db_B m c t h) (ix2 0 j)).trans ((pay11_read _ _ j).trans ?_)
    simp only [dn_blk]

theorem out_db : ((dats m 0 c).arrAt 6 (cfgs 0).N : S1x1024.Idx → EReal) = db (argH m c) (argG m c) (argB m c) (argD m c) := by
  refine (dats m 0 c).arrAt_eq_of_covers 6 _ (by decide +kernel) fun t hf y => ?_
  have h3 : t.val % 16 = 15 := (flush0_6 t).mp hf
  have hi := idx_6 t
  obtain ⟨a, b, rfl⟩ : ∃ (a : Fin 1) (b : Fin 1024), y = ix2 a b := ⟨y 0, y 1, eq_ix2 y⟩
  obtain rfl : a = 0 := Subsingleton.elim _ _
  rw [after0_6]
  refine (db_all m c t h3 b).trans (congrArg (db _ _ _ _) ?_)
  blk_ext [hi]

/-- and its fourth. -/
theorem dc_all (t : Fin cfg0.N) (h : t.val % 16 = 15) (j : Fin 1024) : dcAt m c t.val t.isLt (ix2 0 j) = dc (argH m c) (argG m c) (argB m c) (argD m c) (ix2 0 j) := by
  refine (acc_all (dcAt m c) (fun u j => ∑ i : Fin 512, dh (argH m c) (argG m c) (argB m c) (argD m c) (ix2 (at_ u.val u.isLt i) j)) (fun t h j => ?_) (fun t h j => ?_) t h j).trans (Fin.sum_mul_add_congr fun _ _ _ => rfl)
  · refine (congrFun (dc_A m c t h) (ix2 0 j)).trans ((pay1_read _ _ j).trans ?_)
    rw [pay9_read]
    simp only [dh_blk]
  · refine (congrFun (dc_B m c t h) (ix2 0 j)).trans ((pay1_read _ _ j).trans ?_)
    simp only [dh_blk]

theorem out_dc : ((dats m 0 c).arrAt 7 (cfgs 0).N : S1x1024.Idx → EReal) = dc (argH m c) (argG m c) (argB m c) (argD m c) := by
  refine (dats m 0 c).arrAt_eq_of_covers 7 _ (by decide +kernel) fun t hf y => ?_
  have h3 : t.val % 16 = 15 := (flush0_7 t).mp hf
  have hi := idx_7 t
  obtain ⟨a, b, rfl⟩ : ∃ (a : Fin 1) (b : Fin 1024), y = ix2 a b := ⟨y 0, y 1, eq_ix2 y⟩
  obtain rfl : a = 0 := Subsingleton.elim _ _
  rw [after0_7]
  refine (dc_all m c t h3 b).trans (congrArg (dc _ _ _ _) ?_)
  blk_ext [hi]

end Cert.Kernel18Ideal.Mlp

namespace Cert.Reference18Ideal.Mlp

open Idealize.ShloMosaic Idealize.ShloMosaic.TcCoe Cert.Reference18Ideal.Gen Cert.Reference18Ideal.Read Cert.Norm Cert.Kernel18Ideal.Mlp

section
variable (h : FVec Ideal S8192x1024 .f32) (g b : FVec Ideal S1024 .f32) (d : FVec Ideal S8192x2048 .f32)

/-- The reference's stages at an entry: the norm's argument normalised, -/
theorem ref_hat (i : Fin 8192) (j : Fin 1024) : (val_main_v22 (F := Ideal) h (ix2 i j) : EReal) = hat w1024 (arg h i) j := by
  unfold arg hat rs var cen mean
  pointwise [val_main_v22, val_main_v21, val_main_v17, val_main_v16, val_main_v15, val_main_cst_4, val_main_v14, val_main_v13, val_main_v12, val_main_v11, val_main_cst_3, val_main_v10, val_main_v9, val_main_cst_2, val_main_v6, val_main_v5, val_main_v4, val_main_v3, val_main_v2, val_main_cst_0, val_main_v1, val_main_v0, val_main_cst]

/-- and the gradient of the norm's result. -/
theorem ref_dn' (i : Fin 8192) (j : Fin 1024) : (val_main_v31 (F := Ideal) h g b d (ix2 i j) : EReal)
    = silu' (hat w1024 (arg h i) j * g (ix1 j) + b (ix1 j)) (d (ix2 i (lo j))) := by
  rw [← ref_hat]
  unfold silu' lo
  pointwise [val_main_v31, val_main_call1_v2, val_main_call1_v1, val_main_call1_v0, val_main_v30, val_main_v29_1, val_main_call0_v7, val_main_call0_v6, val_main_call0_cst_1, val_main_v29_2, val_main_call0_v4, val_main_call0_cst_0, val_main_call0_v3, val_main_call0_v2, val_main_call0_cst, val_main_call0_v1, val_main_call0_v0, val_main_v28, val_main_v27, val_main_v26, val_main_v25, val_main_v24, val_main_v23]

/-- The gradient through the norm; its means are sums of one term each. -/
theorem ref_row (i : Fin 8192) (j : Fin 1024) : (val_main_v64 (F := Ideal) h g b d (ix2 i j) : EReal)
    = row1 w1024 (arg h i) (fun x => val_main_v31 (F := Ideal) h g b d (ix2 i x) * g (ix1 x)) j := by
  unfold arg row1 viaVar rs var cen mean
  pointwise [val_main_v64, val_main_v63, val_main_v62, val_main_cst_16, val_main_v61, val_main_v60, val_main_cst_15, val_main_v59, val_main_v58, val_main_v57, val_main_v56, val_main_cst_14, val_main_v55, val_main_v54, val_main_v53, val_main_v52, val_main_cst_13, val_main_v51, val_main_v50, val_main_cst_12, val_main_v49, val_main_v48, val_main_cst_11, val_main_v47, val_main_v46, val_main_v45, val_main_v44, val_main_v43, val_main_v42, val_main_cst_10, val_main_v41, val_main_v39, val_main_v38, val_main_v23, val_main_v20, val_main_v19, val_main_cst_5, val_main_v18, val_main_v17, val_main_v16, val_main_v15, val_main_cst_4, val_main_v14, val_main_v13, val_main_v12, val_main_v11, val_main_cst_3, val_main_v10, val_main_v9, val_main_cst_2, val_main_v8, val_main_v7, val_main_cst_1, val_main_v6, val_main_v5, val_main_v4, val_main_v3, val_main_v2, val_main_cst_0, val_main_v1, val_main_v0, val_main_cst]

section
variable (hh : ∀ x, h x = ((h x).toReal : EReal)) (hg : ∀ x, g x = ((g x).toReal : EReal))
  (hb : ∀ x, b x = ((b x).toReal : EReal)) (hd : ∀ x, d x = ((d x).toReal : EReal))

include hh in
theorem arg_real (i : Fin 8192) : ∃ v : Fin 1024 → ℝ, arg h i = fun x => (v x : EReal) :=
  ⟨fun x => (h (ix2 i x)).toReal, funext fun x => hh _⟩

include hh hg hb hd in
/-- On real numbers the gradient of the norm's result is the kernel's, and a real number. -/
theorem ref_dn (i : Fin 8192) (j : Fin 1024) :
    ∃ r : ℝ, dn h g b d i j = (r : EReal) ∧ (val_main_v31 (F := Ideal) h g b d (ix2 i j) : EReal) = dn h g b d i j := by
  obtain ⟨v, hv⟩ := arg_real h hh i
  obtain ⟨x, hx⟩ := hat_real v j
  have hn : hat w1024 (arg h i) j * g (ix1 j) + b (ix1 j) = ((x * (g (ix1 j)).toReal + (b (ix1 j)).toReal : ℝ) : EReal) := by
    rw [hv, hx, hg, hb, EReal.toReal_coe, EReal.toReal_coe, ← EReal.coe_mul, ← EReal.coe_add]
  obtain ⟨r, h1, h2⟩ := silu_real (x * (g (ix1 j)).toReal + (b (ix1 j)).toReal) (d (ix2 i (lo j))).toReal
  rw [← hn, ← hd] at h1 h2
  exact ⟨r, h1, (ref_dn' h g b d i j).trans (h2.trans h1.symm)⟩

include hh hg hb hd in
/-- The reference's results are the kernel's. -/
theorem ref_dh : val_main_v64 (F := Ideal) h g b d = dh h g b d := by
  funext y
  obtain ⟨i, j, rfl⟩ : ∃ (i : Fin 8192) (j : Fin 1024), y = ix2 i j := ⟨y 0, y 1, eq_ix2 y⟩
  choose r hr hq using fun x => ref_dn h g b d hh hg hb hd i x
  obtain ⟨v, hv⟩ := arg_real h hh i
  have h2 : (fun x => dn h g b d i x * g (ix1 x)) = fun x => ((r x * (g (ix1 x)).toReal : ℝ) : EReal) :=
    funext fun x => (congrArg₂ (· * ·) (hr x) (hg _)).trans (EReal.coe_mul _ _).symm
  refine (ref_row h g b d i j).trans ((row1_eq _ _ _ _).trans ?_)
  simp only [hq]
  refine Eq.trans ?_ (Eq.trans (row_eq word_1024 (by norm_num) v (fun x => r x * (g (ix1 x)).toReal) j) ?_)
  · rw [hv, h2]
  · rw [← hv, ← h2]
    rfl

include hh hg hb hd in
theorem ref_dg : val_main_v65 (F := Ideal) h g b d = dg h g b d := by
  funext y
  obtain ⟨a, j, rfl⟩ : ∃ (a : Fin 1) (j : Fin 1024), y = ix2 a j := ⟨y 0, y 1, eq_ix2 y⟩
  obtain rfl : a = 0 := Subsingleton.elim _ _
  refine Eq.trans (b := ∑ x : Fin 1, ∑ i : Fin 8192, val_main_v22 (F := Ideal) h (ix2 i j) * val_main_v31 (F := Ideal) h g b d (ix2 i j)) ?_ ?_
  · pointwise [val_main_v65, val_main_v40, val_main_cst_9, val_main_v37, val_main_v36, val_main_cst_8, val_main_v35]
  · simp only [Finset.univ_unique, Finset.sum_singleton]
    refine Finset.sum_congr rfl fun i _ => ?_
    obtain ⟨_, _, hq⟩ := ref_dn h g b d hh hg hb hd i j
    rw [hq, ref_hat, mul_comm]
    rfl

include hh hg hb hd in
theorem ref_db : val_main_v66 (F := Ideal) h g b d = db h g b d := by
  funext y
  obtain ⟨a, j, rfl⟩ : ∃ (a : Fin 1) (j : Fin 1024), y = ix2 a j := ⟨y 0, y 1, eq_ix2 y⟩
  obtain rfl : a = 0 := Subsingleton.elim _ _
  refine Eq.trans (b := ∑ x : Fin 1, ∑ i : Fin 8192, val_main_v31 (F := Ideal) h g b d (ix2 i j)) ?_ ?_
  · pointwise [val_main_v66, val_main_v34, val_main_cst_7, val_main_v33, val_main_v32, val_main_cst_6]
  · simp only [Finset.univ_unique, Finset.sum_singleton]
    refine Finset.sum_congr rfl fun i _ => ?_
    obtain ⟨_, _, hq⟩ := ref_dn h g b d hh hg hb hd i j
    exact hq

include hh hg hb hd in
theorem ref_dc : val_main_v68 (F := Ideal) h g b d = dc h g b d := by
  funext y
  obtain ⟨a, j, rfl⟩ : ∃ (a : Fin 1) (j : Fin 1024), y = ix2 a j := ⟨y 0, y 1, eq_ix2 y⟩
  obtain rfl : a = 0 := Subsingleton.elim _ _
  refine Eq.trans (b := ∑ i : Fin 8192, val_main_v64 (F := Ideal) h g b d (ix2 i j)) ?_ ?_
  · pointwise [val_main_v68, val_main_v67, val_main_cst_17]
  · rw [ref_dh h g b d hh hg hb hd]
    rfl
end

/-- The precondition: every element of the four arguments is a real number. -/
theorem all_real [Cert.Pre_finite_conv.Facts] (hp : Cert.Pre_finite_conv.fn (F := Ideal) h g b d = fun _ => 1#1) :
    (∀ x, h x = ((h x).toReal : EReal)) ∧ (∀ x, g x = ((g x).toReal : EReal))
      ∧ (∀ x, b x = ((b x).toReal : EReal)) ∧ (∀ x, d x = ((d x).toReal : EReal)) := by
  have h0 := congrFun hp ix0
  obtain ⟨h123, h4⟩ := IntOp.andi_eq_one.1 h0
  obtain ⟨h12, h3⟩ := IntOp.andi_eq_one.1 h123
  obtain ⟨h1, h2⟩ := IntOp.andi_eq_one.1 h12
  refine ⟨fun x => ?_, fun x => ?_, fun x => ?_, fun x => ?_⟩
  · exact Cert.FoxMath.real_of_lt _ (Host.reduce_andi_all _ _ _ _ _ h1 x)
  · exact Cert.FoxMath.real_of_lt _ (Host.reduce_andi_all _ _ _ _ _ h2 x)
  · exact Cert.FoxMath.real_of_lt _ (Host.reduce_andi_all _ _ _ _ _ h3 x)
  · exact Cert.FoxMath.real_of_lt _ (Host.reduce_andi_all _ _ _ _ _ h4 x)
end

end Cert.Reference18Ideal.Mlp

end
-- ==== Proof.M.Taps.lean ====
module

public import proofs.«01_k».proof.Kernel19Ideal
public import Idealize.ShloMosaic.Lib.Pipeline.ValueKit
public import Idealize.ShloMosaic.Lib.Pipeline.ReadBack
public import Idealize.ShloMosaic.Lib.WritesUnit
public import Idealize.ShloMosaic.Lib.Pointwise

/-!
  The gradient of the causal convolution by its 31 taps and of the gated linear unit before it, as sums of extended reals.
-/

@[expose] public section

noncomputable section

namespace Cert.Taps

open Cert.Kernel19Ideal Idealize.ShloMosaic

/-- The logistic function, as both programs write it. -/
def sg (x : EReal) : EReal := Ideal.div 1 (1 + Ideal.exp (-x))

variable (u : FVec Ideal S8192x6144 .f32) (w : FVec Ideal S31x1024 .f32) (d : FVec Ideal S8192x1024 .f32)

/-- The first operand of the gated linear unit, its gate, and the unit. -/
def opA (s : Fin 8192) (j : Fin 1024) : EReal := u (ix2 s ⟨j.val, by omega⟩)
def opG (s : Fin 8192) (j : Fin 1024) : EReal := u (ix2 s ⟨1024 + j.val, by omega⟩)
def glu (s : Fin 8192) (j : Fin 1024) : EReal := opA u s j * sg (opG u s j)

/-- The unit with 30 rows of zeros before it. -/
def hz (n : ℕ) (j : Fin 1024) : EReal := if h : 30 ≤ n ∧ n < 8222 then glu u ⟨n - 30, by omega⟩ j else 0

/-- The incoming gradient with zeros after it. -/
def dz (n : ℕ) (j : Fin 1024) : EReal := if h : n < 8192 then d (ix2 ⟨n, h⟩ j) else 0

/-- The gradient of the unit: that of the 31 rows which this row was a part of. -/
def dh (s : Fin 8192) (j : Fin 1024) : EReal := ∑ k : Fin 31, w (ix2 k j) * dz d (s.val + (30 - k.val)) j

/-- The column of an operand of the unit that a column of both, side by side, belongs to. -/
def col (i : S8192x2048.Idx) : Fin 1024 := ⟨(i 1).val % 1024, Nat.mod_lt _ (by decide)⟩

/-- The gradient of the unit's operands, side by side. -/
def dag (i : S8192x2048.Idx) : EReal :=
  if (i 1).val < 1024 then dh w d (i 0) (col i) * sg (opG u (i 0) (col i))
  else dh w d (i 0) (col i) * opA u (i 0) (col i) * sg (opG u (i 0) (col i)) * (1 - sg (opG u (i 0) (col i)))

/-- The gradient of one tap's weights: a sum over the rows. -/
def dwk (k : ℕ) (j : Fin 1024) : EReal := ∑ s : Fin 8192, d (ix2 s j) * hz u (s.val + k) j

/-- The gradient of all taps' weights, with a row of zeros after them. -/
def dw (i : S32x1024.Idx) : EReal := if (i 0).val < 31 then dwk u d (i 0).val (i 1) else 0

/-- Stored boxes of a matrix, the newest first, read at an entry: the newest box that holds the entry decides. -/
theorem canon_box {R C o p n q : ℕ} (inb) (W : (⟨2, ![n, q]⟩ : Shape).Idx → Elt Ideal .f32) (L : List (View.Piece (Elt Ideal) ⟨2, ![R, C]⟩ .f32))
    (a : Fin R) (b : Fin C) :
    View.canon ((⟨Rect.unit (s := ⟨2, ![R, C]⟩) ![o, p] ![n, q] inb, W⟩ : View.Piece (Elt Ideal) ⟨2, ![R, C]⟩ .f32) :: L) (ix2 a b)
      = if h : (o ≤ a.val ∧ a.val < o + n) ∧ p ≤ b.val ∧ b.val < p + q then
          W (ix2 ⟨a.val - o, by omega⟩ ⟨b.val - p, by omega⟩) else View.canon L (ix2 a b) := by
  by_cases h : (o ≤ a.val ∧ a.val < o + n) ∧ p ≤ b.val ∧ b.val < p + q
  · rw [dif_pos h]
    have he : (Rect.unit (s := ⟨2, ![R, C]⟩) ![o, p] ![n, q] inb).emb (ix2 (⟨a.val - o, by omega⟩ : Fin n) (⟨b.val - p, by omega⟩ : Fin q)) = ix2 a b := by
      funext x; apply Fin.ext
      fin_cases x
      · show o + 1 * (a.val - o) = a.val; omega
      · show p + 1 * (b.val - p) = b.val; omega
    rw [← he]
    exact View.canon_cons_emb (Rect.unit (s := ⟨2, ![R, C]⟩) ![o, p] ![n, q] inb) W L _
  · rw [dif_neg h]
    refine View.canon_cons_of_not_mem _ L fun hm => h ?_
    have h0 := (Rect.mem_set_unit (s := ⟨2, ![R, C]⟩) (off := ![o, p]) (size := ![n, q]) (inb := inb)).mp hm 0
    have h1 := (Rect.mem_set_unit (s := ⟨2, ![R, C]⟩) (off := ![o, p]) (size := ![n, q]) (inb := inb)).mp hm 1
    exact ⟨h0, h1⟩

/-- The same over any contents. -/
theorem writes_box {sig : RefSig} {κ : Kind} {sp : Space} {R C o p n q : ℕ} (v : View sig κ sp ⟨2, ![R, C]⟩ .f32) (f) (inb)
    (W : (⟨2, ![n, q]⟩ : Shape).Idx → Elt Ideal .f32) (L : List (View.Piece (Elt Ideal) ⟨2, ![R, C]⟩ .f32))
    (a : Fin R) (b : Fin C) :
    v.read (Elt Ideal) (v.writes (Elt Ideal) f ((⟨Rect.unit (s := ⟨2, ![R, C]⟩) ![o, p] ![n, q] inb, W⟩ : View.Piece (Elt Ideal) ⟨2, ![R, C]⟩ .f32) :: L)) (ix2 a b)
      = if h : (o ≤ a.val ∧ a.val < o + n) ∧ p ≤ b.val ∧ b.val < p + q then
          W (ix2 ⟨a.val - o, by omega⟩ ⟨b.val - p, by omega⟩) else v.read (Elt Ideal) (v.writes (Elt Ideal) f L) (ix2 a b) := by
  by_cases h : (o ≤ a.val ∧ a.val < o + n) ∧ p ≤ b.val ∧ b.val < p + q
  · rw [dif_pos h]
    refine View.read_writes_cons_unit_of_mem v f inb W L (ix2 a b) (ix2 (⟨a.val - o, by omega⟩ : Fin n) (⟨b.val - p, by omega⟩ : Fin q)) rfl fun x => ?_
    fin_cases x
    · show a.val = o + (a.val - o); omega
    · show b.val = p + (b.val - p); omega
  · rw [dif_neg h]
    by_cases h0 : o ≤ a.val ∧ a.val < o + n
    · exact View.read_writes_cons_unit_of_not_mem v f inb W L (ix2 a b) rfl 1 (by show b.val < p ∨ p + q ≤ b.val; omega)
    · exact View.read_writes_cons_unit_of_not_mem v f inb W L (ix2 a b) rfl 0 (by show a.val < o ∨ o + n ≤ a.val; omega)

theorem writes_hit {sig : RefSig} {κ : Kind} {sp : Space} {R C o : ℕ} (v : View sig κ sp ⟨2, ![R, C]⟩ .f32) (f) (inb)
    (W : (⟨2, ![1, C]⟩ : Shape).Idx → Elt Ideal .f32) (L : List (View.Piece (Elt Ideal) ⟨2, ![R, C]⟩ .f32)) (ho : o < R) (b : Fin C) :
    v.read (Elt Ideal) (v.writes (Elt Ideal) f ((⟨Rect.unit (s := ⟨2, ![R, C]⟩) ![o, 0] ![1, C] inb, W⟩ : View.Piece (Elt Ideal) ⟨2, ![R, C]⟩ .f32) :: L)) (ix2 ⟨o, ho⟩ b)
      = W (ix2 0 b) := by
  rw [writes_box, dif_pos (by dsimp only; omega)]
  exact congrArg W (by congr 1; exact Fin.ext (by show o - o = 0; omega))

theorem writes_miss {sig : RefSig} {κ : Kind} {sp : Space} {R C o : ℕ} (v : View sig κ sp ⟨2, ![R, C]⟩ .f32) (f) (inb)
    (W : (⟨2, ![1, C]⟩ : Shape).Idx → Elt Ideal .f32) (L : List (View.Piece (Elt Ideal) ⟨2, ![R, C]⟩ .f32)) (a : ℕ) (ha : a < R) (b : Fin C) (h : a ≠ o) :
    v.read (Elt Ideal) (v.writes (Elt Ideal) f ((⟨Rect.unit (s := ⟨2, ![R, C]⟩) ![o, 0] ![1, C] inb, W⟩ : View.Piece (Elt Ideal) ⟨2, ![R, C]⟩ .f32) :: L)) (ix2 ⟨a, ha⟩ b)
      = v.read (Elt Ideal) (v.writes (Elt Ideal) f L) (ix2 ⟨a, ha⟩ b) := by
  rw [writes_box, dif_neg (by dsimp only; omega)]

/-- The same of rows stored over a fill. -/
theorem canon_hit {R C o : ℕ} (inb) (W : (⟨2, ![1, C]⟩ : Shape).Idx → Elt Ideal .f32) (L : List (View.Piece (Elt Ideal) ⟨2, ![R, C]⟩ .f32))
    (ho : o < R) (b : Fin C) :
    View.canon ((⟨Rect.unit (s := ⟨2, ![R, C]⟩) ![o, 0] ![1, C] inb, W⟩ : View.Piece (Elt Ideal) ⟨2, ![R, C]⟩ .f32) :: L) (ix2 ⟨o, ho⟩ b) = W (ix2 0 b) := by
  rw [canon_box, dif_pos (by dsimp only; omega)]
  exact congrArg W (by congr 1; exact Fin.ext (by show o - o = 0; omega))

theorem canon_miss {R C o : ℕ} (inb) (W : (⟨2, ![1, C]⟩ : Shape).Idx → Elt Ideal .f32) (L : List (View.Piece (Elt Ideal) ⟨2, ![R, C]⟩ .f32))
    (a : ℕ) (ha : a < R) (b : Fin C) (h : a ≠ o) :
    View.canon ((⟨Rect.unit (s := ⟨2, ![R, C]⟩) ![o, 0] ![1, C] inb, W⟩ : View.Piece (Elt Ideal) ⟨2, ![R, C]⟩ .f32) :: L) (ix2 ⟨a, ha⟩ b)
      = View.canon L (ix2 ⟨a, ha⟩ b) := by
  rw [canon_box, dif_neg (by dsimp only; omega)]

theorem canon_fill {R C : ℕ} (inb) (W : (⟨2, ![R, C]⟩ : Shape).Idx → Elt Ideal .f32) (L : List (View.Piece (Elt Ideal) ⟨2, ![R, C]⟩ .f32))
    (a : Fin R) (b : Fin C) :
    View.canon ((⟨Rect.unit (s := ⟨2, ![R, C]⟩) ![0, 0] ![R, C] inb, W⟩ : View.Piece (Elt Ideal) ⟨2, ![R, C]⟩ .f32) :: L) (ix2 a b) = W (ix2 a b) := by
  rw [canon_box, dif_pos (by omega)]; rfl

/-- The sum of the taps in the order in which the kernel reads them. -/
theorem sum_taps (g : Fin 31 → EReal) : g 6 + g 14 + g 22 + g 30 + g 5 + g 13 + g 21 + g 29 + g 4 + g 12 + g 20 + g 28 + g 3 + g 11 + g 19 + g 27 + g 2 + g 10 + g 18 + g 26 + g 1 + g 9 + g 17 + g 25 + g 0 + g 8 + g 16 + g 24 + g 7 + g 15 + g 23 = ∑ k, g k := by
  have hp : ([6, 14, 22, 30, 5, 13, 21, 29, 4, 12, 20, 28, 3, 11, 19, 27, 2, 10, 18, 26, 1, 9, 17, 25, 0, 8, 16, 24, 7, 15, 23] : List (Fin 31)).Perm (List.finRange 31) := by decide
  have hs := (hp.map g).sum_eq
  rw [← Fin.sum_univ_def] at hs
  rw [← hs]
  simp only [List.map_cons, List.map_nil, List.sum_cons, List.sum_nil, add_zero, add_assoc]

/-- The sum of the taps from the last one on. -/
theorem sum_back (g : Fin 31 → EReal) : g 30 + g 29 + g 28 + g 27 + g 26 + g 25 + g 24 + g 23 + g 22 + g 21 + g 20 + g 19 + g 18 + g 17 + g 16 + g 15 + g 14 + g 13 + g 12 + g 11 + g 10 + g 9 + g 8 + g 7 + g 6 + g 5 + g 4 + g 3 + g 2 + g 1 + g 0 = ∑ k, g k := by
  have hp : ([30, 29, 28, 27, 26, 25, 24, 23, 22, 21, 20, 19, 18, 17, 16, 15, 14, 13, 12, 11, 10, 9, 8, 7, 6, 5, 4, 3, 2, 1, 0] : List (Fin 31)).Perm (List.finRange 31) := by decide
  have hs := (hp.map g).sum_eq
  rw [← Fin.sum_univ_def] at hs
  rw [← hs]
  simp only [List.map_cons, List.map_nil, List.sum_cons, List.sum_nil, add_zero, add_assoc]

end Cert.Taps

end
-- ==== Proof.M.ConvTaps.lean ====
/- The gradient of the convolution by taps and of the gated linear unit: what the kernel's two results hold. -/
module

public import proofs.«01_k».proof.Proof.Gen.Kernel19Ideal.Value
public import proofs.«01_k».proof.Proof.M.Taps
public import Idealize.ShloMosaic.Lib.Pipeline.ReadBack
public import Idealize.ShloMosaic.Lib.Pipeline.ValueKit
public import Idealize.ShloMosaic.Lib.Pointwise
public import Idealize.ShloMosaic.Lib.WordCmp

@[expose] public section

set_option maxRecDepth 16384

noncomputable section

namespace Cert.Kernel19Ideal.Mlp

open Cert.Kernel19Ideal Cert.Kernel19Ideal.Gen Idealize.ShloMosaic Idealize.ShloMosaic.TcCoe Idealize.SL.Sem
open Cert.Taps

/-- A block of rows with 32 rows after it, and one with 32 rows before it, as two stores leave them. -/
@[irreducible] def after32 (X : FVec Ideal S512x1024 .f32) (Y : FVec Ideal S32x1024 .f32) : FVec Ideal S544x1024 .f32 :=
  View.canon (Val := Elt Ideal) (e := .f32) [⟨Rect.unit (s := S544x1024) ![512, 0] ![32, 1024] inb_S544x1024_S32x1024_512_0, Y⟩,
    ⟨Rect.unit (s := S544x1024) ![0, 0] ![512, 1024] inb_S544x1024_S512x1024_0_0, X⟩]
@[irreducible] def before32 (X : FVec Ideal S512x1024 .f32) (Y : FVec Ideal S32x1024 .f32) : FVec Ideal S544x1024 .f32 :=
  View.canon (Val := Elt Ideal) (e := .f32) [⟨Rect.unit (s := S544x1024) ![0, 0] ![32, 1024] inb_S544x1024_S32x1024_0_0, Y⟩,
    ⟨Rect.unit (s := S544x1024) ![32, 0] ![512, 1024] inb_S544x1024_S512x1024_32_0, X⟩]

theorem after32_lt (X Y) (n : Fin 544) (j : Fin 1024) (h : n.val < 512) : after32 X Y (ix2 n j) = X (ix2 ⟨n.val, h⟩ j) := by
  unfold after32
  rw [canon_box, dif_neg (by omega), canon_box, dif_pos (by omega)]; rfl
theorem after32_ge (X Y) (n : Fin 544) (j : Fin 1024) (h : ¬n.val < 512) : after32 X Y (ix2 n j) = Y (ix2 ⟨n.val - 512, by omega⟩ j) := by
  unfold after32
  rw [canon_box, dif_pos (by omega)]; rfl
theorem before32_lt (X Y) (n : Fin 544) (j : Fin 1024) (h : n.val < 32) : before32 X Y (ix2 n j) = Y (ix2 ⟨n.val, h⟩ j) := by
  unfold before32
  rw [canon_box, dif_pos (by omega)]; rfl
theorem before32_ge (X Y) (n : Fin 544) (j : Fin 1024) (h : ¬n.val < 32) : before32 X Y (ix2 n j) = X (ix2 ⟨n.val - 32, by omega⟩ j) := by
  unfold before32
  rw [canon_box, dif_neg (by omega), canon_box, dif_pos (by omega)]; rfl

theorem readCov_after {κ : Kind} {sp : Space} (v : View sig κ sp S544x1024 .f32) (X : FVec Ideal S512x1024 .f32) (Y : FVec Ideal S32x1024 .f32) (h₁ h₂)
    (r : Rect S544x1024) : v.readCov (Val := Elt Ideal) [⟨Rect.unit (s := S544x1024) ![512, 0] ![32, 1024] h₁, Y⟩, ⟨Rect.unit (s := S544x1024) ![0, 0] ![512, 1024] h₂, X⟩] r.toLoadRect
      = View.ld (after32 X Y) r := by
  rw [View.readCov_eq_canon']; unfold after32; rfl
theorem readCov_before {κ : Kind} {sp : Space} (v : View sig κ sp S544x1024 .f32) (X : FVec Ideal S512x1024 .f32) (Y : FVec Ideal S32x1024 .f32) (h₁ h₂)
    (r : Rect S544x1024) : v.readCov (Val := Elt Ideal) [⟨Rect.unit (s := S544x1024) ![0, 0] ![32, 1024] h₁, Y⟩, ⟨Rect.unit (s := S544x1024) ![32, 0] ![512, 1024] h₂, X⟩] r.toLoadRect
      = View.ld (before32 X Y) r := by
  rw [View.readCov_eq_canon']; unfold before32; rfl

variable (m : (ℓ : Loc nD τ sig) → Buf (Elt Ideal) ℓ) (c : Dev nD)

/-- The rows that a point's sums are taken of. -/
def dext (t : Fin cfg0.N) : FVec Ideal S544x1024 .f32 :=
  after32 (iblk m c 0 t) (k0_pay9 (F := Ideal) (BitVec.ofNat 32 (grid0.coords t 0).val) (iblk m c 1 t))
def hext (t : Fin cfg0.N) : FVec Ideal S544x1024 .f32 :=
  before32 (k0_pay6 (F := Ideal) (iblk m c 2 t) (iblk m c 3 t)) (k0_pay7 (F := Ideal) (grid0.coords t) (iblk m c 4 t) (iblk m c 5 t))

/-- The blocks of a point. -/
def blkD (t : Fin cfg0.N) : FVec Ideal S512x1024 .f32 := iblk m c 0 t
def blkA (t : Fin cfg0.N) : FVec Ideal S512x1024 .f32 := iblk m c 2 t
def blkG (t : Fin cfg0.N) : FVec Ideal S512x1024 .f32 := iblk m c 3 t
def blkW (t : Fin cfg0.N) : FVec Ideal S31x1024 .f32 := iblk m c 6 t

/-- Row `n` of them. -/
def dAt (t : Fin cfg0.N) (j : Fin 1024) (n : ℕ) : EReal := if h : n < 544 then dext m c t (ix2 ⟨n, h⟩ j) else 0
def hAt (t : Fin cfg0.N) (j : Fin 1024) (n : ℕ) : EReal := if h : n < 544 then hext m c t (ix2 ⟨n, h⟩ j) else 0

/-- The gradient of the unit's rows, of one point. -/
def dhAt (t : Fin cfg0.N) (i : Fin 512) (j : Fin 1024) : EReal := ∑ k : Fin 31, blkW m c t (ix2 k j) * dAt m c t j (30 - k.val + i.val)

theorem dag_lo_A (t : Fin cfg0.N) (h : t.val % 16 = 0) (i : Fin 512) (j : Fin 1024) :
    ((outsAt0 m c t.val t.isLt).1 (ix2 i ⟨j.val, by omega⟩) : EReal) = dhAt m c t i j * k0_pay5 (F := Ideal) (blkG m c t) (ix2 i j) := by
  have e : ∀ (n : ℕ) (hn : n < 544), View.canon (Val := Elt Ideal) (e := .f32)
      [⟨Rect.unit (s := S544x1024) ![512, 0] ![32, 1024] inb_S544x1024_S32x1024_512_0,
          k0_pay9 (F := Ideal) (BitVec.ofNat 32 (grid0.coords t 0).val) (iblk m c 1 t)⟩,
        ⟨Rect.unit (s := S544x1024) ![0, 0] ![512, 1024] inb_S544x1024_S512x1024_0_0, iblk m c 0 t⟩] (ix2 ⟨n, hn⟩ j) = dAt m c t j n :=
    fun n hn => by unfold dAt dext after32; rw [dif_pos hn]
  rw [outsAt0_A m c t h]
  frame_open
  simp only [↓ readCov_after]
  simp (disch := decide) only [↓ View.readCov_skip, ↓ View.readCov_cons_toLoadRect, ↓ View.readCov_fill]
  frame_out
  rw [canon_box, dif_neg (by dsimp only; omega), canon_box, dif_pos (by dsimp only; omega)]
  change k0_pay3 (F := Ideal) _ _ (ix2 i j) = _
  unfold dhAt
  rw [← sum_taps]
  pointwise [k0_pay3, k0_pay26, k0_pay25, k0_pay24, k0_pay23, k0_pay22, k0_pay21, k0_pay20, k0_pay19, k0_pay18, k0_pay17, k0_pay16, k0_pay15, k0_pay14, k0_pay13, k0_pay12, k0_pay11, k0_pay8]
  simp only [e, ← Nat.add_assoc, Nat.reduceAdd]
  rfl

theorem dag_hi_A (t : Fin cfg0.N) (h : t.val % 16 = 0) (i : Fin 512) (j : Fin 1024) :
    ((outsAt0 m c t.val t.isLt).1 (ix2 i ⟨1024 + j.val, by omega⟩) : EReal) = dhAt m c t i j * blkA m c t (ix2 i j) * k0_pay5 (F := Ideal) (blkG m c t) (ix2 i j) * (1 - k0_pay5 (F := Ideal) (blkG m c t) (ix2 i j)) := by
  have e : ∀ (n : ℕ) (hn : n < 544), View.canon (Val := Elt Ideal) (e := .f32)
      [⟨Rect.unit (s := S544x1024) ![512, 0] ![32, 1024] inb_S544x1024_S32x1024_512_0,
          k0_pay9 (F := Ideal) (BitVec.ofNat 32 (grid0.coords t 0).val) (iblk m c 1 t)⟩,
        ⟨Rect.unit (s := S544x1024) ![0, 0] ![512, 1024] inb_S544x1024_S512x1024_0_0, iblk m c 0 t⟩] (ix2 ⟨n, hn⟩ j) = dAt m c t j n :=
    fun n hn => by unfold dAt dext after32; rw [dif_pos hn]
  rw [outsAt0_A m c t h]
  frame_open
  simp only [↓ readCov_after]
  simp (disch := decide) only [↓ View.readCov_skip, ↓ View.readCov_cons_toLoadRect, ↓ View.readCov_fill]
  frame_out
  rw [canon_box, dif_pos (by dsimp only; omega)]
  change k0_pay4 (F := Ideal) _ _ _ (ix2 i ⟨1024 + j.val - 1024, by omega⟩) = _
  rw [show (⟨1024 + j.val - 1024, by omega⟩ : Fin 1024) = j from Fin.ext (Nat.add_sub_cancel_left _ _)]
  unfold dhAt
  rw [← sum_taps]
  pointwise [k0_pay4, k0_pay26, k0_pay25, k0_pay24, k0_pay23, k0_pay22, k0_pay21, k0_pay20, k0_pay19, k0_pay18, k0_pay17, k0_pay16, k0_pay15, k0_pay14, k0_pay13, k0_pay12, k0_pay11, k0_pay8]
  simp only [e, ← Nat.add_assoc, Nat.reduceAdd]
  rfl

theorem dag_lo_B (t : Fin cfg0.N) (h : ¬t.val % 16 = 0) (i : Fin 512) (j : Fin 1024) :
    ((outsAt0 m c t.val t.isLt).1 (ix2 i ⟨j.val, by omega⟩) : EReal) = dhAt m c t i j * k0_pay5 (F := Ideal) (blkG m c t) (ix2 i j) := by
  have e : ∀ (n : ℕ) (hn : n < 544), View.canon (Val := Elt Ideal) (e := .f32)
      [⟨Rect.unit (s := S544x1024) ![512, 0] ![32, 1024] inb_S544x1024_S32x1024_512_0,
          k0_pay9 (F := Ideal) (BitVec.ofNat 32 (grid0.coords t 0).val) (iblk m c 1 t)⟩,
        ⟨Rect.unit (s := S544x1024) ![0, 0] ![512, 1024] inb_S544x1024_S512x1024_0_0, iblk m c 0 t⟩] (ix2 ⟨n, hn⟩ j) = dAt m c t j n :=
    fun n hn => by unfold dAt dext after32; rw [dif_pos hn]
  rw [outsAt0_B m c t h]
  frame_open
  simp only [↓ readCov_after]
  simp (disch := decide) only [↓ View.readCov_skip, ↓ View.readCov_cons_toLoadRect, ↓ View.readCov_fill]
  frame_out
  rw [canon_box, dif_neg (by dsimp only; omega), canon_box, dif_pos (by dsimp only; omega)]
  change k0_pay3 (F := Ideal) _ _ (ix2 i j) = _
  unfold dhAt
  rw [← sum_taps]
  pointwise [k0_pay3, k0_pay26, k0_pay25, k0_pay24, k0_pay23, k0_pay22, k0_pay21, k0_pay20, k0_pay19, k0_pay18, k0_pay17, k0_pay16, k0_pay15, k0_pay14, k0_pay13, k0_pay12, k0_pay11, k0_pay8]
  simp only [e, ← Nat.add_assoc, Nat.reduceAdd]
  rfl

theorem dag_hi_B (t : Fin cfg0.N) (h : ¬t.val % 16 = 0) (i : Fin 512) (j : Fin 1024) :
    ((outsAt0 m c t.val t.isLt).1 (ix2 i ⟨1024 + j.val, by omega⟩) : EReal) = dhAt m c t i j * blkA m c t (ix2 i j) * k0_pay5 (F := Ideal) (blkG m c t) (ix2 i j) * (1 - k0_pay5 (F := Ideal) (blkG m c t) (ix2 i j)) := by
  have e : ∀ (n : ℕ) (hn : n < 544), View.canon (Val := Elt Ideal) (e := .f32)
      [⟨Rect.unit (s := S544x1024) ![512, 0] ![32, 1024] inb_S544x1024_S32x1024_512_0,
          k0_pay9 (F := Ideal) (BitVec.ofNat 32 (grid0.coords t 0).val) (iblk m c 1 t)⟩,
        ⟨Rect.unit (s := S544x1024) ![0, 0] ![512, 1024] inb_S544x1024_S512x1024_0_0, iblk m c 0 t⟩] (ix2 ⟨n, hn⟩ j) = dAt m c t j n :=
    fun n hn => by unfold dAt dext after32; rw [dif_pos hn]
  rw [outsAt0_B m c t h]
  frame_open
  simp only [↓ readCov_after]
  simp (disch := decide) only [↓ View.readCov_skip, ↓ View.readCov_cons_toLoadRect, ↓ View.readCov_fill]
  frame_out
  rw [canon_box, dif_pos (by dsimp only; omega)]
  change k0_pay4 (F := Ideal) _ _ _ (ix2 i ⟨1024 + j.val - 1024, by omega⟩) = _
  rw [show (⟨1024 + j.val - 1024, by omega⟩ : Fin 1024) = j from Fin.ext (Nat.add_sub_cancel_left _ _)]
  unfold dhAt
  rw [← sum_taps]
  pointwise [k0_pay4, k0_pay26, k0_pay25, k0_pay24, k0_pay23, k0_pay22, k0_pay21, k0_pay20, k0_pay19, k0_pay18, k0_pay17, k0_pay16, k0_pay15, k0_pay14, k0_pay13, k0_pay12, k0_pay11, k0_pay8]
  simp only [e, ← Nat.add_assoc, Nat.reduceAdd]
  rfl

/-- The weights' gradient at a point. -/
def dwAt (t : Fin cfg0.N) (k : ℕ) (j : Fin 1024) : EReal := ∑ x : Fin 512, blkD m c t (ix2 x j) * hAt m c t j (2 + k + x.val)

set_option maxHeartbeats 4000000 in
theorem dw_B (t : Fin cfg0.N) (h : ¬t.val % 16 = 0) (a : Fin 32) (j : Fin 1024) :
    ((outsAt0 m c t.val t.isLt).2 (ix2 a j) : EReal) = (outsAt0 m c (t.val - 1) (by omega)).2 (ix2 a j) + (if a.val < 31 then dwAt m c t a.val j else 0) := by
  have e : ∀ (n : ℕ) (hn : n < 544), View.canon (Val := Elt Ideal) (e := .f32)
      [⟨Rect.unit (s := S544x1024) ![0, 0] ![32, 1024] inb_S544x1024_S32x1024_0_0,
          k0_pay7 (F := Ideal) (grid0.coords t) (iblk m c 4 t) (iblk m c 5 t)⟩,
        ⟨Rect.unit (s := S544x1024) ![32, 0] ![512, 1024] inb_S544x1024_S512x1024_32_0, k0_pay6 (F := Ideal) (iblk m c 2 t) (iblk m c 3 t)⟩]
      (ix2 ⟨n, hn⟩ j) = hAt m c t j n :=
    fun n hn => by unfold hAt hext before32; rw [dif_pos hn]
  rw [outsAt0_B m c t h]
  frame_open
  simp only [↓ readCov_before]
  simp (disch := decide) only [↓ View.readCov_skip, ↓ View.readCov_cons_toLoadRect, ↓ View.readCov_fill]
  frame_out
  obtain ⟨n, hn⟩ := a
  interval_cases n
  pick_goal 32
  · simp (disch := decide) only [writes_miss, canon_miss]
    rw [View.writes_nil, (hs0_8 t).read_unread]
    pointwise []
  all_goals
    simp (disch := decide) only [writes_hit, writes_miss, canon_hit, canon_miss]
    pointwise [k0_pay1, k0_pay2, k0_pay10, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [e, ← Nat.add_assoc, Nat.reduceAdd]
    rfl

set_option maxHeartbeats 4000000 in
theorem dw_A (t : Fin cfg0.N) (h : t.val % 16 = 0) (a : Fin 32) (j : Fin 1024) :
    ((outsAt0 m c t.val t.isLt).2 (ix2 a j) : EReal) = 0 + (if a.val < 31 then dwAt m c t a.val j else 0) := by
  have e : ∀ (n : ℕ) (hn : n < 544), View.canon (Val := Elt Ideal) (e := .f32)
      [⟨Rect.unit (s := S544x1024) ![0, 0] ![32, 1024] inb_S544x1024_S32x1024_0_0,
          k0_pay7 (F := Ideal) (grid0.coords t) (iblk m c 4 t) (iblk m c 5 t)⟩,
        ⟨Rect.unit (s := S544x1024) ![32, 0] ![512, 1024] inb_S544x1024_S512x1024_32_0, k0_pay6 (F := Ideal) (iblk m c 2 t) (iblk m c 3 t)⟩]
      (ix2 ⟨n, hn⟩ j) = hAt m c t j n :=
    fun n hn => by unfold hAt hext before32; rw [dif_pos hn]
  rw [outsAt0_A m c t h]
  frame_open
  simp only [↓ readCov_before]
  simp (disch := decide) only [↓ View.readCov_skip, ↓ View.readCov_cons_toLoadRect, ↓ View.readCov_fill]
  frame_out
  obtain ⟨n, hn⟩ := a
  interval_cases n
  pick_goal 32
  · simp (disch := decide) only [writes_miss, canon_miss]
    rw [canon_fill]
    pointwise [k0_pay10]
  all_goals
    simp (disch := decide) only [writes_hit, writes_miss, canon_hit, canon_miss]
    pointwise [k0_pay1, k0_pay2, k0_pay10, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    simp only [e, ← Nat.add_assoc, Nat.reduceAdd]
    rfl

/-- The logistic function of a block, -/
theorem pay5_read (g : FVec Ideal S512x1024 .f32) (i : Fin 512) (j : Fin 1024) : (k0_pay5 (F := Ideal) g (ix2 i j) : EReal) = sg (g (ix2 i j)) := by
  pointwise [k0_pay5]
  unfold sg
  rw [zero_sub]

/-- the unit of a block, -/
theorem pay6_read (a g : FVec Ideal S512x1024 .f32) (i : Fin 512) (j : Fin 1024) :
    (k0_pay6 (F := Ideal) a g (ix2 i j) : EReal) = a (ix2 i j) * sg (g (ix2 i j)) := by
  pointwise [k0_pay6, k0_pay5]
  unfold sg
  rw [zero_sub]

theorem first_t : ∀ t : Fin grid0.N, Scalar.cmpi .sgt (BitVec.ofNat 32 (grid0.coords t 0).val) 0#32 = if 0 < t.val then 1#1 else 0#1 := by decide +kernel
theorem last_t : ∀ t : Fin grid0.N, Scalar.cmpi .slt (BitVec.ofNat 32 (grid0.coords t 0).val) 15#32 = if t.val < 15 then 1#1 else 0#1 := by decide +kernel

/-- the unit of the rows before a block, zeros before the first one, -/
theorem pay7_read (t : Fin grid0.N) (a g : FVec Ideal S32x1024 .f32) (i : Fin 32) (j : Fin 1024) :
    (k0_pay7 (F := Ideal) (grid0.coords t) a g (ix2 i j) : EReal) = if 0 < t.val then a (ix2 i j) * sg (g (ix2 i j)) else 0 := by
  have h := first_t t
  unfold k0_pay7
  simp only [h]
  split_ifs
  · pointwise []
    unfold sg
    rw [zero_sub]
  · pointwise []

/-- and the gradient's rows after a block, zeros after the last one. -/
theorem pay9_read (t : Fin grid0.N) (d : FVec Ideal S32x1024 .f32) (i : Fin 32) (j : Fin 1024) :
    (k0_pay9 (F := Ideal) (BitVec.ofNat 32 (grid0.coords t 0).val) d (ix2 i j) : EReal) = if t.val < 15 then d (ix2 i j) else 0 := by
  have h := last_t t
  unfold k0_pay9
  simp only [h]
  split_ifs
  · pointwise []
  · pointwise []

/-- The arguments. -/
def argU : FVec Ideal S8192x6144 .f32 := m (c, Proc.tc.devRef main_arg0)
def argW : FVec Ideal S31x1024 .f32 := m (c, Proc.tc.devRef main_arg1)
def argD : FVec Ideal S8192x1024 .f32 := m (c, Proc.tc.devRef main_arg2)

theorem idx_0 : ∀ t : Fin grid0.N, win0_0.index t = ![t.val, 0] := by decide +kernel
theorem idx_1 : ∀ t : Fin grid0.N, win0_1.index t = ![min ((t.val + 1) * 16) 255, 0] := by decide +kernel
theorem idx_2 : ∀ t : Fin grid0.N, win0_2.index t = ![t.val, 0] := by decide +kernel
theorem idx_3 : ∀ t : Fin grid0.N, win0_3.index t = ![t.val, 1] := by decide +kernel
theorem idx_4 : ∀ t : Fin grid0.N, win0_4.index t = ![t.val * 16 - 1, 0] := by decide +kernel
theorem idx_5 : ∀ t : Fin grid0.N, win0_5.index t = ![t.val * 16 - 1, 1] := by decide +kernel
theorem idx_6 : ∀ t : Fin grid0.N, win0_6.index t = ![0, 0] := by decide +kernel
theorem idx_7 : ∀ t : Fin grid0.N, win0_7.index t = ![t.val, 0] := by decide +kernel
theorem idx_8 : ∀ t : Fin grid0.N, win0_8.index t = ![0, 0] := by decide +kernel

theorem lt_N (t : Fin cfg0.N) : t.val < 16 := lt_of_lt_of_eq t.isLt (show cfg0.N = 16 from N_0)

/-- Row `i` of block `n`. -/
def at_ (n : ℕ) (hn : n < 16) (i : Fin 512) : Fin 8192 := ⟨n * 512 + i.val, by omega⟩

theorem blk_d (t : Fin cfg0.N) (i : Fin 512) (j : Fin 1024) : blkD m c t (ix2 i j) = argD m c (ix2 (at_ t.val (lt_N t) i) j) := by
  have h1 : V m c main_arg2 = m (c, Proc.tc.devRef main_arg2) := rfl
  have hi := idx_0 t
  unfold blkD argD iblk at_
  blk_ext [hi, h1]

theorem blk_a (t : Fin cfg0.N) (i : Fin 512) (j : Fin 1024) : blkA m c t (ix2 i j) = opA (argU m c) (at_ t.val (lt_N t) i) j := by
  have h1 : V m c main_arg0 = m (c, Proc.tc.devRef main_arg0) := rfl
  have hi := idx_2 t
  unfold blkA opA argU iblk at_
  blk_ext [hi, h1]

theorem blk_g (t : Fin cfg0.N) (i : Fin 512) (j : Fin 1024) : blkG m c t (ix2 i j) = opG (argU m c) (at_ t.val (lt_N t) i) j := by
  have h1 : V m c main_arg0 = m (c, Proc.tc.devRef main_arg0) := rfl
  have hi := idx_3 t
  unfold blkG opG argU iblk at_
  blk_ext [hi, h1]

theorem blk_w (t : Fin cfg0.N) (i : Fin 31) (j : Fin 1024) : blkW m c t (ix2 i j) = argW m c (ix2 i j) := by
  have h1 : V m c main_arg1 = m (c, Proc.tc.devRef main_arg1) := rfl
  have hi := idx_6 t
  unfold blkW argW iblk
  blk_ext [hi, h1]

/-- The rows after a block and before one. -/
theorem blk_n (t : Fin cfg0.N) (h : t.val < 15) (i : Fin 32) (j : Fin 1024) :
    (iblk m c 1 t : FVec Ideal S32x1024 .f32) (ix2 i j) = argD m c (ix2 ⟨(t.val + 1) * 16 * 32 + i.val, by omega⟩ j) := by
  have h1 : V m c main_arg2 = m (c, Proc.tc.devRef main_arg2) := rfl
  have hi := idx_1 t
  rw [Nat.min_eq_left (by omega)] at hi
  unfold argD iblk
  blk_ext [hi, h1]

theorem blk_pa (t : Fin cfg0.N) (h : 0 < t.val) (i : Fin 32) (j : Fin 1024) :
    (iblk m c 4 t : FVec Ideal S32x1024 .f32) (ix2 i j) = opA (argU m c) ⟨(t.val * 16 - 1) * 32 + i.val, by have := lt_N t; omega⟩ j := by
  have h1 : V m c main_arg0 = m (c, Proc.tc.devRef main_arg0) := rfl
  have hi := idx_4 t
  unfold opA argU iblk
  blk_ext [hi, h1]

theorem blk_pg (t : Fin cfg0.N) (h : 0 < t.val) (i : Fin 32) (j : Fin 1024) :
    (iblk m c 5 t : FVec Ideal S32x1024 .f32) (ix2 i j) = opG (argU m c) ⟨(t.val * 16 - 1) * 32 + i.val, by have := lt_N t; omega⟩ j := by
  have h1 : V m c main_arg0 = m (c, Proc.tc.devRef main_arg0) := rfl
  have hi := idx_5 t
  unfold opG argU iblk
  blk_ext [hi, h1]

/-- The rows that a point's sums are taken of: of the gradient with zeros after it, -/
theorem d_at (t : Fin cfg0.N) (j : Fin 1024) (n : ℕ) (hn : n < 544) : dAt m c t j n = dz (argD m c) (t.val * 512 + n) j := by
  have ht := lt_N t
  unfold dAt dext
  rw [dif_pos hn]
  by_cases h : n < 512
  · rw [after32_lt _ _ _ _ h]
    refine (blk_d m c t ⟨n, h⟩ j).trans ?_
    unfold dz
    rw [dif_pos (by omega)]
    rfl
  · rw [after32_ge _ _ _ _ h, pay9_read]
    unfold dz
    by_cases h15 : t.val < 15
    · rw [if_pos h15, dif_pos (by omega), blk_n m c t h15]
      congr 2
      exact Fin.ext (by dsimp only; omega)
    · rw [if_neg h15, dif_neg (by omega)]

/-- and of the unit with zeros before it. -/
theorem h_at (t : Fin cfg0.N) (j : Fin 1024) (n : ℕ) (h2 : 2 ≤ n) (hn : n < 544) : hAt m c t j n = hz (argU m c) (t.val * 512 + (n - 2)) j := by
  have ht := lt_N t
  unfold hAt hext
  rw [dif_pos hn]
  by_cases h : n < 32
  · rw [before32_lt _ _ _ _ h, pay7_read]
    unfold hz
    by_cases h0 : 0 < t.val
    · rw [if_pos h0, dif_pos (by omega), blk_pa m c t h0, blk_pg m c t h0]
      unfold glu
      have e : (⟨(t.val * 16 - 1) * 32 + n, by omega⟩ : Fin 8192) = ⟨t.val * 512 + (n - 2) - 30, by omega⟩ := Fin.ext (by dsimp only; omega)
      rw [← e]
    · rw [if_neg h0, dif_neg (by omega)]
  · rw [before32_ge _ _ _ _ h, pay6_read]
    unfold hz
    rw [dif_pos (by omega)]
    unfold glu
    have e : at_ t.val ht ⟨n - 32, by omega⟩ = (⟨t.val * 512 + (n - 2) - 30, by omega⟩ : Fin 8192) := Fin.ext (by unfold at_; dsimp only; omega)
    rw [← e, ← blk_a m c t, ← blk_g m c t]
    rfl

theorem dh_at (t : Fin cfg0.N) (i : Fin 512) (j : Fin 1024) : dhAt m c t i j = dh (argW m c) (argD m c) (at_ t.val (lt_N t) i) j := by
  unfold dhAt dh
  refine Finset.sum_congr rfl fun k _ => ?_
  rw [blk_w, d_at m c t j _ (by omega)]
  congr 2
  unfold at_
  dsimp only
  omega

theorem dag_lo (t : Fin cfg0.N) (i : Fin 512) (j : Fin 1024) :
    ((outsAt0 m c t.val t.isLt).1 (ix2 i ⟨j.val, by omega⟩) : EReal) = dhAt m c t i j * k0_pay5 (F := Ideal) (blkG m c t) (ix2 i j) := by
  by_cases h : t.val % 16 = 0
  · exact dag_lo_A m c t h i j
  · exact dag_lo_B m c t h i j

theorem dag_hi (t : Fin cfg0.N) (i : Fin 512) (j : Fin 1024) :
    ((outsAt0 m c t.val t.isLt).1 (ix2 i ⟨1024 + j.val, by omega⟩) : EReal) = dhAt m c t i j * blkA m c t (ix2 i j) * k0_pay5 (F := Ideal) (blkG m c t) (ix2 i j)
        * (1 - k0_pay5 (F := Ideal) (blkG m c t) (ix2 i j)) := by
  by_cases h : t.val % 16 = 0
  · exact dag_hi_A m c t h i j
  · exact dag_hi_B m c t h i j

theorem dag_blk (t : Fin cfg0.N) (i : Fin 512) (b : Fin 2048) :
    ((outsAt0 m c t.val t.isLt).1 (ix2 i b) : EReal) = dag (argU m c) (argW m c) (argD m c) (ix2 (at_ t.val (lt_N t) i) b) := by
  obtain ⟨b, hb⟩ := b
  unfold dag
  by_cases h : b < 1024
  · have e : col (ix2 (at_ t.val (lt_N t) i) ⟨b, hb⟩) = (⟨b, h⟩ : Fin 1024) := Fin.ext (Nat.mod_eq_of_lt h)
    refine Eq.trans ?_ (if_pos h).symm
    refine (dag_lo m c t i ⟨b, h⟩).trans ?_
    rw [dh_at, pay5_read, blk_g, ← e]
    rfl
  · have e : col (ix2 (at_ t.val (lt_N t) i) ⟨b, hb⟩) = (⟨b - 1024, by omega⟩ : Fin 1024) := Fin.ext (show b % 1024 = b - 1024 by omega)
    refine Eq.trans ?_ (if_neg h).symm
    have e2 : (⟨b, hb⟩ : Fin 2048) = ⟨1024 + (b - 1024), by omega⟩ := Fin.ext (by dsimp only; omega)
    refine (congrArg (fun x => (outsAt0 m c t.val t.isLt).1 (ix2 i x)) e2).trans ?_
    refine (dag_hi m c t i ⟨b - 1024, by omega⟩).trans ?_
    rw [dh_at, pay5_read, blk_g, blk_a, ← e]
    rfl

/-- The kernel's first result, -/
theorem out_dag : ((dats m 0 c).arrAt 7 (cfgs 0).N : S8192x2048.Idx → EReal) = dag (argU m c) (argW m c) (argD m c) := by
  refine (dats m 0 c).arrAt_eq_of_covers 7 _ (by decide +kernel) fun t hf y => ?_
  have hi := idx_7 t
  obtain ⟨a, b, rfl⟩ : ∃ (a : Fin 512) (b : Fin 2048), y = ix2 a b := ⟨y 0, y 1, eq_ix2 y⟩
  rw [after0_7]
  refine (dag_blk m c t a b).trans (congrArg (dag _ _ _) ?_)
  unfold at_
  blk_ext [hi]

/-- A block's part of the weights' gradient. -/
def dwPart (n : Fin 16) (y : S32x1024.Idx) : EReal :=
  if (y 0).val < 31 then ∑ x : Fin 512, argD m c (ix2 (at_ n.val n.isLt x) (y 1)) * hz (argU m c) ((at_ n.val n.isLt x).val + (y 0).val) (y 1) else 0

theorem dw_at (t : Fin cfg0.N) (a : Fin 32) (j : Fin 1024) : (if a.val < 31 then dwAt m c t a.val j else 0) = dwPart m c ⟨t.val, lt_N t⟩ (ix2 a j) := by
  unfold dwPart
  by_cases h : a.val < 31
  swap
  · exact (if_neg h).trans (if_neg h).symm
  refine (if_pos h).trans (Eq.trans ?_ (if_pos h).symm)
  unfold dwAt
  refine Finset.sum_congr rfl fun x _ => ?_
  rw [blk_d, h_at m c t j _ (by omega) (by omega)]
  congr 2
  unfold at_
  change _ = t.val * 512 + x.val + a.val
  omega

theorem dw_all (t : Fin cfg0.N) (h : t.val % 16 = 15) (y : S32x1024.Idx) :
    ((outsAt0 m c t.val t.isLt).2 y : EReal) = dw (argU m c) (argD m c) y := by
  have ht : t.val / 16 = 0 := by have := lt_N t; omega
  refine (Pipeline.eq_sum_fin_of_reset_step_apply_of_flush (M := EReal)
    (fun n hn (y : S32x1024.Idx) => (outsAt0 m c n hn).2 y) 16 (fun _ => 0)
    (fun u y => dwPart m c ⟨u.val, lt_N u⟩ y) (fun u hu y => ?_) (fun u hu y => ?_) t h y).trans
    ((zero_add _).trans ?_)
  · obtain ⟨a, b, rfl⟩ : ∃ (a : Fin 32) (b : Fin 1024), y = ix2 a b := ⟨y 0, y 1, eq_ix2 y⟩
    exact (dw_A m c u hu a b).trans (congrArg (0 + ·) (dw_at m c u a b))
  · obtain ⟨a, b, rfl⟩ : ∃ (a : Fin 32) (b : Fin 1024), y = ix2 a b := ⟨y 0, y 1, eq_ix2 y⟩
    exact (dw_B m c u hu a b).trans (congrArg (_ + ·) (dw_at m c u a b))
  · unfold dw dwPart dwk
    split_ifs
    · refine Eq.trans ?_ (Fin.sum_mul_add_congr (S := 16) (n := 512)
        (F := fun v x => argD m c (ix2 (at_ v.val v.isLt x) (y 1)) * hz (argU m c) ((at_ v.val v.isLt x).val + (y 0).val) (y 1)) fun _ _ _ => rfl)
      refine Finset.sum_congr rfl fun v _ => ?_
      simp only [ht, Nat.mul_zero, Nat.zero_add]
    · exact Finset.sum_const_zero

/-- and its second. -/
theorem out_dw : ((dats m 0 c).arrAt 8 (cfgs 0).N : S32x1024.Idx → EReal) = dw (argU m c) (argD m c) := by
  refine (dats m 0 c).arrAt_eq_of_covers 8 _ (by decide +kernel) fun t hf y => ?_
  have h3 : t.val % 16 = 15 := (flush0_8 t).mp hf
  have hi := idx_8 t
  rw [after0_8]
  refine (dw_all m c t h3 y).trans (congrArg (dw _ _) ?_)
  obtain ⟨a, b, rfl⟩ : ∃ (a : Fin 32) (b : Fin 1024), y = ix2 a b := ⟨y 0, y 1, eq_ix2 y⟩
  blk_ext [hi]

end Cert.Kernel19Ideal.Mlp

end
-- ==== Proof.M.ConvTapsRef.lean ====
/- The gradient of the convolution by taps and of the gated linear unit: what the reference's results hold. -/
module

public import proofs.«01_k».proof.Proof.Gen.Reference19Ideal.Read
public import proofs.«01_k».proof.Proof.M.Taps
public import Idealize.ShloMosaic.Lib.Pointwise

@[expose] public section

set_option maxRecDepth 16384

noncomputable section

namespace Cert.Reference19Ideal.Mlp

open Cert.Reference19Ideal Cert.Reference19Ideal.Gen Cert.Reference19Ideal.Read Idealize.ShloMosaic
open Cert.Taps

variable (u : FVec Ideal S8192x6144 .f32) (w : FVec Ideal S31x1024 .f32) (d : FVec Ideal S8192x1024 .f32)

/-- The operands, the logistic function of the gate, and the unit with zeros before it. -/
theorem a_read (s : Fin 8192) (j : Fin 1024) : (val_main_v1 (F := Ideal) u (ix2 s j) : EReal) = opA u s j := by
  unfold opA
  pointwise [val_main_v1, val_main_v0]

theorem s_read (s : Fin 8192) (j : Fin 1024) : (val_main_v9 (F := Ideal) u (ix2 s j) : EReal) = sg (opG u s j) := by
  unfold sg opG
  pointwise [val_main_v9, val_main_v8, val_main_v7, val_main_v6, val_main_v5, val_main_v4, val_main_v2, val_main_v0, val_main_cst_0, val_main_cst_1]

theorem h_read (n : Fin 8222) (j : Fin 1024) : (val_main_v14 (F := Ideal) u (ix2 n j) : EReal) = hz u n.val j := by
  have e : ∀ (s : Fin 8192), (val_main_v13 (F := Ideal) u (ix2 s j) : EReal) = glu u s j := fun s => by
    unfold glu
    rw [← a_read, ← s_read]
    rfl
  unfold hz
  pointwise [val_main_v14, val_main_v3, val_main_cst]
  by_cases h : n.val < 30
  · rw [dif_pos h, dif_neg (by omega)]
  · rw [dif_neg h, dif_pos (by omega), e]

/-- Tap 30's part of the unit's gradient, and its weights' gradient. -/
theorem dh_30 (s : Fin 8192) (j : Fin 1024) (hs : 30 + s.val < 8222) :
    (val_main_v244 (F := Ideal) w d (ix2 ⟨30 + s.val, hs⟩ j) : EReal) = w (ix2 30 j) * dz d (s.val + (30 - 30)) j := by
  pointwise [val_main_v244, val_main_v240, val_main_v235, val_main_v239, val_main_v230, val_main_v229, val_main_v228, val_main_cst_8]
  unfold dz
  rw [dif_pos (by omega), mul_comm]

theorem dw_30 (r : Fin 31) (j : Fin 1024) :
    (val_main_v243 (F := Ideal) u d (ix2 r j) : EReal) = if r.val = 30 then dwk u d 30 j else 0 := by
  have e : ∀ n : Fin 8222, (val_main_v14 (F := Ideal) u (ix2 n j) : EReal) = hz u n.val j := fun n => h_read u n j
  pointwise [val_main_v243, val_main_v242, val_main_v241, val_main_v238, val_main_v237, val_main_v236, val_main_v227, val_main_v235, val_main_cst_5, val_main_cst_6, val_main_cst_7, val_main_v234]
  unfold dwk
  by_cases h : r.val = 30
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 29's part of the unit's gradient, and its weights' gradient. -/
theorem dh_29 (s : Fin 8192) (j : Fin 1024) (hs : 30 + s.val < 8222) :
    (val_main_v254 (F := Ideal) w d (ix2 ⟨30 + s.val, hs⟩ j) : EReal) = w (ix2 29 j) * dz d (s.val + (30 - 29)) j := by
  pointwise [val_main_v254, val_main_v249, val_main_v234, val_main_v248, val_main_v223, val_main_v222, val_main_v221, val_main_cst_12]
  unfold dz
  by_cases h : s.val + 1 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_29 (r : Fin 31) (j : Fin 1024) :
    (val_main_v252 (F := Ideal) u d (ix2 r j) : EReal) = if r.val = 29 then dwk u d 29 j else 0 := by
  have e : ∀ n : Fin 8222, (val_main_v14 (F := Ideal) u (ix2 n j) : EReal) = hz u n.val j := fun n => h_read u n j
  pointwise [val_main_v252, val_main_v251, val_main_v250, val_main_v247, val_main_v246, val_main_v245, val_main_v220, val_main_cst_9, val_main_cst_10, val_main_cst_11, val_main_v234]
  unfold dwk
  by_cases h : r.val = 29
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 28's part of the unit's gradient, and its weights' gradient. -/
theorem dh_28 (s : Fin 8192) (j : Fin 1024) (hs : 30 + s.val < 8222) :
    (val_main_v265 (F := Ideal) w d (ix2 ⟨30 + s.val, hs⟩ j) : EReal) = w (ix2 28 j) * dz d (s.val + (30 - 28)) j := by
  pointwise [val_main_v265, val_main_v260, val_main_v234, val_main_v259, val_main_v216, val_main_v215, val_main_v214, val_main_cst_16]
  unfold dz
  by_cases h : s.val + 2 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_28 (r : Fin 31) (j : Fin 1024) :
    (val_main_v263 (F := Ideal) u d (ix2 r j) : EReal) = if r.val = 28 then dwk u d 28 j else 0 := by
  have e : ∀ n : Fin 8222, (val_main_v14 (F := Ideal) u (ix2 n j) : EReal) = hz u n.val j := fun n => h_read u n j
  pointwise [val_main_v263, val_main_v262, val_main_v261, val_main_v258, val_main_v257, val_main_v256, val_main_v213, val_main_cst_13, val_main_cst_14, val_main_cst_15, val_main_v234]
  unfold dwk
  by_cases h : r.val = 28
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 27's part of the unit's gradient, and its weights' gradient. -/
theorem dh_27 (s : Fin 8192) (j : Fin 1024) (hs : 30 + s.val < 8222) :
    (val_main_v276 (F := Ideal) w d (ix2 ⟨30 + s.val, hs⟩ j) : EReal) = w (ix2 27 j) * dz d (s.val + (30 - 27)) j := by
  pointwise [val_main_v276, val_main_v271, val_main_v234, val_main_v270, val_main_v209, val_main_v208, val_main_v207, val_main_cst_20]
  unfold dz
  by_cases h : s.val + 3 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_27 (r : Fin 31) (j : Fin 1024) :
    (val_main_v274 (F := Ideal) u d (ix2 r j) : EReal) = if r.val = 27 then dwk u d 27 j else 0 := by
  have e : ∀ n : Fin 8222, (val_main_v14 (F := Ideal) u (ix2 n j) : EReal) = hz u n.val j := fun n => h_read u n j
  pointwise [val_main_v274, val_main_v273, val_main_v272, val_main_v269, val_main_v268, val_main_v267, val_main_v206, val_main_cst_17, val_main_cst_18, val_main_cst_19, val_main_v234]
  unfold dwk
  by_cases h : r.val = 27
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 26's part of the unit's gradient, and its weights' gradient. -/
theorem dh_26 (s : Fin 8192) (j : Fin 1024) (hs : 30 + s.val < 8222) :
    (val_main_v287 (F := Ideal) w d (ix2 ⟨30 + s.val, hs⟩ j) : EReal) = w (ix2 26 j) * dz d (s.val + (30 - 26)) j := by
  pointwise [val_main_v287, val_main_v282, val_main_v234, val_main_v281, val_main_v202, val_main_v201, val_main_v200, val_main_cst_24]
  unfold dz
  by_cases h : s.val + 4 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_26 (r : Fin 31) (j : Fin 1024) :
    (val_main_v285 (F := Ideal) u d (ix2 r j) : EReal) = if r.val = 26 then dwk u d 26 j else 0 := by
  have e : ∀ n : Fin 8222, (val_main_v14 (F := Ideal) u (ix2 n j) : EReal) = hz u n.val j := fun n => h_read u n j
  pointwise [val_main_v285, val_main_v284, val_main_v283, val_main_v280, val_main_v279, val_main_v278, val_main_v199, val_main_cst_21, val_main_cst_22, val_main_cst_23, val_main_v234]
  unfold dwk
  by_cases h : r.val = 26
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 25's part of the unit's gradient, and its weights' gradient. -/
theorem dh_25 (s : Fin 8192) (j : Fin 1024) (hs : 30 + s.val < 8222) :
    (val_main_v298 (F := Ideal) w d (ix2 ⟨30 + s.val, hs⟩ j) : EReal) = w (ix2 25 j) * dz d (s.val + (30 - 25)) j := by
  pointwise [val_main_v298, val_main_v293, val_main_v234, val_main_v292, val_main_v195, val_main_v194, val_main_v193, val_main_cst_28]
  unfold dz
  by_cases h : s.val + 5 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_25 (r : Fin 31) (j : Fin 1024) :
    (val_main_v296 (F := Ideal) u d (ix2 r j) : EReal) = if r.val = 25 then dwk u d 25 j else 0 := by
  have e : ∀ n : Fin 8222, (val_main_v14 (F := Ideal) u (ix2 n j) : EReal) = hz u n.val j := fun n => h_read u n j
  pointwise [val_main_v296, val_main_v295, val_main_v294, val_main_v291, val_main_v290, val_main_v289, val_main_v192, val_main_cst_25, val_main_cst_26, val_main_cst_27, val_main_v234]
  unfold dwk
  by_cases h : r.val = 25
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 24's part of the unit's gradient, and its weights' gradient. -/
theorem dh_24 (s : Fin 8192) (j : Fin 1024) (hs : 30 + s.val < 8222) :
    (val_main_v309 (F := Ideal) w d (ix2 ⟨30 + s.val, hs⟩ j) : EReal) = w (ix2 24 j) * dz d (s.val + (30 - 24)) j := by
  pointwise [val_main_v309, val_main_v304, val_main_v234, val_main_v303, val_main_v188, val_main_v187, val_main_v186, val_main_cst_32]
  unfold dz
  by_cases h : s.val + 6 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_24 (r : Fin 31) (j : Fin 1024) :
    (val_main_v307 (F := Ideal) u d (ix2 r j) : EReal) = if r.val = 24 then dwk u d 24 j else 0 := by
  have e : ∀ n : Fin 8222, (val_main_v14 (F := Ideal) u (ix2 n j) : EReal) = hz u n.val j := fun n => h_read u n j
  pointwise [val_main_v307, val_main_v306, val_main_v305, val_main_v302, val_main_v301, val_main_v300, val_main_v185, val_main_cst_29, val_main_cst_30, val_main_cst_31, val_main_v234]
  unfold dwk
  by_cases h : r.val = 24
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 23's part of the unit's gradient, and its weights' gradient. -/
theorem dh_23 (s : Fin 8192) (j : Fin 1024) (hs : 30 + s.val < 8222) :
    (val_main_v320 (F := Ideal) w d (ix2 ⟨30 + s.val, hs⟩ j) : EReal) = w (ix2 23 j) * dz d (s.val + (30 - 23)) j := by
  pointwise [val_main_v320, val_main_v315, val_main_v234, val_main_v314, val_main_v181, val_main_v180, val_main_v179, val_main_cst_36]
  unfold dz
  by_cases h : s.val + 7 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_23 (r : Fin 31) (j : Fin 1024) :
    (val_main_v318 (F := Ideal) u d (ix2 r j) : EReal) = if r.val = 23 then dwk u d 23 j else 0 := by
  have e : ∀ n : Fin 8222, (val_main_v14 (F := Ideal) u (ix2 n j) : EReal) = hz u n.val j := fun n => h_read u n j
  pointwise [val_main_v318, val_main_v317, val_main_v316, val_main_v313, val_main_v312, val_main_v311, val_main_v178, val_main_cst_33, val_main_cst_34, val_main_cst_35, val_main_v234]
  unfold dwk
  by_cases h : r.val = 23
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 22's part of the unit's gradient, and its weights' gradient. -/
theorem dh_22 (s : Fin 8192) (j : Fin 1024) (hs : 30 + s.val < 8222) :
    (val_main_v331 (F := Ideal) w d (ix2 ⟨30 + s.val, hs⟩ j) : EReal) = w (ix2 22 j) * dz d (s.val + (30 - 22)) j := by
  pointwise [val_main_v331, val_main_v326, val_main_v234, val_main_v325, val_main_v174, val_main_v173, val_main_v172, val_main_cst_40]
  unfold dz
  by_cases h : s.val + 8 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_22 (r : Fin 31) (j : Fin 1024) :
    (val_main_v329 (F := Ideal) u d (ix2 r j) : EReal) = if r.val = 22 then dwk u d 22 j else 0 := by
  have e : ∀ n : Fin 8222, (val_main_v14 (F := Ideal) u (ix2 n j) : EReal) = hz u n.val j := fun n => h_read u n j
  pointwise [val_main_v329, val_main_v328, val_main_v327, val_main_v324, val_main_v323, val_main_v322, val_main_v171, val_main_cst_37, val_main_cst_38, val_main_cst_39, val_main_v234]
  unfold dwk
  by_cases h : r.val = 22
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 21's part of the unit's gradient, and its weights' gradient. -/
theorem dh_21 (s : Fin 8192) (j : Fin 1024) (hs : 30 + s.val < 8222) :
    (val_main_v342 (F := Ideal) w d (ix2 ⟨30 + s.val, hs⟩ j) : EReal) = w (ix2 21 j) * dz d (s.val + (30 - 21)) j := by
  pointwise [val_main_v342, val_main_v337, val_main_v234, val_main_v336, val_main_v167, val_main_v166, val_main_v165, val_main_cst_44]
  unfold dz
  by_cases h : s.val + 9 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_21 (r : Fin 31) (j : Fin 1024) :
    (val_main_v340 (F := Ideal) u d (ix2 r j) : EReal) = if r.val = 21 then dwk u d 21 j else 0 := by
  have e : ∀ n : Fin 8222, (val_main_v14 (F := Ideal) u (ix2 n j) : EReal) = hz u n.val j := fun n => h_read u n j
  pointwise [val_main_v340, val_main_v339, val_main_v338, val_main_v335, val_main_v334, val_main_v333, val_main_v164, val_main_cst_41, val_main_cst_42, val_main_cst_43, val_main_v234]
  unfold dwk
  by_cases h : r.val = 21
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 20's part of the unit's gradient, and its weights' gradient. -/
theorem dh_20 (s : Fin 8192) (j : Fin 1024) (hs : 30 + s.val < 8222) :
    (val_main_v353 (F := Ideal) w d (ix2 ⟨30 + s.val, hs⟩ j) : EReal) = w (ix2 20 j) * dz d (s.val + (30 - 20)) j := by
  pointwise [val_main_v353, val_main_v348, val_main_v234, val_main_v347, val_main_v160, val_main_v159, val_main_v158, val_main_cst_48]
  unfold dz
  by_cases h : s.val + 10 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_20 (r : Fin 31) (j : Fin 1024) :
    (val_main_v351 (F := Ideal) u d (ix2 r j) : EReal) = if r.val = 20 then dwk u d 20 j else 0 := by
  have e : ∀ n : Fin 8222, (val_main_v14 (F := Ideal) u (ix2 n j) : EReal) = hz u n.val j := fun n => h_read u n j
  pointwise [val_main_v351, val_main_v350, val_main_v349, val_main_v346, val_main_v345, val_main_v344, val_main_v157, val_main_cst_45, val_main_cst_46, val_main_cst_47, val_main_v234]
  unfold dwk
  by_cases h : r.val = 20
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 19's part of the unit's gradient, and its weights' gradient. -/
theorem dh_19 (s : Fin 8192) (j : Fin 1024) (hs : 30 + s.val < 8222) :
    (val_main_v364 (F := Ideal) w d (ix2 ⟨30 + s.val, hs⟩ j) : EReal) = w (ix2 19 j) * dz d (s.val + (30 - 19)) j := by
  pointwise [val_main_v364, val_main_v359, val_main_v234, val_main_v358, val_main_v153, val_main_v152, val_main_v151, val_main_cst_52]
  unfold dz
  by_cases h : s.val + 11 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_19 (r : Fin 31) (j : Fin 1024) :
    (val_main_v362 (F := Ideal) u d (ix2 r j) : EReal) = if r.val = 19 then dwk u d 19 j else 0 := by
  have e : ∀ n : Fin 8222, (val_main_v14 (F := Ideal) u (ix2 n j) : EReal) = hz u n.val j := fun n => h_read u n j
  pointwise [val_main_v362, val_main_v361, val_main_v360, val_main_v357, val_main_v356, val_main_v355, val_main_v150, val_main_cst_49, val_main_cst_50, val_main_cst_51, val_main_v234]
  unfold dwk
  by_cases h : r.val = 19
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 18's part of the unit's gradient, and its weights' gradient. -/
theorem dh_18 (s : Fin 8192) (j : Fin 1024) (hs : 30 + s.val < 8222) :
    (val_main_v375 (F := Ideal) w d (ix2 ⟨30 + s.val, hs⟩ j) : EReal) = w (ix2 18 j) * dz d (s.val + (30 - 18)) j := by
  pointwise [val_main_v375, val_main_v370, val_main_v234, val_main_v369, val_main_v146, val_main_v145, val_main_v144, val_main_cst_56]
  unfold dz
  by_cases h : s.val + 12 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_18 (r : Fin 31) (j : Fin 1024) :
    (val_main_v373 (F := Ideal) u d (ix2 r j) : EReal) = if r.val = 18 then dwk u d 18 j else 0 := by
  have e : ∀ n : Fin 8222, (val_main_v14 (F := Ideal) u (ix2 n j) : EReal) = hz u n.val j := fun n => h_read u n j
  pointwise [val_main_v373, val_main_v372, val_main_v371, val_main_v368, val_main_v367, val_main_v366, val_main_v143, val_main_cst_53, val_main_cst_54, val_main_cst_55, val_main_v234]
  unfold dwk
  by_cases h : r.val = 18
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 17's part of the unit's gradient, and its weights' gradient. -/
theorem dh_17 (s : Fin 8192) (j : Fin 1024) (hs : 30 + s.val < 8222) :
    (val_main_v386 (F := Ideal) w d (ix2 ⟨30 + s.val, hs⟩ j) : EReal) = w (ix2 17 j) * dz d (s.val + (30 - 17)) j := by
  pointwise [val_main_v386, val_main_v381, val_main_v234, val_main_v380, val_main_v139, val_main_v138, val_main_v137, val_main_cst_60]
  unfold dz
  by_cases h : s.val + 13 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_17 (r : Fin 31) (j : Fin 1024) :
    (val_main_v384 (F := Ideal) u d (ix2 r j) : EReal) = if r.val = 17 then dwk u d 17 j else 0 := by
  have e : ∀ n : Fin 8222, (val_main_v14 (F := Ideal) u (ix2 n j) : EReal) = hz u n.val j := fun n => h_read u n j
  pointwise [val_main_v384, val_main_v383, val_main_v382, val_main_v379, val_main_v378, val_main_v377, val_main_v136, val_main_cst_57, val_main_cst_58, val_main_cst_59, val_main_v234]
  unfold dwk
  by_cases h : r.val = 17
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 16's part of the unit's gradient, and its weights' gradient. -/
theorem dh_16 (s : Fin 8192) (j : Fin 1024) (hs : 30 + s.val < 8222) :
    (val_main_v397 (F := Ideal) w d (ix2 ⟨30 + s.val, hs⟩ j) : EReal) = w (ix2 16 j) * dz d (s.val + (30 - 16)) j := by
  pointwise [val_main_v397, val_main_v392, val_main_v234, val_main_v391, val_main_v132, val_main_v131, val_main_v130, val_main_cst_64]
  unfold dz
  by_cases h : s.val + 14 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_16 (r : Fin 31) (j : Fin 1024) :
    (val_main_v395 (F := Ideal) u d (ix2 r j) : EReal) = if r.val = 16 then dwk u d 16 j else 0 := by
  have e : ∀ n : Fin 8222, (val_main_v14 (F := Ideal) u (ix2 n j) : EReal) = hz u n.val j := fun n => h_read u n j
  pointwise [val_main_v395, val_main_v394, val_main_v393, val_main_v390, val_main_v389, val_main_v388, val_main_v129, val_main_cst_61, val_main_cst_62, val_main_cst_63, val_main_v234]
  unfold dwk
  by_cases h : r.val = 16
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 15's part of the unit's gradient, and its weights' gradient. -/
theorem dh_15 (s : Fin 8192) (j : Fin 1024) (hs : 30 + s.val < 8222) :
    (val_main_v408 (F := Ideal) w d (ix2 ⟨30 + s.val, hs⟩ j) : EReal) = w (ix2 15 j) * dz d (s.val + (30 - 15)) j := by
  pointwise [val_main_v408, val_main_v403, val_main_v234, val_main_v402, val_main_v125, val_main_v124, val_main_v123, val_main_cst_68]
  unfold dz
  by_cases h : s.val + 15 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_15 (r : Fin 31) (j : Fin 1024) :
    (val_main_v406 (F := Ideal) u d (ix2 r j) : EReal) = if r.val = 15 then dwk u d 15 j else 0 := by
  have e : ∀ n : Fin 8222, (val_main_v14 (F := Ideal) u (ix2 n j) : EReal) = hz u n.val j := fun n => h_read u n j
  pointwise [val_main_v406, val_main_v405, val_main_v404, val_main_v401, val_main_v400, val_main_v399, val_main_v122, val_main_cst_65, val_main_cst_66, val_main_cst_67, val_main_v234]
  unfold dwk
  by_cases h : r.val = 15
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 14's part of the unit's gradient, and its weights' gradient. -/
theorem dh_14 (s : Fin 8192) (j : Fin 1024) (hs : 30 + s.val < 8222) :
    (val_main_v419 (F := Ideal) w d (ix2 ⟨30 + s.val, hs⟩ j) : EReal) = w (ix2 14 j) * dz d (s.val + (30 - 14)) j := by
  pointwise [val_main_v419, val_main_v414, val_main_v234, val_main_v413, val_main_v118, val_main_v117, val_main_v116, val_main_cst_72]
  unfold dz
  by_cases h : s.val + 16 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_14 (r : Fin 31) (j : Fin 1024) :
    (val_main_v417 (F := Ideal) u d (ix2 r j) : EReal) = if r.val = 14 then dwk u d 14 j else 0 := by
  have e : ∀ n : Fin 8222, (val_main_v14 (F := Ideal) u (ix2 n j) : EReal) = hz u n.val j := fun n => h_read u n j
  pointwise [val_main_v417, val_main_v416, val_main_v415, val_main_v412, val_main_v411, val_main_v410, val_main_v115, val_main_cst_69, val_main_cst_70, val_main_cst_71, val_main_v234]
  unfold dwk
  by_cases h : r.val = 14
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 13's part of the unit's gradient, and its weights' gradient. -/
theorem dh_13 (s : Fin 8192) (j : Fin 1024) (hs : 30 + s.val < 8222) :
    (val_main_v430 (F := Ideal) w d (ix2 ⟨30 + s.val, hs⟩ j) : EReal) = w (ix2 13 j) * dz d (s.val + (30 - 13)) j := by
  pointwise [val_main_v430, val_main_v425, val_main_v234, val_main_v424, val_main_v111, val_main_v110, val_main_v109, val_main_cst_76]
  unfold dz
  by_cases h : s.val + 17 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_13 (r : Fin 31) (j : Fin 1024) :
    (val_main_v428 (F := Ideal) u d (ix2 r j) : EReal) = if r.val = 13 then dwk u d 13 j else 0 := by
  have e : ∀ n : Fin 8222, (val_main_v14 (F := Ideal) u (ix2 n j) : EReal) = hz u n.val j := fun n => h_read u n j
  pointwise [val_main_v428, val_main_v427, val_main_v426, val_main_v423, val_main_v422, val_main_v421, val_main_v108, val_main_cst_73, val_main_cst_74, val_main_cst_75, val_main_v234]
  unfold dwk
  by_cases h : r.val = 13
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 12's part of the unit's gradient, and its weights' gradient. -/
theorem dh_12 (s : Fin 8192) (j : Fin 1024) (hs : 30 + s.val < 8222) :
    (val_main_v441 (F := Ideal) w d (ix2 ⟨30 + s.val, hs⟩ j) : EReal) = w (ix2 12 j) * dz d (s.val + (30 - 12)) j := by
  pointwise [val_main_v441, val_main_v436, val_main_v234, val_main_v435, val_main_v104, val_main_v103, val_main_v102, val_main_cst_80]
  unfold dz
  by_cases h : s.val + 18 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_12 (r : Fin 31) (j : Fin 1024) :
    (val_main_v439 (F := Ideal) u d (ix2 r j) : EReal) = if r.val = 12 then dwk u d 12 j else 0 := by
  have e : ∀ n : Fin 8222, (val_main_v14 (F := Ideal) u (ix2 n j) : EReal) = hz u n.val j := fun n => h_read u n j
  pointwise [val_main_v439, val_main_v438, val_main_v437, val_main_v434, val_main_v433, val_main_v432, val_main_v101, val_main_cst_77, val_main_cst_78, val_main_cst_79, val_main_v234]
  unfold dwk
  by_cases h : r.val = 12
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 11's part of the unit's gradient, and its weights' gradient. -/
theorem dh_11 (s : Fin 8192) (j : Fin 1024) (hs : 30 + s.val < 8222) :
    (val_main_v452 (F := Ideal) w d (ix2 ⟨30 + s.val, hs⟩ j) : EReal) = w (ix2 11 j) * dz d (s.val + (30 - 11)) j := by
  pointwise [val_main_v452, val_main_v447, val_main_v234, val_main_v446, val_main_v97, val_main_v96, val_main_v95, val_main_cst_84]
  unfold dz
  by_cases h : s.val + 19 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_11 (r : Fin 31) (j : Fin 1024) :
    (val_main_v450 (F := Ideal) u d (ix2 r j) : EReal) = if r.val = 11 then dwk u d 11 j else 0 := by
  have e : ∀ n : Fin 8222, (val_main_v14 (F := Ideal) u (ix2 n j) : EReal) = hz u n.val j := fun n => h_read u n j
  pointwise [val_main_v450, val_main_v449, val_main_v448, val_main_v445, val_main_v444, val_main_v443, val_main_v94, val_main_cst_81, val_main_cst_82, val_main_cst_83, val_main_v234]
  unfold dwk
  by_cases h : r.val = 11
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 10's part of the unit's gradient, and its weights' gradient. -/
theorem dh_10 (s : Fin 8192) (j : Fin 1024) (hs : 30 + s.val < 8222) :
    (val_main_v463 (F := Ideal) w d (ix2 ⟨30 + s.val, hs⟩ j) : EReal) = w (ix2 10 j) * dz d (s.val + (30 - 10)) j := by
  pointwise [val_main_v463, val_main_v458, val_main_v234, val_main_v457, val_main_v90, val_main_v89, val_main_v88, val_main_cst_88]
  unfold dz
  by_cases h : s.val + 20 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_10 (r : Fin 31) (j : Fin 1024) :
    (val_main_v461 (F := Ideal) u d (ix2 r j) : EReal) = if r.val = 10 then dwk u d 10 j else 0 := by
  have e : ∀ n : Fin 8222, (val_main_v14 (F := Ideal) u (ix2 n j) : EReal) = hz u n.val j := fun n => h_read u n j
  pointwise [val_main_v461, val_main_v460, val_main_v459, val_main_v456, val_main_v455, val_main_v454, val_main_v87, val_main_cst_85, val_main_cst_86, val_main_cst_87, val_main_v234]
  unfold dwk
  by_cases h : r.val = 10
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 9's part of the unit's gradient, and its weights' gradient. -/
theorem dh_9 (s : Fin 8192) (j : Fin 1024) (hs : 30 + s.val < 8222) :
    (val_main_v474 (F := Ideal) w d (ix2 ⟨30 + s.val, hs⟩ j) : EReal) = w (ix2 9 j) * dz d (s.val + (30 - 9)) j := by
  pointwise [val_main_v474, val_main_v469, val_main_v234, val_main_v468, val_main_v83, val_main_v82, val_main_v81, val_main_cst_92]
  unfold dz
  by_cases h : s.val + 21 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_9 (r : Fin 31) (j : Fin 1024) :
    (val_main_v472 (F := Ideal) u d (ix2 r j) : EReal) = if r.val = 9 then dwk u d 9 j else 0 := by
  have e : ∀ n : Fin 8222, (val_main_v14 (F := Ideal) u (ix2 n j) : EReal) = hz u n.val j := fun n => h_read u n j
  pointwise [val_main_v472, val_main_v471, val_main_v470, val_main_v467, val_main_v466, val_main_v465, val_main_v80, val_main_cst_89, val_main_cst_90, val_main_cst_91, val_main_v234]
  unfold dwk
  by_cases h : r.val = 9
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 8's part of the unit's gradient, and its weights' gradient. -/
theorem dh_8 (s : Fin 8192) (j : Fin 1024) (hs : 30 + s.val < 8222) :
    (val_main_v485 (F := Ideal) w d (ix2 ⟨30 + s.val, hs⟩ j) : EReal) = w (ix2 8 j) * dz d (s.val + (30 - 8)) j := by
  pointwise [val_main_v485, val_main_v480, val_main_v234, val_main_v479, val_main_v76, val_main_v75, val_main_v74, val_main_cst_96]
  unfold dz
  by_cases h : s.val + 22 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_8 (r : Fin 31) (j : Fin 1024) :
    (val_main_v483 (F := Ideal) u d (ix2 r j) : EReal) = if r.val = 8 then dwk u d 8 j else 0 := by
  have e : ∀ n : Fin 8222, (val_main_v14 (F := Ideal) u (ix2 n j) : EReal) = hz u n.val j := fun n => h_read u n j
  pointwise [val_main_v483, val_main_v482, val_main_v481, val_main_v478, val_main_v477, val_main_v476, val_main_v73, val_main_cst_93, val_main_cst_94, val_main_cst_95, val_main_v234]
  unfold dwk
  by_cases h : r.val = 8
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 7's part of the unit's gradient, and its weights' gradient. -/
theorem dh_7 (s : Fin 8192) (j : Fin 1024) (hs : 30 + s.val < 8222) :
    (val_main_v496 (F := Ideal) w d (ix2 ⟨30 + s.val, hs⟩ j) : EReal) = w (ix2 7 j) * dz d (s.val + (30 - 7)) j := by
  pointwise [val_main_v496, val_main_v491, val_main_v234, val_main_v490, val_main_v69, val_main_v68, val_main_v67, val_main_cst_100]
  unfold dz
  by_cases h : s.val + 23 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_7 (r : Fin 31) (j : Fin 1024) :
    (val_main_v494 (F := Ideal) u d (ix2 r j) : EReal) = if r.val = 7 then dwk u d 7 j else 0 := by
  have e : ∀ n : Fin 8222, (val_main_v14 (F := Ideal) u (ix2 n j) : EReal) = hz u n.val j := fun n => h_read u n j
  pointwise [val_main_v494, val_main_v493, val_main_v492, val_main_v489, val_main_v488, val_main_v487, val_main_v66, val_main_cst_97, val_main_cst_98, val_main_cst_99, val_main_v234]
  unfold dwk
  by_cases h : r.val = 7
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 6's part of the unit's gradient, and its weights' gradient. -/
theorem dh_6 (s : Fin 8192) (j : Fin 1024) (hs : 30 + s.val < 8222) :
    (val_main_v507 (F := Ideal) w d (ix2 ⟨30 + s.val, hs⟩ j) : EReal) = w (ix2 6 j) * dz d (s.val + (30 - 6)) j := by
  pointwise [val_main_v507, val_main_v502, val_main_v234, val_main_v501, val_main_v62, val_main_v61, val_main_v60, val_main_cst_104]
  unfold dz
  by_cases h : s.val + 24 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_6 (r : Fin 31) (j : Fin 1024) :
    (val_main_v505 (F := Ideal) u d (ix2 r j) : EReal) = if r.val = 6 then dwk u d 6 j else 0 := by
  have e : ∀ n : Fin 8222, (val_main_v14 (F := Ideal) u (ix2 n j) : EReal) = hz u n.val j := fun n => h_read u n j
  pointwise [val_main_v505, val_main_v504, val_main_v503, val_main_v500, val_main_v499, val_main_v498, val_main_v59, val_main_cst_101, val_main_cst_102, val_main_cst_103, val_main_v234]
  unfold dwk
  by_cases h : r.val = 6
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 5's part of the unit's gradient, and its weights' gradient. -/
theorem dh_5 (s : Fin 8192) (j : Fin 1024) (hs : 30 + s.val < 8222) :
    (val_main_v518 (F := Ideal) w d (ix2 ⟨30 + s.val, hs⟩ j) : EReal) = w (ix2 5 j) * dz d (s.val + (30 - 5)) j := by
  pointwise [val_main_v518, val_main_v513, val_main_v234, val_main_v512, val_main_v55, val_main_v54, val_main_v53, val_main_cst_108]
  unfold dz
  by_cases h : s.val + 25 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_5 (r : Fin 31) (j : Fin 1024) :
    (val_main_v516 (F := Ideal) u d (ix2 r j) : EReal) = if r.val = 5 then dwk u d 5 j else 0 := by
  have e : ∀ n : Fin 8222, (val_main_v14 (F := Ideal) u (ix2 n j) : EReal) = hz u n.val j := fun n => h_read u n j
  pointwise [val_main_v516, val_main_v515, val_main_v514, val_main_v511, val_main_v510, val_main_v509, val_main_v52, val_main_cst_105, val_main_cst_106, val_main_cst_107, val_main_v234]
  unfold dwk
  by_cases h : r.val = 5
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 4's part of the unit's gradient, and its weights' gradient. -/
theorem dh_4 (s : Fin 8192) (j : Fin 1024) (hs : 30 + s.val < 8222) :
    (val_main_v529 (F := Ideal) w d (ix2 ⟨30 + s.val, hs⟩ j) : EReal) = w (ix2 4 j) * dz d (s.val + (30 - 4)) j := by
  pointwise [val_main_v529, val_main_v524, val_main_v234, val_main_v523, val_main_v48, val_main_v47, val_main_v46, val_main_cst_112]
  unfold dz
  by_cases h : s.val + 26 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_4 (r : Fin 31) (j : Fin 1024) :
    (val_main_v527 (F := Ideal) u d (ix2 r j) : EReal) = if r.val = 4 then dwk u d 4 j else 0 := by
  have e : ∀ n : Fin 8222, (val_main_v14 (F := Ideal) u (ix2 n j) : EReal) = hz u n.val j := fun n => h_read u n j
  pointwise [val_main_v527, val_main_v526, val_main_v525, val_main_v522, val_main_v521, val_main_v520, val_main_v45, val_main_cst_109, val_main_cst_110, val_main_cst_111, val_main_v234]
  unfold dwk
  by_cases h : r.val = 4
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 3's part of the unit's gradient, and its weights' gradient. -/
theorem dh_3 (s : Fin 8192) (j : Fin 1024) (hs : 30 + s.val < 8222) :
    (val_main_v540 (F := Ideal) w d (ix2 ⟨30 + s.val, hs⟩ j) : EReal) = w (ix2 3 j) * dz d (s.val + (30 - 3)) j := by
  pointwise [val_main_v540, val_main_v535, val_main_v234, val_main_v534, val_main_v41, val_main_v40, val_main_v39, val_main_cst_116]
  unfold dz
  by_cases h : s.val + 27 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_3 (r : Fin 31) (j : Fin 1024) :
    (val_main_v538 (F := Ideal) u d (ix2 r j) : EReal) = if r.val = 3 then dwk u d 3 j else 0 := by
  have e : ∀ n : Fin 8222, (val_main_v14 (F := Ideal) u (ix2 n j) : EReal) = hz u n.val j := fun n => h_read u n j
  pointwise [val_main_v538, val_main_v537, val_main_v536, val_main_v533, val_main_v532, val_main_v531, val_main_v38, val_main_cst_113, val_main_cst_114, val_main_cst_115, val_main_v234]
  unfold dwk
  by_cases h : r.val = 3
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 2's part of the unit's gradient, and its weights' gradient. -/
theorem dh_2 (s : Fin 8192) (j : Fin 1024) (hs : 30 + s.val < 8222) :
    (val_main_v551 (F := Ideal) w d (ix2 ⟨30 + s.val, hs⟩ j) : EReal) = w (ix2 2 j) * dz d (s.val + (30 - 2)) j := by
  pointwise [val_main_v551, val_main_v546, val_main_v234, val_main_v545, val_main_v34, val_main_v33, val_main_v32, val_main_cst_120]
  unfold dz
  by_cases h : s.val + 28 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_2 (r : Fin 31) (j : Fin 1024) :
    (val_main_v549 (F := Ideal) u d (ix2 r j) : EReal) = if r.val = 2 then dwk u d 2 j else 0 := by
  have e : ∀ n : Fin 8222, (val_main_v14 (F := Ideal) u (ix2 n j) : EReal) = hz u n.val j := fun n => h_read u n j
  pointwise [val_main_v549, val_main_v548, val_main_v547, val_main_v544, val_main_v543, val_main_v542, val_main_v31, val_main_cst_117, val_main_cst_118, val_main_cst_119, val_main_v234]
  unfold dwk
  by_cases h : r.val = 2
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 1's part of the unit's gradient, and its weights' gradient. -/
theorem dh_1 (s : Fin 8192) (j : Fin 1024) (hs : 30 + s.val < 8222) :
    (val_main_v562 (F := Ideal) w d (ix2 ⟨30 + s.val, hs⟩ j) : EReal) = w (ix2 1 j) * dz d (s.val + (30 - 1)) j := by
  pointwise [val_main_v562, val_main_v557, val_main_v234, val_main_v556, val_main_v27, val_main_v26, val_main_v25, val_main_cst_124]
  unfold dz
  by_cases h : s.val + 29 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_1 (r : Fin 31) (j : Fin 1024) :
    (val_main_v560 (F := Ideal) u d (ix2 r j) : EReal) = if r.val = 1 then dwk u d 1 j else 0 := by
  have e : ∀ n : Fin 8222, (val_main_v14 (F := Ideal) u (ix2 n j) : EReal) = hz u n.val j := fun n => h_read u n j
  pointwise [val_main_v560, val_main_v559, val_main_v558, val_main_v555, val_main_v554, val_main_v553, val_main_v24, val_main_cst_121, val_main_cst_122, val_main_cst_123, val_main_v234]
  unfold dwk
  by_cases h : r.val = 1
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- Tap 0's part of the unit's gradient, and its weights' gradient. -/
theorem dh_0 (s : Fin 8192) (j : Fin 1024) (hs : 30 + s.val < 8222) :
    (val_main_v573 (F := Ideal) w d (ix2 ⟨30 + s.val, hs⟩ j) : EReal) = w (ix2 0 j) * dz d (s.val + (30 - 0)) j := by
  pointwise [val_main_v573, val_main_v568, val_main_v234, val_main_v567, val_main_v19, val_main_v18, val_main_v17, val_main_cst_128]
  unfold dz
  by_cases h : s.val + 30 < 8192
  · rw [dif_pos (by omega), dif_pos (by omega), mul_comm]
    exact congrArg (w _ * ·) (congrArg d (congrArg (ix2 · j) (Fin.ext (by dsimp only; omega))))
  · rw [dif_neg (by omega), dif_neg (by omega), mul_zero]

theorem dw_0 (r : Fin 31) (j : Fin 1024) :
    (val_main_v571 (F := Ideal) u d (ix2 r j) : EReal) = if r.val = 0 then dwk u d 0 j else 0 := by
  have e : ∀ n : Fin 8222, (val_main_v14 (F := Ideal) u (ix2 n j) : EReal) = hz u n.val j := fun n => h_read u n j
  pointwise [val_main_v571, val_main_v570, val_main_v569, val_main_v566, val_main_v565, val_main_v564, val_main_v16, val_main_cst_125, val_main_cst_126, val_main_cst_127, val_main_v234]
  unfold dwk
  by_cases h : r.val = 0
  · rw [if_pos h, dif_pos (by omega)]
    simp only [Finset.univ_unique, Finset.sum_singleton]
    refine Finset.sum_congr rfl fun x _ => ?_
    rw [e, mul_comm]
    exact congrArg (fun n => d (ix2 x j) * hz u n j) (by dsimp only; omega)
  · rw [if_neg h, dif_neg (by omega)]

/-- The gradient of the unit. -/
theorem dh_read (s : Fin 8192) (j : Fin 1024) (hs : 30 + s.val < 8222) :
    (val_main_v574 (F := Ideal) w d (ix2 ⟨30 + s.val, hs⟩ j) : EReal) = dh w d s j := by
  unfold dh
  rw [← sum_back]
  pointwise [val_main_v574, val_main_v563, val_main_v552, val_main_v541, val_main_v530, val_main_v519, val_main_v508, val_main_v497, val_main_v486, val_main_v475, val_main_v464, val_main_v453, val_main_v442, val_main_v431, val_main_v420, val_main_v409, val_main_v398, val_main_v387, val_main_v376, val_main_v365, val_main_v354, val_main_v343, val_main_v332, val_main_v321, val_main_v310, val_main_v299, val_main_v288, val_main_v277, val_main_v266, val_main_v255]
  rw [dh_30, dh_29, dh_28, dh_27, dh_26, dh_25, dh_24, dh_23, dh_22, dh_21, dh_20, dh_19, dh_18, dh_17, dh_16, dh_15, dh_14, dh_13, dh_12, dh_11, dh_10, dh_9, dh_8, dh_7, dh_6, dh_5, dh_4, dh_3, dh_2, dh_1, dh_0]
  rfl

/-- The weights' gradient. -/
theorem dw_read (r : Fin 31) (j : Fin 1024) : (val_main_v572 (F := Ideal) u d (ix2 r j) : EReal) = dwk u d r.val j := by
  pointwise [val_main_v572, val_main_v561, val_main_v550, val_main_v539, val_main_v528, val_main_v517, val_main_v506, val_main_v495, val_main_v484, val_main_v473, val_main_v462, val_main_v451, val_main_v440, val_main_v429, val_main_v418, val_main_v407, val_main_v396, val_main_v385, val_main_v374, val_main_v363, val_main_v352, val_main_v341, val_main_v330, val_main_v319, val_main_v308, val_main_v297, val_main_v286, val_main_v275, val_main_v264, val_main_v253]
  rw [dw_30, dw_29, dw_28, dw_27, dw_26, dw_25, dw_24, dw_23, dw_22, dw_21, dw_20, dw_19, dw_18, dw_17, dw_16, dw_15, dw_14, dw_13, dw_12, dw_11, dw_10, dw_9, dw_8, dw_7, dw_6, dw_5, dw_4, dw_3, dw_2, dw_1, dw_0]
  refine (sum_back (fun k : Fin 31 => if r.val = k.val then dwk u d k.val j else 0)).trans ?_
  refine (Finset.sum_eq_single r (fun k _ hk => if_neg fun h => hk (Fin.ext h.symm)) fun h => absurd (Finset.mem_univ r) h).trans ?_
  exact if_pos rfl

/-- The reference's first result, -/
theorem ref_dag : (val_main_v580 (F := Ideal) u w d : S8192x2048.Idx → EReal) = dag u w d := by
  funext y
  obtain ⟨s, b, rfl⟩ : ∃ (s : Fin 8192) (b : Fin 2048), y = ix2 s b := ⟨y 0, y 1, eq_ix2 y⟩
  obtain ⟨b, hb⟩ := b
  have lo : ∀ j : Fin 1024, (val_main_v578 (F := Ideal) u w d (ix2 s j) : EReal) = dh w d s j * sg (opG u s j) := fun j => by
    rw [← s_read, ← dh_read w d s j (by omega)]
    pointwise [val_main_v578, val_main_v576]
  have hi : ∀ j : Fin 1024, (val_main_v579 (F := Ideal) u w d (ix2 s j) : EReal)
      = dh w d s j * opA u s j * sg (opG u s j) * (1 - sg (opG u s j)) := fun j => by
    rw [← s_read, ← a_read, ← dh_read w d s j (by omega)]
    pointwise [val_main_v579, val_main_v577, val_main_v576, val_main_v12, val_main_v11, val_main_v10, val_main_cst_2]
    rw [← mul_assoc, mul_comm (val_main_v1 (F := Ideal) u (ix2 s j)) _]
  have hc : (val_main_v580 (F := Ideal) u w d (ix2 s ⟨b, hb⟩) : EReal)
      = if h : b < 1024 then val_main_v578 (F := Ideal) u w d (ix2 s ⟨b, h⟩) else val_main_v579 (F := Ideal) u w d (ix2 s ⟨b - 1024, by omega⟩) := by
    pointwise [val_main_v580]
  refine hc.trans ?_
  unfold dag
  by_cases h : b < 1024
  · have e : col (ix2 s ⟨b, hb⟩) = (⟨b, h⟩ : Fin 1024) := Fin.ext (Nat.mod_eq_of_lt h)
    refine Eq.trans ?_ (if_pos h).symm
    rw [dif_pos h, lo, ← e]
    rfl
  · have e : col (ix2 s ⟨b, hb⟩) = (⟨b - 1024, by omega⟩ : Fin 1024) := Fin.ext (show b % 1024 = b - 1024 by omega)
    refine Eq.trans ?_ (if_neg h).symm
    rw [dif_neg h, hi, ← e]
    rfl

/-- and its second. -/
theorem ref_dw : (val_main_v582 (F := Ideal) u d : S32x1024.Idx → EReal) = dw u d := by
  funext y
  obtain ⟨r, j, rfl⟩ : ∃ (r : Fin 32) (j : Fin 1024), y = ix2 r j := ⟨y 0, y 1, eq_ix2 y⟩
  have hc : (val_main_v582 (F := Ideal) u d (ix2 r j) : EReal)
      = if h : r.val < 31 then val_main_v572 (F := Ideal) u d (ix2 ⟨r.val, h⟩ j) else 0 := by
    pointwise [val_main_v582, val_main_v581, val_main_cst_129]
  refine hc.trans ?_
  unfold dw
  by_cases h : r.val < 31
  · refine Eq.trans ?_ (if_pos h).symm
    rw [dif_pos h, dw_read]
    rfl
  · refine Eq.trans ?_ (if_neg h).symm
    rw [dif_neg h]

end Cert.Reference19Ideal.Mlp

end
-- ==== Proof.M.ConvFwd.lean ====
module

public import proofs.«01_k».proof.Proof.Gen.Kernel20Ideal.Value
public import proofs.«01_k».proof.Proof.M.Taps
public import proofs.«01_k».proof.Proof.M.ConvNorm
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.Lib.WordCmp

/-!
  The forward pass of the causal convolution, its norm and its activation: what the kernel's two results hold.
-/

@[expose] public section

set_option maxRecDepth 16384

noncomputable section

namespace Cert.ConvFwd

open Cert.Kernel20Ideal Idealize.ShloMosaic Cert.Taps Cert.Norm

variable (u : FVec Ideal S8192x6144 .f32) (w : FVec Ideal S31x1024 .f32) (q g b : FVec Ideal S1024 .f32)

/-- The convolution: every row is a sum of the gated unit's row and the 30 rows before it, each weighted by its tap, and the bias. -/
def conv (s : Fin 8192) (j : Fin 1024) : EReal := (∑ k : Fin 31, w (ix2 k j) * hz u (s.val + k.val) j) + q (ix1 j)

/-- The activation of a number, and of a row after its norm with a scale and an offset. -/
def swish (n : EReal) : EReal := n * sg n
def act (v : Fin 1024 → EReal) (g b : EReal) (j : Fin 1024) : EReal := swish (hat w1024 v j * g + b)

/-- What the two results hold. -/
def cv (i : S8192x1024.Idx) : EReal := conv u w q (i 0) (i 1)
def out (i : S8192x1024.Idx) : EReal := act (conv u w q (i 0)) (g (ix1 (i 1))) (b (ix1 (i 1))) (i 1)

/-- The sum of the taps in the order in which the kernel reads them. -/
theorem sum_fwd (g : Fin 31 → EReal) : g 6 + g 14 + g 22 + g 30 + g 7 + g 15 + g 23 + g 0 + g 8 + g 16 + g 24 + g 1 + g 9 + g 17 + g 25 + g 2 + g 10 + g 18 + g 26 + g 3 + g 11 + g 19 + g 27 + g 4 + g 12 + g 20 + g 28 + g 5 + g 13 + g 21 + g 29 = ∑ k, g k := by
  have hp : ([6, 14, 22, 30, 7, 15, 23, 0, 8, 16, 24, 1, 9, 17, 25, 2, 10, 18, 26, 3, 11, 19, 27, 4, 12, 20, 28, 5, 13, 21, 29] : List (Fin 31)).Perm (List.finRange 31) := by decide
  have hs := (hp.map g).sum_eq
  rw [← Fin.sum_univ_def] at hs
  rw [← hs]
  simp only [List.map_cons, List.map_nil, List.sum_cons, List.sum_nil, add_zero, add_assoc]

end Cert.ConvFwd

namespace Cert.Kernel20Ideal.Mlp

open Cert.Kernel20Ideal Cert.Kernel20Ideal.Gen Idealize.ShloMosaic Idealize.ShloMosaic.TcCoe Idealize.SL.Sem
open Cert.Taps Cert.Norm Cert.ConvFwd

/-- A block of rows with 32 rows before it, as two stores leave them. -/
@[irreducible] def before32 (X : FVec Ideal S512x1024 .f32) (Y : FVec Ideal S32x1024 .f32) : FVec Ideal S544x1024 .f32 :=
  View.canon (Val := Elt Ideal) (e := .f32) [⟨Rect.unit (s := S544x1024) ![0, 0] ![32, 1024] inb_S544x1024_S32x1024_0_0, Y⟩,
    ⟨Rect.unit (s := S544x1024) ![32, 0] ![512, 1024] inb_S544x1024_S512x1024_32_0, X⟩]

theorem before32_lt (X Y) (n : Fin 544) (j : Fin 1024) (h : n.val < 32) : before32 X Y (ix2 n j) = Y (ix2 ⟨n.val, h⟩ j) := by
  unfold before32
  rw [canon_box, dif_pos (by omega)]; rfl
theorem before32_ge (X Y) (n : Fin 544) (j : Fin 1024) (h : ¬n.val < 32) : before32 X Y (ix2 n j) = X (ix2 ⟨n.val - 32, by omega⟩ j) := by
  unfold before32
  rw [canon_box, dif_neg (by omega), canon_box, dif_pos (by omega)]; rfl

theorem readCov_before {κ : Kind} {sp : Space} (v : View sig κ sp S544x1024 .f32) (X : FVec Ideal S512x1024 .f32) (Y : FVec Ideal S32x1024 .f32) (h₁ h₂)
    (r : Rect S544x1024) : v.readCov (Val := Elt Ideal) [⟨Rect.unit (s := S544x1024) ![0, 0] ![32, 1024] h₁, Y⟩, ⟨Rect.unit (s := S544x1024) ![32, 0] ![512, 1024] h₂, X⟩] r.toLoadRect
      = View.ld (before32 X Y) r := by
  rw [View.readCov_eq_canon']; unfold before32; rfl

variable (m : (ℓ : Loc nD τ sig) → Buf (Elt Ideal) ℓ) (c : Dev nD)

/-- The blocks of a point. -/
def blkA (t : Fin cfg0.N) : FVec Ideal S512x1024 .f32 := iblk m c 0 t
def blkG (t : Fin cfg0.N) : FVec Ideal S512x1024 .f32 := iblk m c 1 t
def blkW (t : Fin cfg0.N) : FVec Ideal S31x1024 .f32 := iblk m c 4 t
def blkQ (t : Fin cfg0.N) : FVec Ideal S1x1024 .f32 := iblk m c 5 t
def blkS (t : Fin cfg0.N) : FVec Ideal S1x1024 .f32 := iblk m c 6 t
def blkO (t : Fin cfg0.N) : FVec Ideal S1x1024 .f32 := iblk m c 7 t

/-- The rows that a point's sums are taken of, and row `n` of them. -/
def hext (t : Fin cfg0.N) : FVec Ideal S544x1024 .f32 :=
  before32 (k0_pay2 (F := Ideal) (iblk m c 0 t) (iblk m c 1 t)) (k0_pay3 (F := Ideal) (grid0.coords t) (iblk m c 2 t) (iblk m c 3 t))
def hAt (t : Fin cfg0.N) (j : Fin 1024) (n : ℕ) : EReal := if h : n < 544 then hext m c t (ix2 ⟨n, h⟩ j) else 0

/-- The convolution's rows, of one point. -/
def cvAt (t : Fin cfg0.N) (i : Fin 512) (j : Fin 1024) : EReal :=
  (∑ k : Fin 31, blkW m c t (ix2 k j) * hAt m c t j (2 + k.val + i.val)) + blkQ m c t (ix2 0 j)

theorem at_row (t : Fin cfg0.N) (j : Fin 1024) (n : ℕ) (hn : n < 544) : View.canon (Val := Elt Ideal) (e := .f32)
      [⟨Rect.unit (s := S544x1024) ![0, 0] ![32, 1024] inb_S544x1024_S32x1024_0_0,
          k0_pay3 (F := Ideal) (grid0.coords t) (iblk m c 2 t) (iblk m c 3 t)⟩,
        ⟨Rect.unit (s := S544x1024) ![32, 0] ![512, 1024] inb_S544x1024_S512x1024_32_0, k0_pay2 (F := Ideal) (iblk m c 0 t) (iblk m c 1 t)⟩]
      (ix2 ⟨n, hn⟩ j) = hAt m c t j n := by
  unfold hAt hext before32
  rw [dif_pos hn]

theorem cv_at (t : Fin cfg0.N) (i : Fin 512) (j : Fin 1024) : ((outsAt0 m c t).2 (ix2 i j) : EReal) = cvAt m c t i j := by
  unfold outsAt0
  frame_open
  simp only [↓ readCov_before]
  simp (disch := decide) only [↓ View.readCov_skip, ↓ View.readCov_cons_toLoadRect, ↓ View.readCov_fill]
  frame_out
  unfold cvAt
  rw [← sum_fwd]
  pointwise [k0_pay17, k0_pay15, k0_pay13, k0_pay11, k0_pay8, k0_pay6, k0_pay4, k0_pay16, k0_pay14, k0_pay12, k0_pay10, k0_pay9, k0_pay7, k0_pay5]
  simp only [at_row m c t j, ← Nat.add_assoc, Nat.reduceAdd]
  rfl

/-- The norm and the activation of a block. -/
theorem act_read (v188 : FVec Ideal S512x1024 .f32) (v193 : Vec Ideal S1x1024 .f32) (v194 : Vec Ideal S512x1024 .f32) (v198 : Vec Ideal S1x1024 .f32)
    (v199 : Vec Ideal S512x1024 .f32) (v203 : Vec Ideal S1x1024 .f32) (v204 : Vec Ideal S512x1024 .f32) (v208 : Vec Ideal S1x1024 .f32)
    (v209 : Vec Ideal S512x1024 .f32) (v213 g b : Vec Ideal S1x1024 .f32) (i : Fin 512) (j : Fin 1024) :
    (k0_pay1 (F := Ideal) (k0_pay18 v188 v193 v194 v198 v199 v203 v204 v208 v209 v213) (k0_pay19 v188 v193 v194 v198 v199 v203 v204 v208 v209 v213)
      (k0_pay20 (F := Ideal)) g b (ix2 i j) : EReal)
      = act (fun y => k0_pay17 (F := Ideal) v188 v193 v194 v198 v199 v203 v204 v208 v209 v213 (ix2 i y)) (g (ix2 0 j)) (b (ix2 0 j)) j := by
  unfold act swish sg hat rs var cen mean
  pointwise [k0_pay1, k0_pay18, k0_pay19, k0_pay20]
  rw [zero_sub]

theorem out_at (t : Fin cfg0.N) (i : Fin 512) (j : Fin 1024) :
    ((outsAt0 m c t).1 (ix2 i j) : EReal) = act (cvAt m c t i) (blkS m c t (ix2 0 j)) (blkO m c t (ix2 0 j)) j := by
  unfold outsAt0
  frame_open
  simp only [↓ readCov_before]
  simp (disch := decide) only [↓ View.readCov_skip, ↓ View.readCov_cons_toLoadRect, ↓ View.readCov_fill]
  frame_out
  rw [act_read]
  refine congr (congr (congr (congrArg act (funext fun y => ?_)) ?_) ?_) rfl
  · unfold cvAt
    rw [← sum_fwd]
    pointwise [k0_pay17, k0_pay15, k0_pay13, k0_pay11, k0_pay8, k0_pay6, k0_pay4, k0_pay16, k0_pay14, k0_pay12, k0_pay10, k0_pay9, k0_pay7, k0_pay5]
    simp only [at_row m c t y, ← Nat.add_assoc, Nat.reduceAdd]
    rfl
  · unfold blkS
    pointwise []
  · unfold blkO
    pointwise []

/-- The unit of a block, -/
theorem pay2_read (a g : FVec Ideal S512x1024 .f32) (i : Fin 512) (j : Fin 1024) :
    (k0_pay2 (F := Ideal) a g (ix2 i j) : EReal) = a (ix2 i j) * sg (g (ix2 i j)) := by
  pointwise [k0_pay2]
  unfold sg
  rw [zero_sub]

theorem first_t : ∀ t : Fin grid0.N, Scalar.cmpi .sgt (BitVec.ofNat 32 (grid0.coords t 0).val) 0#32 = if 0 < t.val then 1#1 else 0#1 := by decide +kernel

/-- and of the rows before it, zeros before the first one. -/
theorem pay3_read (t : Fin grid0.N) (a g : FVec Ideal S32x1024 .f32) (i : Fin 32) (j : Fin 1024) :
    (k0_pay3 (F := Ideal) (grid0.coords t) a g (ix2 i j) : EReal) = if 0 < t.val then a (ix2 i j) * sg (g (ix2 i j)) else 0 := by
  have h := first_t t
  unfold k0_pay3
  simp only [h]
  split_ifs
  · pointwise []
    unfold sg
    rw [zero_sub]
  · pointwise []

/-- The arguments. -/
def argU : FVec Ideal S8192x6144 .f32 := m (c, Proc.tc.devRef main_arg0)
def argW : FVec Ideal S31x1024 .f32 := m (c, Proc.tc.devRef main_arg1)
def argQ : FVec Ideal S1024 .f32 := m (c, Proc.tc.devRef main_arg2)
def argS : FVec Ideal S1024 .f32 := m (c, Proc.tc.devRef main_arg3)
def argO : FVec Ideal S1024 .f32 := m (c, Proc.tc.devRef main_arg4)

/-- The rows that the kernel is launched on. -/
theorem arr_q (j : Fin 1024) : (V m c main_v0 : FVec Ideal S1x1024 .f32) (ix2 0 j) = argQ m c (ix1 j) := by
  unfold argQ V
  after_reads_at
theorem arr_s (j : Fin 1024) : (V m c main_v1 : FVec Ideal S1x1024 .f32) (ix2 0 j) = argS m c (ix1 j) := by
  unfold argS V
  after_reads_at
theorem arr_o (j : Fin 1024) : (V m c main_v2 : FVec Ideal S1x1024 .f32) (ix2 0 j) = argO m c (ix1 j) := by
  unfold argO V
  after_reads_at

theorem idx_0 : ∀ t : Fin grid0.N, win0_0.index t = ![t.val, 0] := by decide +kernel
theorem idx_1 : ∀ t : Fin grid0.N, win0_1.index t = ![t.val, 1] := by decide +kernel
theorem idx_2 : ∀ t : Fin grid0.N, win0_2.index t = ![t.val * 16 - 1, 0] := by decide +kernel
theorem idx_3 : ∀ t : Fin grid0.N, win0_3.index t = ![t.val * 16 - 1, 1] := by decide +kernel
theorem idx_4 : ∀ t : Fin grid0.N, win0_4.index t = ![0, 0] := by decide +kernel
theorem idx_5 : ∀ t : Fin grid0.N, win0_5.index t = ![0, 0] := by decide +kernel
theorem idx_6 : ∀ t : Fin grid0.N, win0_6.index t = ![0, 0] := by decide +kernel
theorem idx_7 : ∀ t : Fin grid0.N, win0_7.index t = ![0, 0] := by decide +kernel
theorem idx_8 : ∀ t : Fin grid0.N, win0_8.index t = ![t.val, 0] := by decide +kernel
theorem idx_9 : ∀ t : Fin grid0.N, win0_9.index t = ![t.val, 0] := by decide +kernel

theorem lt_N (t : Fin cfg0.N) : t.val < 16 := lt_of_lt_of_eq t.isLt (show cfg0.N = 16 from N_0)

/-- Row `i` of block `n`. -/
def at_ (n : ℕ) (hn : n < 16) (i : Fin 512) : Fin 8192 := ⟨n * 512 + i.val, by omega⟩

theorem blk_a (t : Fin cfg0.N) (i : Fin 512) (j : Fin 1024) : blkA m c t (ix2 i j) = opA (argU m c) (at_ t.val (lt_N t) i) j := by
  have h1 : V m c main_arg0 = m (c, Proc.tc.devRef main_arg0) := rfl
  have hi := idx_0 t
  unfold blkA opA argU iblk at_
  blk_ext [hi, h1]

theorem blk_g (t : Fin cfg0.N) (i : Fin 512) (j : Fin 1024) : blkG m c t (ix2 i j) = opG (argU m c) (at_ t.val (lt_N t) i) j := by
  have h1 : V m c main_arg0 = m (c, Proc.tc.devRef main_arg0) := rfl
  have hi := idx_1 t
  unfold blkG opG argU iblk at_
  blk_ext [hi, h1]

theorem blk_pa (t : Fin cfg0.N) (h : 0 < t.val) (i : Fin 32) (j : Fin 1024) :
    (iblk m c 2 t : FVec Ideal S32x1024 .f32) (ix2 i j) = opA (argU m c) ⟨(t.val * 16 - 1) * 32 + i.val, by have := lt_N t; omega⟩ j := by
  have h1 : V m c main_arg0 = m (c, Proc.tc.devRef main_arg0) := rfl
  have hi := idx_2 t
  unfold opA argU iblk
  blk_ext [hi, h1]

theorem blk_pg (t : Fin cfg0.N) (h : 0 < t.val) (i : Fin 32) (j : Fin 1024) :
    (iblk m c 3 t : FVec Ideal S32x1024 .f32) (ix2 i j) = opG (argU m c) ⟨(t.val * 16 - 1) * 32 + i.val, by have := lt_N t; omega⟩ j := by
  have h1 : V m c main_arg0 = m (c, Proc.tc.devRef main_arg0) := rfl
  have hi := idx_3 t
  unfold opG argU iblk
  blk_ext [hi, h1]

theorem blk_w (t : Fin cfg0.N) (i : Fin 31) (j : Fin 1024) : blkW m c t (ix2 i j) = argW m c (ix2 i j) := by
  have h1 : V m c main_arg1 = m (c, Proc.tc.devRef main_arg1) := rfl
  have hi := idx_4 t
  unfold blkW argW iblk
  blk_ext [hi, h1]

theorem blk_q (t : Fin cfg0.N) (j : Fin 1024) : blkQ m c t (ix2 0 j) = argQ m c (ix1 j) := by
  refine Eq.trans ?_ (arr_q m c _)
  have hi := idx_5 t
  unfold blkQ iblk
  blk_ext [hi]

theorem blk_s (t : Fin cfg0.N) (j : Fin 1024) : blkS m c t (ix2 0 j) = argS m c (ix1 j) := by
  refine Eq.trans ?_ (arr_s m c _)
  have hi := idx_6 t
  unfold blkS iblk
  blk_ext [hi]

theorem blk_o (t : Fin cfg0.N) (j : Fin 1024) : blkO m c t (ix2 0 j) = argO m c (ix1 j) := by
  refine Eq.trans ?_ (arr_o m c _)
  have hi := idx_7 t
  unfold blkO iblk
  blk_ext [hi]

/-- The rows that a point's sums are taken of: of the unit with zeros before it. -/
theorem h_at (t : Fin cfg0.N) (j : Fin 1024) (n : ℕ) (h2 : 2 ≤ n) (hn : n < 544) : hAt m c t j n = hz (argU m c) (t.val * 512 + (n - 2)) j := by
  have ht := lt_N t
  unfold hAt hext
  rw [dif_pos hn]
  by_cases h : n < 32
  · rw [before32_lt _ _ _ _ h, pay3_read]
    unfold hz
    by_cases h0 : 0 < t.val
    · rw [if_pos h0, dif_pos (by omega), blk_pa m c t h0, blk_pg m c t h0]
      unfold glu
      have e : (⟨(t.val * 16 - 1) * 32 + n, by omega⟩ : Fin 8192) = ⟨t.val * 512 + (n - 2) - 30, by omega⟩ := Fin.ext (by dsimp only; omega)
      rw [← e]
    · rw [if_neg h0, dif_neg (by omega)]
  · rw [before32_ge _ _ _ _ h, pay2_read]
    unfold hz
    rw [dif_pos (by omega)]
    unfold glu
    have e : at_ t.val ht ⟨n - 32, by omega⟩ = (⟨t.val * 512 + (n - 2) - 30, by omega⟩ : Fin 8192) := Fin.ext (by unfold at_; dsimp only; omega)
    rw [← e, ← blk_a m c t, ← blk_g m c t]
    rfl

/-- The convolution's rows of a point are rows of the whole. -/
theorem cv_whole (t : Fin cfg0.N) (i : Fin 512) : cvAt m c t i = conv (argU m c) (argW m c) (argQ m c) (at_ t.val (lt_N t) i) := by
  funext j
  unfold cvAt conv
  rw [blk_q]
  refine congrArg (· + _) (Finset.sum_congr rfl fun k _ => ?_)
  rw [blk_w, h_at m c t j _ (by omega) (by omega)]
  congr 2
  unfold at_
  dsimp only
  omega

/-- The kernel's first result, -/
theorem res_out : ((dats m 0 c).arrAt 8 (cfgs 0).N : S8192x1024.Idx → EReal) = out (argU m c) (argW m c) (argQ m c) (argS m c) (argO m c) := by
  refine (dats m 0 c).arrAt_eq_of_covers 8 _ (by decide +kernel) fun t hf y => ?_
  have hi := idx_8 t
  obtain ⟨a, b, rfl⟩ : ∃ (a : Fin 512) (b : Fin 1024), y = ix2 a b := ⟨y 0, y 1, eq_ix2 y⟩
  rw [after0_8]
  refine (out_at m c t a b).trans ?_
  rw [cv_whole, blk_s, blk_o]
  change out (argU m c) (argW m c) (argQ m c) (argS m c) (argO m c) (ix2 (at_ t.val (lt_N t) a) b) = _
  refine congrArg (out _ _ _ _ _) ?_
  unfold at_
  blk_ext [hi]

/-- and its second. -/
theorem res_cv : ((dats m 0 c).arrAt 9 (cfgs 0).N : S8192x1024.Idx → EReal) = cv (argU m c) (argW m c) (argQ m c) := by
  refine (dats m 0 c).arrAt_eq_of_covers 9 _ (by decide +kernel) fun t hf y => ?_
  have hi := idx_9 t
  obtain ⟨a, b, rfl⟩ : ∃ (a : Fin 512) (b : Fin 1024), y = ix2 a b := ⟨y 0, y 1, eq_ix2 y⟩
  rw [after0_9]
  refine (cv_at m c t a b).trans ?_
  rw [cv_whole]
  change cv (argU m c) (argW m c) (argQ m c) (ix2 (at_ t.val (lt_N t) a) b) = _
  refine congrArg (cv _ _ _) ?_
  unfold at_
  blk_ext [hi]

end Cert.Kernel20Ideal.Mlp

end
-- ==== Proof.M.ConvFwdRef.lean ====
/- The forward pass of the causal convolution, its norm and its activation: what the reference's two results hold. -/
module

public import proofs.«01_k».proof.Proof.Gen.Reference20Ideal.Read
public import proofs.«01_k».proof.Proof.M.ConvFwd
public import Idealize.ShloMosaic.Lib.Pointwise

@[expose] public section

set_option maxRecDepth 16384

noncomputable section

namespace Cert.Reference20Ideal.Mlp

open Cert.Reference20Ideal Cert.Reference20Ideal.Gen Cert.Reference20Ideal.Read Idealize.ShloMosaic
open Cert.Taps Cert.Norm Cert.ConvFwd

variable (u : FVec Ideal S8192x6144 .f32) (w : FVec Ideal S31x1024 .f32) (q g b : FVec Ideal S1024 .f32)

/-- The operands, the logistic function of the gate, and the unit with zeros before it. -/
theorem a_read (s : Fin 8192) (j : Fin 1024) : (val_main_v1 (F := Ideal) u (ix2 s j) : EReal) = opA u s j := by
  unfold opA
  pointwise [val_main_v1, val_main_v0]

theorem s_read (s : Fin 8192) (j : Fin 1024) : (val_main_v9 (F := Ideal) u (ix2 s j) : EReal) = sg (opG u s j) := by
  unfold sg opG
  pointwise [val_main_v9, val_main_v8, val_main_v7, val_main_v6, val_main_v5, val_main_v4, val_main_v2, val_main_v0, val_main_cst_0, val_main_cst_1]

theorem h_read (n : Fin 8222) (j : Fin 1024) : (val_main_v11 (F := Ideal) u (ix2 n j) : EReal) = hz u n.val j := by
  have e : ∀ (s : Fin 8192), (val_main_v10 (F := Ideal) u (ix2 s j) : EReal) = glu u s j := fun s => by
    unfold glu
    rw [← a_read, ← s_read]
    rfl
  unfold hz
  pointwise [val_main_v11, val_main_v3, val_main_cst]
  by_cases h : n.val < 30
  · rw [dif_pos h, dif_neg (by omega)]
  · rw [dif_neg h, dif_pos (by omega), e]

/-- Every tap's part of the sum. -/
theorem tap_0 (s : Fin 8192) (j : Fin 1024) : (val_main_v17 (F := Ideal) u w (ix2 s j) : EReal) = w (ix2 0 j) * hz u (s.val + 0) j := by
  have e : ∀ (n : ℕ) (hn : n < 8222), (val_main_v11 (F := Ideal) u (ix2 ⟨n, hn⟩ j) : EReal) = hz u n j := fun n hn => h_read u ⟨n, hn⟩ j
  pointwise [val_main_v17, val_main_v16, val_main_v15, val_main_v14, val_main_v13, val_main_v12]
  rw [e]
  exact mul_comm _ _
theorem tap_1 (s : Fin 8192) (j : Fin 1024) : (val_main_v25 (F := Ideal) u w (ix2 s j) : EReal) = w (ix2 1 j) * hz u (s.val + 1) j := by
  have e : ∀ (n : ℕ) (hn : n < 8222), (val_main_v11 (F := Ideal) u (ix2 ⟨n, hn⟩ j) : EReal) = hz u n j := fun n hn => h_read u ⟨n, hn⟩ j
  pointwise [val_main_v25, val_main_v24, val_main_v23, val_main_v22, val_main_v21, val_main_v20]
  simp only [e, Nat.add_comm 1]
  exact mul_comm _ _
theorem tap_2 (s : Fin 8192) (j : Fin 1024) : (val_main_v32 (F := Ideal) u w (ix2 s j) : EReal) = w (ix2 2 j) * hz u (s.val + 2) j := by
  have e : ∀ (n : ℕ) (hn : n < 8222), (val_main_v11 (F := Ideal) u (ix2 ⟨n, hn⟩ j) : EReal) = hz u n j := fun n hn => h_read u ⟨n, hn⟩ j
  pointwise [val_main_v32, val_main_v31, val_main_v30, val_main_v29, val_main_v28, val_main_v27]
  simp only [e, Nat.add_comm 2]
  exact mul_comm _ _
theorem tap_3 (s : Fin 8192) (j : Fin 1024) : (val_main_v39 (F := Ideal) u w (ix2 s j) : EReal) = w (ix2 3 j) * hz u (s.val + 3) j := by
  have e : ∀ (n : ℕ) (hn : n < 8222), (val_main_v11 (F := Ideal) u (ix2 ⟨n, hn⟩ j) : EReal) = hz u n j := fun n hn => h_read u ⟨n, hn⟩ j
  pointwise [val_main_v39, val_main_v38, val_main_v37, val_main_v36, val_main_v35, val_main_v34]
  simp only [e, Nat.add_comm 3]
  exact mul_comm _ _
theorem tap_4 (s : Fin 8192) (j : Fin 1024) : (val_main_v46 (F := Ideal) u w (ix2 s j) : EReal) = w (ix2 4 j) * hz u (s.val + 4) j := by
  have e : ∀ (n : ℕ) (hn : n < 8222), (val_main_v11 (F := Ideal) u (ix2 ⟨n, hn⟩ j) : EReal) = hz u n j := fun n hn => h_read u ⟨n, hn⟩ j
  pointwise [val_main_v46, val_main_v45, val_main_v44, val_main_v43, val_main_v42, val_main_v41]
  simp only [e, Nat.add_comm 4]
  exact mul_comm _ _
theorem tap_5 (s : Fin 8192) (j : Fin 1024) : (val_main_v53 (F := Ideal) u w (ix2 s j) : EReal) = w (ix2 5 j) * hz u (s.val + 5) j := by
  have e : ∀ (n : ℕ) (hn : n < 8222), (val_main_v11 (F := Ideal) u (ix2 ⟨n, hn⟩ j) : EReal) = hz u n j := fun n hn => h_read u ⟨n, hn⟩ j
  pointwise [val_main_v53, val_main_v52, val_main_v51, val_main_v50, val_main_v49, val_main_v48]
  simp only [e, Nat.add_comm 5]
  exact mul_comm _ _
theorem tap_6 (s : Fin 8192) (j : Fin 1024) : (val_main_v60 (F := Ideal) u w (ix2 s j) : EReal) = w (ix2 6 j) * hz u (s.val + 6) j := by
  have e : ∀ (n : ℕ) (hn : n < 8222), (val_main_v11 (F := Ideal) u (ix2 ⟨n, hn⟩ j) : EReal) = hz u n j := fun n hn => h_read u ⟨n, hn⟩ j
  pointwise [val_main_v60, val_main_v59, val_main_v58, val_main_v57, val_main_v56, val_main_v55]
  simp only [e, Nat.add_comm 6]
  exact mul_comm _ _
theorem tap_7 (s : Fin 8192) (j : Fin 1024) : (val_main_v67 (F := Ideal) u w (ix2 s j) : EReal) = w (ix2 7 j) * hz u (s.val + 7) j := by
  have e : ∀ (n : ℕ) (hn : n < 8222), (val_main_v11 (F := Ideal) u (ix2 ⟨n, hn⟩ j) : EReal) = hz u n j := fun n hn => h_read u ⟨n, hn⟩ j
  pointwise [val_main_v67, val_main_v66, val_main_v65, val_main_v64, val_main_v63, val_main_v62]
  simp only [e, Nat.add_comm 7]
  exact mul_comm _ _
theorem tap_8 (s : Fin 8192) (j : Fin 1024) : (val_main_v74 (F := Ideal) u w (ix2 s j) : EReal) = w (ix2 8 j) * hz u (s.val + 8) j := by
  have e : ∀ (n : ℕ) (hn : n < 8222), (val_main_v11 (F := Ideal) u (ix2 ⟨n, hn⟩ j) : EReal) = hz u n j := fun n hn => h_read u ⟨n, hn⟩ j
  pointwise [val_main_v74, val_main_v73, val_main_v72, val_main_v71, val_main_v70, val_main_v69]
  simp only [e, Nat.add_comm 8]
  exact mul_comm _ _
theorem tap_9 (s : Fin 8192) (j : Fin 1024) : (val_main_v81 (F := Ideal) u w (ix2 s j) : EReal) = w (ix2 9 j) * hz u (s.val + 9) j := by
  have e : ∀ (n : ℕ) (hn : n < 8222), (val_main_v11 (F := Ideal) u (ix2 ⟨n, hn⟩ j) : EReal) = hz u n j := fun n hn => h_read u ⟨n, hn⟩ j
  pointwise [val_main_v81, val_main_v80, val_main_v79, val_main_v78, val_main_v77, val_main_v76]
  simp only [e, Nat.add_comm 9]
  exact mul_comm _ _
theorem tap_10 (s : Fin 8192) (j : Fin 1024) : (val_main_v88 (F := Ideal) u w (ix2 s j) : EReal) = w (ix2 10 j) * hz u (s.val + 10) j := by
  have e : ∀ (n : ℕ) (hn : n < 8222), (val_main_v11 (F := Ideal) u (ix2 ⟨n, hn⟩ j) : EReal) = hz u n j := fun n hn => h_read u ⟨n, hn⟩ j
  pointwise [val_main_v88, val_main_v87, val_main_v86, val_main_v85, val_main_v84, val_main_v83]
  simp only [e, Nat.add_comm 10]
  exact mul_comm _ _
theorem tap_11 (s : Fin 8192) (j : Fin 1024) : (val_main_v95 (F := Ideal) u w (ix2 s j) : EReal) = w (ix2 11 j) * hz u (s.val + 11) j := by
  have e : ∀ (n : ℕ) (hn : n < 8222), (val_main_v11 (F := Ideal) u (ix2 ⟨n, hn⟩ j) : EReal) = hz u n j := fun n hn => h_read u ⟨n, hn⟩ j
  pointwise [val_main_v95, val_main_v94, val_main_v93, val_main_v92, val_main_v91, val_main_v90]
  simp only [e, Nat.add_comm 11]
  exact mul_comm _ _
theorem tap_12 (s : Fin 8192) (j : Fin 1024) : (val_main_v102 (F := Ideal) u w (ix2 s j) : EReal) = w (ix2 12 j) * hz u (s.val + 12) j := by
  have e : ∀ (n : ℕ) (hn : n < 8222), (val_main_v11 (F := Ideal) u (ix2 ⟨n, hn⟩ j) : EReal) = hz u n j := fun n hn => h_read u ⟨n, hn⟩ j
  pointwise [val_main_v102, val_main_v101, val_main_v100, val_main_v99, val_main_v98, val_main_v97]
  simp only [e, Nat.add_comm 12]
  exact mul_comm _ _
theorem tap_13 (s : Fin 8192) (j : Fin 1024) : (val_main_v109 (F := Ideal) u w (ix2 s j) : EReal) = w (ix2 13 j) * hz u (s.val + 13) j := by
  have e : ∀ (n : ℕ) (hn : n < 8222), (val_main_v11 (F := Ideal) u (ix2 ⟨n, hn⟩ j) : EReal) = hz u n j := fun n hn => h_read u ⟨n, hn⟩ j
  pointwise [val_main_v109, val_main_v108, val_main_v107, val_main_v106, val_main_v105, val_main_v104]
  simp only [e, Nat.add_comm 13]
  exact mul_comm _ _
theorem tap_14 (s : Fin 8192) (j : Fin 1024) : (val_main_v116 (F := Ideal) u w (ix2 s j) : EReal) = w (ix2 14 j) * hz u (s.val + 14) j := by
  have e : ∀ (n : ℕ) (hn : n < 8222), (val_main_v11 (F := Ideal) u (ix2 ⟨n, hn⟩ j) : EReal) = hz u n j := fun n hn => h_read u ⟨n, hn⟩ j
  pointwise [val_main_v116, val_main_v115, val_main_v114, val_main_v113, val_main_v112, val_main_v111]
  simp only [e, Nat.add_comm 14]
  exact mul_comm _ _
theorem tap_15 (s : Fin 8192) (j : Fin 1024) : (val_main_v123 (F := Ideal) u w (ix2 s j) : EReal) = w (ix2 15 j) * hz u (s.val + 15) j := by
  have e : ∀ (n : ℕ) (hn : n < 8222), (val_main_v11 (F := Ideal) u (ix2 ⟨n, hn⟩ j) : EReal) = hz u n j := fun n hn => h_read u ⟨n, hn⟩ j
  pointwise [val_main_v123, val_main_v122, val_main_v121, val_main_v120, val_main_v119, val_main_v118]
  simp only [e, Nat.add_comm 15]
  exact mul_comm _ _
theorem tap_16 (s : Fin 8192) (j : Fin 1024) : (val_main_v130 (F := Ideal) u w (ix2 s j) : EReal) = w (ix2 16 j) * hz u (s.val + 16) j := by
  have e : ∀ (n : ℕ) (hn : n < 8222), (val_main_v11 (F := Ideal) u (ix2 ⟨n, hn⟩ j) : EReal) = hz u n j := fun n hn => h_read u ⟨n, hn⟩ j
  pointwise [val_main_v130, val_main_v129, val_main_v128, val_main_v127, val_main_v126, val_main_v125]
  simp only [e, Nat.add_comm 16]
  exact mul_comm _ _
theorem tap_17 (s : Fin 8192) (j : Fin 1024) : (val_main_v137 (F := Ideal) u w (ix2 s j) : EReal) = w (ix2 17 j) * hz u (s.val + 17) j := by
  have e : ∀ (n : ℕ) (hn : n < 8222), (val_main_v11 (F := Ideal) u (ix2 ⟨n, hn⟩ j) : EReal) = hz u n j := fun n hn => h_read u ⟨n, hn⟩ j
  pointwise [val_main_v137, val_main_v136, val_main_v135, val_main_v134, val_main_v133, val_main_v132]
  simp only [e, Nat.add_comm 17]
  exact mul_comm _ _
theorem tap_18 (s : Fin 8192) (j : Fin 1024) : (val_main_v144 (F := Ideal) u w (ix2 s j) : EReal) = w (ix2 18 j) * hz u (s.val + 18) j := by
  have e : ∀ (n : ℕ) (hn : n < 8222), (val_main_v11 (F := Ideal) u (ix2 ⟨n, hn⟩ j) : EReal) = hz u n j := fun n hn => h_read u ⟨n, hn⟩ j
  pointwise [val_main_v144, val_main_v143, val_main_v142, val_main_v141, val_main_v140, val_main_v139]
  simp only [e, Nat.add_comm 18]
  exact mul_comm _ _
theorem tap_19 (s : Fin 8192) (j : Fin 1024) : (val_main_v151 (F := Ideal) u w (ix2 s j) : EReal) = w (ix2 19 j) * hz u (s.val + 19) j := by
  have e : ∀ (n : ℕ) (hn : n < 8222), (val_main_v11 (F := Ideal) u (ix2 ⟨n, hn⟩ j) : EReal) = hz u n j := fun n hn => h_read u ⟨n, hn⟩ j
  pointwise [val_main_v151, val_main_v150, val_main_v149, val_main_v148, val_main_v147, val_main_v146]
  simp only [e, Nat.add_comm 19]
  exact mul_comm _ _
theorem tap_20 (s : Fin 8192) (j : Fin 1024) : (val_main_v158 (F := Ideal) u w (ix2 s j) : EReal) = w (ix2 20 j) * hz u (s.val + 20) j := by
  have e : ∀ (n : ℕ) (hn : n < 8222), (val_main_v11 (F := Ideal) u (ix2 ⟨n, hn⟩ j) : EReal) = hz u n j := fun n hn => h_read u ⟨n, hn⟩ j
  pointwise [val_main_v158, val_main_v157, val_main_v156, val_main_v155, val_main_v154, val_main_v153]
  simp only [e, Nat.add_comm 20]
  exact mul_comm _ _
theorem tap_21 (s : Fin 8192) (j : Fin 1024) : (val_main_v165 (F := Ideal) u w (ix2 s j) : EReal) = w (ix2 21 j) * hz u (s.val + 21) j := by
  have e : ∀ (n : ℕ) (hn : n < 8222), (val_main_v11 (F := Ideal) u (ix2 ⟨n, hn⟩ j) : EReal) = hz u n j := fun n hn => h_read u ⟨n, hn⟩ j
  pointwise [val_main_v165, val_main_v164, val_main_v163, val_main_v162, val_main_v161, val_main_v160]
  simp only [e, Nat.add_comm 21]
  exact mul_comm _ _
theorem tap_22 (s : Fin 8192) (j : Fin 1024) : (val_main_v172 (F := Ideal) u w (ix2 s j) : EReal) = w (ix2 22 j) * hz u (s.val + 22) j := by
  have e : ∀ (n : ℕ) (hn : n < 8222), (val_main_v11 (F := Ideal) u (ix2 ⟨n, hn⟩ j) : EReal) = hz u n j := fun n hn => h_read u ⟨n, hn⟩ j
  pointwise [val_main_v172, val_main_v171, val_main_v170, val_main_v169, val_main_v168, val_main_v167]
  simp only [e, Nat.add_comm 22]
  exact mul_comm _ _
theorem tap_23 (s : Fin 8192) (j : Fin 1024) : (val_main_v179 (F := Ideal) u w (ix2 s j) : EReal) = w (ix2 23 j) * hz u (s.val + 23) j := by
  have e : ∀ (n : ℕ) (hn : n < 8222), (val_main_v11 (F := Ideal) u (ix2 ⟨n, hn⟩ j) : EReal) = hz u n j := fun n hn => h_read u ⟨n, hn⟩ j
  pointwise [val_main_v179, val_main_v178, val_main_v177, val_main_v176, val_main_v175, val_main_v174]
  simp only [e, Nat.add_comm 23]
  exact mul_comm _ _
theorem tap_24 (s : Fin 8192) (j : Fin 1024) : (val_main_v186 (F := Ideal) u w (ix2 s j) : EReal) = w (ix2 24 j) * hz u (s.val + 24) j := by
  have e : ∀ (n : ℕ) (hn : n < 8222), (val_main_v11 (F := Ideal) u (ix2 ⟨n, hn⟩ j) : EReal) = hz u n j := fun n hn => h_read u ⟨n, hn⟩ j
  pointwise [val_main_v186, val_main_v185, val_main_v184, val_main_v183, val_main_v182, val_main_v181]
  simp only [e, Nat.add_comm 24]
  exact mul_comm _ _
theorem tap_25 (s : Fin 8192) (j : Fin 1024) : (val_main_v193 (F := Ideal) u w (ix2 s j) : EReal) = w (ix2 25 j) * hz u (s.val + 25) j := by
  have e : ∀ (n : ℕ) (hn : n < 8222), (val_main_v11 (F := Ideal) u (ix2 ⟨n, hn⟩ j) : EReal) = hz u n j := fun n hn => h_read u ⟨n, hn⟩ j
  pointwise [val_main_v193, val_main_v192, val_main_v191, val_main_v190, val_main_v189, val_main_v188]
  simp only [e, Nat.add_comm 25]
  exact mul_comm _ _
theorem tap_26 (s : Fin 8192) (j : Fin 1024) : (val_main_v200 (F := Ideal) u w (ix2 s j) : EReal) = w (ix2 26 j) * hz u (s.val + 26) j := by
  have e : ∀ (n : ℕ) (hn : n < 8222), (val_main_v11 (F := Ideal) u (ix2 ⟨n, hn⟩ j) : EReal) = hz u n j := fun n hn => h_read u ⟨n, hn⟩ j
  pointwise [val_main_v200, val_main_v199, val_main_v198, val_main_v197, val_main_v196, val_main_v195]
  simp only [e, Nat.add_comm 26]
  exact mul_comm _ _
theorem tap_27 (s : Fin 8192) (j : Fin 1024) : (val_main_v207 (F := Ideal) u w (ix2 s j) : EReal) = w (ix2 27 j) * hz u (s.val + 27) j := by
  have e : ∀ (n : ℕ) (hn : n < 8222), (val_main_v11 (F := Ideal) u (ix2 ⟨n, hn⟩ j) : EReal) = hz u n j := fun n hn => h_read u ⟨n, hn⟩ j
  pointwise [val_main_v207, val_main_v206, val_main_v205, val_main_v204, val_main_v203, val_main_v202]
  simp only [e, Nat.add_comm 27]
  exact mul_comm _ _
theorem tap_28 (s : Fin 8192) (j : Fin 1024) : (val_main_v214 (F := Ideal) u w (ix2 s j) : EReal) = w (ix2 28 j) * hz u (s.val + 28) j := by
  have e : ∀ (n : ℕ) (hn : n < 8222), (val_main_v11 (F := Ideal) u (ix2 ⟨n, hn⟩ j) : EReal) = hz u n j := fun n hn => h_read u ⟨n, hn⟩ j
  pointwise [val_main_v214, val_main_v213, val_main_v212, val_main_v211, val_main_v210, val_main_v209]
  simp only [e, Nat.add_comm 28]
  exact mul_comm _ _
theorem tap_29 (s : Fin 8192) (j : Fin 1024) : (val_main_v221 (F := Ideal) u w (ix2 s j) : EReal) = w (ix2 29 j) * hz u (s.val + 29) j := by
  have e : ∀ (n : ℕ) (hn : n < 8222), (val_main_v11 (F := Ideal) u (ix2 ⟨n, hn⟩ j) : EReal) = hz u n j := fun n hn => h_read u ⟨n, hn⟩ j
  pointwise [val_main_v221, val_main_v220, val_main_v219, val_main_v218, val_main_v217, val_main_v216]
  simp only [e, Nat.add_comm 29]
  exact mul_comm _ _
theorem tap_30 (s : Fin 8192) (j : Fin 1024) : (val_main_v228 (F := Ideal) u w (ix2 s j) : EReal) = w (ix2 30 j) * hz u (s.val + 30) j := by
  have e : ∀ (n : ℕ) (hn : n < 8222), (val_main_v11 (F := Ideal) u (ix2 ⟨n, hn⟩ j) : EReal) = hz u n j := fun n hn => h_read u ⟨n, hn⟩ j
  pointwise [val_main_v228, val_main_v227, val_main_v226, val_main_v225, val_main_v224, val_main_v223]
  simp only [e, Nat.add_comm 30]
  exact mul_comm _ _

/-- The sum of the taps from the first one on. -/
theorem sum_front (g : Fin 31 → EReal) : g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 = ∑ k, g k := by
  have hp : ([0, 1, 2, 3, 4, 5, 6, 7, 8, 9, 10, 11, 12, 13, 14, 15, 16, 17, 18, 19, 20, 21, 22, 23, 24, 25, 26, 27, 28, 29, 30] : List (Fin 31)).Perm (List.finRange 31) := by decide
  have hs := (hp.map g).sum_eq
  rw [← Fin.sum_univ_def] at hs
  rw [← hs]
  simp only [List.map_cons, List.map_nil, List.sum_cons, List.sum_nil, add_zero, add_assoc]

theorem conv_read (s : Fin 8192) (j : Fin 1024) : (val_main_v232 (F := Ideal) u w q (ix2 s j) : EReal) = conv u w q s j := by
  unfold conv
  rw [← sum_front]
  pointwise [val_main_v232, val_main_v231, val_main_v230, val_main_v229, val_main_v222, val_main_v215, val_main_v208, val_main_v201, val_main_v194, val_main_v187, val_main_v180, val_main_v173, val_main_v166, val_main_v159, val_main_v152, val_main_v145, val_main_v138, val_main_v131, val_main_v124, val_main_v117, val_main_v110, val_main_v103, val_main_v96, val_main_v89, val_main_v82, val_main_v75, val_main_v68, val_main_v61, val_main_v54, val_main_v47, val_main_v40, val_main_v33, val_main_v26, val_main_v19, val_main_v18, val_main_cst_2]
  simp only [tap_0, tap_1, tap_2, tap_3, tap_4, tap_5, tap_6, tap_7, tap_8, tap_9, tap_10, tap_11, tap_12, tap_13, tap_14, tap_15, tap_16, tap_17, tap_18, tap_19, tap_20, tap_21, tap_22, tap_23, tap_24, tap_25, tap_26, tap_27, tap_28, tap_29, tap_30]
  rfl

/-- The reference's second result, -/
theorem ref_cv : (val_main_v232 (F := Ideal) u w q : S8192x1024.Idx → EReal) = cv u w q := by
  funext y
  obtain ⟨s, j, rfl⟩ : ∃ (s : Fin 8192) (j : Fin 1024), y = ix2 s j := ⟨y 0, y 1, eq_ix2 y⟩
  exact conv_read u w q s j

/-- the norm of its rows, -/
theorem norm_read (s : Fin 8192) (j : Fin 1024) : (val_main_v250 (F := Ideal) u w q (ix2 s j) : EReal) = hat w1024 (conv u w q s) j := by
  rw [show conv u w q s = fun y => val_main_v232 (F := Ideal) u w q (ix2 s y) from funext fun y => (conv_read u w q s y).symm]
  unfold hat rs var cen mean
  pointwise [val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_cst_3, val_main_cst_4, val_main_cst_5, val_main_cst_6, val_main_cst_7]

theorem act_read (s : Fin 8192) (j : Fin 1024) : (val_main_v258 (F := Ideal) u w q g b (ix2 s j) : EReal) = act (conv u w q s) (g (ix1 j)) (b (ix1 j)) j := by
  unfold act swish sg
  rw [← norm_read]
  pointwise [val_main_v258, val_main_v257, val_main_call0_v5, val_main_call0_v4, val_main_call0_cst_0, val_main_call0_v3, val_main_call0_v2, val_main_call0_cst, val_main_call0_v1, val_main_call0_v0, val_main_v256, val_main_v255, val_main_v254, val_main_v253, val_main_v252, val_main_v251]

/-- and its first. -/
theorem ref_out : (val_main_v258 (F := Ideal) u w q g b : S8192x1024.Idx → EReal) = out u w q g b := by
  funext y
  obtain ⟨s, j, rfl⟩ : ∃ (s : Fin 8192) (j : Fin 1024), y = ix2 s j := ⟨y 0, y 1, eq_ix2 y⟩
  exact act_read u w q g b s j

end Cert.Reference20Ideal.Mlp

end
-- ==== Proof.KI.Body.lean ====
/- One grid point of the backward kernel: what the body stores, case by case (the head's first block, a block on
   the diagonal, a block under it; the last block of a column writes the column's gradients out). -/
module

public import proofs.«01_k».proof.Proof.Gen.KernelIdeal.Frame
public import proofs.«01_k».proof.Proof.Gen.KernelIdeal.Skeleton
public import Idealize.ShloMosaic.Lib.WritesUnit
public import Idealize.ShloMosaic.Lib.VecWindow
public import Idealize.ShloMosaic.Lib.Pipeline.Value

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The number of the query block of a grid point, as the kernel computes it. -/
abbrev wI (i : grid0.Coords) : BitVec 32 :=
  Scalar.select (Scalar.cmpi .sge (BitVec.ofNat 32 (i 2).val) (Scalar.subi 8#32 (BitVec.ofNat 32 (i 1).val)))
    (Scalar.subi (BitVec.ofNat 32 (i 2).val) 1#32) (Scalar.addi (BitVec.ofNat 32 (i 1).val) (BitVec.ofNat 32 (i 2).val))

/-- The number of the key block of a grid point, as the kernel computes it. -/
abbrev wJ (i : grid0.Coords) : BitVec 32 :=
  Scalar.select (Scalar.cmpi .sge (BitVec.ofNat 32 (i 2).val) (Scalar.subi 8#32 (BitVec.ofNat 32 (i 1).val)))
    (Scalar.subi 7#32 (BitVec.ofNat 32 (i 1).val)) (BitVec.ofNat 32 (i 1).val)

/-- The number of the query block, as a number. -/
def nI (i : grid0.Coords) : ℕ := if 8 ≤ (i 1).val + (i 2).val then (i 2).val - 1 else (i 1).val + (i 2).val

/-- The number of the key block, as a number. -/
def nJ (i : grid0.Coords) : ℕ := if 8 ≤ (i 1).val + (i 2).val then 7 - (i 1).val else (i 1).val

/-- The word of the query block is the number of the query block. -/
theorem wI_eq (i : grid0.Coords) : wI i = BitVec.ofNat 32 (nI i) := by
  have h : ∀ r : Fin 4, ∀ s : Fin 9, Scalar.select (Scalar.cmpi .sge (BitVec.ofNat 32 s.val) (Scalar.subi 8#32 (BitVec.ofNat 32 r.val)))
      (Scalar.subi (BitVec.ofNat 32 s.val) 1#32) (Scalar.addi (BitVec.ofNat 32 r.val) (BitVec.ofNat 32 s.val))
      = BitVec.ofNat 32 (if 8 ≤ r.val + s.val then s.val - 1 else r.val + s.val) := by decide
  exact h (i 1) (i 2)

/-- The word of the key block is the number of the key block. -/
theorem wJ_eq (i : grid0.Coords) : wJ i = BitVec.ofNat 32 (nJ i) := by
  have h : ∀ r : Fin 4, ∀ s : Fin 9, Scalar.select (Scalar.cmpi .sge (BitVec.ofNat 32 s.val) (Scalar.subi 8#32 (BitVec.ofNat 32 r.val)))
      (Scalar.subi 7#32 (BitVec.ofNat 32 r.val)) (BitVec.ofNat 32 r.val)
      = BitVec.ofNat 32 (if 8 ≤ r.val + s.val then 7 - r.val else r.val) := by decide
  exact h (i 1) (i 2)

theorem nI_lt (i : grid0.Coords) : nI i < 8 := by
  have h : ∀ r : Fin 4, ∀ s : Fin 9, (if 8 ≤ r.val + s.val then s.val - 1 else r.val + s.val) < 8 := by decide
  exact h (i 1) (i 2)

theorem nJ_lt (i : grid0.Coords) : nJ i < 8 := by
  have h : ∀ r : Fin 4, ∀ s : Fin 9, (if 8 ≤ r.val + s.val then 7 - r.val else r.val) < 8 := by decide
  exact h (i 1) (i 2)

theorem nJ_le_nI (i : grid0.Coords) : nJ i ≤ nI i := by
  have h : ∀ r : Fin 4, ∀ s : Fin 9, (if 8 ≤ r.val + s.val then 7 - r.val else r.val) ≤ (if 8 ≤ r.val + s.val then s.val - 1 else r.val + s.val) := by decide
  exact h (i 1) (i 2)

/-- The rows of dq that the point adds to begin at 1024 times the number of the query block. -/
theorem off1_eq (i : grid0.Coords) : k0_off1 i = ![1024 * nI i, 0] := by
  have hw : (Scalar.muli (wI i) 1024#32).toNat = 1024 * nI i := by
    rw [wI_eq]
    have hl := nI_lt i
    generalize nI i = n at hl
    have h : ∀ n : Fin 8, (Scalar.muli (BitVec.ofNat 32 n.val) 1024#32).toNat = 1024 * n.val := by decide
    exact h ⟨n, hl⟩
  show ![_, 0] = _
  rw [← hw]
  rfl

instance closed_off1 (i : grid0.Coords) : ClosedOff (k0_off1 i) := ⟨![1024 * nI i, 0], off1_eq i⟩

/-- The point is the first of its head. -/
abbrev CFirst (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

/-- The point's block lies on the diagonal. -/
abbrev CDiag (i : grid0.Coords) : Prop :=
  Scalar.cmpi .ne (Scalar.extui (Scalar.cmpi .eq (wI i) (wJ i))) 0#32 = 1#1

/-- The point is the last of its key block. -/
abbrev CLast (i : grid0.Coords) : Prop := k0_cond4 i = 1#1

/-- What the point reads: the blocks of q, k, v, F, o, the cotangent and the rows' log-sums. -/
structure Ins (F : FTy → Type) where
  q : Vec F S1024x128 .f32
  k : Vec F S1024x128 .f32
  v : Vec F S1024x128 .f32
  f : Vec F S1x1x1024 .f32
  o : Vec F S1024x128 .f32
  d : Vec F S1024x128 .f32
  l : Vec F S1x1024x1 .f32

/-- What the kernel carries from point to point: the head's dq, and the sums for dk, dv and dF. -/
structure St (F : FTy → Type) where
  dq : Vec F S8192x128 .f32
  sk : Vec F S1024x128 .f32
  sv : Vec F S1024x128 .f32
  sf : Vec F S1x1024 .f32

open Classical in
/-- The point's block of masked logits. -/
def scoreOf (i : grid0.Coords) (X : Ins F) : FVec F S1024x1024 .f32 :=
  if CDiag i then k0_pay13 (wI i) (wJ i) (k0_pay12 X.q X.k X.f) else k0_pay12 X.q X.k X.f

/-- The rows of dq that the point adds to. -/
abbrev rowsR (i : grid0.Coords) : Rect S8192x128 := Rect.unit (s := S8192x128) (k0_off1 i) S1024x128.size (k0_off1_inb i)

/-- The head's dq with the point's rows replaced. -/
def putRows (i : grid0.Coords) (dq : Vec F S8192x128 .f32) (w : Vec F S1024x128 .f32) : Vec F S8192x128 .f32 := fun y =>
  if h : ∀ a, (k0_off1 i) a ≤ (y a).val ∧ (y a).val < (k0_off1 i) a + S1024x128.size a then w (Rect.unitLocal (s := S8192x128) (off := k0_off1 i) (size := S1024x128.size) y h) else dq y

/-- The state after the point, from blocks of logits and the state found (the resets made). -/
def addSt (i : grid0.Coords) (X : Ins F) (s : FVec F S1024x1024 .f32) (S : St F) : St F where
  dq := putRows i S.dq (k0_pay2 (k0_pay10 X.k) (k0_pay16 (k0_pay11 X.d) s X.l X.v X.o) (View.ld S.dq (rowsR i)))
  sk := k0_pay18 (k0_pay9 X.q) (k0_pay11 X.d) s X.l X.v X.o S.sk
  sv := k0_pay17 (k0_pay11 X.d) s X.l S.sv
  sf := k0_pay1 (k0_pay15 (k0_pay11 X.d) s X.l X.v X.o) S.sf

open Classical in
/-- The state with the point's resets made. -/
def resetSt (i : grid0.Coords) (S : St F) : St F where
  dq := if CFirst i then k0_pay5 else S.dq
  sk := if CDiag i then k0_pay6 else S.sk
  sv := if CDiag i then k0_pay7 else S.sv
  sf := if CDiag i then k0_pay8 else S.sf

/-- The state after the point. -/
def stepSt (i : grid0.Coords) (X : Ins F) (S : St F) : St F := addSt i X (scoreOf i X) (resetSt i S)

/-- A store to the point's rows of dq, on any contents, leaves those contents with the rows replaced. -/
theorem read_putRows (a : Memref sig .tc .vmem S8192x128 .f32) (f : a.view.ty.Contents (Elt F)) (i : grid0.Coords)
    (inb : ∀ x, (k0_off1 i) x + S1024x128.size x ≤ S8192x128.size x)
    (w : Vec F S1024x128 .f32) (L : List (View.Piece (Elt F) S8192x128 .f32)) :
    a.view.read (Elt F) (a.view.writes (Elt F) f ((⟨Rect.unit (k0_off1 i) S1024x128.size inb, w⟩ : View.Piece (Elt F) S8192x128 .f32) :: L))
      = putRows i (a.view.read (Elt F) (a.view.writes (Elt F) f L)) w :=
  funext fun y => View.read_writes_cons_unit a.view f inb w L y rfl

/-! Loads and stores of a whole block: the contents, and the stored value. -/

theorem rd_S1024x128 (a : Memref sig .tc .vmem S1024x128 .f32) (inb : ∀ x : Fin S1024x128.rank, (![0, 0] : Fin S1024x128.rank → ℕ) x + (![1024, 128] : Fin S1024x128.rank → ℕ) x ≤ S1024x128.size x) (f : a.view.ty.Contents (Elt F)) :
    a.view.readAt (Elt F) (Rect.unit ![0, 0] ![1024, 128] inb).toLoadRect f = a.view.read (Elt F) f :=
  View.readAt_full a.view f inb

theorem wr_S1024x128 (a : Memref sig .tc .vmem S1024x128 .f32) (inb : ∀ x : Fin S1024x128.rank, (![0, 0] : Fin S1024x128.rank → ℕ) x + (![1024, 128] : Fin S1024x128.rank → ℕ) x ≤ S1024x128.size x) (f : a.view.ty.Contents (Elt F))
    (w : Vec F S1024x128 .f32) (L : List (View.Piece (Elt F) S1024x128 .f32)) :
    a.view.read (Elt F) (a.view.writes (Elt F) f ((⟨Rect.unit ![0, 0] ![1024, 128] inb, w⟩ : View.Piece (Elt F) S1024x128 .f32) :: L)) = w :=
  View.read_writes_full a.view f inb w L

theorem rc_S1024x128 (a : Memref sig .tc .vmem S1024x128 .f32) (inb : ∀ x : Fin S1024x128.rank, (![0, 0] : Fin S1024x128.rank → ℕ) x + (![1024, 128] : Fin S1024x128.rank → ℕ) x ≤ S1024x128.size x) (inc)
    (w : Vec F S1024x128 .f32) (L : List (View.Piece (Elt F) S1024x128 .f32)) :
    a.view.readCov ((⟨Rect.unit ![0, 0] ![1024, 128] inb, w⟩ : View.Piece (Elt F) S1024x128 .f32) :: L) (Rect.unit ![0, 0] ![1024, 128] inc).toLoadRect = w :=
  View.readCov_full a.view inc inb w L

theorem rd_S8192x128 (a : Memref sig .tc .vmem S8192x128 .f32) (inb : ∀ x : Fin S8192x128.rank, (![0, 0] : Fin S8192x128.rank → ℕ) x + (![8192, 128] : Fin S8192x128.rank → ℕ) x ≤ S8192x128.size x) (f : a.view.ty.Contents (Elt F)) :
    a.view.readAt (Elt F) (Rect.unit ![0, 0] ![8192, 128] inb).toLoadRect f = a.view.read (Elt F) f :=
  View.readAt_full a.view f inb

theorem wr_S8192x128 (a : Memref sig .tc .vmem S8192x128 .f32) (inb : ∀ x : Fin S8192x128.rank, (![0, 0] : Fin S8192x128.rank → ℕ) x + (![8192, 128] : Fin S8192x128.rank → ℕ) x ≤ S8192x128.size x) (f : a.view.ty.Contents (Elt F))
    (w : Vec F S8192x128 .f32) (L : List (View.Piece (Elt F) S8192x128 .f32)) :
    a.view.read (Elt F) (a.view.writes (Elt F) f ((⟨Rect.unit ![0, 0] ![8192, 128] inb, w⟩ : View.Piece (Elt F) S8192x128 .f32) :: L)) = w :=
  View.read_writes_full a.view f inb w L

theorem rc_S8192x128 (a : Memref sig .tc .vmem S8192x128 .f32) (inb : ∀ x : Fin S8192x128.rank, (![0, 0] : Fin S8192x128.rank → ℕ) x + (![8192, 128] : Fin S8192x128.rank → ℕ) x ≤ S8192x128.size x) (inc)
    (w : Vec F S8192x128 .f32) (L : List (View.Piece (Elt F) S8192x128 .f32)) :
    a.view.readCov ((⟨Rect.unit ![0, 0] ![8192, 128] inb, w⟩ : View.Piece (Elt F) S8192x128 .f32) :: L) (Rect.unit ![0, 0] ![8192, 128] inc).toLoadRect = w :=
  View.readCov_full a.view inc inb w L

theorem rd_S1x1x1024 (a : Memref sig .tc .vmem S1x1x1024 .f32) (inb : ∀ x : Fin S1x1x1024.rank, (![0, 0, 0] : Fin S1x1x1024.rank → ℕ) x + (![1, 1, 1024] : Fin S1x1x1024.rank → ℕ) x ≤ S1x1x1024.size x) (f : a.view.ty.Contents (Elt F)) :
    a.view.readAt (Elt F) (Rect.unit ![0, 0, 0] ![1, 1, 1024] inb).toLoadRect f = a.view.read (Elt F) f :=
  View.readAt_full a.view f inb

theorem wr_S1x1x1024 (a : Memref sig .tc .vmem S1x1x1024 .f32) (inb : ∀ x : Fin S1x1x1024.rank, (![0, 0, 0] : Fin S1x1x1024.rank → ℕ) x + (![1, 1, 1024] : Fin S1x1x1024.rank → ℕ) x ≤ S1x1x1024.size x) (f : a.view.ty.Contents (Elt F))
    (w : Vec F S1x1x1024 .f32) (L : List (View.Piece (Elt F) S1x1x1024 .f32)) :
    a.view.read (Elt F) (a.view.writes (Elt F) f ((⟨Rect.unit ![0, 0, 0] ![1, 1, 1024] inb, w⟩ : View.Piece (Elt F) S1x1x1024 .f32) :: L)) = w :=
  View.read_writes_full a.view f inb w L

theorem rc_S1x1x1024 (a : Memref sig .tc .vmem S1x1x1024 .f32) (inb : ∀ x : Fin S1x1x1024.rank, (![0, 0, 0] : Fin S1x1x1024.rank → ℕ) x + (![1, 1, 1024] : Fin S1x1x1024.rank → ℕ) x ≤ S1x1x1024.size x) (inc)
    (w : Vec F S1x1x1024 .f32) (L : List (View.Piece (Elt F) S1x1x1024 .f32)) :
    a.view.readCov ((⟨Rect.unit ![0, 0, 0] ![1, 1, 1024] inb, w⟩ : View.Piece (Elt F) S1x1x1024 .f32) :: L) (Rect.unit ![0, 0, 0] ![1, 1, 1024] inc).toLoadRect = w :=
  View.readCov_full a.view inc inb w L

theorem rd_S1x1024x1 (a : Memref sig .tc .vmem S1x1024x1 .f32) (inb : ∀ x : Fin S1x1024x1.rank, (![0, 0, 0] : Fin S1x1024x1.rank → ℕ) x + (![1, 1024, 1] : Fin S1x1024x1.rank → ℕ) x ≤ S1x1024x1.size x) (f : a.view.ty.Contents (Elt F)) :
    a.view.readAt (Elt F) (Rect.unit ![0, 0, 0] ![1, 1024, 1] inb).toLoadRect f = a.view.read (Elt F) f :=
  View.readAt_full a.view f inb

theorem wr_S1x1024x1 (a : Memref sig .tc .vmem S1x1024x1 .f32) (inb : ∀ x : Fin S1x1024x1.rank, (![0, 0, 0] : Fin S1x1024x1.rank → ℕ) x + (![1, 1024, 1] : Fin S1x1024x1.rank → ℕ) x ≤ S1x1024x1.size x) (f : a.view.ty.Contents (Elt F))
    (w : Vec F S1x1024x1 .f32) (L : List (View.Piece (Elt F) S1x1024x1 .f32)) :
    a.view.read (Elt F) (a.view.writes (Elt F) f ((⟨Rect.unit ![0, 0, 0] ![1, 1024, 1] inb, w⟩ : View.Piece (Elt F) S1x1024x1 .f32) :: L)) = w :=
  View.read_writes_full a.view f inb w L

theorem rc_S1x1024x1 (a : Memref sig .tc .vmem S1x1024x1 .f32) (inb : ∀ x : Fin S1x1024x1.rank, (![0, 0, 0] : Fin S1x1024x1.rank → ℕ) x + (![1, 1024, 1] : Fin S1x1024x1.rank → ℕ) x ≤ S1x1024x1.size x) (inc)
    (w : Vec F S1x1024x1 .f32) (L : List (View.Piece (Elt F) S1x1024x1 .f32)) :
    a.view.readCov ((⟨Rect.unit ![0, 0, 0] ![1, 1024, 1] inb, w⟩ : View.Piece (Elt F) S1x1024x1 .f32) :: L) (Rect.unit ![0, 0, 0] ![1, 1024, 1] inc).toLoadRect = w :=
  View.readCov_full a.view inc inb w L

theorem rd_S1x1024 (a : Memref sig .tc .vmem S1x1024 .f32) (inb : ∀ x : Fin S1x1024.rank, (![0, 0] : Fin S1x1024.rank → ℕ) x + (![1, 1024] : Fin S1x1024.rank → ℕ) x ≤ S1x1024.size x) (f : a.view.ty.Contents (Elt F)) :
    a.view.readAt (Elt F) (Rect.unit ![0, 0] ![1, 1024] inb).toLoadRect f = a.view.read (Elt F) f :=
  View.readAt_full a.view f inb

theorem wr_S1x1024 (a : Memref sig .tc .vmem S1x1024 .f32) (inb : ∀ x : Fin S1x1024.rank, (![0, 0] : Fin S1x1024.rank → ℕ) x + (![1, 1024] : Fin S1x1024.rank → ℕ) x ≤ S1x1024.size x) (f : a.view.ty.Contents (Elt F))
    (w : Vec F S1x1024 .f32) (L : List (View.Piece (Elt F) S1x1024 .f32)) :
    a.view.read (Elt F) (a.view.writes (Elt F) f ((⟨Rect.unit ![0, 0] ![1, 1024] inb, w⟩ : View.Piece (Elt F) S1x1024 .f32) :: L)) = w :=
  View.read_writes_full a.view f inb w L

theorem rc_S1x1024 (a : Memref sig .tc .vmem S1x1024 .f32) (inb : ∀ x : Fin S1x1024.rank, (![0, 0] : Fin S1x1024.rank → ℕ) x + (![1, 1024] : Fin S1x1024.rank → ℕ) x ≤ S1x1024.size x) (inc)
    (w : Vec F S1x1024 .f32) (L : List (View.Piece (Elt F) S1x1024 .f32)) :
    a.view.readCov ((⟨Rect.unit ![0, 0] ![1, 1024] inb, w⟩ : View.Piece (Elt F) S1x1024 .f32) :: L) (Rect.unit ![0, 0] ![1, 1024] inc).toLoadRect = w :=
  View.readCov_full a.view inc inb w L

/-- A load of the point's rows of dq. -/
theorem rd_rows (a : Memref sig .tc .vmem S8192x128 .f32) (i : grid0.Coords)
    (inb : ∀ x : Fin S8192x128.rank, (k0_off1 i) x + (![1024, 128] : Fin S8192x128.rank → ℕ) x ≤ S8192x128.size x) (f : a.view.ty.Contents (Elt F)) :
    a.view.readAt (Elt F) (Rect.unit (k0_off1 i) ![1024, 128] inb).toLoadRect f = View.ld (a.view.read (Elt F) f) (rowsR i) := rfl

theorem rc_rows (a : Memref sig .tc .vmem S8192x128 .f32) (i : grid0.Coords)
    (inb : ∀ x : Fin S8192x128.rank, (k0_off1 i) x + (![1024, 128] : Fin S8192x128.rank → ℕ) x ≤ S8192x128.size x)
    (L : List (View.Piece (Elt F) S8192x128 .f32)) :
    a.view.readCov L (Rect.unit (k0_off1 i) ![1024, 128] inb).toLoadRect
      = View.ld (a.view.read (Elt F) (a.view.writes (Elt F) a.view.junk L)) (rowsR i) := rfl

set_option maxHeartbeats 1000000 in
/-- The first point of a head: its first block, on the diagonal. -/
theorem run_first (c : Dev nD) (i : grid0.Coords)
    (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1x1024 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1x1024 .f32) (harg16 : arg16.IsWhole)
    (h1 : CFirst i) (h2 : CDiag i) (h4 : ¬ CLast i) (X : Ins F) (S : St F) (E : Set ℕ) (K : PUnit → sProp 𝕄) :
    iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ (∃ d, owns (c : Thread nD τ) arg10 fullShare d)
        ∗ (∃ d, owns (c : Thread nD τ) arg14 fullShare d)
        ∗ (∃ d, owns (c : Thread nD τ) arg15 fullShare d)
        ∗ (∃ d, owns (c : Thread nD τ) arg16 fullShare d)
        ∗ (iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare ((stepSt i X S).dq)
        ∗ owns (c : Thread nD τ) arg14 fullShare ((stepSt i X S).sk)
        ∗ owns (c : Thread nD τ) arg15 fullShare ((stepSt i X S).sv)
        ∗ owns (c : Thread nD τ) arg16 fullShare ((stepSt i X S).sf)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_bwd_eq_skeleton]; unfold cc0_fox_bwd_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d14, %f14, -, H14⟩, ⟨%d15, %f15, -, H15⟩, ⟨%d16, %f16, -, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact h1 | sl_exact h2 | sl_exact h4)
  sl_step
  iapply Hk
  isplitl [H3]
  · iexists _; isplitr; swap
    · iexact H3
    ipureintro
    exact harg3.read_unread _
  isplitl [H4]
  · iexists _; isplitr; swap
    · iexact H4
    ipureintro
    exact harg4.read_unread _
  isplitl [H5]
  · iexists _; isplitr; swap
    · iexact H5
    ipureintro
    exact harg5.read_unread _
  isplitl [H6]
  · iexists _; isplitr; swap
    · iexact H6
    ipureintro
    exact harg6.read_unread _
  isplitl [H7]
  · iexists _; isplitr; swap
    · iexact H7
    ipureintro
    exact harg7.read_unread _
  isplitl [H8]
  · iexists _; isplitr; swap
    · iexact H8
    ipureintro
    exact harg8.read_unread _
  isplitl [H9]
  · iexists _; isplitr; swap
    · iexact H9
    ipureintro
    exact harg9.read_unread _
  isplitl [H10]
  · iexists _; isplitr; swap
    · iexact H10
    ipureintro
    rw [read_putRows]; sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread, View.writes_nil]; simp only [stepSt, addSt, resetSt, scoreOf, if_pos h1, if_pos h2];
  isplitl [H14]
  · iexists _; isplitr; swap
    · iexact H14
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_pos h1, if_pos h2];
  isplitl [H15]
  · iexists _; isplitr; swap
    · iexact H15
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_pos h1, if_pos h2];
  · iexists _; isplitr; swap
    · iexact H16
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_pos h1, if_pos h2];
set_option maxHeartbeats 1000000 in
/-- A later block on the diagonal, not the last. -/
theorem run_diag (c : Dev nD) (i : grid0.Coords)
    (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1x1024 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1x1024 .f32) (harg16 : arg16.IsWhole)
    (h1 : ¬ CFirst i) (h2 : CDiag i) (h4 : ¬ CLast i) (X : Ins F) (S : St F) (E : Set ℕ) (K : PUnit → sProp 𝕄) :
    iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare (S.dq)
        ∗ (∃ d, owns (c : Thread nD τ) arg14 fullShare d)
        ∗ (∃ d, owns (c : Thread nD τ) arg15 fullShare d)
        ∗ (∃ d, owns (c : Thread nD τ) arg16 fullShare d)
        ∗ (iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare ((stepSt i X S).dq)
        ∗ owns (c : Thread nD τ) arg14 fullShare ((stepSt i X S).sk)
        ∗ owns (c : Thread nD τ) arg15 fullShare ((stepSt i X S).sv)
        ∗ owns (c : Thread nD τ) arg16 fullShare ((stepSt i X S).sf)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_bwd_eq_skeleton]; unfold cc0_fox_bwd_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %f14, -, H14⟩, ⟨%d15, %f15, -, H15⟩, ⟨%d16, %f16, -, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h4)
  sl_step
  iapply Hk
  isplitl [H3]
  · iexists _; isplitr; swap
    · iexact H3
    ipureintro
    exact harg3.read_unread _
  isplitl [H4]
  · iexists _; isplitr; swap
    · iexact H4
    ipureintro
    exact harg4.read_unread _
  isplitl [H5]
  · iexists _; isplitr; swap
    · iexact H5
    ipureintro
    exact harg5.read_unread _
  isplitl [H6]
  · iexists _; isplitr; swap
    · iexact H6
    ipureintro
    exact harg6.read_unread _
  isplitl [H7]
  · iexists _; isplitr; swap
    · iexact H7
    ipureintro
    exact harg7.read_unread _
  isplitl [H8]
  · iexists _; isplitr; swap
    · iexact H8
    ipureintro
    exact harg8.read_unread _
  isplitl [H9]
  · iexists _; isplitr; swap
    · iexact H9
    ipureintro
    exact harg9.read_unread _
  isplitl [H10]
  · iexists _; isplitr; swap
    · iexact H10
    ipureintro
    rw [read_putRows]; sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread, View.writes_nil]; simp only [stepSt, addSt, resetSt, scoreOf, if_neg h1, if_pos h2];
  isplitl [H14]
  · iexists _; isplitr; swap
    · iexact H14
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  isplitl [H15]
  · iexists _; isplitr; swap
    · iexact H15
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  · iexists _; isplitr; swap
    · iexact H16
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
set_option maxHeartbeats 1000000 in
/-- The last block on the diagonal, which is the only one of its column. -/
theorem run_corner (c : Dev nD) (i : grid0.Coords)
    (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1x1024 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1x1024 .f32) (harg16 : arg16.IsWhole)
    (h1 : ¬ CFirst i) (h2 : CDiag i) (h4 : CLast i) (X : Ins F) (S : St F) (E : Set ℕ) (K : PUnit → sProp 𝕄) :
    iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare (S.dq)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare ((stepSt i X S).dq)
        ∗ owns (c : Thread nD τ) arg11 fullShare (k0_pay3 (stepSt i X S).sk)
        ∗ owns (c : Thread nD τ) arg12 fullShare ((stepSt i X S).sv)
        ∗ owns (c : Thread nD τ) arg13 fullShare (k0_pay4 (stepSt i X S).sf)
        ∗ owns (c : Thread nD τ) arg14 fullShare ((stepSt i X S).sk)
        ∗ owns (c : Thread nD τ) arg15 fullShare ((stepSt i X S).sv)
        ∗ owns (c : Thread nD τ) arg16 fullShare ((stepSt i X S).sf)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_bwd_eq_skeleton]; unfold cc0_fox_bwd_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h4)
  sl_step
  iapply Hk
  isplitl [H3]
  · iexists _; isplitr; swap
    · iexact H3
    ipureintro
    exact harg3.read_unread _
  isplitl [H4]
  · iexists _; isplitr; swap
    · iexact H4
    ipureintro
    exact harg4.read_unread _
  isplitl [H5]
  · iexists _; isplitr; swap
    · iexact H5
    ipureintro
    exact harg5.read_unread _
  isplitl [H6]
  · iexists _; isplitr; swap
    · iexact H6
    ipureintro
    exact harg6.read_unread _
  isplitl [H7]
  · iexists _; isplitr; swap
    · iexact H7
    ipureintro
    exact harg7.read_unread _
  isplitl [H8]
  · iexists _; isplitr; swap
    · iexact H8
    ipureintro
    exact harg8.read_unread _
  isplitl [H9]
  · iexists _; isplitr; swap
    · iexact H9
    ipureintro
    exact harg9.read_unread _
  isplitl [H10]
  · iexists _; isplitr; swap
    · iexact H10
    ipureintro
    rw [read_putRows]; sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread, View.writes_nil]; simp only [stepSt, addSt, resetSt, scoreOf, if_neg h1, if_pos h2];
  isplitl [H11]
  · iexists _; isplitr; swap
    · iexact H11
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  isplitl [H12]
  · iexists _; isplitr; swap
    · iexact H12
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  isplitl [H13]
  · iexists _; isplitr; swap
    · iexact H13
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  isplitl [H14]
  · iexists _; isplitr; swap
    · iexact H14
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  isplitl [H15]
  · iexists _; isplitr; swap
    · iexact H15
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
  · iexists _; isplitr; swap
    · iexact H16
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_pos h2];
set_option maxHeartbeats 1000000 in
/-- A block under the diagonal, not the last of its column. -/
theorem run_off (c : Dev nD) (i : grid0.Coords)
    (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1x1024 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1x1024 .f32) (harg16 : arg16.IsWhole)
    (h1 : ¬ CFirst i) (h2 : ¬ CDiag i) (h4 : ¬ CLast i) (X : Ins F) (S : St F) (E : Set ℕ) (K : PUnit → sProp 𝕄) :
    iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare (S.dq)
        ∗ owns (c : Thread nD τ) arg14 fullShare (S.sk)
        ∗ owns (c : Thread nD τ) arg15 fullShare (S.sv)
        ∗ owns (c : Thread nD τ) arg16 fullShare (S.sf)
        ∗ (iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare ((stepSt i X S).dq)
        ∗ owns (c : Thread nD τ) arg14 fullShare ((stepSt i X S).sk)
        ∗ owns (c : Thread nD τ) arg15 fullShare ((stepSt i X S).sv)
        ∗ owns (c : Thread nD τ) arg16 fullShare ((stepSt i X S).sf)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_bwd_eq_skeleton]; unfold cc0_fox_bwd_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
  sl_exec (disch := first | sl_exact h1 | sl_exact h2 | sl_exact h4)
  sl_step
  iapply Hk
  isplitl [H3]
  · iexists _; isplitr; swap
    · iexact H3
    ipureintro
    exact harg3.read_unread _
  isplitl [H4]
  · iexists _; isplitr; swap
    · iexact H4
    ipureintro
    exact harg4.read_unread _
  isplitl [H5]
  · iexists _; isplitr; swap
    · iexact H5
    ipureintro
    exact harg5.read_unread _
  isplitl [H6]
  · iexists _; isplitr; swap
    · iexact H6
    ipureintro
    exact harg6.read_unread _
  isplitl [H7]
  · iexists _; isplitr; swap
    · iexact H7
    ipureintro
    exact harg7.read_unread _
  isplitl [H8]
  · iexists _; isplitr; swap
    · iexact H8
    ipureintro
    exact harg8.read_unread _
  isplitl [H9]
  · iexists _; isplitr; swap
    · iexact H9
    ipureintro
    exact harg9.read_unread _
  isplitl [H10]
  · iexists _; isplitr; swap
    · iexact H10
    ipureintro
    rw [read_putRows]; sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread, View.writes_nil]; simp only [stepSt, addSt, resetSt, scoreOf, if_neg h1, if_neg h2];
  isplitl [H14]
  · iexists _; isplitr; swap
    · iexact H14
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  isplitl [H15]
  · iexists _; isplitr; swap
    · iexact H15
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  · iexists _; isplitr; swap
    · iexact H16
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
set_option maxHeartbeats 1000000 in
/-- The last block of a column, under the diagonal. -/
theorem run_end (c : Dev nD) (i : grid0.Coords)
    (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S8192x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1x1024 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1x1024 .f32) (harg16 : arg16.IsWhole)
    (h1 : ¬ CFirst i) (h2 : ¬ CDiag i) (h4 : CLast i) (X : Ins F) (S : St F) (E : Set ℕ) (K : PUnit → sProp 𝕄) :
    iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare (S.dq)
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare (S.sk)
        ∗ owns (c : Thread nD τ) arg15 fullShare (S.sv)
        ∗ owns (c : Thread nD τ) arg16 fullShare (S.sf)
        ∗ (iprop(owns (c : Thread nD τ) arg3 fullShare (X.q)
        ∗ owns (c : Thread nD τ) arg4 fullShare (X.k)
        ∗ owns (c : Thread nD τ) arg5 fullShare (X.v)
        ∗ owns (c : Thread nD τ) arg6 fullShare (X.f)
        ∗ owns (c : Thread nD τ) arg7 fullShare (X.o)
        ∗ owns (c : Thread nD τ) arg8 fullShare (X.d)
        ∗ owns (c : Thread nD τ) arg9 fullShare (X.l)
        ∗ owns (c : Thread nD τ) arg10 fullShare ((stepSt i X S).dq)
        ∗ owns (c : Thread nD τ) arg11 fullShare (k0_pay3 (stepSt i X S).sk)
        ∗ owns (c : Thread nD τ) arg12 fullShare ((stepSt i X S).sv)
        ∗ owns (c : Thread nD τ) arg13 fullShare (k0_pay4 (stepSt i X S).sf)
        ∗ owns (c : Thread nD τ) arg14 fullShare ((stepSt i X S).sk)
        ∗ owns (c : Thread nD τ) arg15 fullShare ((stepSt i X S).sv)
        ∗ owns (c : Thread nD τ) arg16 fullShare ((stepSt i X S).sf)) -∗ K ⟨⟩))
      ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_bwd_eq_skeleton]; unfold cc0_fox_bwd_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
  sl_exec (disch := first | sl_exact h1 | sl_exact h2 | sl_exact h4)
  sl_step
  iapply Hk
  isplitl [H3]
  · iexists _; isplitr; swap
    · iexact H3
    ipureintro
    exact harg3.read_unread _
  isplitl [H4]
  · iexists _; isplitr; swap
    · iexact H4
    ipureintro
    exact harg4.read_unread _
  isplitl [H5]
  · iexists _; isplitr; swap
    · iexact H5
    ipureintro
    exact harg5.read_unread _
  isplitl [H6]
  · iexists _; isplitr; swap
    · iexact H6
    ipureintro
    exact harg6.read_unread _
  isplitl [H7]
  · iexists _; isplitr; swap
    · iexact H7
    ipureintro
    exact harg7.read_unread _
  isplitl [H8]
  · iexists _; isplitr; swap
    · iexact H8
    ipureintro
    exact harg8.read_unread _
  isplitl [H9]
  · iexists _; isplitr; swap
    · iexact H9
    ipureintro
    exact harg9.read_unread _
  isplitl [H10]
  · iexists _; isplitr; swap
    · iexact H10
    ipureintro
    rw [read_putRows]; sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread, View.writes_nil]; simp only [stepSt, addSt, resetSt, scoreOf, if_neg h1, if_neg h2];
  isplitl [H11]
  · iexists _; isplitr; swap
    · iexact H11
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  isplitl [H12]
  · iexists _; isplitr; swap
    · iexact H12
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  isplitl [H13]
  · iexists _; isplitr; swap
    · iexact H13
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  isplitl [H14]
  · iexists _; isplitr; swap
    · iexact H14
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  isplitl [H15]
  · iexists _; isplitr; swap
    · iexact H15
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];
  · iexists _; isplitr; swap
    · iexact H16
    ipureintro
    sl_unfold_run_names; simp only [rd_S1024x128, wr_S1024x128, rc_S1024x128, rd_S8192x128, wr_S8192x128, rc_S8192x128, rd_S1x1x1024, wr_S1x1x1024, rc_S1x1x1024, rd_S1x1024x1, wr_S1x1024x1, rc_S1x1024x1, rd_S1x1024, wr_S1x1024, rc_S1x1024, rd_rows, rc_rows, Memref.IsWhole.read_unread]; simp only [stepSt, addSt, resetSt, scoreOf, if_neg h1, if_neg h2];

end Cert.KernelIdeal.Fox

end
-- ==== Proof.KI.Run.lean ====
/- The whole run of the backward kernel: what the buffers hold after each grid point, the body's obligation at
   every point, the launch, and the frame. -/
module

public import proofs.«01_k».proof.Proof.KI.Body
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the conditions hold -/

/-- The first point of a head is on the diagonal. -/
theorem diag_of_first : ∀ i : grid0.Coords, CFirst i → CDiag i := by
  have h : ∀ r : Fin 4, ∀ s : Fin 9, Scalar.cmpi .ne (Scalar.extui (Scalar.andi (Scalar.cmpi .eq (BitVec.ofNat 32 r.val) 0#32)
    (Scalar.cmpi .eq (BitVec.ofNat 32 s.val) 0#32))) 0#32 = 1#1 → r = 0 ∧ s = 0 := by decide
  intro i hi
  obtain ⟨h1, h2⟩ := h (i 1) (i 2) hi
  unfold CDiag wI wJ
  rw [show i 1 = (0 : Fin 4) from h1, show i 2 = (0 : Fin 9) from h2]
  decide

/-- The first point of a head is not the last of its column. -/
theorem not_last_of_first : ∀ i : grid0.Coords, CFirst i → ¬ CLast i := by
  have h : ∀ r : Fin 4, ∀ s : Fin 9, Scalar.cmpi .ne (Scalar.extui (Scalar.andi (Scalar.cmpi .eq (BitVec.ofNat 32 r.val) 0#32)
    (Scalar.cmpi .eq (BitVec.ofNat 32 s.val) 0#32))) 0#32 = 1#1 → r = 0 ∧ s = 0 := by decide
  intro i hi
  obtain ⟨h1, h2⟩ := h (i 1) (i 2) hi
  show ¬ Scalar.cmpi .ne (Scalar.extui (Scalar.cmpi .eq (wI i) 7#32)) 0#32 = 1#1
  unfold wI
  rw [show i 1 = (0 : Fin 4) from h1, show i 2 = (0 : Fin 9) from h2]
  decide

/-- The first point of a head, by its position. -/
theorem first_iff : ∀ t : Fin cfg0.N, CFirst (grid0.coords t) ↔ t.val % 36 = 0 :=
  (by decide +kernel : ∀ t : Fin grid0.N, CFirst (grid0.coords t) ↔ t.val % 36 = 0)

/-- A column's gradients are written back at its last point only. -/
theorem flush8 : ∀ t : Fin cfg0.N, ¬ CLast (grid0.coords t) → (cfg0.win 8).flush t = false :=
  (by decide +kernel : ∀ t : Fin grid0.N, ¬ CLast (grid0.coords t) → win0_8.flush t = false)
theorem flush9 : ∀ t : Fin cfg0.N, ¬ CLast (grid0.coords t) → (cfg0.win 9).flush t = false :=
  (by decide +kernel : ∀ t : Fin grid0.N, ¬ CLast (grid0.coords t) → win0_9.flush t = false)
theorem flush10 : ∀ t : Fin cfg0.N, ¬ CLast (grid0.coords t) → (cfg0.win 10).flush t = false :=
  (by decide +kernel : ∀ t : Fin grid0.N, ¬ CLast (grid0.coords t) → win0_10.flush t = false)

theorem idle_last (i : grid0.Coords) (h : CLast i) : (!(k0_cond4 i == 1#1)) = false := by
  rw [show k0_cond4 i = 1#1 from h]; rfl
theorem idle_notlast (i : grid0.Coords) (h : ¬ CLast i) : (!(k0_cond4 i == 1#1)) = true := by
  rw [Bool.not_eq_true', beq_eq_false_iff_ne]; exact h

theorem idle8_eq (i : grid0.Coords) : idle0 8 i = !(k0_cond4 i == 1#1) := rfl
theorem idle9_eq (i : grid0.Coords) : idle0 9 i = !(k0_cond4 i == 1#1) := rfl
theorem idle10_eq (i : grid0.Coords) : idle0 10 i = !(k0_cond4 i == 1#1) := rfl

/-! ## What the buffers hold -/

/-- The blocks that point `t` reads. -/
def insAt (c : Dev nD) (t : Fin cfg0.N) : Ins F where
  q := iblk m c 0 t
  k := iblk m c 1 t
  v := iblk m c 2 t
  f := iblk m c 3 t
  o := iblk m c 4 t
  d := iblk m c 5 t
  l := iblk m c 6 t

/-- The state before point `n`. -/
def stB (c : Dev nD) : ℕ → St F
  | 0 => ⟨k0_pay5, k0_pay6, k0_pay7, k0_pay8⟩
  | n + 1 => if h : n < cfg0.N then stepSt (grid0.coords ⟨n, h⟩) (insAt m c ⟨n, h⟩) (stB c n) else stB c n

theorem stB_succ (c : Dev nD) (t : Fin cfg0.N) :
    stB m c (t.val + 1) = stepSt (grid0.coords t) (insAt m c t) (stB m c t.val) := dif_pos t.isLt

abbrev scA : Memref sig .tc .vmem S1024x128 .f32 := Memref.whole cc0_scratch0
abbrev scB : Memref sig .tc .vmem S1024x128 .f32 := Memref.whole cc0_scratch1
abbrev scC : Memref sig .tc .vmem S1x1024 .f32 := Memref.whole cc0_scratch2

theorem PhiA_scratch (c : Dev nD) :
    (Pipeline.ΦA spec0 c : sProp 𝕄)
      = iprop(iprop((∃ d, owns (c : Thread nD τ) scA fullShare d) ∗ (∃ d, owns (c : Thread nD τ) scB fullShare d)
          ∗ (∃ d, owns (c : Thread nD τ) scC fullShare d)) ∗ (∃ r, prngReg c r)) := by
  unfold Pipeline.ΦA; rw [scopedRest0_eq]; simp only [scA, scB, scC, owns_whole]; try rfl

/-- Before position `n`: at the start the scratch buffers at anything, later at the state's sums. -/
def PhiS (c : Dev nD) : (n : ℕ) → n ≤ cfg0.N → sProp 𝕄
  | 0, _ => Pipeline.ΦA spec0 c
  | n + 1, _ => iprop(iprop(owns (c : Thread nD τ) scA fullShare (stB m c (n + 1)).sk
      ∗ owns (c : Thread nD τ) scB fullShare (stB m c (n + 1)).sv
      ∗ owns (c : Thread nD τ) scC fullShare (stB m c (n + 1)).sf) ∗ (∃ r, prngReg c r))

theorem PhiS_pos (c : Dev nD) (n : ℕ) (h : n ≤ cfg0.N) (hz : n ≠ 0) :
    PhiS m c n h = iprop(iprop(owns (c : Thread nD τ) scA fullShare (stB m c n).sk
      ∗ owns (c : Thread nD τ) scB fullShare (stB m c n).sv
      ∗ owns (c : Thread nD τ) scC fullShare (stB m c n).sf) ∗ (∃ r, prngReg c r)) := by
  cases n with
  | zero => exact absurd rfl hz
  | succ n => rfl

/-- At any position the scratch buffers hold something. -/
theorem PhiS_any (c : Dev nD) (n : ℕ) (h : n ≤ cfg0.N) :
    PhiS m c n h ⊢ (iprop(iprop((∃ d, owns (c : Thread nD τ) scA fullShare d) ∗ (∃ d, owns (c : Thread nD τ) scB fullShare d)
          ∗ (∃ d, owns (c : Thread nD τ) scC fullShare d)) ∗ (∃ r, prngReg c r)) : sProp 𝕄) := by
  cases n with
  | zero => rw [← PhiA_scratch]; exact Idealize.SL.BI.Entails.refl _
  | succ n =>
    rw [PhiS_pos m c _ h (Nat.succ_ne_zero n)]
    iintro ⟨⟨HA, HB, HC⟩, Hg⟩
    isplitr [Hg]
    · isplitl [HA]; · iexists _; iexact HA
      isplitl [HB]; · iexists _; iexact HB
      iexists _; iexact HC
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stB m c (t.val + 1)).dq
    | ⟨8, _⟩ => k0_pay3 (stB m c (t.val + 1)).sk
    | ⟨9, _⟩ => (stB m c (t.val + 1)).sv
    | ⟨10, _⟩ => k0_pay4 (stB m c (t.val + 1)).sf
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (stB m c (t.val + 1)).dq := by dsimp only [dats]
theorem after_8 (c : Dev nD) (t : Fin cfg0.N) : (dats m 0 c).after 8 t = k0_pay3 (stB m c (t.val + 1)).sk := by dsimp only [dats]
theorem after_9 (c : Dev nD) (t : Fin cfg0.N) : (dats m 0 c).after 9 t = (stB m c (t.val + 1)).sv := by dsimp only [dats]
theorem after_10 (c : Dev nD) (t : Fin cfg0.N) : (dats m 0 c).after 10 t = k0_pay4 (stB m c (t.val + 1)).sf := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Within a head the buffer of dq holds what the point before left. -/
theorem before_7 (c : Dev nD) (t : Fin cfg0.N) (h : t.val % 36 ≠ 0) (d) : (dats m 0 c).before 7 t d = (stB m c t.val).dq := by
  have ht : t.val ≠ 0 := fun h0 => h (by rw [h0])
  have hf : (cfg0.win 7).flush ⟨t.val - 1, Nat.lt_of_le_of_lt (Nat.sub_le _ _) t.isLt⟩ = false := by
    rw [← Bool.not_eq_true, flush0_7]
    show ¬ (t.val - 1) % 36 = 35
    omega
  rw [(dats m 0 c).before_out_kept 7 rfl t ht hf (fun _ => rfl) (fun _ _ => rfl), after_7]
  show (stB m c (t.val - 1 + 1)).dq = _
  rw [Nat.sub_add_cancel (Nat.one_le_iff_ne_zero.mpr ht)]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns: at the last point of a column, -/
def bodyPostLast (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t))

/-- and elsewhere. -/
def bodyPostKeep (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

set_option maxHeartbeats 3200000 in
theorem sound_Last (c : Dev nD) (t : Fin cfg0.N) (h4 : CLast (grid0.coords t)) :
    bodyPre m c t ⊢ wp frame (wpE (defs₀ (F := F)) Variants.none c none) Set.univ (bodyAt0 t) (fun _ => bodyPostLast m c t) := by
  unfold bodyPre bodyPostLast bodyAt0
  rw [show (dats m 0 c).owesAt () t.succ = (dats m 0 c).owesAt () t.castSucc from rfl]
  simp only [before_0, before_1, before_2, before_3, before_4, before_5, before_6, after_0, after_1, after_2, after_3,
    after_4, after_5, after_6, after_7, after_8, after_9, after_10]
  rw [show (dats m 0 c).Φ t.succ = PhiS m c (t.val + 1) t.isLt from rfl, PhiS_pos m c _ _ (Nat.succ_ne_zero _), Phi_castSucc]
  rw [stB_succ m c t]
  have h1 : ¬ CFirst (grid0.coords t) := fun h => not_last_of_first _ h h4
  by_cases h2 : CDiag (grid0.coords t)
  · refine (Laws.sep_mono (PhiS_any m c t.val (Nat.le_of_lt t.isLt)) (Idealize.SL.BI.Entails.refl _)).trans ?_
    simp only [before_7 m c t (fun h => h1 ((first_iff t).mpr h))]
    iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
    icases H8 with ⟨%d8, H8⟩
    icases H9 with ⟨%d9, H9⟩
    icases H10 with ⟨%d10, H10⟩
    iapply (run_corner c (grid0.coords t) _ _ _ _ _ _ _ _ _ _ _ _ _ _ _ _ _ _ _ _ _ _ _ _ _ _ _ _ h1 h2 h4 (insAt m c t) (stB m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HA]; · iexact HA
    isplitl [HB]; · iexact HB
    isplitl [HC]; · iexact HC
    iintro ⟨H0, H1, H2, H3, H4, H5, H6, H7, H8, H9, H10, HA, HB, HC⟩
    isplitl [HA HB HC Hg]
    · isplitr [Hg]
      · isplitl [HA]; · iexact HA
        isplitl [HB]; · iexact HB
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h2 (diag_of_first _ ((first_iff t).mpr (by rw [h])))
    rw [PhiS_pos m c _ _ hz]
    simp only [before_7 m c t (fun h => h1 ((first_iff t).mpr h))]
    iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
    icases H8 with ⟨%d8, H8⟩
    icases H9 with ⟨%d9, H9⟩
    icases H10 with ⟨%d10, H10⟩
    iapply (run_end c (grid0.coords t) _ _ _ _ _ _ _ _ _ _ _ _ _ _ _ _ _ _ _ _ _ _ _ _ _ _ _ _ h1 h2 h4 (insAt m c t) (stB m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HA]; · iexact HA
    isplitl [HB]; · iexact HB
    isplitl [HC]; · iexact HC
    iintro ⟨H0, H1, H2, H3, H4, H5, H6, H7, H8, H9, H10, HA, HB, HC⟩
    isplitl [HA HB HC Hg]
    · isplitr [Hg]
      · isplitl [HA]; · iexact HA
        isplitl [HB]; · iexact HB
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 3200000 in
theorem sound_Keep (c : Dev nD) (t : Fin cfg0.N) (h4 : ¬ CLast (grid0.coords t)) :
    bodyPre m c t ⊢ wp frame (wpE (defs₀ (F := F)) Variants.none c none) Set.univ (bodyAt0 t) (fun _ => bodyPostKeep m c t) := by
  unfold bodyPre bodyPostKeep bodyAt0
  rw [show (dats m 0 c).owesAt () t.succ = (dats m 0 c).owesAt () t.castSucc from rfl]
  simp only [before_0, before_1, before_2, before_3, before_4, before_5, before_6, after_0, after_1, after_2, after_3,
    after_4, after_5, after_6, after_7]
  rw [show (dats m 0 c).Φ t.succ = PhiS m c (t.val + 1) t.isLt from rfl, PhiS_pos m c _ _ (Nat.succ_ne_zero _), Phi_castSucc]
  rw [stB_succ m c t]
  by_cases h1 : CFirst (grid0.coords t)
  · have h2 := diag_of_first _ h1
    refine (Laws.sep_mono (PhiS_any m c t.val (Nat.le_of_lt t.isLt)) (Idealize.SL.BI.Entails.refl _)).trans ?_
    iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
    iapply (run_first c (grid0.coords t) _ _ _ _ _ _ _ _ _ _ _ _ _ _ _ _ _ _ _ _ _ _ _ _ _ _ _ _ h1 h2 h4 (insAt m c t) (stB m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HA]; · iexact HA
    isplitl [HB]; · iexact HB
    isplitl [HC]; · iexact HC
    iintro ⟨H0, H1, H2, H3, H4, H5, H6, H7, HA, HB, HC⟩
    isplitl [HA HB HC Hg]
    · isplitr [Hg]
      · isplitl [HA]; · iexact HA
        isplitl [HB]; · iexact HB
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h2 : CDiag (grid0.coords t)
    · refine (Laws.sep_mono (PhiS_any m c t.val (Nat.le_of_lt t.isLt)) (Idealize.SL.BI.Entails.refl _)).trans ?_
      simp only [before_7 m c t (fun h => h1 ((first_iff t).mpr h))]
      iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
      iapply (run_diag c (grid0.coords t) _ _ _ _ _ _ _ _ _ _ _ _ _ _ _ _ _ _ _ _ _ _ _ _ _ _ _ _ h1 h2 h4 (insAt m c t) (stB m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      isplitl [HB]; · iexact HB
      isplitl [HC]; · iexact HC
      iintro ⟨H0, H1, H2, H3, H4, H5, H6, H7, HA, HB, HC⟩
      isplitl [HA HB HC Hg]
      · isplitr [Hg]
        · isplitl [HA]; · iexact HA
          isplitl [HB]; · iexact HB
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : t.val ≠ 0 := fun h => h2 (diag_of_first _ ((first_iff t).mpr (by rw [h])))
      rw [PhiS_pos m c _ _ hz]
      simp only [before_7 m c t (fun h => h1 ((first_iff t).mpr h))]
      iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
      iapply (run_off c (grid0.coords t) _ _ _ _ _ _ _ _ _ _ _ _ _ _ _ _ _ _ _ _ _ _ _ _ _ _ _ _ h1 h2 h4 (insAt m c t) (stB m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      isplitl [HB]; · iexact HB
      isplitl [HC]; · iexact HC
      iintro ⟨H0, H1, H2, H3, H4, H5, H6, H7, HA, HB, HC⟩
      isplitl [HA HB HC Hg]
      · isplitr [Hg]
        · isplitl [HA]; · iexact HA
          isplitl [HB]; · iexact HB
          iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body's obligation at every point. -/
theorem body_obligation (c : Dev nD) : BodyObligation (dats (F := F) m 0 c) (defs₀ (F := F)) Variants.none () Set.univ := fun t => by
  by_cases h4 : CLast (grid0.coords t)
  · have i8 : idle0 8 (grid0.coords t) = false := (idle8_eq _).trans (idle_last _ h4)
    have i9 : idle0 9 (grid0.coords t) = false := (idle9_eq _).trans (idle_last _ h4)
    have i10 : idle0 10 (grid0.coords t) = false := (idle10_eq _).trans (idle_last _ h4)
    rw [bigSep_W0, bigSep_W0, defs₀_row]
    simp only [i8, i9, i10]
    exact triple_restated (sound_Last m c t h4) rfl .rfl fun _ => .rfl
  · have i8 : idle0 8 (grid0.coords t) = true := (idle8_eq _).trans (idle_notlast _ h4)
    have i9 : idle0 9 (grid0.coords t) = true := (idle9_eq _).trans (idle_notlast _ h4)
    have i10 : idle0 10 (grid0.coords t) = true := (idle10_eq _).trans (idle_notlast _ h4)
    have f8 : (win0 8).flush t = false := flush8 t h4
    have f9 : (win0 9).flush t = false := flush9 t h4
    have f10 : (win0 10).flush t = false := flush10 t h4
    rw [bigSep_W0, bigSep_W0, defs₀_row]
    simp only [i8, i9, i10, f8, f9, f10]
    exact triple_restated (sound_Keep m c t h4) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After the last point the invariant gives the region's resources back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_scratch]
  exact PhiS_any m c _ _

set_option backward.isDefEq.respectTransparency.types false in
/-- The launch: every execution of @main ends with every staged array at what the points wrote back, every other
    unscoped buffer as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.V.Ref.lean ====
/- What the reference's four result arrays hold. -/
module

public import proofs.«01_k».proof.Proof.V.Args
public import proofs.«01_k».proof.Proof.Gen.ReferenceIdeal.Read

@[expose] public section

set_option maxRecDepth 16384

noncomputable section

namespace Cert.FoxMath

open Idealize.ShloMosaic Cert.ReferenceIdeal Cert.ReferenceIdeal.Gen Cert.ReferenceIdeal.Read Idealize.ShloMosaic.TcCoe

variable {u : (⟨S8192x3072, .f32⟩ : BufTy).Contents (Elt Ideal)} {g : (⟨S8x1x8192, .f32⟩ : BufTy).Contents (Elt Ideal)}
  {d : (⟨S8192x2048, .f32⟩ : BufTy).Contents (Elt Ideal)}

theorem ref_q (H : AllReal u g d) (h : Fin 8) (i : Fin 8192) (x : Fin 128) :
    (val_main_v5 (F := Ideal) u (ix3 h i x) : EReal) = (((argsOf u g d).q h i x : ℝ) : EReal) := by
  refine Eq.trans ?_ (read_q H h i x)
  pointwise [val_main_v5, val_main_v4, val_main_v0]

theorem ref_k (H : AllReal u g d) (h : Fin 8) (i : Fin 8192) (x : Fin 128) :
    (val_main_v7 (F := Ideal) u (ix3 h i x) : EReal) = (((argsOf u g d).k h i x : ℝ) : EReal) := by
  refine Eq.trans ?_ (read_k H h i x)
  pointwise [val_main_v7, val_main_v6, val_main_v1]

theorem ref_v (H : AllReal u g d) (h : Fin 8) (i : Fin 8192) (x : Fin 128) :
    (val_main_v9 (F := Ideal) u (ix3 h i x) : EReal) = (((argsOf u g d).v h i x : ℝ) : EReal) := by
  refine Eq.trans ?_ (read_v H h i x)
  pointwise [val_main_v9, val_main_v8, val_main_v2]

theorem ref_d (H : AllReal u g d) (h : Fin 8) (i : Fin 8192) (x : Fin 128) :
    (val_main_v59 (F := Ideal) d (ix3 h i x) : EReal) = (((argsOf u g d).d h i x : ℝ) : EReal) := by
  refine Eq.trans ?_ (read_d H h i x)
  pointwise [val_main_v59, val_main_v58, val_main_v57]

/-- The reference's logits: the kernel's, plus the query's own gate. -/
theorem ref_logit (H : AllReal u g d) (h : Fin 8) (i j : Fin 8192) :
    (val_main_v18 (F := Ideal) u g (ix3 h i j) : EReal) = ((lg (argsOf u g d) h i j + (argsOf u g d).g h i : ℝ) : EReal) := by
  have hv : (val_main_v18 (F := Ideal) u g (ix3 h i j) : EReal)
      = (∑ x : Fin 128, (val_main_v5 (F := Ideal) u (ix3 h i x) : EReal) * val_main_v7 (F := Ideal) u (ix3 h j x)) * Ideal.ofBits .f32 0x3DB504F3#32
        + g (ix3 h 0 i) - g (ix3 h 0 j) := by
    pointwise [val_main_v18, val_main_v17, val_main_v16, val_main_v15, val_main_v14, val_main_v13, val_main_v12, val_main_v11, val_main_cst, val_main_v10, val_main_v3]
  rw [hv]
  simp only [ref_q H, ref_k H, read_g H]
  rw [sum_mul_coe, ofBits_scale, ← EReal.coe_mul, ← EReal.coe_add, ← EReal.coe_sub]
  congr 1
  show (∑ x, _) * scv + _ - _ = (∑ x, _) * scv - _ + _
  ring

theorem ref_masked (H : AllReal u g d) (h : Fin 8) (i j : Fin 8192) :
    (val_main_v25_0 (F := Ideal) u g (ix3 h i j) : EReal)
      = if j ≤ i then ((lg (argsOf u g d) h i j + (argsOf u g d).g h i : ℝ) : EReal) else ⊥ := by
  have hv : (val_main_v25_0 (F := Ideal) u g (ix3 h i j) : EReal)
      = Scalar.select (IntOp.cmpi .sle (BitVec.ofNat 32 j.val) (BitVec.ofNat 32 i.val)) (val_main_v18 (F := Ideal) u g (ix3 h i j) : EReal)
        (Ideal.ofBits .f32 0xFF800000#32) := by
    pointwise [val_main_v25_0, val_main_v25_1, val_main_call0_v2, val_main_call0_v0, val_main_cst_0, id, val_main_v24, val_main_v23, val_main_v22, val_main_v21, val_main_v20, val_main_v19]
  rw [hv, select_mask, ofBits_ninf, ref_logit H]

theorem max_gen (X : Vec Ideal S8x8192x8192 .f32) (h : Fin 8) (i : Fin 8192) :
    (Host.reduce (FloatOps.maximumf (F := Ideal) (φ := .f32)) X (constant (F := Ideal) S_ .f32 0xFF800000#32) reducesTo_S8x8192x8192_S8x8192_d2 h_S_ (ix2 h i) : EReal)
      = Finset.fold max (Ideal.ofBits .f32 0xFF800000#32) (fun j : Fin 8192 => (X (ix3 h i j) : EReal)) Finset.univ := by
  pointwise

/-- A query's greatest logit is a real number. -/
theorem ref_max (H : AllReal u g d) (h : Fin 8) (i : Fin 8192) : ∃ M : ℝ, (val_main_v33 (F := Ideal) u g (ix2 h i) : EReal) = (M : EReal) := by
  have hv : (val_main_v33 (F := Ideal) u g (ix2 h i) : EReal) = max (Ideal.ofBits .f32 0xFF800000#32) (val_main_v26 (F := Ideal) u g (ix2 h i)) := by
    rw [val_main_v33_apply]
    rfl
  rw [hv, show (val_main_v26 (F := Ideal) u g (ix2 h i) : EReal) = _ from max_gen (val_main_v25_0 (F := Ideal) u g) h i, ofBits_ninf,
    max_eq_right bot_le]
  simp only [ref_masked H]
  refine fold_max_real _ _ i (Finset.mem_univ _) _ (if_pos le_rfl) fun j _ => ?_
  split
  · exact EReal.coe_ne_top _
  · exact bot_ne_top

theorem exp_gen (X : Vec Ideal S8x8192x8192 .f32) (Y : Vec Ideal S8x8192 .f32) (h : Fin 8) (i j : Fin 8192) :
    (Host.exp (F := Ideal) (φ := .f32) (subf X (broadcastInDim S8x8192x8192 ![0, 1, 2] bcast_S8x8192x1_S8x8192x8192_0_1_2
        (broadcastInDim S8x8192x1 ![0, 1] bcast_S8x8192_S8x8192x1_0_1 Y))) (ix3 h i j) : EReal)
      = Ideal.exp ((X (ix3 h i j) : EReal) - Y (ix2 h i)) := by
  pointwise

/-- The exponentials of a query's logits, less one real number, and nought where the mask hides the key. -/
theorem ref_exp (H : AllReal u g d) (h : Fin 8) (i : Fin 8192) : ∃ M : ℝ, ∀ j : Fin 8192, (val_main_v46 (F := Ideal) u g (ix3 h i j) : EReal)
    = ((if j ≤ i then Real.exp (lg (argsOf u g d) h i j - M) else 0 : ℝ) : EReal) := by
  obtain ⟨M, hM⟩ := ref_max H h i
  refine ⟨M - (argsOf u g d).g h i, fun j => ?_⟩
  have hv : (val_main_v46 (F := Ideal) u g (ix3 h i j) : EReal)
      = Ideal.exp ((val_main_v25_0 (F := Ideal) u g (ix3 h i j) : EReal) - val_main_v33 (F := Ideal) u g (ix2 h i)) := by
    exact exp_gen (val_main_v25_0 (F := Ideal) u g) (val_main_v33 (F := Ideal) u g) h i j
  have hr : lg (argsOf u g d) h i j + (argsOf u g d).g h i - M = lg (argsOf u g d) h i j - (M - (argsOf u g d).g h i) := by ring
  rw [hv, hM, ref_masked H, exp_masked, hr]

theorem ref_dp (H : AllReal u g d) (h : Fin 8) (i j : Fin 8192) :
    (val_main_v62 (F := Ideal) u d (ix3 h i j) : EReal) = ((dp (argsOf u g d) h i j : ℝ) : EReal) := by
  have hv : (val_main_v62 (F := Ideal) u d (ix3 h i j) : EReal)
      = ∑ x : Fin 128, (val_main_v59 (F := Ideal) d (ix3 h i x) : EReal) * val_main_v9 (F := Ideal) u (ix3 h j x) := by
    pointwise [val_main_v62]
  rw [hv]
  simp only [ref_d H, ref_v H]
  exact sum_mul_coe _ _

/-- The reference's attention weights. -/
theorem ref_pr (H : AllReal u g d) (h : Fin 8) (i j : Fin 8192) :
    (val_main_v50 (F := Ideal) u g (ix3 h i j) : EReal) = ((pr (argsOf u g d) h i j : ℝ) : EReal) := by
  obtain ⟨M, hM⟩ := ref_exp H h i
  have hv : (val_main_v50 (F := Ideal) u g (ix3 h i j) : EReal)
      = Ideal.div (val_main_v46 (F := Ideal) u g (ix3 h i j)) (∑ j' : Fin 8192, (val_main_v46 (F := Ideal) u g (ix3 h i j') : EReal)) := by
    pointwise [val_main_v50, val_main_v49, val_main_v48, val_main_v47, val_main_cst_9]
  rw [hv]
  simp only [hM]
  rw [coe_sum, div_coe_coe (sum_exp_pos _ h i M).ne', exp_div]

end Cert.FoxMath

end
-- ==== Proof.V.RefGrad.lean ====
/- The reference's four gradients as real numbers. -/
module

public import proofs.«01_k».proof.Proof.V.Ref

@[expose] public section

set_option maxRecDepth 16384

noncomputable section

namespace Cert.FoxMath

open Idealize.ShloMosaic Cert.ReferenceIdeal Cert.ReferenceIdeal.Gen Cert.ReferenceIdeal.Read Idealize.ShloMosaic.TcCoe

variable {u : (⟨S8192x3072, .f32⟩ : BufTy).Contents (Elt Ideal)} {g : (⟨S8x1x8192, .f32⟩ : BufTy).Contents (Elt Ideal)}
  {d : (⟨S8192x2048, .f32⟩ : BufTy).Contents (Elt Ideal)}

/-- A query's sum of exponentials, at any array of exponentials. -/
theorem ref_sum (h : Fin 8) (i : Fin 8192) :
    (val_main_v47 (F := Ideal) u g (ix2 h i) : EReal) = ∑ j : Fin 8192, (val_main_v46 (F := Ideal) u g (ix3 h i j) : EReal) := by
  pointwise [val_main_v47, val_main_cst_9]

theorem ref_neg (h : Fin 8) (i : Fin 8192) :
    (val_main_v71 (F := Ideal) u g d (ix2 h i) : EReal)
      = -∑ j : Fin 8192, (val_main_v62 (F := Ideal) u d (ix3 h i j) : EReal)
          * Ideal.div 1 ((val_main_v47 (F := Ideal) u g (ix2 h i) : EReal) * val_main_v47 (F := Ideal) u g (ix2 h i))
          * val_main_v46 (F := Ideal) u g (ix3 h i j) := by
  have hv : (val_main_v71 (F := Ideal) u g d (ix2 h i) : EReal)
      = ∑ _o : Fin 1, -∑ j : Fin 8192, (val_main_v62 (F := Ideal) u d (ix3 h i j) : EReal)
          * Ideal.div 1 ((val_main_v47 (F := Ideal) u g (ix2 h i) : EReal) * val_main_v47 (F := Ideal) u g (ix2 h i))
          * val_main_v46 (F := Ideal) u g (ix3 h i j) := by
    pointwise [val_main_v71, val_main_cst_12, val_main_v68, val_main_v67, val_main_v66, val_main_cst_11,
      val_main_v65, val_main_v64, val_main_v63, val_main_v53, val_main_v52, val_main_cst_10, val_main_v51, val_main_v48]
  rw [hv, Fin.sum_univ_one]

theorem ref_cot (h : Fin 8) (i j : Fin 8192) :
    (val_main_v74 (F := Ideal) u g d (ix3 h i j) : EReal)
      = (Ideal.div (val_main_v62 (F := Ideal) u d (ix3 h i j)) (val_main_v47 (F := Ideal) u g (ix2 h i))
          + (val_main_v71 (F := Ideal) u g d (ix2 h i) : EReal)) * val_main_v46 (F := Ideal) u g (ix3 h i j) := by
  pointwise [val_main_v74, val_main_v73, val_main_v72, val_main_v70, val_main_v69, val_main_v48]

theorem ref_hide (h : Fin 8) (i j : Fin 8192) :
    (val_main_v75 (F := Ideal) u g d (ix3 h i j) : EReal)
      = Scalar.select (IntOp.cmpi .sle (BitVec.ofNat 32 j.val) (BitVec.ofNat 32 i.val)) (val_main_v74 (F := Ideal) u g d (ix3 h i j) : EReal) 0 := by
  pointwise [val_main_v75, val_main_call1_v0, val_main_call1_cst, val_main_v25_1, val_main_v24, val_main_v23, val_main_v22, val_main_v21, val_main_v20, val_main_v19]

/-- The reference's cotangents of the logits. -/
theorem ref_ds (H : AllReal u g d) (h : Fin 8) (i j : Fin 8192) :
    (val_main_v75 (F := Ideal) u g d (ix3 h i j) : EReal) = ((ds (argsOf u g d) h i j : ℝ) : EReal) := by
  obtain ⟨M, hM⟩ := ref_exp H h i
  have hE := (sum_exp_pos (argsOf u g d) h i M).ne'
  have hl : (val_main_v47 (F := Ideal) u g (ix2 h i) : EReal)
      = ((∑ j', if j' ≤ i then Real.exp (lg (argsOf u g d) h i j' - M) else 0 : ℝ) : EReal) := by
    rw [ref_sum]
    simp only [hM]
    exact coe_sum _ _
  rw [ref_hide, select_mask]
  by_cases hji : j ≤ i
  · rw [if_pos hji, ref_cot, ref_neg, hl, hM, ref_dp H]
    simp only [ref_dp H, hM]
    rw [div_coe_coe hE, ← EReal.coe_mul, ← EReal.coe_one, div_coe_coe (mul_ne_zero hE hE)]
    simp only [← EReal.coe_mul]
    rw [coe_sum, ← EReal.coe_neg, ← EReal.coe_add, ← EReal.coe_mul]
    exact congrArg _ (softmax_vjp (argsOf u g d) h i j (fun j' => if j' ≤ i then Real.exp (lg (argsOf u g d) h i j' - M) else 0) _ hE
      fun j' => exp_div _ h i j' M)
  · rw [if_neg hji, ds_of_lt _ _ (not_le.mp hji)]
    rfl

/-- The queries' gradient. -/
theorem ref_gq (H : AllReal u g d) (h : Fin 8) (i : Fin 8192) (x : Fin 128) :
    (val_main_v87 (F := Ideal) u g d (ix3 h i x) : EReal) = ((gq (argsOf u g d) h i x : ℝ) : EReal) := by
  have hv : (val_main_v87 (F := Ideal) u g d (ix3 h i x) : EReal)
      = ∑ j : Fin 8192, (val_main_v75 (F := Ideal) u g d (ix3 h i j) : EReal) * Ideal.ofBits .f32 0x3DB504F3#32 * val_main_v7 (F := Ideal) u (ix3 h j x) := by
    pointwise [val_main_v87, val_main_v85, val_main_v84, val_main_cst_17]
  rw [hv]
  simp only [ref_ds H, ref_k H, ofBits_scale, ← EReal.coe_mul]
  exact coe_sum _ _

/-- The keys' gradient. -/
theorem ref_gk (H : AllReal u g d) (h : Fin 8) (j : Fin 8192) (x : Fin 128) :
    (val_main_v86 (F := Ideal) u g d (ix3 h j x) : EReal) = ((gk (argsOf u g d) h j x : ℝ) : EReal) := by
  have hv : (val_main_v86 (F := Ideal) u g d (ix3 h j x) : EReal)
      = ∑ i : Fin 8192, (val_main_v75 (F := Ideal) u g d (ix3 h i j) : EReal) * Ideal.ofBits .f32 0x3DB504F3#32 * val_main_v5 (F := Ideal) u (ix3 h i x) := by
    pointwise [val_main_v86, val_main_v85, val_main_v84, val_main_cst_17]
  rw [hv]
  simp only [ref_ds H, ref_q H, ofBits_scale, ← EReal.coe_mul]
  exact coe_sum _ _

/-- The values' gradient. -/
theorem ref_gv (H : AllReal u g d) (h : Fin 8) (j : Fin 8192) (x : Fin 128) :
    (val_main_v61 (F := Ideal) u g d (ix3 h j x) : EReal) = ((gv (argsOf u g d) h j x : ℝ) : EReal) := by
  have hv : (val_main_v61 (F := Ideal) u g d (ix3 h j x) : EReal)
      = ∑ i : Fin 8192, (val_main_v59 (F := Ideal) d (ix3 h i x) : EReal) * val_main_v50 (F := Ideal) u g (ix3 h i j) := by
    pointwise [val_main_v61, val_main_v60]
  rw [hv]
  simp only [ref_d H, ref_pr H, ← EReal.coe_mul]
  exact coe_sum _ _

/-- The gates' gradient: the part of the query's own gate is nought. -/
theorem ref_gf (H : AllReal u g d) (h : Fin 8) (j : Fin 8192) :
    (val_main_v83 (F := Ideal) u g d (ix2 h j) : EReal) = ((gf (argsOf u g d) h j : ℝ) : EReal) := by
  have hv : (val_main_v83 (F := Ideal) u g d (ix2 h j) : EReal)
      = (∑ _o : Fin 1, ∑ i : Fin 8192, -(val_main_v75 (F := Ideal) u g d (ix3 h i j) : EReal))
        + ∑ _o : Fin 1, ∑ i : Fin 8192, (val_main_v75 (F := Ideal) u g d (ix3 h j i) : EReal) := by
    pointwise [val_main_v83, val_main_v79, val_main_cst_14, val_main_v78, val_main_v77, val_main_cst_13, val_main_v76, val_main_v82, val_main_cst_16,
      val_main_v81, val_main_v80, val_main_cst_15]
  rw [hv, Fin.sum_univ_one, Fin.sum_univ_one]
  simp only [ref_ds H, ← EReal.coe_neg]
  rw [coe_sum, coe_sum, sum_ds, EReal.coe_zero, add_zero, Finset.sum_neg_distrib]
  rfl

end Cert.FoxMath

end
-- ==== Proof.V.Pay.lean ====
/- What one tile's vector operations compute, read at an index. -/
module

public import proofs.«01_k».proof.Proof.KI.Body
public import proofs.«01_k».proof.Proof.V.Args

@[expose] public section

set_option maxRecDepth 16384

noncomputable section

namespace Cert.KernelIdeal.Fox

open Idealize.ShloMosaic Idealize.ShloMosaic.TcCoe Cert.KernelIdeal.Gen Cert.FoxMath

theorem pay12_read (q k : Vec Ideal S1024x128 .f32) (f : Vec Ideal S1x1x1024 .f32) (a b : Fin 1024) :
    k0_pay12 q k f (ix2 a b) = (0 + ∑ d : Fin 128, q (ix2 a d) * k (ix2 b d)) * Ideal.ofBits .f32 0x3DB504F3#32 - f (ix3 0 0 b) := by
  pointwise [k0_pay12]

theorem pay14_read (s : Vec Ideal S1024x1024 .f32) (l : Vec Ideal S1x1024x1 .f32) (a b : Fin 1024) :
    k0_pay14 s l (ix2 a b) = Ideal.exp (s (ix2 a b) - l (ix3 0 a 0)) := by
  pointwise [k0_pay14]

theorem pay15_read (dv : Vec Ideal S1024x128 .bf16) (s : Vec Ideal S1024x1024 .f32) (l : Vec Ideal S1x1024x1 .f32)
    (v o : Vec Ideal S1024x128 .f32) (a b : Fin 1024) :
    k0_pay15 dv s l v o (ix2 a b) = k0_pay14 s l (ix2 a b) *
      ((0 + ∑ d : Fin 128, dv (ix2 a d) * v (ix2 b d)) - (0 + ∑ d : Fin 128, dv (ix2 a d) * o (ix2 a d))) := by
  pointwise [k0_pay15]

theorem pay18_read (q dv : Vec Ideal S1024x128 .bf16) (s : Vec Ideal S1024x1024 .f32) (l : Vec Ideal S1x1024x1 .f32)
    (v o sk : Vec Ideal S1024x128 .f32) (b : Fin 1024) (d : Fin 128) :
    k0_pay18 q dv s l v o sk (ix2 b d) = sk (ix2 b d) + (0 + ∑ a : Fin 1024, k0_pay15 dv s l v o (ix2 a b) * q (ix2 a d)) := by
  pointwise [k0_pay18, k0_pay16]

theorem pay17_read (dv : Vec Ideal S1024x128 .bf16) (s : Vec Ideal S1024x1024 .f32) (l : Vec Ideal S1x1024x1 .f32)
    (sv : Vec Ideal S1024x128 .f32) (b : Fin 1024) (d : Fin 128) :
    k0_pay17 dv s l sv (ix2 b d) = sv (ix2 b d) + (0 + ∑ a : Fin 1024, k0_pay14 s l (ix2 a b) * dv (ix2 a d)) := by
  pointwise [k0_pay17]

theorem pay1_read (ds : Vec Ideal S1024x1024 .f32) (sf : Vec Ideal S1x1024 .f32) (b : Fin 1024) :
    k0_pay1 ds sf (ix2 0 b) = sf (ix2 0 b) - (0 + ∑ a : Fin 1024, ds (ix2 a b)) := by
  pointwise [k0_pay1]

theorem pay2_read (k : Vec Ideal S1024x128 .bf16) (ds : Vec Ideal S1024x1024 .bf16) (rows : Vec Ideal S1024x128 .f32) (a : Fin 1024)
    (d : Fin 128) :
    k0_pay2 k ds rows (ix2 a d) = rows (ix2 a d) + (0 + ∑ b : Fin 1024, ds (ix2 a b) * k (ix2 b d)) * Ideal.ofBits .f32 0x3DB504F3#32 := by
  pointwise [k0_pay2]

theorem pay3_read (sk : Vec Ideal S1024x128 .f32) (a : Fin 1024) (d : Fin 128) :
    k0_pay3 sk (ix2 a d) = sk (ix2 a d) * Ideal.ofBits .f32 0x3DB504F3#32 := by
  pointwise [k0_pay3]

theorem pay4_read (sf : Vec Ideal S1x1024 .f32) (b : Fin 1024) : k0_pay4 sf (ix3 0 0 b) = sf (ix2 0 b) := by
  pointwise [k0_pay4]

theorem word_toInt (a : Fin 1024) : (BitVec.ofNat 32 a.val).toInt = a.val := by
  rw [BitVec.toInt_eq_toNat_of_lt] <;> rw [BitVec.toNat_ofNat] <;> omega

theorem pay13_read (wi wj : BitVec 32) (s : Vec Ideal S1024x1024 .f32) (a b : Fin 1024) :
    k0_pay13 (F := Ideal) wi wj s (ix2 a b) = if wj.slt wi ∨ b ≤ a then s (ix2 a b) else (⊥ : EReal) := by
  pointwise [k0_pay13]
  have hm : (Named.named κ "mask" (4048155338#32) : Ideal .f32) = (⊥ : EReal) := IdealRules.named_const.ideal_named_scalar _ _ _ _ rfl
  rw [hm]
  have ha : (BitVec.ofNat 32 a.val).toInt = a.val := word_toInt a
  have hb : (BitVec.ofNat 32 b.val).toInt = b.val := word_toInt b
  have hab : (IntOp.cmpi .sle (BitVec.ofNat 32 b.val) (BitVec.ofNat 32 a.val) : BitVec 1) = if b ≤ a then 1#1 else 0#1 := by
    show (BitVec.ofBool ((BitVec.ofNat 32 b.val).sle (BitVec.ofNat 32 a.val)) : BitVec 1) = _
    rw [BitVec.sle_eq_decide, ha, hb]
    by_cases h : b ≤ a
    · rw [if_pos h, decide_eq_true (by exact_mod_cast h)]; rfl
    · rw [if_neg h, decide_eq_false (by exact_mod_cast h)]; rfl
  have hw : (Scalar.cmpi .slt wj wi : BitVec 1) = if wj.slt wi then 1#1 else 0#1 := by
    show (BitVec.ofBool (wj.slt wi) : BitVec 1) = _
    cases wj.slt wi <;> rfl
  rw [hab, hw]
  by_cases h1 : wj.slt wi = true <;> by_cases h2 : b ≤ a <;> simp only [h1, h2, if_true, if_false, true_or, or_true, or_self] <;> rfl

theorem pay5_read (y : S8192x128.Idx) : k0_pay5 (F := Ideal) y = 0 := by
  pointwise [k0_pay5]
theorem pay6_read (y : S1024x128.Idx) : k0_pay6 (F := Ideal) y = 0 := by
  pointwise [k0_pay6]
theorem pay7_read (y : S1024x128.Idx) : k0_pay7 (F := Ideal) y = 0 := by
  pointwise [k0_pay7]
theorem pay8_read (y : S1x1024.Idx) : k0_pay8 (F := Ideal) y = 0 := by
  pointwise [k0_pay8]

end Cert.KernelIdeal.Fox

end
-- ==== Proof.V.Host.lean ====
/- The arrays that the kernel is launched on: the attention's output and the rows' log-sums, which the host computes from
   the arguments. -/
module

public import proofs.«01_k».proof.Proof.V.Pay
public import proofs.«01_k».proof.Proof.KI.Run
public import Idealize.ShloMosaic.Lib.StableHlo.ReadAt

@[expose] public section

set_option maxRecDepth 16384

noncomputable section

namespace Cert.KernelIdeal.Fox

open Idealize.ShloMosaic Idealize.ShloMosaic.TcCoe Cert.KernelIdeal.Gen Cert.FoxMath

variable (m : (ℓ : Loc nD τ sig) → Buf (Elt Ideal) ℓ) (c : Dev nD)

/-- What the buffers hold once the host has the masked logits. -/
def W : Valuation τ sig (Elt Ideal) := StableHlo.after (hostOps0 ++ hostOps0_1) (fun b => m (c, b))

theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => exact ih _

/-- The rest of the host's operations runs from there. -/
theorem V_split (b : Ref sig .tc) : V m c b = StableHlo.after hostOps0_2 (W m c) b := by
  unfold V W
  rw [← after_append]
  simp only [List.flatten_cons, List.flatten_nil, List.append_nil, List.append_assoc]

/-- The host's masked logits. -/
def hS : FVec Ideal S8x8192x8192 .f32 := W m c main_v18

/-- The rows' largest logits. -/
def hM : FVec Ideal S8x8192 .f32 :=
  Host.reduce FloatOps.maximumf (hS m c) (constant S_ .f32 0xFF800000#32) reducesTo_S8x8192x8192_S8x8192_d2 h_S_

/-- The exponentials of the logits below their row's largest. -/
def hE : FVec Ideal S8x8192x8192 .f32 :=
  Host.exp (subf (hS m c) (broadcastInDim S8x8192x8192 ![0, 1, 2] bcast_S8x8192x1_S8x8192x8192_0_1_2
    (broadcastInDim S8x8192x1 ![0, 1] bcast_S8x8192_S8x8192x1_0_1 (hM m c))))

/-- The rows' sums. -/
def hZ : FVec Ideal S8x8192 .f32 :=
  Host.reduceAdd (hE m c) (constant S_ .f32 0x00000000#32) reducesTo_S8x8192x8192_S8x8192_d2 h_S_

/-- The real arguments at one device. -/
abbrev argsAt : Args := argsOf (m (c, Proc.tc.devRef main_arg0)) (m (c, Proc.tc.devRef main_arg1)) (m (c, Proc.tc.devRef main_arg2))

/-- Every argument of the device is an array of real numbers. -/
abbrev RealAt : Prop := AllReal (m (c, Proc.tc.devRef main_arg0)) (m (c, Proc.tc.devRef main_arg1)) (m (c, Proc.tc.devRef main_arg2))

variable {m c}

theorem hS_read (H : RealAt m c) (h : Fin 8) (i j : Fin 8192) :
    (hS m c (ix3 h i j) : EReal) = if j ≤ i then (lg (argsAt m c) h i j : EReal) else ⊥ := by
  unfold hS W
  after_reads_at
  refine (select_mask i j _ _).trans ?_
  refine ite_congr rfl (fun _ => ?_) (fun _ => ofBits_ninf)
  rw [read_g H, ofBits_scale]
  simp only [read_q H, read_k H]
  rw [sum_mul_coe, ← EReal.coe_mul, ← EReal.coe_sub]
  rfl

theorem hM_real (H : RealAt m c) (h : Fin 8) (i : Fin 8192) : ∃ M : ℝ, (hM m c (ix2 h i) : EReal) = M := by
  unfold hM
  pointwise
  rw [ofBits_ninf]
  refine fold_max_real _ _ i (Finset.mem_univ _) (lg (argsAt m c) h i i) ?_ fun j _ => ?_
  · rw [hS_read H, if_pos le_rfl]
  · rw [hS_read H]; split
    · exact EReal.coe_ne_top _
    · exact bot_ne_top

/-- The row's shift. -/
def rowShift (H : RealAt m c) (h : Fin 8) (i : Fin 8192) : ℝ := (hM_real H h i).choose

theorem hM_read (H : RealAt m c) (h : Fin 8) (i : Fin 8192) : (hM m c (ix2 h i) : EReal) = rowShift H h i := (hM_real H h i).choose_spec

theorem hE_read (H : RealAt m c) (h : Fin 8) (i j : Fin 8192) :
    (hE m c (ix3 h i j) : EReal) = ((if j ≤ i then Real.exp (lg (argsAt m c) h i j - rowShift H h i) else 0 : ℝ) : EReal) := by
  unfold hE
  pointwise
  rw [hS_read H, hM_read H, exp_masked]

theorem hZ_read (H : RealAt m c) (h : Fin 8) (i : Fin 8192) :
    (hZ m c (ix2 h i) : EReal) = ((∑ j, if j ≤ i then Real.exp (lg (argsAt m c) h i j - rowShift H h i) else 0 : ℝ) : EReal) := by
  unfold hZ
  pointwise
  simp only [hE_read H]
  rw [coe_sum]

theorem V_v20 : V m c main_v20 = (broadcastInDim S8x8192x1 ![0, 1] bcast_S8x8192_S8x8192x1_0_1 (hM m c)) := by
  rw [V_split]
  unfold hM hS
  generalize W m c = X
  after_reads_simp

theorem V_v33 : V m c main_v33 = (Host.log (broadcastInDim S8x8192x1 ![0, 1] bcast_S8x8192_S8x8192x1_0_1 (hZ m c))) := by
  rw [V_split]
  unfold hZ hE hM hS
  generalize W m c = X
  after_reads_simp

theorem V_v34 : V m c main_v34
    = addf (F := Ideal) (s := S8x8192x1) (φ := .f32) (V m c main_v20) (V m c main_v33) := by
  rw [V_split, V_split, V_split]
  generalize W m c = X
  after_reads_simp

theorem lse_gen (M Z : FVec Ideal S8x8192 .f32) (h : Fin 8) (i : Fin 8192) :
    addf (F := Ideal) (s := S8x8192x1) (φ := .f32) (broadcastInDim S8x8192x1 ![0, 1] bcast_S8x8192_S8x8192x1_0_1 M)
      (Host.log (broadcastInDim S8x8192x1 ![0, 1] bcast_S8x8192_S8x8192x1_0_1 Z)) (ix3 h i 0) = M (ix2 h i) + Ideal.log (Z (ix2 h i)) := by
  pointwise

/-- The rows' saved log-sums. -/
theorem lse_read (H : RealAt m c) (h : Fin 8) (i : Fin 8192) :
    (V m c main_v34 (ix3 h i 0) : EReal)
      = ((rowShift H h i + Real.log (∑ j, if j ≤ i then Real.exp (lg (argsAt m c) h i j - rowShift H h i) else 0) : ℝ) : EReal) := by
  have hv : V m c main_v34 = addf (F := Ideal) (s := S8x8192x1) (φ := .f32) (broadcastInDim S8x8192x1 ![0, 1] bcast_S8x8192_S8x8192x1_0_1 (hM m c))
      (Host.log (broadcastInDim S8x8192x1 ![0, 1] bcast_S8x8192_S8x8192x1_0_1 (hZ m c))) := V_v34.trans (by rw [V_v20, V_v33])
  refine (congrFun hv _).trans ((lse_gen _ _ h i).trans ?_)
  have hl : ∀ r : ℝ, 0 < r → Ideal.log (r : EReal) = ((Real.log r : ℝ) : EReal) := fun r hr => by
    rw [Ideal.log_coe, if_neg (not_le.mpr hr)]
  rw [hM_read H, hZ_read H, hl _ (sum_exp_pos _ _ _ _), ← EReal.coe_add]

theorem V_v29_read (H : RealAt m c) (h : Fin 8) (i : Fin 8192) (x : Fin 128) :
    (V m c main_v29 (ix3 h i x) : EReal) = ((argsAt m c).v h i x : EReal) := by
  unfold V
  after_reads_at
  exact read_v H h i x

/-- The saved output. -/
theorem out_read (H : RealAt m c) (h : Fin 8) (i : Fin 8192) (x : Fin 128) :
    (V m c main_v32 (ix2 i ⟨h.val * 128 + x.val, by omega⟩) : EReal) = (out (argsAt m c) h i x : EReal) := by
  have hv : V m c main_v32 = shapeCast S8192x1024 (transpose S8192x8x128 [1, 0, 2] (Host.dotGeneral (φ₂ := .f32) dot_S8x8192x8192_S8x8192x128_S8x8192x128_2_1_1_2_0_0 none
      (Host.divf (hE m c) (broadcastInDim S8x8192x8192 ![0, 1, 2] bcast_S8x8192x1_S8x8192x8192_0_1_2
        (broadcastInDim S8x8192x1 ![0, 1] bcast_S8x8192_S8x8192x1_0_1 (hZ m c))))
      (V m c main_v29 : FVec Ideal S8x8192x128 .f32)) transposes_S8x8192x128_S8192x8x128_1_0_2) shapeCasts_S8192x8x128_S8192x1024 := by
    rw [V_split, V_split]
    unfold hZ hE hM hS
    generalize W m c = X
    after_reads_simp
    try rfl
  rw [hv]
  pointwise
  have hx : ∀ j, Ideal.div (hE m c (ix3 h i j)) (hZ m c (ix2 h i)) * V m c main_v29 (ix3 h j x) = ((pr (argsAt m c) h i j * (argsAt m c).v h j x : ℝ) : EReal) := fun j => by
    rw [hE_read H, hZ_read H, V_v29_read H, div_coe_coe (sum_exp_pos _ _ _ _).ne', exp_div, EReal.coe_mul]
  exact (Finset.sum_congr rfl fun j _ => hx j).trans (coe_sum _ _)

end Cert.KernelIdeal.Fox

end
-- ==== Proof.V.Ins.lean ====
/- The blocks that a point of the grid is given, as real numbers. -/
module

public import proofs.«01_k».proof.Proof.V.Host
public import Idealize.ShloMosaic.Lib.Pipeline.ValueKit

@[expose] public section

set_option maxRecDepth 16384

noncomputable section

namespace Cert.KernelIdeal.Fox

open Idealize.ShloMosaic Idealize.ShloMosaic.TcCoe Cert.KernelIdeal.Gen Cert.FoxMath

/-- The point's head, query block and key block. -/
def hd (t : Fin cfg0.N) : Fin 8 := ⟨(grid0.coords t 0).val, (grid0.coords t 0).isLt⟩
def bI (t : Fin cfg0.N) : Fin 8 := ⟨nI (grid0.coords t), nI_lt _⟩
def bJ (t : Fin cfg0.N) : Fin 8 := ⟨nJ (grid0.coords t), nJ_lt _⟩

/-- Position `a` of block `I`. -/
def row (I : Fin 8) (a : Fin 1024) : Fin 8192 := ⟨1024 * I.val + a.val, by omega⟩

theorem idx_0 : ∀ t : Fin grid0.N, win0_0.index t = ![nI (grid0.coords t), (grid0.coords t 0).val] := by decide +kernel
theorem idx_1 : ∀ t : Fin grid0.N, win0_1.index t = ![nJ (grid0.coords t), 8 + (grid0.coords t 0).val] := by decide +kernel
theorem idx_2 : ∀ t : Fin grid0.N, win0_2.index t = ![nJ (grid0.coords t), 16 + (grid0.coords t 0).val] := by decide +kernel
theorem idx_3 : ∀ t : Fin grid0.N, win0_3.index t = ![(grid0.coords t 0).val, 0, nJ (grid0.coords t)] := by decide +kernel
theorem idx_4 : ∀ t : Fin grid0.N, win0_4.index t = ![nI (grid0.coords t), (grid0.coords t 0).val] := by decide +kernel
theorem idx_5 : ∀ t : Fin grid0.N, win0_5.index t = ![nI (grid0.coords t), (grid0.coords t 0).val] := by decide +kernel
theorem idx_6 : ∀ t : Fin grid0.N, win0_6.index t = ![(grid0.coords t 0).val, nI (grid0.coords t), 0] := by decide +kernel
theorem idx_7 : ∀ t : Fin grid0.N, win0_7.index t = ![0, (grid0.coords t 0).val] := by decide +kernel
theorem idx_8 : ∀ t : Fin grid0.N, win0_8.index t = ![nJ (grid0.coords t), (grid0.coords t 0).val] := by decide +kernel
theorem idx_9 : ∀ t : Fin grid0.N, win0_9.index t = ![nJ (grid0.coords t), (grid0.coords t 0).val] := by decide +kernel
theorem idx_10 : ∀ t : Fin grid0.N, win0_10.index t = ![(grid0.coords t 0).val, 0, nJ (grid0.coords t)] := by decide +kernel

variable {m : (ℓ : Loc nD τ sig) → Buf (Elt Ideal) ℓ} {c : Dev nD}

theorem ins_q (H : RealAt m c) (t : Fin cfg0.N) (a : Fin 1024) (x : Fin 128) :
    ((insAt m c t).q (ix2 a x) : EReal) = (((argsAt m c).q (hd t) (row (bI t) a) x : ℝ) : EReal) := by
  refine Eq.trans ?_ (read_q H (hd t) (row (bI t) a) x)
  show iblk m c 0 t (ix2 a x) = _
  have h1 : V m c main_arg0 = m (c, Proc.tc.devRef main_arg0) := V_main_arg0 m c
  have hi := idx_0 t
  unfold iblk
  blk_ext [hd, bI, bJ, row, hi, h1]

theorem ins_k (H : RealAt m c) (t : Fin cfg0.N) (a : Fin 1024) (x : Fin 128) :
    ((insAt m c t).k (ix2 a x) : EReal) = (((argsAt m c).k (hd t) (row (bJ t) a) x : ℝ) : EReal) := by
  refine Eq.trans ?_ (read_k H (hd t) (row (bJ t) a) x)
  show iblk m c 1 t (ix2 a x) = _
  have h1 : V m c main_arg0 = m (c, Proc.tc.devRef main_arg0) := V_main_arg0 m c
  have hi := idx_1 t
  unfold iblk
  blk_ext [hd, bI, bJ, row, hi, h1]

theorem ins_v (H : RealAt m c) (t : Fin cfg0.N) (a : Fin 1024) (x : Fin 128) :
    ((insAt m c t).v (ix2 a x) : EReal) = (((argsAt m c).v (hd t) (row (bJ t) a) x : ℝ) : EReal) := by
  refine Eq.trans ?_ (read_v H (hd t) (row (bJ t) a) x)
  show iblk m c 2 t (ix2 a x) = _
  have h1 : V m c main_arg0 = m (c, Proc.tc.devRef main_arg0) := V_main_arg0 m c
  have hi := idx_2 t
  unfold iblk
  blk_ext [hd, bI, bJ, row, hi, h1]

theorem ins_f (H : RealAt m c) (t : Fin cfg0.N) (b : Fin 1024) :
    ((insAt m c t).f (ix3 0 0 b) : EReal) = (((argsAt m c).g (hd t) (row (bJ t) b) : ℝ) : EReal) := by
  refine Eq.trans ?_ (read_g H (hd t) (row (bJ t) b))
  show iblk m c 3 t (ix3 0 0 b) = _
  have h1 : V m c main_arg1 = m (c, Proc.tc.devRef main_arg1) := V_main_arg1 m c
  have hi := idx_3 t
  unfold iblk
  blk_ext [hd, bI, bJ, row, hi, h1]

theorem ins_o (H : RealAt m c) (t : Fin cfg0.N) (a : Fin 1024) (x : Fin 128) :
    ((insAt m c t).o (ix2 a x) : EReal) = ((out (argsAt m c) (hd t) (row (bI t) a) x : ℝ) : EReal) := by
  refine Eq.trans ?_ (out_read H (hd t) (row (bI t) a) x)
  have hy : ∀ Y : S8192x1024.Idx → EReal, (win0_4.blk t).view.read (Elt Ideal) (Y : Buf (Elt Ideal) (win0_4.arr.view.loc (c.tc : Thread nD τ))) (ix2 a x)
      = Y (ix2 (row (bI t) a) ⟨(hd t).val * 128 + x.val, by omega⟩) := fun Y => by
    have hi := idx_4 t
    blk_ext [hd, bI, bJ, row, hi]
  exact hy (V m c main_v32)

theorem ins_d (H : RealAt m c) (t : Fin cfg0.N) (a : Fin 1024) (x : Fin 128) :
    ((insAt m c t).d (ix2 a x) : EReal) = (((argsAt m c).d (hd t) (row (bI t) a) x : ℝ) : EReal) := by
  refine Eq.trans ?_ (read_d H (hd t) (row (bI t) a) x)
  show iblk m c 5 t (ix2 a x) = _
  have h1 : V m c main_arg2 = m (c, Proc.tc.devRef main_arg2) := V_main_arg2 m c
  have hi := idx_5 t
  unfold iblk
  blk_ext [hd, bI, bJ, row, hi, h1]

theorem ins_l (H : RealAt m c) (t : Fin cfg0.N) (a : Fin 1024) :
    ((insAt m c t).l (ix3 0 a 0) : EReal) = ((rowShift H (hd t) (row (bI t) a) + Real.log (∑ j, if j ≤ row (bI t) a then Real.exp (lg (argsAt m c) (hd t) (row (bI t) a) j - rowShift H (hd t) (row (bI t) a)) else 0) : ℝ) : EReal) := by
  refine Eq.trans ?_ (lse_read H (hd t) (row (bI t) a))
  have hy : ∀ Y : S8x8192x1.Idx → EReal, (win0_6.blk t).view.read (Elt Ideal) (Y : Buf (Elt Ideal) (win0_6.arr.view.loc (c.tc : Thread nD τ))) (ix3 0 a 0)
      = Y (ix3 (hd t) (row (bI t) a) 0) := fun Y => by
    have hi := idx_6 t
    blk_ext [hd, bI, bJ, row, hi]
  exact hy (V m c main_v34)

end Cert.KernelIdeal.Fox

end
-- ==== Proof.V.Tile.lean ====
/- What one point of the grid adds: its tile of weights, of logits' cotangents, and of the four gradients' sums. -/
module

public import proofs.«01_k».proof.Proof.V.Ins

@[expose] public section

set_option maxRecDepth 16384

noncomputable section

namespace Cert.KernelIdeal.Fox

open Idealize.ShloMosaic Idealize.ShloMosaic.TcCoe Cert.KernelIdeal.Gen Cert.FoxMath

/-! ## The order of the points -/

/-- Where a pair of blocks comes in its head. -/
def pos (I J : ℕ) : ℕ := if J < 4 then 9 * J + I - J else 9 * (7 - J) + I + 1

/-- The point before. -/
def prev (t : Fin grid0.N) : Fin grid0.N := ⟨t.val - 1, lt_of_le_of_lt (Nat.sub_le _ _) t.isLt⟩

theorem diag_iff : ∀ t : Fin grid0.N, CDiag (grid0.coords t) ↔ nI (grid0.coords t) = nJ (grid0.coords t) := by decide +kernel
theorem last_iff : ∀ t : Fin grid0.N, CLast (grid0.coords t) ↔ nI (grid0.coords t) = 7 := by decide +kernel
theorem pos_eq : ∀ t : Fin grid0.N, pos (nI (grid0.coords t)) (nJ (grid0.coords t)) = t.val % 36 := by decide +kernel
theorem pos_inj : ∀ I J I' J' : Fin 8, J ≤ I → J' ≤ I' → pos I.val J.val = pos I'.val J'.val → I = I' ∧ J = J' := by decide +kernel
theorem pos_lt : ∀ I J : Fin 8, J ≤ I → pos I.val J.val < 36 := by decide +kernel
theorem prev_col : ∀ t : Fin grid0.N, nI (grid0.coords t) ≠ nJ (grid0.coords t) → t.val ≠ 0 ∧ (grid0.coords (prev t) 0).val = (grid0.coords t 0).val
    ∧ nJ (grid0.coords (prev t)) = nJ (grid0.coords t) ∧ nI (grid0.coords (prev t)) + 1 = nI (grid0.coords t) := by decide +kernel
theorem prev_head : ∀ t : Fin grid0.N, t.val % 36 ≠ 0 → (grid0.coords (prev t) 0).val = (grid0.coords t 0).val := by decide +kernel

variable {m : (ℓ : Loc nD τ sig) → Buf (Elt Ideal) ℓ} {c : Dev nD}

/-! ## The tile -/

theorem row_le_iff_diag (I : Fin 8) (a b : Fin 1024) : row I b ≤ row I a ↔ b ≤ a := by
  unfold row; rw [Fin.mk_le_mk]; omega

theorem row_lt (I J : Fin 8) (h : J < I) (a b : Fin 1024) : row J b < row I a := by
  unfold row; rw [Fin.mk_lt_mk]
  have : J.val < I.val := h
  omega

/-- The tile's masked logits. -/
theorem score_read (H : RealAt m c) (t : Fin cfg0.N) (a b : Fin 1024) :
    (scoreOf (grid0.coords t) (insAt m c t) (ix2 a b) : EReal)
      = if row (bJ t) b ≤ row (bI t) a then (lg (argsAt m c) (hd t) (row (bI t) a) (row (bJ t) b) : EReal) else ⊥ := by
  have h12 : (k0_pay12 (insAt m c t).q (insAt m c t).k (insAt m c t).f (ix2 a b) : EReal)
      = (lg (argsAt m c) (hd t) (row (bI t) a) (row (bJ t) b) : EReal) := by
    rw [pay12_read, ins_f H, ofBits_scale]
    simp only [ins_q H, ins_k H]
    rw [sum_mul_coe, zero_add, ← EReal.coe_mul, ← EReal.coe_sub]
    rfl
  unfold scoreOf
  by_cases hd : CDiag (grid0.coords t)
  · rw [if_pos hd]
    refine (pay13_read _ _ _ a b).trans ?_
    have hIJ : nI (grid0.coords t) = nJ (grid0.coords t) := (diag_iff t).mp hd
    have hw : wJ (grid0.coords t) = wI (grid0.coords t) := by rw [wI_eq, wJ_eq, hIJ]
    have hI : bJ t = bI t := Fin.ext hIJ.symm
    rw [hw, hI]
    have hs : ¬ ((wI (grid0.coords t)).slt (wI (grid0.coords t)) = true) := by
      rw [BitVec.slt_iff_toInt_lt]; exact lt_irrefl _
    rw [hI] at h12
    by_cases hba : b ≤ a
    · rw [if_pos (Or.inr hba), if_pos ((row_le_iff_diag _ a b).mpr hba), h12]
    · rw [if_neg (by rintro (h | h); exacts [hs h, hba h]), if_neg (fun h => hba ((row_le_iff_diag _ a b).mp h))]
  · rw [if_neg hd]
    have hne : nI (grid0.coords t) ≠ nJ (grid0.coords t) := fun h => hd ((diag_iff t).mpr h)
    have hle := nJ_le_nI (grid0.coords t)
    have hlt : bJ t < bI t := by
      show nJ _ < nI _
      omega
    rw [if_pos (row_lt _ _ hlt a b).le, h12]

/-- The tile's weights. -/
theorem p_read (H : RealAt m c) (t : Fin cfg0.N) (a b : Fin 1024) :
    (k0_pay14 (scoreOf (grid0.coords t) (insAt m c t)) (insAt m c t).l (ix2 a b) : EReal)
      = (pr (argsAt m c) (hd t) (row (bI t) a) (row (bJ t) b) : EReal) := by
  rw [pay14_read, score_read H, ins_l H, exp_masked]
  congr 1
  split
  · exact exp_lse _ _ _ _ ‹_› _
  · exact (if_neg ‹_›).symm

/-- The tile's cotangents of the logits. -/
theorem ds_read (H : RealAt m c) (t : Fin cfg0.N) (a b : Fin 1024) :
    (k0_pay15 (k0_pay11 (insAt m c t).d) (scoreOf (grid0.coords t) (insAt m c t)) (insAt m c t).l (insAt m c t).v (insAt m c t).o (ix2 a b) : EReal)
      = (ds (argsAt m c) (hd t) (row (bI t) a) (row (bJ t) b) : EReal) := by
  rw [pay15_read, p_read H]
  have h11 : ∀ x, (k0_pay11 (insAt m c t).d (ix2 a x) : EReal) = ((argsAt m c).d (hd t) (row (bI t) a) x : EReal) := fun x => ins_d H t a x
  simp only [h11, ins_v H, ins_o H]
  rw [sum_mul_coe, sum_mul_coe, zero_add, zero_add, sum_d_out, ← EReal.coe_sub, ← EReal.coe_mul]
  rfl

/-! ## What it adds -/

variable (A : Args) (h : Fin 8)

/-- A tile's part of the keys' gradient, of the values', of the gates' and of the queries'. -/
def Tk (J : Fin 8) (b : Fin 1024) (x : Fin 128) (I : Fin 8) : ℝ := ∑ a, ds A h (row I a) (row J b) * A.q h (row I a) x
def Tv (J : Fin 8) (b : Fin 1024) (x : Fin 128) (I : Fin 8) : ℝ := ∑ a, pr A h (row I a) (row J b) * A.d h (row I a) x
def Tf (J : Fin 8) (b : Fin 1024) (I : Fin 8) : ℝ := ∑ a, ds A h (row I a) (row J b)
def Tq (I : Fin 8) (a : Fin 1024) (x : Fin 128) (J : Fin 8) : ℝ := (∑ b, ds A h (row I a) (row J b) * A.k h (row J b) x) * A.sc

theorem step_sk (H : RealAt m c) (t : Fin cfg0.N) (S : St Ideal) (b : Fin 1024) (x : Fin 128) (r : ℝ) (hr : (S.sk (ix2 b x) : EReal) = r) :
    ((addSt (grid0.coords t) (insAt m c t) (scoreOf (grid0.coords t) (insAt m c t)) S).sk (ix2 b x) : EReal)
      = ((r + Tk (argsAt m c) (hd t) (bJ t) b x (bI t) : ℝ) : EReal) := by
  unfold addSt
  dsimp only
  rw [pay18_read, hr]
  have h9 : ∀ a, (k0_pay9 (insAt m c t).q (ix2 a x) : EReal) = ((argsAt m c).q (hd t) (row (bI t) a) x : EReal) := fun a => ins_q H t a x
  simp only [ds_read H, h9]
  rw [sum_mul_coe, zero_add, ← EReal.coe_add]
  rfl

theorem step_sv (H : RealAt m c) (t : Fin cfg0.N) (S : St Ideal) (b : Fin 1024) (x : Fin 128) (r : ℝ) (hr : (S.sv (ix2 b x) : EReal) = r) :
    ((addSt (grid0.coords t) (insAt m c t) (scoreOf (grid0.coords t) (insAt m c t)) S).sv (ix2 b x) : EReal)
      = ((r + Tv (argsAt m c) (hd t) (bJ t) b x (bI t) : ℝ) : EReal) := by
  unfold addSt
  dsimp only
  rw [pay17_read, hr]
  have h11 : ∀ a, (k0_pay11 (insAt m c t).d (ix2 a x) : EReal) = ((argsAt m c).d (hd t) (row (bI t) a) x : EReal) := fun a => ins_d H t a x
  simp only [p_read H, h11]
  rw [sum_mul_coe, zero_add, ← EReal.coe_add]
  rfl

theorem step_sf (H : RealAt m c) (t : Fin cfg0.N) (S : St Ideal) (b : Fin 1024) (r : ℝ) (hr : (S.sf (ix2 0 b) : EReal) = ((-r : ℝ) : EReal)) :
    ((addSt (grid0.coords t) (insAt m c t) (scoreOf (grid0.coords t) (insAt m c t)) S).sf (ix2 0 b) : EReal)
      = ((-(r + Tf (argsAt m c) (hd t) (bJ t) b (bI t)) : ℝ) : EReal) := by
  unfold addSt
  dsimp only
  rw [pay1_read, hr]
  simp only [ds_read H]
  rw [coe_sum, zero_add, ← EReal.coe_sub]
  unfold Tf
  congr 1
  ring

theorem step_dq (H : RealAt m c) (t : Fin cfg0.N) (S : St Ideal) (a : Fin 1024) (x : Fin 128) (r : ℝ)
    (hr : (S.dq (ix2 (row (bI t) a) x) : EReal) = r) :
    ((addSt (grid0.coords t) (insAt m c t) (scoreOf (grid0.coords t) (insAt m c t)) S).dq (ix2 (row (bI t) a) x) : EReal)
      = ((r + Tq (argsAt m c) (hd t) (bI t) a x (bJ t) : ℝ) : EReal) := by
  unfold addSt putRows
  dsimp only
  have ho := off1_eq (grid0.coords t)
  have hin : ∀ y, (k0_off1 (grid0.coords t)) y ≤ ((ix2 (row (bI t) a) x : S8192x128.Idx) y).val
      ∧ ((ix2 (row (bI t) a) x : S8192x128.Idx) y).val < (k0_off1 (grid0.coords t)) y + S1024x128.size y := by
    intro y
    rw [ho]
    match y with
    | ⟨0, _⟩ => exact ⟨Nat.le_add_right _ _, Nat.add_lt_add_left a.isLt _⟩
    | ⟨1, _⟩ => exact ⟨Nat.zero_le _, by rw [show (![1024 * nI (grid0.coords t), 0] : Fin 2 → ℕ) ⟨1, by decide⟩ = 0 from rfl, zero_add]; exact x.isLt⟩
  rw [dif_pos hin]
  have hl : (Rect.unitLocal (s := S8192x128) (off := k0_off1 (grid0.coords t)) (size := S1024x128.size) (ix2 (row (bI t) a) x) hin : S1024x128.Idx) = ix2 a x := by
    funext y
    apply Fin.ext
    show ((ix2 (row (bI t) a) x : S8192x128.Idx) y).val - (k0_off1 (grid0.coords t)) y = _
    rw [ho]
    match y with
    | ⟨0, _⟩ => exact Nat.add_sub_cancel_left _ _
    | ⟨1, _⟩ => exact Nat.sub_zero _
  rw [hl, pay2_read]
  have hrow : ∀ y : Fin 2, ((ix2 (row (bI t) a) x : S8192x128.Idx) y).val = (k0_off1 (grid0.coords t)) y + ((ix2 a x : S1024x128.Idx) y).val := by
    intro y
    rw [ho]
    match y with
    | ⟨0, _⟩ => rfl
    | ⟨1, _⟩ => exact (Nat.zero_add _).symm
  have hld : (View.ld S.dq (rowsR (grid0.coords t)) (ix2 a x) : EReal) = r := by
    refine Eq.trans ?_ hr
    refine View.ld_unit_apply_of S.dq _ _ _ (ix2 a x) (ix2 (row (bI t) a) x) hrow
  have h10 : ∀ b, (k0_pay10 (insAt m c t).k (ix2 b x) : EReal) = ((argsAt m c).k (hd t) (row (bJ t) b) x : EReal) := fun b => ins_k H t b x
  have h16 : ∀ b, (k0_pay16 (k0_pay11 (insAt m c t).d) (scoreOf (grid0.coords t) (insAt m c t)) (insAt m c t).l (insAt m c t).v (insAt m c t).o (ix2 a b) : EReal)
      = (ds (argsAt m c) (hd t) (row (bI t) a) (row (bJ t) b) : EReal) := fun b => ds_read H t a b
  rw [hld]
  simp only [h16, h10]
  rw [sum_mul_coe, zero_add, ofBits_scale, ← EReal.coe_mul, ← EReal.coe_add]
  rfl

theorem step_dq_other (t : Fin cfg0.N) (X : Ins Ideal) (s : FVec Ideal S1024x1024 .f32) (S : St Ideal) (I : Fin 8) (hI : I ≠ bI t) (a : Fin 1024) (x : Fin 128) :
    (addSt (grid0.coords t) X s S).dq (ix2 (row I a) x) = S.dq (ix2 (row I a) x) := by
  unfold addSt putRows
  dsimp only
  refine dif_neg fun hin => hI (Fin.ext ?_)
  have h0 := hin ⟨0, by decide⟩
  rw [off1_eq] at h0
  have h1 : 1024 * nI (grid0.coords t) ≤ 1024 * I.val + a.val := h0.1
  have h2 : 1024 * I.val + a.val < 1024 * nI (grid0.coords t) + 1024 := h0.2
  show I.val = nI _
  omega

end Cert.KernelIdeal.Fox

end
-- ==== Proof.V.Fold.lean ====
/- What the kernel carries from point to point, as real sums over the blocks done so far. -/
module

public import proofs.«01_k».proof.Proof.V.Tile

@[expose] public section

set_option maxRecDepth 16384

noncomputable section

namespace Cert.KernelIdeal.Fox

open Idealize.ShloMosaic Idealize.ShloMosaic.TcCoe Cert.KernelIdeal.Gen Cert.FoxMath

/-- A column's sum over the query blocks from the diagonal up to `n`, `n` left out. -/
def cs (T : Fin 8 → ℝ) (J : Fin 8) (n : ℕ) : ℝ := ∑ I : Fin 8, if J ≤ I ∧ I.val < n then T I else 0

theorem cs_start (T : Fin 8 → ℝ) (J : Fin 8) : cs T J J.val = 0 :=
  Finset.sum_eq_zero fun I _ => if_neg fun h => absurd h.2 (not_lt.mpr h.1)

theorem cs_succ (T : Fin 8 → ℝ) (J I : Fin 8) (hJ : J ≤ I) : cs T J (I.val + 1) = cs T J I.val + T I := by
  unfold cs
  rw [← Finset.sum_erase_add _ _ (Finset.mem_univ I), if_pos ⟨hJ, Nat.lt_succ_self _⟩,
    ← Finset.sum_erase_add Finset.univ (fun I' : Fin 8 => if J ≤ I' ∧ I'.val < I.val then T I' else 0) (Finset.mem_univ I),
    if_neg (fun h => lt_irrefl _ h.2), add_zero]
  congr 1
  refine Finset.sum_congr rfl fun I' hI' => ?_
  have hne : I' ≠ I := Finset.ne_of_mem_erase hI'
  have hv : I'.val ≠ I.val := fun h => hne (Fin.ext h)
  have : (J ≤ I' ∧ I'.val < I.val + 1) ↔ (J ≤ I' ∧ I'.val < I.val) := and_congr_right fun _ => by omega
  simp only [this]

/-- A row's sum over the key blocks done before position `n` of the head. -/
def rs (T : Fin 8 → ℝ) (I : Fin 8) (n : ℕ) : ℝ := ∑ J : Fin 8, if J ≤ I ∧ pos I.val J.val < n then T J else 0

theorem rs_start (T : Fin 8 → ℝ) (I : Fin 8) : rs T I 0 = 0 :=
  Finset.sum_eq_zero fun _ _ => if_neg fun h => absurd h.2 (Nat.not_lt_zero _)

theorem rs_succ (T : Fin 8 → ℝ) (I J : Fin 8) (hJ : J ≤ I) (n : ℕ) (hn : pos I.val J.val = n) : rs T I (n + 1) = rs T I n + T J := by
  unfold rs
  rw [← Finset.sum_erase_add _ _ (Finset.mem_univ J), if_pos ⟨hJ, by omega⟩,
    ← Finset.sum_erase_add Finset.univ (fun J' : Fin 8 => if J' ≤ I ∧ pos I.val J'.val < n then T J' else 0) (Finset.mem_univ J),
    if_neg (fun h => by have := h.2; omega), add_zero]
  congr 1
  refine Finset.sum_congr rfl fun J' hJ' => ?_
  have hne : J' ≠ J := Finset.ne_of_mem_erase hJ'
  have : (J' ≤ I ∧ pos I.val J'.val < n + 1) ↔ (J' ≤ I ∧ pos I.val J'.val < n) := and_congr_right fun hle => by
    have : pos I.val J'.val ≠ n := fun h => hne (pos_inj I J' I J hle hJ (h.trans hn.symm)).2
    omega
  simp only [this]

theorem rs_other (T : Fin 8 → ℝ) (I' I J : Fin 8) (hI : I' ≠ I) (hJ : J ≤ I) (n : ℕ) (hn : pos I.val J.val = n) : rs T I' (n + 1) = rs T I' n := by
  unfold rs
  refine Finset.sum_congr rfl fun J' _ => ?_
  have : (J' ≤ I' ∧ pos I'.val J'.val < n + 1) ↔ (J' ≤ I' ∧ pos I'.val J'.val < n) := and_congr_right fun hle => by
    have : pos I'.val J'.val ≠ n := fun h => hI (pos_inj I' J' I J hle hJ (h.trans hn.symm)).1
    omega
  simp only [this]

variable {m : (ℓ : Loc nD τ sig) → Buf (Elt Ideal) ℓ} {c : Dev nD}

/-- The carried sums, as they stand before block `nI` of the column and position `p` of the head. -/
structure Carried (A : Args) (h J : Fin 8) (n p : ℕ) (S : St Ideal) : Prop where
  dq : ∀ I a x, (S.dq (ix2 (row I a) x) : EReal) = ((rs (Tq A h I a x) I p : ℝ) : EReal)
  sk : ∀ b x, (S.sk (ix2 b x) : EReal) = ((cs (Tk A h J b x) J n : ℝ) : EReal)
  sv : ∀ b x, (S.sv (ix2 b x) : EReal) = ((cs (Tv A h J b x) J n : ℝ) : EReal)
  sf : ∀ b, (S.sf (ix2 0 b) : EReal) = ((-cs (Tf A h J b) J n : ℝ) : EReal)

theorem bJ_le_bI (t : Fin cfg0.N) : bJ t ≤ bI t := nJ_le_nI (grid0.coords t)

/-- A point turns the sums before it into the sums after it. -/
theorem carried_add (H : RealAt m c) (t : Fin cfg0.N) (S : St Ideal)
    (h : Carried (argsAt m c) (hd t) (bJ t) (bI t).val (t.val % 36) S) :
    Carried (argsAt m c) (hd t) (bJ t) ((bI t).val + 1) (t.val % 36 + 1)
      (addSt (grid0.coords t) (insAt m c t) (scoreOf (grid0.coords t) (insAt m c t)) S) where
  dq I a x := by
    by_cases hI : I = bI t
    · subst hI
      rw [step_dq H t S a x _ (h.dq _ a x), rs_succ _ _ _ (bJ_le_bI t) _ (pos_eq t)]
    · exact (step_dq_other t _ _ S I hI a x).trans ((h.dq I a x).trans (by rw [rs_other _ _ _ _ hI (bJ_le_bI t) _ (pos_eq t)]))
  sk b x := by rw [step_sk H t S b x _ (h.sk b x), cs_succ _ _ _ (bJ_le_bI t)]
  sv b x := by rw [step_sv H t S b x _ (h.sv b x), cs_succ _ _ _ (bJ_le_bI t)]
  sf b := by rw [step_sf H t S b _ (h.sf b), cs_succ _ _ _ (bJ_le_bI t)]

/-- The carried sums after every point. -/
theorem carried (H : RealAt m c) : ∀ n : ℕ, ∀ t : Fin cfg0.N, t.val = n →
    Carried (argsAt m c) (hd t) (bJ t) ((bI t).val + 1) (t.val % 36 + 1) (stB m c (t.val + 1)) := by
  intro n
  induction n with
  | zero =>
    intro t ht
    rw [stB_succ]
    refine carried_add H t _ ?_
    have hf : CFirst (grid0.coords t) := (first_iff t).mpr (by rw [ht])
    have hd' := diag_of_first _ hf
    have hIJ : (bI t).val = (bJ t).val := (diag_iff t).mp hd'
    unfold resetSt
    rw [if_pos hf, if_pos hd', if_pos hd', if_pos hd', hIJ, ht]
    exact ⟨fun I a x => (pay5_read (ix2 (row I a) x)).trans (by rw [rs_start]; rfl), fun b x => (pay6_read (ix2 b x)).trans (by rw [cs_start]; rfl),
      fun b x => (pay7_read (ix2 b x)).trans (by rw [cs_start]; rfl), fun b => (pay8_read (ix2 0 b)).trans (by rw [cs_start, neg_zero]; rfl)⟩
  | succ n ih =>
    intro t ht
    rw [stB_succ]
    refine carried_add H t _ ?_
    have hp := ih (prev t) (by show t.val - 1 = n; omega)
    have hpv : (prev t).val + 1 = t.val := by show t.val - 1 + 1 = t.val; omega
    rw [hpv] at hp
    unfold resetSt
    constructor
    · intro I a x
      by_cases hf : CFirst (grid0.coords t)
      · dsimp only
        rw [if_pos hf, (first_iff t).mp hf, rs_start]
        exact pay5_read (ix2 (row I a) x)
      · dsimp only
        rw [if_neg hf]
        have hm : t.val % 36 ≠ 0 := fun h => hf ((first_iff t).mpr h)
        have hh : hd (prev t) = hd t := Fin.ext (prev_head t hm)
        have hq := hp.dq I a x
        rw [hh, show (prev t).val % 36 + 1 = t.val % 36 by omega] at hq
        exact hq
    all_goals by_cases hg : CDiag (grid0.coords t)
    · intro b x
      dsimp only
      rw [if_pos hg, show (bI t).val = (bJ t).val from (diag_iff t).mp hg, cs_start]
      exact pay6_read (ix2 b x)
    · intro b x
      dsimp only
      rw [if_neg hg]
      obtain ⟨_, h1, h2, h3⟩ := prev_col t (fun h => hg ((diag_iff t).mpr h))
      have hq := hp.sk b x
      rw [show hd (prev t) = hd t from Fin.ext h1, show bJ (prev t) = bJ t from Fin.ext h2, show (bI (prev t)).val + 1 = (bI t).val from h3] at hq
      exact hq
    · intro b x
      dsimp only
      rw [if_pos hg, show (bI t).val = (bJ t).val from (diag_iff t).mp hg, cs_start]
      exact pay7_read (ix2 b x)
    · intro b x
      dsimp only
      rw [if_neg hg]
      obtain ⟨_, h1, h2, h3⟩ := prev_col t (fun h => hg ((diag_iff t).mpr h))
      have hq := hp.sv b x
      rw [show hd (prev t) = hd t from Fin.ext h1, show bJ (prev t) = bJ t from Fin.ext h2, show (bI (prev t)).val + 1 = (bI t).val from h3] at hq
      exact hq
    · intro b
      dsimp only
      rw [if_pos hg, show (bI t).val = (bJ t).val from (diag_iff t).mp hg, cs_start, neg_zero]
      exact pay8_read (ix2 0 b)
    · intro b
      dsimp only
      rw [if_neg hg]
      obtain ⟨_, h1, h2, h3⟩ := prev_col t (fun h => hg ((diag_iff t).mpr h))
      have hq := hp.sf b
      rw [show hd (prev t) = hd t from Fin.ext h1, show bJ (prev t) = bJ t from Fin.ext h2, show (bI (prev t)).val + 1 = (bI t).val from h3] at hq
      exact hq

/-! ## The whole sums -/

variable (A : Args) (h : Fin 8)

theorem row_lt_row (I J : Fin 8) (hIJ : I < J) (a b : Fin 1024) : row I a < row J b := row_lt J I hIJ b a

theorem cs_all (T : Fin 8 → ℝ) (J : Fin 8) (hT : ∀ I, I < J → T I = 0) : cs T J 8 = ∑ I, T I := by
  refine Finset.sum_congr rfl fun I _ => ?_
  by_cases hJ : J ≤ I
  · exact if_pos ⟨hJ, I.isLt⟩
  · rw [if_neg fun h => hJ h.1, hT I (not_le.mp hJ)]

theorem rs_all (T : Fin 8 → ℝ) (I : Fin 8) (hT : ∀ J, I < J → T J = 0) : rs T I 36 = ∑ J, T J := by
  refine Finset.sum_congr rfl fun J _ => ?_
  by_cases hJ : J ≤ I
  · exact if_pos ⟨hJ, pos_lt I J hJ⟩
  · rw [if_neg fun h => hJ h.1, hT J (not_le.mp hJ)]

theorem sk_all (J : Fin 8) (b : Fin 1024) (x : Fin 128) : cs (Tk A h J b x) J 8 * A.sc = gk A h (row J b) x := by
  rw [cs_all (Tk A h J b x) J fun I hI => Finset.sum_eq_zero fun a _ => by rw [ds_of_lt A h (row_lt_row I J hI a b), zero_mul]]
  unfold gk Tk
  rw [sum_blocks, Finset.sum_mul]
  refine Finset.sum_congr rfl fun I _ => ?_
  rw [Finset.sum_mul]
  exact Finset.sum_congr rfl fun a _ => by
    show ds A h (row I a) (row J b) * A.q h (row I a) x * A.sc = ds A h (row I a) (row J b) * A.sc * A.q h (row I a) x
    ring

theorem sv_all (J : Fin 8) (b : Fin 1024) (x : Fin 128) : cs (Tv A h J b x) J 8 = gv A h (row J b) x := by
  rw [cs_all (Tv A h J b x) J fun I hI => Finset.sum_eq_zero fun a _ => by rw [pr_of_lt A h (row_lt_row I J hI a b), zero_mul]]
  unfold gv Tv
  rw [sum_blocks]
  exact Finset.sum_congr rfl fun I _ => Finset.sum_congr rfl fun a _ => mul_comm _ _

theorem sf_all (J : Fin 8) (b : Fin 1024) : -cs (Tf A h J b) J 8 = gf A h (row J b) := by
  rw [cs_all (Tf A h J b) J fun I hI => Finset.sum_eq_zero fun a _ => ds_of_lt A h (row_lt_row I J hI a b)]
  unfold gf Tf
  rw [sum_blocks]
  rfl

theorem dq_all (I : Fin 8) (a : Fin 1024) (x : Fin 128) : rs (Tq A h I a x) I 36 = gq A h (row I a) x := by
  rw [rs_all (Tq A h I a x) I fun J hJ => by
    unfold Tq
    rw [Finset.sum_eq_zero fun b _ => by rw [ds_of_lt A h (row_lt_row I J hJ a b), zero_mul], zero_mul]]
  unfold gq Tq
  rw [sum_blocks]
  refine Finset.sum_congr rfl fun J _ => ?_
  rw [Finset.sum_mul]
  exact Finset.sum_congr rfl fun b _ => by
    show ds A h (row I a) (row J b) * A.k h (row J b) x * A.sc = ds A h (row I a) (row J b) * A.sc * A.k h (row J b) x
    ring

end Cert.KernelIdeal.Fox

end
-- ==== Proof.V.Arrays.lean ====
/- What the kernel's four result arrays hold at the end. -/
module

public import proofs.«01_k».proof.Proof.V.Fold

@[expose] public section

set_option maxRecDepth 16384

noncomputable section

namespace Cert.KernelIdeal.Fox

open Idealize.ShloMosaic Idealize.ShloMosaic.TcCoe Cert.KernelIdeal.Gen Cert.FoxMath

variable {m : (ℓ : Loc nD τ sig) → Buf (Elt Ideal) ℓ} {c : Dev nD}

/-- A position of the sequence is a position of its block. -/
theorem row_split (i : Fin 8192) : row ⟨i.val / 1024, by omega⟩ ⟨i.val % 1024, Nat.mod_lt _ (by decide)⟩ = i :=
  Fin.ext (Nat.div_add_mod i.val 1024)

/-- The queries', keys' and values' gradients, head by head side by side, and the gates', as arrays. -/
def arrOf (G : Fin 8 → Fin 8192 → Fin 128 → ℝ) : S8192x1024.Idx → EReal := fun y =>
  ((G ⟨(y 1).val / 128, by have : (y 1).val < 1024 := (y 1).isLt; omega⟩ (y 0) ⟨(y 1).val % 128, Nat.mod_lt _ (by decide)⟩ : ℝ) : EReal)

def arrOfF (G : Fin 8 → Fin 8192 → ℝ) : S8x1x8192.Idx → EReal := fun y => ((G (y 0) (y 2) : ℝ) : EReal)

theorem arrOf_at (G : Fin 8 → Fin 8192 → Fin 128 → ℝ) (y : S8192x1024.Idx) (h : Fin 8) (i : Fin 8192) (x : Fin 128) (h0 : (y 0).val = i.val)
    (h1 : (y 1).val = h.val * 128 + x.val) : arrOf G y = ((G h i x : ℝ) : EReal) := by
  unfold arrOf
  congr 2
  · exact Fin.ext (by show (y 1).val / 128 = h.val; omega)
  · exact Fin.ext h0
  · exact Fin.ext (by show (y 1).val % 128 = x.val; omega)

theorem arrOfF_at (G : Fin 8 → Fin 8192 → ℝ) (y : S8x1x8192.Idx) (h : Fin 8) (i : Fin 8192) (h0 : (y 0).val = h.val)
    (h1 : (y 2).val = i.val) : arrOfF G y = ((G h i : ℝ) : EReal) := by
  unfold arrOfF
  congr 2
  · exact Fin.ext h0
  · exact Fin.ext h1

/-- A key block's sums are whole where its results are written back. -/
theorem bI_last {t : Fin cfg0.N} (h : CLast (grid0.coords t)) : (bI t).val + 1 = 8 := congrArg (· + 1) ((last_iff t).mp h)

theorem out_k (H : RealAt m c) : ((dats m 0 c).arrAt 8 (cfgs 0).N : S8192x1024.Idx → EReal) = arrOf (gk (argsAt m c)) := by
  refine (dats m 0 c).arrAt_eq_of_covers 8 _ (by decide +kernel) fun t hf y => ?_
  have hl : CLast (grid0.coords t) := by
    by_contra hn
    exact absurd (flush8 t hn) (by rw [hf]; decide)
  have hi := idx_8 t
  rw [after_8]
  obtain ⟨a, x, rfl⟩ : ∃ (a : Fin 1024) (x : Fin 128), y = ix2 a x := ⟨y 0, y 1, eq_ix2 y⟩
  refine ((pay3_read _ a x).trans ?_).trans (arrOf_at _ _ (hd t) (row (bJ t) a) x ?_ ?_).symm
  · rw [(carried H t.val t rfl).sk a x, ofBits_scale, ← EReal.coe_mul, bI_last hl]
    exact congrArg _ (sk_all _ _ _ _ _)
  · blk_simp
    rw [hi]
    exact congrArg (· + a.val) (Nat.mul_comm _ _)
  · blk_simp
    rw [hi]
    rfl

theorem out_v (H : RealAt m c) : ((dats m 0 c).arrAt 9 (cfgs 0).N : S8192x1024.Idx → EReal) = arrOf (gv (argsAt m c)) := by
  refine (dats m 0 c).arrAt_eq_of_covers 9 _ (by decide +kernel) fun t hf y => ?_
  have hl : CLast (grid0.coords t) := by
    by_contra hn
    exact absurd (flush9 t hn) (by rw [hf]; decide)
  have hi := idx_9 t
  rw [after_9]
  obtain ⟨a, x, rfl⟩ : ∃ (a : Fin 1024) (x : Fin 128), y = ix2 a x := ⟨y 0, y 1, eq_ix2 y⟩
  refine (((carried H t.val t rfl).sv a x).trans ?_).trans (arrOf_at _ _ (hd t) (row (bJ t) a) x ?_ ?_).symm
  · rw [bI_last hl]
    exact congrArg _ (sv_all _ _ _ _ _)
  · blk_simp
    rw [hi]
    exact congrArg (· + a.val) (Nat.mul_comm _ _)
  · blk_simp
    rw [hi]
    rfl

theorem out_f (H : RealAt m c) : ((dats m 0 c).arrAt 10 (cfgs 0).N : S8x1x8192.Idx → EReal) = arrOfF (gf (argsAt m c)) := by
  refine (dats m 0 c).arrAt_eq_of_covers 10 _ (by decide +kernel) fun t hf y => ?_
  have hl : CLast (grid0.coords t) := by
    by_contra hn
    exact absurd (flush10 t hn) (by rw [hf]; decide)
  have hi := idx_10 t
  rw [after_10]
  obtain ⟨b, rfl⟩ : ∃ b : Fin 1024, y = ix3 0 0 b := ⟨y 2, (eq_ix3 y).trans (by
    rw [show y 0 = (0 : Fin 1) from Subsingleton.elim (α := Fin 1) _ _, show y 1 = (0 : Fin 1) from Subsingleton.elim (α := Fin 1) _ _])⟩
  refine ((pay4_read _ b).trans ?_).trans (arrOfF_at _ _ (hd t) (row (bJ t) b) ?_ ?_).symm
  · refine ((carried H t.val t rfl).sf b).trans ?_
    rw [bI_last hl]
    exact congrArg _ (sf_all _ _ _ _)
  · blk_simp
    rw [hi]
    rfl
  · blk_simp
    rw [hi]
    exact congrArg (· + b.val) (Nat.mul_comm _ _)

theorem out_q (H : RealAt m c) : ((dats m 0 c).arrAt 7 (cfgs 0).N : S8192x1024.Idx → EReal) = arrOf (gq (argsAt m c)) := by
  refine (dats m 0 c).arrAt_eq_of_covers 7 _ (by decide +kernel) fun t hf y => ?_
  have hl : t.val % 36 = 35 := (flush0_7 t).mp hf
  have hi := idx_7 t
  rw [after_7]
  obtain ⟨i, x, rfl⟩ : ∃ (i : Fin 8192) (x : Fin 128), y = ix2 i x := ⟨y 0, y 1, eq_ix2 y⟩
  rw [← row_split i]
  refine (((carried H t.val t rfl).dq _ _ x).trans ?_).trans (arrOf_at _ _ (hd t) i x ?_ ?_).symm
  · rw [hl]
    refine congrArg _ ((dq_all _ _ _ _ _).trans ?_)
    rw [row_split]
  · blk_simp
    rw [hi, row_split]
    exact (Nat.zero_mul _).symm ▸ Nat.zero_add _
  · blk_simp
    rw [hi]
    rfl

end Cert.KernelIdeal.Fox

end
-- ==== Proof.V.RefOut.lean ====
/- The reference's result arrays are the kernel's. -/
module

public import proofs.«01_k».proof.Proof.V.RefGrad
public import proofs.«01_k».proof.Proof.V.Arrays

@[expose] public section

set_option maxRecDepth 16384

noncomputable section

namespace Cert.FoxMath

open Idealize.ShloMosaic Cert.ReferenceIdeal Cert.ReferenceIdeal.Gen Cert.ReferenceIdeal.Read Idealize.ShloMosaic.TcCoe
open Cert.KernelIdeal.Fox (arrOf arrOfF)

variable {u : (⟨S8192x3072, .f32⟩ : BufTy).Contents (Elt Ideal)} {g : (⟨S8x1x8192, .f32⟩ : BufTy).Contents (Elt Ideal)}
  {d : (⟨S8192x2048, .f32⟩ : BufTy).Contents (Elt Ideal)}

/-- The heads of an array laid side by side, read at a position and a column. -/
theorem merge_gen (X : Vec Ideal S8x8192x128 .f32) (i : Fin 8192) (y : Fin 1024) :
    shapeCast S8192x1024 (transpose S8192x8x128 [1, 0, 2] X transposes_S8x8192x128_S8192x8x128_1_0_2) shapeCasts_S8192x8x128_S8192x1024 (ix2 i y)
      = X (ix3 ⟨y.val / 128, by omega⟩ i ⟨y.val % 128, Nat.mod_lt _ (by decide)⟩) := by
  pointwise

theorem merge_eq (X : Vec Ideal S8x8192x128 .f32) (G : Fin 8 → Fin 8192 → Fin 128 → ℝ) (h : ∀ h i x, (X (ix3 h i x) : EReal) = ((G h i x : ℝ) : EReal)) :
    shapeCast S8192x1024 (transpose S8192x8x128 [1, 0, 2] X transposes_S8x8192x128_S8192x8x128_1_0_2) shapeCasts_S8192x8x128_S8192x1024 = arrOf G := by
  funext z
  rw [eq_ix2 z]
  exact (merge_gen X (z 0) (z 1)).trans (h _ _ _)

theorem out_gq (H : AllReal u g d) : val_main_v93 (F := Ideal) u g d = arrOf (gq (argsOf u g d)) := merge_eq _ _ (ref_gq H)
theorem out_gk (H : AllReal u g d) : val_main_v91 (F := Ideal) u g d = arrOf (gk (argsOf u g d)) := merge_eq _ _ (ref_gk H)
theorem out_gv (H : AllReal u g d) : val_main_v89 (F := Ideal) u g d = arrOf (gv (argsOf u g d)) := merge_eq _ _ (ref_gv H)

theorem gate_gen (X : Vec Ideal S8x8192 .f32) (h : Fin 8) (o : Fin 1) (j : Fin 8192) :
    shapeCast S8x1x8192 X shapeCasts_S8x8192_S8x1x8192 (ix3 h o j) = X (ix2 h j) := by
  pointwise

theorem out_gf (H : AllReal u g d) : val_main_v94 (F := Ideal) u g d = arrOfF (gf (argsOf u g d)) := by
  funext z
  rw [eq_ix3 z]
  exact (gate_gen _ (z 0) (z 1) (z 2)).trans (ref_gf H _ _)

end Cert.FoxMath

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.M.DownDw
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.M.DownDx
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.M.UpDw
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.M.UpDx
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.M.InDw
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.M.InDx
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.M.PartDw
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.M.PartDx
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.M.PartAdd
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.M.OutDx
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.M.In
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.M.Part
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.M.Up
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.M.Down
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.M.LnBwd
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.M.FgateBwd
public import proofs.«01_k».proof.Proof.Gen.Pre_finite_ln
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.M.ConvNorm
public import proofs.«01_k».proof.Proof.Gen.Pre_finite_conv
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.M.ConvTaps
public import proofs.«01_k».proof.Proof.M.ConvTapsRef
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.M.ConvFwd
public import proofs.«01_k».proof.Proof.M.ConvFwdRef
public import proofs.«01_k».proof.Proof.K.Run
public import proofs.«01_k».proof.Proof.KI.Run
public import proofs.«01_k».proof.Proof.V.RefOut
public import proofs.«01_k».proof.Proof.V.Pre
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

open Cert Cert.FoxMath Cert.KernelIdeal.Fox in
/-- Kernel and reference compute the same four gradients of real arguments. -/
theorem same_gradients : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have H : ∀ c, RealAt m c := fun c => all_real (hpre c)
  refine ⟨fun c => arrOf (gq (argsAt m c)), fun c => arrOf (gk (argsAt m c)), fun c => arrOf (gv (argsAt m c)), fun c => arrOfF (gf (argsAt m c)), ?_, ?_⟩
  · refine (θ_run Cert.KernelIdeal.defs _ _).mono (fun r h c => ?_) (θ_run_and (run_main m g) (frame_run m g))
    obtain ⟨⟨hF, _⟩, hA, _⟩ := h
    exact ⟨((hF c).1 7).trans (out_q (H c)), ((hF c).1 8).trans (out_k (H c)), ((hF c).1 9).trans (out_v (H c)), ((hF c).1 10).trans (out_f (H c)), hA c⟩
  · refine (θ_run Cert.ReferenceIdeal.defs _ _).mono (fun r h c => ?_) (Cert.ReferenceIdeal.Value.run (F := Ideal) m' g')
    obtain ⟨hq, hk, hv, hf, ha⟩ := h c
    obtain ⟨h0, h1, h2⟩ := hargs c
    refine ⟨hq.trans ?_, hk.trans ?_, hv.trans ?_, hf.trans ?_, ha⟩
    · rw [Cert.ReferenceIdeal.Read.val_main_v93_eq, h0, h1, h2]; exact out_gq (H c)
    · rw [Cert.ReferenceIdeal.Read.val_main_v91_eq, h0, h1, h2]; exact out_gk (H c)
    · rw [Cert.ReferenceIdeal.Read.val_main_v89_eq, h0, h1, h2]; exact out_gv (H c)
    · rw [Cert.ReferenceIdeal.Read.val_main_v94_eq, h0, h1, h2]; exact out_gf (H c)

/-- Kernel and reference compute the same array: the weight gradient of the MLP's second product. -/
theorem same_down_dw : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Mlp.grad (Cert.Kernel2Ideal.Mlp.argZ m c) (Cert.Kernel2Ideal.Mlp.argY m c), ?_, ?_⟩
  · exact (θ_run Cert.Kernel2Ideal.defs _ _).mono (fun r h c => ⟨(h c).1.trans (Cert.Kernel2Ideal.Mlp.out_grad m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨h0, h1⟩ := hargs c
    rw [h0, h1]
    exact Cert.Reference2Ideal.Mlp.ref_array _ _

/-- Kernel and reference compute the same array: the gradient through the MLP's second product and the squared ReLU. -/
theorem same_down_dx : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Mlp.grad (Cert.Kernel3Ideal.Mlp.argZ m c) (Cert.Kernel3Ideal.Mlp.argW m c) (Cert.Kernel3Ideal.Mlp.argY m c), ?_, ?_⟩
  · exact (θ_run Cert.Kernel3Ideal.defs _ _).mono (fun r h c => ⟨(h c).1.trans (Cert.Kernel3Ideal.Mlp.out_grad m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨h0, h1, h2⟩ := hargs c
    rw [h0, h1, h2]
    exact Cert.Reference3Ideal.Mlp.ref_array _ _ _

/-- Kernel and reference compute the same array: the weight gradient of the MLP's first product. -/
theorem same_up_dw : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Mlp.grad (Cert.Kernel4Ideal.Mlp.argX m c) (Cert.Kernel4Ideal.Mlp.argY m c), ?_, ?_⟩
  · exact (θ_run Cert.Kernel4Ideal.defs _ _).mono (fun r h c => ⟨(h c).1.trans (Cert.Kernel4Ideal.Mlp.out_grad m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨h0, h1⟩ := hargs c
    rw [h0, h1]
    exact Cert.Reference4Ideal.Mlp.ref_array _ _

/-- Kernel and reference compute the same array: the gradient through the MLP's first product. -/
theorem same_up_dx : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Mlp.grad (Cert.Kernel5Ideal.Mlp.argW m c) (Cert.Kernel5Ideal.Mlp.argZ m c) (Cert.Kernel5Ideal.Mlp.argR m c), ?_, ?_⟩
  · exact (θ_run Cert.Kernel5Ideal.defs _ _).mono (fun r h c => ⟨(h c).1.trans (Cert.Kernel5Ideal.Mlp.out_grad m c), (h c).2⟩)
      (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨h0, h1, h2⟩ := hargs c
    rw [h0, h1, h2]
    exact Cert.Reference5Ideal.Mlp.ref_array _ _ _

/-- Kernel and reference compute the same array: the weight gradient of the first layer's input product. -/
theorem same_in_dw : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Mlp.grad (Cert.Kernel6Ideal.Mlp.argX m c) (Cert.Kernel6Ideal.Mlp.argY m c), ?_, ?_⟩
  · exact (θ_run Cert.Kernel6Ideal.defs _ _).mono (fun r h c => ⟨(h c).1.trans (Cert.Kernel6Ideal.Mlp.out_grad m c), (h c).2⟩)
      (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨h0, h1⟩ := hargs c
    rw [h0, h1]
    exact Cert.Reference6Ideal.Mlp.ref_array _ _

/-- Kernel and reference compute the same array: the gradient through the first layer's input product. -/
theorem same_in_dx : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Mlp.grad (Cert.Kernel7Ideal.Mlp.argW m c) (Cert.Kernel7Ideal.Mlp.argZ m c) (Cert.Kernel7Ideal.Mlp.argR m c), ?_, ?_⟩
  · exact (θ_run Cert.Kernel7Ideal.defs _ _).mono (fun r h c => ⟨(h c).1.trans (Cert.Kernel7Ideal.Mlp.out_grad m c), (h c).2⟩)
      (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    obtain ⟨h0, h1, h2⟩ := hargs c
    rw [h0, h1, h2]
    exact Cert.Reference7Ideal.Mlp.ref_array _ _ _

/-- Kernel and reference compute the same array: the weight gradient of one part of the second layer's input product. -/
theorem same_part_dw : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Mlp.grad (Cert.Kernel8Ideal.Mlp.argX m c) (Cert.Kernel8Ideal.Mlp.argY m c), ?_, ?_⟩
  · exact (θ_run Cert.Kernel8Ideal.defs _ _).mono (fun r h c => ⟨(h c).1.trans (Cert.Kernel8Ideal.Mlp.out_grad m c), (h c).2⟩)
      (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    obtain ⟨h0, h1⟩ := hargs c
    rw [h0, h1]
    exact Cert.Reference8Ideal.Mlp.ref_array _ _

/-- Kernel and reference compute the same array: the gradient through the attention's part of the second layer's input product. -/
theorem same_part_dx : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Kernel9Ideal.Mlp.grad (Cert.Kernel9Ideal.Mlp.argW m c) (Cert.Kernel9Ideal.Mlp.argZ m c) (Cert.Kernel9Ideal.Mlp.argR m c), ?_, ?_⟩
  · exact (θ_run Cert.Kernel9Ideal.defs _ _).mono (fun r h c => ⟨(h c).1.trans (Cert.Kernel9Ideal.Mlp.out_grad m c), (h c).2⟩)
      (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    obtain ⟨h0, h1, h2⟩ := hargs c
    rw [h0, h1, h2]
    exact Cert.Reference9Ideal.Mlp.ref_array _ _ _

/-- Kernel and reference compute the same array: the gradient through the other part of the second layer's input product. -/
theorem same_part_add : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Kernel10Ideal.Mlp.grad (Cert.Kernel10Ideal.Mlp.argW m c) (Cert.Kernel10Ideal.Mlp.argZ m c) (Cert.Kernel10Ideal.Mlp.argR m c), ?_, ?_⟩
  · exact (θ_run Cert.Kernel10Ideal.defs _ _).mono (fun r h c => ⟨(h c).1.trans (Cert.Kernel10Ideal.Mlp.out_grad m c), (h c).2⟩)
      (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    obtain ⟨h0, h1, h2⟩ := hargs c
    rw [h0, h1, h2]
    exact Cert.Reference10Ideal.Mlp.ref_array _ _ _

/-- Kernel and reference compute the same array: the gradient through a layer's last product. -/
theorem same_out_dx : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Mlp.grad (Cert.Kernel11Ideal.Mlp.argW m c) (Cert.Kernel11Ideal.Mlp.argY m c), ?_, ?_⟩
  · exact (θ_run Cert.Kernel11Ideal.defs _ _).mono (fun r h c => ⟨(h c).1.trans (Cert.Kernel11Ideal.Mlp.out_grad m c), (h c).2⟩)
      (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    obtain ⟨h0, h1⟩ := hargs c
    rw [h0, h1]
    exact Cert.Reference11Ideal.Mlp.ref_array _ _

/-- Kernel and reference compute the same array: the first layer's input product. -/
theorem same_in : Cert.algebraic_Kernel12Ideal_Reference12Ideal (hKernel12Ideal := Cert.Kernel12Ideal.Gen.facts)
    (hReference12Ideal := Cert.Reference12Ideal.Gen.facts) := by
  intro m g m' g' _ hargs
  refine ⟨fun c => Cert.Kernel12Ideal.Mlp.grad (Cert.Kernel12Ideal.Mlp.argX m c) (Cert.Kernel12Ideal.Mlp.argW m c), ?_, ?_⟩
  · exact (θ_run Cert.Kernel12Ideal.defs _ _).mono (fun r h c => ⟨(h c).1.trans (Cert.Kernel12Ideal.Mlp.out_grad m c), (h c).2⟩)
      (Cert.Kernel12Ideal.Value.run_blocks (F := Ideal) m g)
  · refine (θ_run Cert.Reference12Ideal.defs _ _).mono (fun r h c => ⟨(h c).1.trans ?_, (h c).2⟩) (Cert.Reference12Ideal.Value.run (F := Ideal) m' g')
    obtain ⟨h0, h1⟩ := hargs c
    rw [h0, h1]
    exact Cert.Reference12Ideal.Mlp.ref_array _ _

/-- Kernel and reference compute the same array: the one part of the second layer's input product. -/
theorem same_part : Cert.algebraic_Kernel13Ideal_Reference13Ideal (hKernel13Ideal := Cert.Kernel13Ideal.Gen.facts)
    (hReference13Ideal := Cert.Reference13Ideal.Gen.facts) := by
  intro m g m' g' _ hargs
  refine ⟨fun c => Cert.Kernel13Ideal.Mlp.grad (Cert.Kernel13Ideal.Mlp.argX m c) (Cert.Kernel13Ideal.Mlp.argW m c), ?_, ?_⟩
  · exact (θ_run Cert.Kernel13Ideal.defs _ _).mono (fun r h c => ⟨(h c).1.trans (Cert.Kernel13Ideal.Mlp.out_grad m c), (h c).2⟩)
      (Cert.Kernel13Ideal.Value.run_blocks (F := Ideal) m g)
  · refine (θ_run Cert.Reference13Ideal.defs _ _).mono (fun r h c => ⟨(h c).1.trans ?_, (h c).2⟩) (Cert.Reference13Ideal.Value.run (F := Ideal) m' g')
    obtain ⟨h0, h1⟩ := hargs c
    rw [h0, h1]
    exact Cert.Reference13Ideal.Mlp.ref_array _ _

/-- Kernel and reference compute the same two arrays: the MLP's first product and the squared ReLU of it. -/
theorem same_up : Cert.algebraic_Kernel14Ideal_Reference14Ideal (hKernel14Ideal := Cert.Kernel14Ideal.Gen.facts)
    (hReference14Ideal := Cert.Reference14Ideal.Gen.facts) := by
  intro m g m' g' _ hargs
  refine ⟨fun c => Cert.Kernel14Ideal.Mlp.val (Cert.Kernel14Ideal.Mlp.argX m c) (Cert.Kernel14Ideal.Mlp.argW m c),
    fun c => Cert.Kernel14Ideal.Mlp.act (Cert.Kernel14Ideal.Mlp.argX m c) (Cert.Kernel14Ideal.Mlp.argW m c), ?_, ?_⟩
  · exact (θ_run Cert.Kernel14Ideal.defs _ _).mono (fun r h c => ⟨(h c).1.trans (Cert.Kernel14Ideal.Mlp.out_val m c),
      (h c).2.1.trans (Cert.Kernel14Ideal.Mlp.out_act m c), (h c).2.2⟩) (Cert.Kernel14Ideal.Value.run_blocks (F := Ideal) m g)
  · refine (θ_run Cert.Reference14Ideal.defs _ _).mono (fun r h c => ⟨(h c).1.trans ?_, (h c).2.1.trans ?_, (h c).2.2⟩)
      (Cert.Reference14Ideal.Value.run (F := Ideal) m' g')
    all_goals
      obtain ⟨h0, h1⟩ := hargs c
      rw [h0, h1]
    · exact Cert.Reference14Ideal.Mlp.ref_val _ _
    · exact Cert.Reference14Ideal.Mlp.ref_act _ _

/-- Kernel and reference compute the same array: the MLP's second product. -/
theorem same_down : Cert.algebraic_Kernel15Ideal_Reference15Ideal (hKernel15Ideal := Cert.Kernel15Ideal.Gen.facts)
    (hReference15Ideal := Cert.Reference15Ideal.Gen.facts) := by
  intro m g m' g' _ hargs
  refine ⟨fun c => Cert.Kernel15Ideal.Mlp.grad (Cert.Kernel15Ideal.Mlp.argZ m c) (Cert.Kernel15Ideal.Mlp.argW m c), ?_, ?_⟩
  · exact (θ_run Cert.Kernel15Ideal.defs _ _).mono (fun r h c => ⟨(h c).1.trans (Cert.Kernel15Ideal.Mlp.out_grad m c), (h c).2⟩)
      (Cert.Kernel15Ideal.Value.run_blocks (F := Ideal) m g)
  · refine (θ_run Cert.Reference15Ideal.defs _ _).mono (fun r h c => ⟨(h c).1.trans ?_, (h c).2⟩) (Cert.Reference15Ideal.Value.run (F := Ideal) m' g')
    obtain ⟨h0, h1⟩ := hargs c
    rw [h0, h1]
    exact Cert.Reference15Ideal.Mlp.ref_array _ _

open Cert.Kernel16Ideal.Mlp in
/-- Kernel and reference compute the same four arrays of real arguments: the gradient through a layer norm, its
rounding, and the gradients of the norm's scale and shift. -/
theorem same_ln_bwd : Cert.algebraic_Kernel16Ideal_Reference16Ideal_pre_finite_ln (hKernel16Ideal := Cert.Kernel16Ideal.Gen.facts)
    (hReference16Ideal := Cert.Reference16Ideal.Gen.facts) (hPre_finite_ln := Cert.Pre_finite_ln.Gen.facts) := by
  intro m g m' g' hpre hargs
  refine ⟨fun c => dz (argZ m c) (argG m c) (argY m c), fun c => dzb (argZ m c) (argG m c) (argY m c),
    fun c => dg (argZ m c) (argY m c), fun c => db (argY m c), ?_, ?_⟩
  · exact (θ_run Cert.Kernel16Ideal.defs _ _).mono (fun r h c => ⟨(h c).1.trans (out_dz m c), (h c).2.1.trans (out_dzb m c),
      (h c).2.2.1.trans (out_dg m c), (h c).2.2.2.1.trans (out_db m c), (h c).2.2.2.2⟩) (Cert.Kernel16Ideal.Value.run_blocks (F := Ideal) m g)
  · refine (θ_run Cert.Reference16Ideal.defs _ _).mono (fun r h c => ⟨(h c).1.trans ?_, (h c).2.1.trans ?_, (h c).2.2.1.trans ?_,
      (h c).2.2.2.1.trans ?_, (h c).2.2.2.2⟩) (Cert.Reference16Ideal.Value.run (F := Ideal) m' g')
    all_goals
      obtain ⟨h0, h1, h2⟩ := hargs c
      obtain ⟨hz, hg, hd⟩ := Cert.Norm.all_real (hpre c)
    · unfold Cert.Reference16Ideal.Value.res_main_v63
      rw [h0, h1, h2]
      exact Cert.Reference16Ideal.Mlp.ref_dz _ _ _ hz hg hd
    · unfold Cert.Reference16Ideal.Value.res_main_v64
      rw [h0, h1, h2]
      exact Cert.Reference16Ideal.Mlp.ref_dz _ _ _ hz hg hd
    · rw [h0, h2]
      exact Cert.Reference16Ideal.Mlp.ref_dg _ _
    · rw [h2]
      exact Cert.Reference16Ideal.Mlp.ref_db _

open Cert.Kernel17Ideal.Mlp in
/-- Kernel and reference compute the same two arrays: the gradients of the forget gate's logits and of its bias. -/
theorem same_fgate_bwd : Cert.algebraic_Kernel17Ideal_Reference17Ideal (hKernel17Ideal := Cert.Kernel17Ideal.Gen.facts)
    (hReference17Ideal := Cert.Reference17Ideal.Gen.facts) := by
  intro m g m' g' _ hargs
  refine ⟨fun c => dl (argF m c) (argB m c) (argD m c), fun c => db (argF m c) (argB m c) (argD m c), ?_, ?_⟩
  · exact (θ_run Cert.Kernel17Ideal.defs _ _).mono (fun r h c => ⟨(h c).1.trans (out_dl m c), (h c).2.1.trans (out_db m c), (h c).2.2⟩)
      (Cert.Kernel17Ideal.Value.run_blocks (F := Ideal) m g)
  · refine (θ_run Cert.Reference17Ideal.defs _ _).mono (fun r h c => ⟨(h c).1.trans ?_, (h c).2.1.trans ?_, (h c).2.2⟩)
      (Cert.Reference17Ideal.Value.run (F := Ideal) m' g')
    all_goals
      obtain ⟨h0, h1, h2⟩ := hargs c
    · unfold Cert.Reference17Ideal.Value.res_main_v12
      rw [h0, h1, h2]
      exact Cert.Reference17Ideal.Mlp.ref_dl _ _ _
    · unfold Cert.Reference17Ideal.Value.res_main_v13
      rw [h0, h1, h2]
      exact Cert.Reference17Ideal.Mlp.ref_db _ _ _

open Cert.Kernel18Ideal.Mlp in
/-- Kernel and reference compute the same four arrays of real arguments: the gradient through the silu and the norm of the
convolution, and the gradients of the norm's scale, of its shift and of the convolution's bias. -/
theorem same_conv_norm : Cert.algebraic_Kernel18Ideal_Reference18Ideal_pre_finite_conv (hKernel18Ideal := Cert.Kernel18Ideal.Gen.facts)
    (hReference18Ideal := Cert.Reference18Ideal.Gen.facts) (hPre_finite_conv := Cert.Pre_finite_conv.Gen.facts) := by
  intro m g m' g' hpre hargs
  refine ⟨fun c => dh (argH m c) (argG m c) (argB m c) (argD m c), fun c => dg (argH m c) (argG m c) (argB m c) (argD m c),
    fun c => db (argH m c) (argG m c) (argB m c) (argD m c), fun c => dc (argH m c) (argG m c) (argB m c) (argD m c), ?_, ?_⟩
  · exact (θ_run Cert.Kernel18Ideal.defs _ _).mono (fun r h c => ⟨(h c).1.trans (out_dh m c), (h c).2.1.trans (out_dg m c),
      (h c).2.2.1.trans (out_db m c), (h c).2.2.2.1.trans (out_dc m c), (h c).2.2.2.2⟩) (Cert.Kernel18Ideal.Value.run_blocks (F := Ideal) m g)
  · refine (θ_run Cert.Reference18Ideal.defs _ _).mono (fun r h c => ⟨(h c).1.trans ?_, (h c).2.1.trans ?_, (h c).2.2.1.trans ?_,
      (h c).2.2.2.1.trans ?_, (h c).2.2.2.2⟩) (Cert.Reference18Ideal.Value.run (F := Ideal) m' g')
    all_goals
      obtain ⟨h0, h1, h2, h3⟩ := hargs c
      obtain ⟨hh, hg, hb, hd⟩ := Cert.Reference18Ideal.Mlp.all_real _ _ _ _ (hpre c)
    · rw [Cert.Reference18Ideal.Read.val_main_v64_eq, h0, h1, h2, h3]
      exact Cert.Reference18Ideal.Mlp.ref_dh _ _ _ _ hh hg hb hd
    · refine (Cert.Reference18Ideal.Read.val_main_v65_eq m' c).trans ?_
      rw [h0, h1, h2, h3]
      exact Cert.Reference18Ideal.Mlp.ref_dg _ _ _ _ hh hg hb hd
    · refine (Cert.Reference18Ideal.Read.val_main_v66_eq m' c).trans ?_
      rw [h0, h1, h2, h3]
      exact Cert.Reference18Ideal.Mlp.ref_db _ _ _ _ hh hg hb hd
    · refine (Cert.Reference18Ideal.Read.val_main_v68_eq m' c).trans ?_
      rw [h0, h1, h2, h3]
      exact Cert.Reference18Ideal.Mlp.ref_dc _ _ _ _ hh hg hb hd

open Cert.Kernel19Ideal.Mlp in
/-- Kernel and reference compute the same two arrays: the gradient through the taps of the convolution and the gated linear unit
before it, and that of the taps' weights. -/
theorem same_conv_taps : Cert.algebraic_Kernel19Ideal_Reference19Ideal (hKernel19Ideal := Cert.Kernel19Ideal.Gen.facts)
    (hReference19Ideal := Cert.Reference19Ideal.Gen.facts) := by
  intro m g m' g' _ hargs
  refine ⟨fun c => Cert.Taps.dag (argU m c) (argW m c) (argD m c), fun c => Cert.Taps.dw (argU m c) (argD m c), ?_, ?_⟩
  · exact (θ_run Cert.Kernel19Ideal.defs _ _).mono (fun r h c => ⟨(h c).1.trans (out_dag m c), (h c).2.1.trans (out_dw m c), (h c).2.2⟩)
      (Cert.Kernel19Ideal.Value.run_blocks (F := Ideal) m g)
  · refine (θ_run Cert.Reference19Ideal.defs _ _).mono (fun r h c => ⟨(h c).1.trans ?_, (h c).2.1.trans ?_, (h c).2.2⟩)
      (Cert.Reference19Ideal.Value.run (F := Ideal) m' g')
    all_goals
      obtain ⟨h0, h1, h2⟩ := hargs c
    · refine (Cert.Reference19Ideal.Read.val_main_v580_eq _).trans (Eq.trans ?_ (Cert.Reference19Ideal.Mlp.ref_dag (argU m c) (argW m c) (argD m c)))
      exact congr (congr (congrArg (Cert.Reference19Ideal.Read.val_main_v580 (F := Ideal)) h0) h1) h2
    · refine (Cert.Reference19Ideal.Read.val_main_v582_eq _).trans (Eq.trans ?_ (Cert.Reference19Ideal.Mlp.ref_dw (argU m c) (argD m c)))
      exact congr (congrArg (Cert.Reference19Ideal.Read.val_main_v582 (F := Ideal)) h0) h2

open Cert.Kernel20Ideal.Mlp in
/-- Kernel and reference compute the same two arrays: the convolution with its bias, and its norm and activation. -/
theorem same_conv_fwd : Cert.algebraic_Kernel20Ideal_Reference20Ideal (hKernel20Ideal := Cert.Kernel20Ideal.Gen.facts)
    (hReference20Ideal := Cert.Reference20Ideal.Gen.facts) := by
  intro m g m' g' _ hargs
  refine ⟨fun c => Cert.ConvFwd.out (argU m c) (argW m c) (argQ m c) (argS m c) (argO m c), fun c => Cert.ConvFwd.cv (argU m c) (argW m c) (argQ m c), ?_, ?_⟩
  · exact (θ_run Cert.Kernel20Ideal.defs _ _).mono (fun r h c => ⟨(h c).1.trans (res_out m c), (h c).2.1.trans (res_cv m c), (h c).2.2⟩)
      (Cert.Kernel20Ideal.Value.run_blocks (F := Ideal) m g)
  · refine (θ_run Cert.Reference20Ideal.defs _ _).mono (fun r h c => ⟨(h c).1.trans ?_, (h c).2.1.trans ?_, (h c).2.2⟩)
      (Cert.Reference20Ideal.Value.run (F := Ideal) m' g')
    all_goals
      obtain ⟨h0, h1, h2, h3, h4⟩ := hargs c
    · refine (Cert.Reference20Ideal.Read.val_main_v258_eq _).trans
        (Eq.trans ?_ (Cert.Reference20Ideal.Mlp.ref_out (argU m c) (argW m c) (argQ m c) (argS m c) (argO m c)))
      exact congr (congr (congr (congr (congrArg (Cert.Reference20Ideal.Read.val_main_v258 (F := Ideal)) h0) h1) h2) h3) h4
    · refine (Cert.Reference20Ideal.Read.val_main_v232_eq _).trans (Eq.trans ?_ (Cert.Reference20Ideal.Mlp.ref_cv (argU m c) (argW m c) (argQ m c)))
      exact congr (congr (congrArg (Cert.Reference20Ideal.Read.val_main_v232 (F := Ideal)) h0) h1) h2

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts,
    Cert.Kernel16.Gen.facts, Cert.Kernel16Ideal.Gen.facts, Cert.Reference16Ideal.Gen.facts, Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts, Cert.Pre_finite_ln.Gen.facts, Cert.Pre_finite_conv.Gen.facts,
    fun m g _ => Cert.Kernel.Fox.frame_run (F := Bits) m g,
    fun m g _ => Cert.KernelIdeal.Fox.frame_run (F := Ideal) m g,
    fun m g _ => Cert.KernelIdeal.Fox.frame_run (F := Ideal) m g,
    fun m g _ => (θ_run Cert.ReferenceIdeal.defs _ _).mono (fun r h => ⟨fun c => (h c).2.2.2.2,
      Idealize.ShloMosaic.sem_eq_zero_of_no_sems (by decide) r.2⟩) (Cert.ReferenceIdeal.Value.run (F := Ideal) m g),
    fun m g _ => (θ_run Cert.ReferenceIdeal.defs _ _).mono (fun r h => ⟨fun c => (h c).2.2.2.2,
      Idealize.ShloMosaic.sem_eq_zero_of_no_sems (by decide) r.2⟩) (Cert.ReferenceIdeal.Value.run (F := Ideal) m g),
    fun m g _ => Cert.Kernel2.Gen.frame (F := Bits) m g,
    fun m g _ => Cert.Kernel2Ideal.Gen.frame (F := Ideal) m g,
    fun m g _ => (θ_run Cert.Reference2Ideal.defs _ _).mono (fun r h => ⟨fun c => (h c).2,
      Idealize.ShloMosaic.sem_eq_zero_of_no_sems (by decide) r.2⟩) (Cert.Reference2Ideal.Value.run (F := Ideal) m g),
    fun m g _ => Cert.Kernel3.Gen.frame (F := Bits) m g,
    fun m g _ => Cert.Kernel3Ideal.Gen.frame (F := Ideal) m g,
    fun m g _ => (θ_run Cert.Reference3Ideal.defs _ _).mono (fun r h => ⟨fun c => (h c).2,
      Idealize.ShloMosaic.sem_eq_zero_of_no_sems (by decide) r.2⟩) (Cert.Reference3Ideal.Value.run (F := Ideal) m g),
    fun m g _ => Cert.Kernel4.Gen.frame (F := Bits) m g,
    fun m g _ => Cert.Kernel4Ideal.Gen.frame (F := Ideal) m g,
    fun m g _ => (θ_run Cert.Reference4Ideal.defs _ _).mono (fun r h => ⟨fun c => (h c).2,
      Idealize.ShloMosaic.sem_eq_zero_of_no_sems (by decide) r.2⟩) (Cert.Reference4Ideal.Value.run (F := Ideal) m g),
    fun m g _ => Cert.Kernel5.Gen.frame (F := Bits) m g,
    fun m g _ => Cert.Kernel5Ideal.Gen.frame (F := Ideal) m g,
    fun m g _ => (θ_run Cert.Reference5Ideal.defs _ _).mono (fun r h => ⟨fun c => (h c).2,
      Idealize.ShloMosaic.sem_eq_zero_of_no_sems (by decide) r.2⟩) (Cert.Reference5Ideal.Value.run (F := Ideal) m g),
    fun m g _ => Cert.Kernel6.Gen.frame (F := Bits) m g,
    fun m g _ => Cert.Kernel6Ideal.Gen.frame (F := Ideal) m g,
    fun m g _ => (θ_run Cert.Reference6Ideal.defs _ _).mono (fun r h => ⟨fun c => (h c).2,
      Idealize.ShloMosaic.sem_eq_zero_of_no_sems (by decide) r.2⟩) (Cert.Reference6Ideal.Value.run (F := Ideal) m g),
    fun m g _ => Cert.Kernel7.Gen.frame (F := Bits) m g,
    fun m g _ => Cert.Kernel7Ideal.Gen.frame (F := Ideal) m g,
    fun m g _ => (θ_run Cert.Reference7Ideal.defs _ _).mono (fun r h => ⟨fun c => (h c).2,
      Idealize.ShloMosaic.sem_eq_zero_of_no_sems (by decide) r.2⟩) (Cert.Reference7Ideal.Value.run (F := Ideal) m g),
    fun m g _ => Cert.Kernel8.Gen.frame (F := Bits) m g,
    fun m g _ => Cert.Kernel8Ideal.Gen.frame (F := Ideal) m g,
    fun m g _ => (θ_run Cert.Reference8Ideal.defs _ _).mono (fun r h => ⟨fun c => (h c).2,
      Idealize.ShloMosaic.sem_eq_zero_of_no_sems (by decide) r.2⟩) (Cert.Reference8Ideal.Value.run (F := Ideal) m g),
    fun m g _ => Cert.Kernel9.Gen.frame (F := Bits) m g,
    fun m g _ => Cert.Kernel9Ideal.Gen.frame (F := Ideal) m g,
    fun m g _ => (θ_run Cert.Reference9Ideal.defs _ _).mono (fun r h => ⟨fun c => (h c).2,
      Idealize.ShloMosaic.sem_eq_zero_of_no_sems (by decide) r.2⟩) (Cert.Reference9Ideal.Value.run (F := Ideal) m g),
    fun m g _ => Cert.Kernel10.Gen.frame (F := Bits) m g,
    fun m g _ => Cert.Kernel10Ideal.Gen.frame (F := Ideal) m g,
    fun m g _ => (θ_run Cert.Reference10Ideal.defs _ _).mono (fun r h => ⟨fun c => (h c).2,
      Idealize.ShloMosaic.sem_eq_zero_of_no_sems (by decide) r.2⟩) (Cert.Reference10Ideal.Value.run (F := Ideal) m g),
    fun m g _ => Cert.Kernel11.Gen.frame (F := Bits) m g,
    fun m g _ => Cert.Kernel11Ideal.Gen.frame (F := Ideal) m g,
    fun m g _ => (θ_run Cert.Reference11Ideal.defs _ _).mono (fun r h => ⟨fun c => (h c).2,
      Idealize.ShloMosaic.sem_eq_zero_of_no_sems (by decide) r.2⟩) (Cert.Reference11Ideal.Value.run (F := Ideal) m g),
    fun m g _ => Cert.Kernel12.Gen.frame (F := Bits) m g,
    fun m g _ => Cert.Kernel12Ideal.Gen.frame (F := Ideal) m g,
    fun m g _ => (θ_run Cert.Reference12Ideal.defs _ _).mono (fun r h => ⟨fun c => (h c).2,
      Idealize.ShloMosaic.sem_eq_zero_of_no_sems (by decide) r.2⟩) (Cert.Reference12Ideal.Value.run (F := Ideal) m g),
    fun m g _ => Cert.Kernel13.Gen.frame (F := Bits) m g,
    fun m g _ => Cert.Kernel13Ideal.Gen.frame (F := Ideal) m g,
    fun m g _ => (θ_run Cert.Reference13Ideal.defs _ _).mono (fun r h => ⟨fun c => (h c).2,
      Idealize.ShloMosaic.sem_eq_zero_of_no_sems (by decide) r.2⟩) (Cert.Reference13Ideal.Value.run (F := Ideal) m g),
    fun m g _ => Cert.Kernel14.Gen.frame (F := Bits) m g,
    fun m g _ => Cert.Kernel14Ideal.Gen.frame (F := Ideal) m g,
    fun m g _ => (θ_run Cert.Reference14Ideal.defs _ _).mono (fun r h => ⟨fun c => (h c).2.2,
      Idealize.ShloMosaic.sem_eq_zero_of_no_sems (by decide) r.2⟩) (Cert.Reference14Ideal.Value.run (F := Ideal) m g),
    fun m g _ => Cert.Kernel15.Gen.frame (F := Bits) m g,
    fun m g _ => Cert.Kernel15Ideal.Gen.frame (F := Ideal) m g,
    fun m g _ => (θ_run Cert.Reference15Ideal.defs _ _).mono (fun r h => ⟨fun c => (h c).2,
      Idealize.ShloMosaic.sem_eq_zero_of_no_sems (by decide) r.2⟩) (Cert.Reference15Ideal.Value.run (F := Ideal) m g),
    fun m g _ => Cert.Kernel16.Gen.frame (F := Bits) m g,
    fun m g _ => Cert.Kernel16Ideal.Gen.frame (F := Ideal) m g,
    fun m g _ => Cert.Kernel16Ideal.Gen.frame (F := Ideal) m g,
    fun m g _ => (θ_run Cert.Reference16Ideal.defs _ _).mono (fun r h => ⟨fun c => (h c).2.2.2.2,
      Idealize.ShloMosaic.sem_eq_zero_of_no_sems (by decide) r.2⟩) (Cert.Reference16Ideal.Value.run (F := Ideal) m g),
    fun m g _ => (θ_run Cert.Reference16Ideal.defs _ _).mono (fun r h => ⟨fun c => (h c).2.2.2.2,
      Idealize.ShloMosaic.sem_eq_zero_of_no_sems (by decide) r.2⟩) (Cert.Reference16Ideal.Value.run (F := Ideal) m g),
    fun m g _ => Cert.Kernel17.Gen.frame (F := Bits) m g,
    fun m g _ => Cert.Kernel17Ideal.Gen.frame (F := Ideal) m g,
    fun m g _ => (θ_run Cert.Reference17Ideal.defs _ _).mono (fun r h => ⟨fun c => (h c).2.2,
      Idealize.ShloMosaic.sem_eq_zero_of_no_sems (by decide) r.2⟩) (Cert.Reference17Ideal.Value.run (F := Ideal) m g),
    fun m g _ => Cert.Kernel18.Gen.frame (F := Bits) m g,
    fun m g _ => Cert.Kernel18Ideal.Gen.frame (F := Ideal) m g,
    fun m g _ => Cert.Kernel18Ideal.Gen.frame (F := Ideal) m g,
    fun m g _ => (θ_run Cert.Reference18Ideal.defs _ _).mono (fun r h => ⟨fun c => (h c).2.2.2.2,
      Idealize.ShloMosaic.sem_eq_zero_of_no_sems (by decide) r.2⟩) (Cert.Reference18Ideal.Value.run (F := Ideal) m g),
    fun m g _ => (θ_run Cert.Reference18Ideal.defs _ _).mono (fun r h => ⟨fun c => (h c).2.2.2.2,
      Idealize.ShloMosaic.sem_eq_zero_of_no_sems (by decide) r.2⟩) (Cert.Reference18Ideal.Value.run (F := Ideal) m g),
    fun m g _ => Cert.Kernel19.Gen.frame (F := Bits) m g,
    fun m g _ => Cert.Kernel19Ideal.Gen.frame (F := Ideal) m g,
    fun m g _ => (θ_run Cert.Reference19Ideal.defs _ _).mono (fun r h => ⟨fun c => (h c).2.2,
      Idealize.ShloMosaic.sem_eq_zero_of_no_sems (by decide) r.2⟩) (Cert.Reference19Ideal.Value.run (F := Ideal) m g),
    fun m g _ => Cert.Kernel20.Gen.frame (F := Bits) m g,
    fun m g _ => Cert.Kernel20Ideal.Gen.frame (F := Ideal) m g,
    fun m g _ => (θ_run Cert.Reference20Ideal.defs _ _).mono (fun r h => ⟨fun c => (h c).2.2,
      Idealize.ShloMosaic.sem_eq_zero_of_no_sems (by decide) r.2⟩) (Cert.Reference20Ideal.Value.run (F := Ideal) m g),
    IdealRules.named_const.statement Cert.KernelIdeal.κ "mask" .f32 0xF149F2CA#32 _ rfl,
    same_gradients,
    trivial, same_down_dw,
    trivial, same_down_dx,
    trivial, same_up_dw,
    trivial, same_up_dx,
    trivial, same_in_dw,
    trivial, same_in_dx,
    trivial, same_part_dw,
    trivial, same_part_dx,
    trivial, same_part_add,
    trivial, same_out_dx,
    trivial, same_in,
    trivial, same_part,
    trivial, same_up,
    trivial, same_down,
    trivial, same_ln_bwd,
    trivial, same_fgate_bwd,
    trivial, same_conv_norm,
    trivial, same_conv_taps,
    trivial, same_conv_fwd⟩

end Cert.Proof

end
